-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v96_0)) (v1 : (c : Dev Cert.KernelIdeal.nD) → Buf (Elt Ideal) ((c.tc : Thread Cert.KernelIdeal.nD Cert.KernelIdeal.τ).loc Cert.KernelIdeal.main_v96_1)) (v2 : (c : Dev Cert.KernelIdeal.nD) → Buf (Elt Ideal) ((c.tc : Thread Cert.KernelIdeal.nD Cert.KernelIdeal.τ).loc Cert.KernelIdeal.main_v96_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96_0) = v0 c
          ∧ r.2.mem ((c.tc : Thread Cert.KernelIdeal.nD Cert.KernelIdeal.τ).loc Cert.KernelIdeal.main_v96_1) = v1 c
          ∧ r.2.mem ((c.tc : Thread Cert.KernelIdeal.nD Cert.KernelIdeal.τ).loc Cert.KernelIdeal.main_v96_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v193) = v0 c
          ∧ r.2.mem ((c.tc : Thread Cert.ReferenceIdeal.nD Cert.ReferenceIdeal.τ).loc Cert.ReferenceIdeal.main_v194) = v1 c
          ∧ r.2.mem ((c.tc : Thread Cert.ReferenceIdeal.nD Cert.ReferenceIdeal.τ).loc Cert.ReferenceIdeal.main_v195) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v24) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v91)) (v1 : (c : Dev Cert.Kernel4Ideal.nD) → Buf (Elt Ideal) ((c.tc : Thread Cert.Kernel4Ideal.nD Cert.Kernel4Ideal.τ).loc Cert.Kernel4Ideal.main_v94)) (v2 : (c : Dev Cert.Kernel4Ideal.nD) → Buf (Elt Ideal) ((c.tc : Thread Cert.Kernel4Ideal.nD Cert.Kernel4Ideal.τ).loc Cert.Kernel4Ideal.main_v88_0)) (v3 : (c : Dev Cert.Kernel4Ideal.nD) → Buf (Elt Ideal) ((c.tc : Thread Cert.Kernel4Ideal.nD Cert.Kernel4Ideal.τ).loc Cert.Kernel4Ideal.main_v88_1)) (v4 : (c : Dev Cert.Kernel4Ideal.nD) → Buf (Elt Ideal) ((c.tc : Thread Cert.Kernel4Ideal.nD Cert.Kernel4Ideal.τ).loc Cert.Kernel4Ideal.main_v88_2)) (v5 : (c : Dev Cert.Kernel4Ideal.nD) → Buf (Elt Ideal) ((c.tc : Thread Cert.Kernel4Ideal.nD Cert.Kernel4Ideal.τ).loc Cert.Kernel4Ideal.main_v88_3)) (v6 : (c : Dev Cert.Kernel4Ideal.nD) → Buf (Elt Ideal) ((c.tc : Thread Cert.Kernel4Ideal.nD Cert.Kernel4Ideal.τ).loc Cert.Kernel4Ideal.main_v88_4)) (v7 : (c : Dev Cert.Kernel4Ideal.nD) → Buf (Elt Ideal) ((c.tc : Thread Cert.Kernel4Ideal.nD Cert.Kernel4Ideal.τ).loc Cert.Kernel4Ideal.main_v88_5)) (v8 : (c : Dev Cert.Kernel4Ideal.nD) → Buf (Elt Ideal) ((c.tc : Thread Cert.Kernel4Ideal.nD Cert.Kernel4Ideal.τ).loc Cert.Kernel4Ideal.main_v88_6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v91) = v0 c
          ∧ r.2.mem ((c.tc : Thread Cert.Kernel4Ideal.nD Cert.Kernel4Ideal.τ).loc Cert.Kernel4Ideal.main_v94) = v1 c
          ∧ r.2.mem ((c.tc : Thread Cert.Kernel4Ideal.nD Cert.Kernel4Ideal.τ).loc Cert.Kernel4Ideal.main_v88_0) = v2 c
          ∧ r.2.mem ((c.tc : Thread Cert.Kernel4Ideal.nD Cert.Kernel4Ideal.τ).loc Cert.Kernel4Ideal.main_v88_1) = v3 c
          ∧ r.2.mem ((c.tc : Thread Cert.Kernel4Ideal.nD Cert.Kernel4Ideal.τ).loc Cert.Kernel4Ideal.main_v88_2) = v4 c
          ∧ r.2.mem ((c.tc : Thread Cert.Kernel4Ideal.nD Cert.Kernel4Ideal.τ).loc Cert.Kernel4Ideal.main_v88_3) = v5 c
          ∧ r.2.mem ((c.tc : Thread Cert.Kernel4Ideal.nD Cert.Kernel4Ideal.τ).loc Cert.Kernel4Ideal.main_v88_4) = v6 c
          ∧ r.2.mem ((c.tc : Thread Cert.Kernel4Ideal.nD Cert.Kernel4Ideal.τ).loc Cert.Kernel4Ideal.main_v88_5) = v7 c
          ∧ r.2.mem ((c.tc : Thread Cert.Kernel4Ideal.nD Cert.Kernel4Ideal.τ).loc Cert.Kernel4Ideal.main_v88_6) = v8 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v131) = v0 c
          ∧ r.2.mem ((c.tc : Thread Cert.Reference4Ideal.nD Cert.Reference4Ideal.τ).loc Cert.Reference4Ideal.main_v133) = v1 c
          ∧ r.2.mem ((c.tc : Thread Cert.Reference4Ideal.nD Cert.Reference4Ideal.τ).loc Cert.Reference4Ideal.main_v25) = v2 c
          ∧ r.2.mem ((c.tc : Thread Cert.Reference4Ideal.nD Cert.Reference4Ideal.τ).loc Cert.Reference4Ideal.main_v135) = v3 c
          ∧ r.2.mem ((c.tc : Thread Cert.Reference4Ideal.nD Cert.Reference4Ideal.τ).loc Cert.Reference4Ideal.main_v136) = v4 c
          ∧ r.2.mem ((c.tc : Thread Cert.Reference4Ideal.nD Cert.Reference4Ideal.τ).loc Cert.Reference4Ideal.main_v44) = v5 c
          ∧ r.2.mem ((c.tc : Thread Cert.Reference4Ideal.nD Cert.Reference4Ideal.τ).loc Cert.Reference4Ideal.main_v45) = v6 c
          ∧ r.2.mem ((c.tc : Thread Cert.Reference4Ideal.nD Cert.Reference4Ideal.τ).loc Cert.Reference4Ideal.main_v143) = v7 c
          ∧ r.2.mem ((c.tc : Thread Cert.Reference4Ideal.nD Cert.Reference4Ideal.τ).loc Cert.Reference4Ideal.main_v150) = v8 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v26) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v9)) (v1 : (c : Dev Cert.Kernel6Ideal.nD) → Buf (Elt Ideal) ((c.tc : Thread Cert.Kernel6Ideal.nD Cert.Kernel6Ideal.τ).loc Cert.Kernel6Ideal.main_v10)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v9) = v0 c
          ∧ r.2.mem ((c.tc : Thread Cert.Kernel6Ideal.nD Cert.Kernel6Ideal.τ).loc Cert.Kernel6Ideal.main_v10) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_v9) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def Claim : Prop :=
  ∃ (hKernel : Cert.Kernel.Facts) (hKernelIdeal : Cert.KernelIdeal.Facts) (hReferenceIdeal : Cert.ReferenceIdeal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts),
    quiescent_Kernel (hKernel := hKernel)
    ∧ quiescent_KernelIdeal (hKernelIdeal := hKernelIdeal)
    ∧ quiescent_ReferenceIdeal (hReferenceIdeal := hReferenceIdeal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Kernel.lean ====
abbrev S512x1024 : Shape := ⟨2, ![512, 1024]⟩
abbrev S512x512 : Shape := ⟨2, ![512, 512]⟩
abbrev S1x128x32x64 : Shape := ⟨4, ![1, 128, 32, 64]⟩
abbrev S1x512 : Shape := ⟨2, ![1, 512]⟩
abbrev S1024x1024 : Shape := ⟨2, ![1024, 1024]⟩
abbrev S1x32x64 : Shape := ⟨3, ![1, 32, 64]⟩
abbrev S1x32 : Shape := ⟨2, ![1, 32]⟩
abbrev S1x32x64x16 : Shape := ⟨4, ![1, 32, 64, 16]⟩
abbrev S1x32x16x64 : Shape := ⟨4, ![1, 32, 16, 64]⟩
abbrev S1x32x16 : Shape := ⟨3, ![1, 32, 16]⟩
abbrev S32x16x64 : Shape := ⟨3, ![32, 16, 64]⟩
abbrev S32x64x16 : Shape := ⟨3, ![32, 64, 16]⟩
abbrev S2x16x64x16 : Shape := ⟨4, ![2, 16, 64, 16]⟩
abbrev S2x64x16x16 : Shape := ⟨4, ![2, 64, 16, 16]⟩
abbrev S2x1x64x256 : Shape := ⟨4, ![2, 1, 64, 256]⟩
abbrev S2x16x64x256 : Shape := ⟨4, ![2, 16, 64, 256]⟩
abbrev S2x1024x256 : Shape := ⟨3, ![2, 1024, 256]⟩
abbrev S1024x256 : Shape := ⟨2, ![1024, 256]⟩
abbrev S_ : Shape := ⟨0, ![]⟩
abbrev S1x1024x256 : Shape := ⟨3, ![1, 1024, 256]⟩
abbrev S2x2048x256 : Shape := ⟨3, ![2, 2048, 256]⟩
abbrev S512 : Shape := ⟨1, ![512]⟩
abbrev S32x64 : Shape := ⟨2, ![32, 64]⟩
abbrev S1x2048 : Shape := ⟨2, ![1, 2048]⟩
abbrev S32 : Shape := ⟨1, ![32]⟩
abbrev S2048 : Shape := ⟨1, ![2048]⟩
abbrev S2x16x16x64 : Shape := ⟨4, ![2, 16, 16, 64]⟩
abbrev S2x1x16x1024 : Shape := ⟨4, ![2, 1, 16, 1024]⟩
abbrev S2x16x16x1024 : Shape := ⟨4, ![2, 16, 16, 1024]⟩
abbrev S2x256x1024 : Shape := ⟨3, ![2, 256, 1024]⟩
abbrev S256x1024 : Shape := ⟨2, ![256, 1024]⟩
abbrev S1x256x1024 : Shape := ⟨3, ![1, 256, 1024]⟩
abbrev S32x16 : Shape := ⟨2, ![32, 16]⟩
abbrev S1x1024 : Shape := ⟨2, ![1, 1024]⟩
abbrev S128x32x64 : Shape := ⟨3, ![128, 32, 64]⟩
abbrev S128x2048 : Shape := ⟨2, ![128, 2048]⟩
abbrev S512x2048 : Shape := ⟨2, ![512, 2048]⟩
abbrev S512x256 : Shape := ⟨2, ![512, 256]⟩
abbrev S1x128 : Shape := ⟨2, ![1, 128]⟩
abbrev S128x128 : Shape := ⟨2, ![128, 128]⟩
abbrev S1x2048x256 : Shape := ⟨3, ![1, 2048, 256]⟩
abbrev S2048x256 : Shape := ⟨2, ![2048, 256]⟩

abbrev nBuf : Space → Nat
  | .hbm => 144
  | .vmem => 31
  | .smem => 0
  | _ => 0

abbrev hbmTy0_0 (i : Nat) : BufTy := match i % 128 with
  | 0 => ⟨S512x1024, .f32⟩
  | 1 => ⟨S512x512, .f32⟩
  | 2 => ⟨S512x512, .f32⟩
  | 3 => ⟨S512x1024, .bf16⟩
  | 4 => ⟨S512x1024, .bf16⟩
  | 5 => ⟨S1x128x32x64, .f32⟩
  | 6 => ⟨S1x128x32x64, .f32⟩
  | 7 => ⟨S512x1024, .bf16⟩
  | 8 => ⟨S512x512, .bf16⟩
  | 9 => ⟨S1x512, .f32⟩
  | 10 => ⟨S512x1024, .bf16⟩
  | 11 => ⟨S1024x1024, .bf16⟩
  | 12 => ⟨S1x32x64, .f32⟩
  | 13 => ⟨S1x32x64, .f32⟩
  | 14 => ⟨S1x32, .f32⟩
  | 15 => ⟨S1x32x64x16, .f32⟩
  | 16 => ⟨S1x32x64x16, .f32⟩
  | 17 => ⟨S1x32x16x64, .f32⟩
  | 18 => ⟨S1x32x16x64, .f32⟩
  | 19 => ⟨S1x32x16, .f32⟩
  | 20 => ⟨S32x16x64, .f32⟩
  | 21 => ⟨S32x64x16, .f32⟩
  | 22 => ⟨S2x16x64x16, .f32⟩
  | 23 => ⟨S2x64x16x16, .f32⟩
  | 24 => ⟨S2x1x64x256, .f32⟩
  | 25 => ⟨S2x16x64x256, .f32⟩
  | 26 => ⟨S2x1024x256, .f32⟩
  | 27 => ⟨S1024x256, .i32⟩
  | 28 => ⟨S_, .i32⟩
  | 29 => ⟨S1024x256, .i32⟩
  | 30 => ⟨S1024x256, .i32⟩
  | 31 => ⟨S1024x256, .i32⟩
  | 32 => ⟨S_, .i32⟩
  | 33 => ⟨S1024x256, .i32⟩
  | 34 => ⟨S1024x256, .i32⟩
  | 35 => ⟨S1024x256, .i1⟩
  | 36 => ⟨S_, .f32⟩
  | 37 => ⟨S_, .f32⟩
  | 38 => ⟨S1024x256, .f32⟩
  | 39 => ⟨S1024x256, .f32⟩
  | 40 => ⟨S1024x256, .f32⟩
  | 41 => ⟨S1024x256, .f32⟩
  | 42 => ⟨S1x1024x256, .f32⟩
  | 43 => ⟨S2x1024x256, .f32⟩
  | 44 => ⟨S2x1024x256, .f32⟩
  | 45 => ⟨S32x16x64, .f32⟩
  | 46 => ⟨S32x64x16, .f32⟩
  | 47 => ⟨S2x16x64x16, .f32⟩
  | 48 => ⟨S2x64x16x16, .f32⟩
  | 49 => ⟨S2x1x64x256, .f32⟩
  | 50 => ⟨S2x16x64x256, .f32⟩
  | 51 => ⟨S2x1024x256, .f32⟩
  | 52 => ⟨S1024x256, .i32⟩
  | 53 => ⟨S_, .i32⟩
  | 54 => ⟨S1024x256, .i32⟩
  | 55 => ⟨S1024x256, .i32⟩
  | 56 => ⟨S1024x256, .i32⟩
  | 57 => ⟨S_, .i32⟩
  | 58 => ⟨S1024x256, .i32⟩
  | 59 => ⟨S1024x256, .i32⟩
  | 60 => ⟨S1024x256, .i1⟩
  | 61 => ⟨S_, .f32⟩
  | 62 => ⟨S_, .f32⟩
  | 63 => ⟨S1024x256, .f32⟩
  | 64 => ⟨S1024x256, .f32⟩
  | 65 => ⟨S1024x256, .f32⟩
  | 66 => ⟨S1024x256, .f32⟩
  | 67 => ⟨S1x1024x256, .f32⟩
  | 68 => ⟨S2x1024x256, .f32⟩
  | 69 => ⟨S2x1024x256, .f32⟩
  | 70 => ⟨S2x1024x256, .f32⟩
  | 71 => ⟨S2x2048x256, .f32⟩
  | 72 => ⟨S512, .f32⟩
  | 73 => ⟨S1x512, .f32⟩
  | 74 => ⟨S32x64, .f32⟩
  | 75 => ⟨S1x2048, .f32⟩
  | 76 => ⟨S32x64, .f32⟩
  | 77 => ⟨S1x2048, .f32⟩
  | 78 => ⟨S32, .f32⟩
  | 79 => ⟨S32x64, .f32⟩
  | 80 => ⟨S2048, .f32⟩
  | 81 => ⟨S1x2048, .f32⟩
  | 82 => ⟨S32x64x16, .f32⟩
  | 83 => ⟨S32x16x64, .f32⟩
  | 84 => ⟨S2x16x16x64, .f32⟩
  | 85 => ⟨S2x16x16x64, .f32⟩
  | 86 => ⟨S2x1x16x1024, .f32⟩
  | 87 => ⟨S2x16x16x1024, .f32⟩
  | 88 => ⟨S2x256x1024, .f32⟩
  | 89 => ⟨S256x1024, .i32⟩
  | 90 => ⟨S_, .i32⟩
  | 91 => ⟨S256x1024, .i32⟩
  | 92 => ⟨S256x1024, .i32⟩
  | 93 => ⟨S256x1024, .i32⟩
  | 94 => ⟨S_, .i32⟩
  | 95 => ⟨S256x1024, .i32⟩
  | 96 => ⟨S256x1024, .i32⟩
  | 97 => ⟨S256x1024, .i1⟩
  | 98 => ⟨S_, .f32⟩
  | 99 => ⟨S_, .f32⟩
  | 100 => ⟨S256x1024, .f32⟩
  | 101 => ⟨S256x1024, .f32⟩
  | 102 => ⟨S256x1024, .f32⟩
  | 103 => ⟨S256x1024, .f32⟩
  | 104 => ⟨S1x256x1024, .f32⟩
  | 105 => ⟨S2x256x1024, .f32⟩
  | 106 => ⟨S2x256x1024, .f32⟩
  | 107 => ⟨S32x64x16, .f32⟩
  | 108 => ⟨S32x16x64, .f32⟩
  | 109 => ⟨S2x16x16x64, .f32⟩
  | 110 => ⟨S2x16x16x64, .f32⟩
  | 111 => ⟨S2x1x16x1024, .f32⟩
  | 112 => ⟨S2x16x16x1024, .f32⟩
  | 113 => ⟨S2x256x1024, .f32⟩
  | 114 => ⟨S256x1024, .i32⟩
  | 115 => ⟨S_, .i32⟩
  | 116 => ⟨S256x1024, .i32⟩
  | 117 => ⟨S256x1024, .i32⟩
  | 118 => ⟨S256x1024, .i32⟩
  | 119 => ⟨S_, .i32⟩
  | 120 => ⟨S256x1024, .i32⟩
  | 121 => ⟨S256x1024, .i32⟩
  | 122 => ⟨S256x1024, .i1⟩
  | 123 => ⟨S_, .f32⟩
  | 124 => ⟨S_, .f32⟩
  | 125 => ⟨S256x1024, .f32⟩
  | 126 => ⟨S256x1024, .f32⟩
  | 127 => ⟨S256x1024, .f32⟩
  | _ => ⟨S512x1024, .f32⟩

abbrev hbmTy0_1 (i : Nat) : BufTy := match i % 128 with
  | 0 => ⟨S256x1024, .f32⟩
  | 1 => ⟨S1x256x1024, .f32⟩
  | 2 => ⟨S2x256x1024, .f32⟩
  | 3 => ⟨S2x256x1024, .f32⟩
  | 4 => ⟨S2x2048x256, .bf16⟩
  | 5 => ⟨S32x16, .f32⟩
  | 6 => ⟨S1x512, .f32⟩
  | 7 => ⟨S2x256x1024, .bf16⟩
  | 8 => ⟨S2x256x1024, .bf16⟩
  | 9 => ⟨S128x32x64, .f32⟩
  | 10 => ⟨S128x2048, .f32⟩
  | 11 => ⟨S128x32x64, .f32⟩
  | 12 => ⟨S128x2048, .f32⟩
  | 13 => ⟨S512x1024, .f32⟩
  | 14 => ⟨S128x2048, .f32⟩
  | 15 => ⟨S128x2048, .f32⟩
  | _ => ⟨S512x1024, .f32⟩

abbrev hbmTy (i : Nat) : BufTy := match i / 128 with
  | 0 => hbmTy0_0 i
  | 1 => hbmTy0_1 i
  | _ => ⟨S512x1024, .f32⟩

abbrev bufTy : (tb : Table) → Fin (tcTables nBuf tb) → BufTy
  | .hbm, ⟨i, _⟩ => hbmTy i
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S2x256x1024, .f32⟩
  | .local _ .vmem, ⟨4, _⟩ => ⟨S2x256x1024, .f32⟩
  | .local _ .vmem, ⟨5, _⟩ => ⟨S2x256x1024, .bf16⟩
  | .local _ .vmem, ⟨6, _⟩ => ⟨S2x256x1024, .bf16⟩
  | .local _ .vmem, ⟨7, _⟩ => ⟨S512x1024, .f32⟩
  | .local _ .vmem, ⟨8, _⟩ => ⟨S512x512, .f32⟩
  | .local _ .vmem, ⟨9, _⟩ => ⟨S512x512, .f32⟩
  | .local _ .vmem, ⟨10, _⟩ => ⟨S512x1024, .bf16⟩
  | .local _ .vmem, ⟨11, _⟩ => ⟨S512x1024, .bf16⟩
  | .local _ .vmem, ⟨12, _⟩ => ⟨S128x2048, .f32⟩
  | .local _ .vmem, ⟨13, _⟩ => ⟨S128x2048, .f32⟩
  | .local _ .vmem, ⟨14, _⟩ => ⟨S512x1024, .bf16⟩
  | .local _ .vmem, ⟨15, _⟩ => ⟨S512x512, .bf16⟩
  | .local _ .vmem, ⟨16, _⟩ => ⟨S1x512, .f32⟩
  | .local _ .vmem, ⟨17, _⟩ => ⟨S512x1024, .bf16⟩
  | .local _ .vmem, ⟨18, _⟩ => ⟨S1024x1024, .bf16⟩
  | .local _ .vmem, ⟨19, _⟩ => ⟨S1x2048, .f32⟩
  | .local _ .vmem, ⟨20, _⟩ => ⟨S1x2048, .f32⟩
  | .local _ .vmem, ⟨21, _⟩ => ⟨S1x2048, .f32⟩
  | .local _ .vmem, ⟨22, _⟩ => ⟨S2x256x1024, .bf16⟩
  | .local _ .vmem, ⟨23, _⟩ => ⟨S2x256x1024, .bf16⟩
  | .local _ .vmem, ⟨24, _⟩ => ⟨S2x2048x256, .bf16⟩
  | .local _ .vmem, ⟨25, _⟩ => ⟨S1x512, .f32⟩
  | .local _ .vmem, ⟨26, _⟩ => ⟨S512x1024, .f32⟩
  | .local _ .vmem, ⟨27, _⟩ => ⟨S128x2048, .f32⟩
  | .local _ .vmem, ⟨28, _⟩ => ⟨S128x2048, .f32⟩
  | .local _ .vmem, ⟨29, _⟩ => ⟨S512x2048, .f32⟩
  | .local _ .vmem, ⟨30, _⟩ => ⟨S512x2048, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_c : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_c_0 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst : Ref sig .tc := ⟨.hbm, 36, rfl⟩
abbrev main_cst_1 : Ref sig .tc := ⟨.hbm, 37, rfl⟩
abbrev main_call0_v0 : Ref sig .tc := ⟨.hbm, 38, rfl⟩
abbrev main_call0_v1 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_c_2 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_c_3 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_cst_4 : Ref sig .tc := ⟨.hbm, 61, rfl⟩
abbrev main_cst_5 : Ref sig .tc := ⟨.hbm, 62, rfl⟩
abbrev main_call1_v0 : Ref sig .tc := ⟨.hbm, 63, rfl⟩
abbrev main_call1_v1 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_c_6 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_c_7 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_8 : Ref sig .tc := ⟨.hbm, 98, rfl⟩
abbrev main_cst_9 : Ref sig .tc := ⟨.hbm, 99, rfl⟩
abbrev main_call2_v0 : Ref sig .tc := ⟨.hbm, 100, rfl⟩
abbrev main_call2_v1 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_c_10 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_c_11 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_cst_12 : Ref sig .tc := ⟨.hbm, 123, rfl⟩
abbrev main_cst_13 : Ref sig .tc := ⟨.hbm, 124, rfl⟩
abbrev main_call3_v0 : Ref sig .tc := ⟨.hbm, 125, rfl⟩
abbrev main_call3_v1 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91_0 : Ref sig .tc := ⟨.hbm, 135, rfl⟩
abbrev main_v91_1 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96_0 : Ref sig .tc := ⟨.hbm, 141, rfl⟩
abbrev main_v96_1 : Ref sig .tc := ⟨.hbm, 142, rfl⟩
abbrev main_v96_2 : Ref sig .tc := ⟨.hbm, 143, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg8_0 : Ref sig .tc := ⟨.vmem, 15, rfl⟩
abbrev cc1_stg9_0 : Ref sig .tc := ⟨.vmem, 16, rfl⟩
abbrev cc1_stg10_0 : Ref sig .tc := ⟨.vmem, 17, rfl⟩
abbrev cc1_stg11_0 : Ref sig .tc := ⟨.vmem, 18, rfl⟩
abbrev cc1_stg12_0 : Ref sig .tc := ⟨.vmem, 19, rfl⟩
abbrev cc1_stg13_0 : Ref sig .tc := ⟨.vmem, 20, rfl⟩
abbrev cc1_stg14_0 : Ref sig .tc := ⟨.vmem, 21, rfl⟩
abbrev cc1_stg15_0 : Ref sig .tc := ⟨.vmem, 22, rfl⟩
abbrev cc1_stg16_0 : Ref sig .tc := ⟨.vmem, 23, rfl⟩
abbrev cc1_stg17_0 : Ref sig .tc := ⟨.vmem, 24, rfl⟩
abbrev cc1_stg18_0 : Ref sig .tc := ⟨.vmem, 25, rfl⟩
abbrev cc1_stg19_0 : Ref sig .tc := ⟨.vmem, 26, rfl⟩
abbrev cc1_stg20_0 : Ref sig .tc := ⟨.vmem, 27, rfl⟩
abbrev cc1_stg21_0 : Ref sig .tc := ⟨.vmem, 28, rfl⟩
abbrev cc1_scratch0 : Ref sig .tc := ⟨.vmem, 29, rfl⟩
abbrev cc1_scratch1 : Ref sig .tc := ⟨.vmem, 30, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem10_0 : DmaSem sig := 17
abbrev cc1_sem11_0 : DmaSem sig := 18
abbrev cc1_sem12_0 : DmaSem sig := 19
abbrev cc1_sem13_0 : DmaSem sig := 20
abbrev cc1_sem14_0 : DmaSem sig := 21
abbrev cc1_sem15_0 : DmaSem sig := 22
abbrev cc1_sem16_0 : DmaSem sig := 23
abbrev cc1_sem17_0 : DmaSem sig := 24
abbrev cc1_sem18_0 : DmaSem sig := 25
abbrev cc1_sem19_0 : DmaSem sig := 26
abbrev cc1_sem20_0 : DmaSem sig := 27
abbrev cc1_sem21_0 : DmaSem sig := 28

abbrev nD : Nat := 1
abbrev τ : Topo := Topo.v7x

variable {F : FTy → Type} [FloatOps F]

abbrev grid0 : Pipeline.Grid := .none

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_16 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_17 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_18 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_19 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_20 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_21 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S512x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S512x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x2048 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x2048 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S512x1024 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S512x512 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x512 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S512x1024 .bf16 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1024x1024 .bf16 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x2048 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x2048 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x2048 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S2x256x1024 .bf16 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S2x256x1024 .bf16 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 1 → Memref sig .tc .vmem S2x2048x256 .bf16 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]

abbrev stage1_18 : Fin 1 → Memref sig .tc .vmem S1x512 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))
abbrev reads1_18 : Fin grid1.rank → Bool := ![false]

abbrev stage1_19 : Fin 1 → Memref sig .tc .vmem S512x1024 .f32 := fun | 0 => Memref.whole cc1_stg19_0 | ⟨_ + 1, h⟩ => absurd h (Nat.not_lt.2 (Nat.le_add_left _ _))
abbrev sem1_19 : Fin 1 → DmaSem sig := fun | 0 => cc1_sem19_0 | ⟨_ + 1, h⟩ => absurd h (Nat.not_lt.2 (Nat.le_add_left _ _))
abbrev reads1_19 : Fin grid1.rank → Bool := ![false]

abbrev stage1_20 : Fin 1 → Memref sig .tc .vmem S128x2048 .f32 := fun | 0 => Memref.whole cc1_stg20_0 | ⟨_ + 1, h⟩ => absurd h (Nat.not_lt.2 (Nat.le_add_left _ _))
abbrev sem1_20 : Fin 1 → DmaSem sig := fun | 0 => cc1_sem20_0 | ⟨_ + 1, h⟩ => absurd h (Nat.not_lt.2 (Nat.le_add_left _ _))
abbrev reads1_20 : Fin grid1.rank → Bool := ![false]

abbrev stage1_21 : Fin 1 → Memref sig .tc .vmem S128x2048 .f32 := fun | 0 => Memref.whole cc1_stg21_0 | ⟨_ + 1, h⟩ => absurd h (Nat.not_lt.2 (Nat.le_add_left _ _))
abbrev sem1_21 : Fin 1 → DmaSem sig := fun | 0 => cc1_sem21_0 | ⟨_ + 1, h⟩ => absurd h (Nat.not_lt.2 (Nat.le_add_left _ _))
abbrev reads1_21 : Fin grid1.rank → Bool := ![false]
-- ==== ReferenceIdeal.lean ====
abbrev S512x1024 : Shape := ⟨2, ![512, 1024]⟩
abbrev S512x512 : Shape := ⟨2, ![512, 512]⟩
abbrev S1x128x32x64 : Shape := ⟨4, ![1, 128, 32, 64]⟩
abbrev S1x512 : Shape := ⟨2, ![1, 512]⟩
abbrev S1024x1024 : Shape := ⟨2, ![1024, 1024]⟩
abbrev S1x32x64 : Shape := ⟨3, ![1, 32, 64]⟩
abbrev S1x32 : Shape := ⟨2, ![1, 32]⟩
abbrev S1x32x64x16 : Shape := ⟨4, ![1, 32, 64, 16]⟩
abbrev S1x32x16x64 : Shape := ⟨4, ![1, 32, 16, 64]⟩
abbrev S1x32x16 : Shape := ⟨3, ![1, 32, 16]⟩
abbrev S32x64 : Shape := ⟨2, ![32, 64]⟩
abbrev S32 : Shape := ⟨1, ![32]⟩
abbrev S32x1 : Shape := ⟨2, ![32, 1]⟩
abbrev S_ : Shape := ⟨0, ![]⟩
abbrev S32x64x16 : Shape := ⟨3, ![32, 64, 16]⟩
abbrev S32x64x1 : Shape := ⟨3, ![32, 64, 1]⟩
abbrev S4x128x32x16 : Shape := ⟨4, ![4, 128, 32, 16]⟩
abbrev S32x64x4x128 : Shape := ⟨4, ![32, 64, 4, 128]⟩
abbrev S4x128x32x64 : Shape := ⟨4, ![4, 128, 32, 64]⟩
abbrev S128x32x64 : Shape := ⟨3, ![128, 32, 64]⟩
abbrev S32x16x64 : Shape := ⟨3, ![32, 16, 64]⟩
abbrev S32x16x4x128 : Shape := ⟨4, ![32, 16, 4, 128]⟩
abbrev S32x16 : Shape := ⟨2, ![32, 16]⟩
abbrev S1x1x32x16 : Shape := ⟨4, ![1, 1, 32, 16]⟩
abbrev S512 : Shape := ⟨1, ![512]⟩
abbrev S128x2048 : Shape := ⟨2, ![128, 2048]⟩

abbrev nBuf : Space → Nat
  | .hbm => 223
  | .vmem => 0
  | .smem => 0
  | _ => 0

abbrev hbmTy0_0 (i : Nat) : BufTy := match i % 128 with
  | 0 => ⟨S512x1024, .f32⟩
  | 1 => ⟨S512x512, .f32⟩
  | 2 => ⟨S512x512, .f32⟩
  | 3 => ⟨S512x1024, .bf16⟩
  | 4 => ⟨S512x1024, .bf16⟩
  | 5 => ⟨S1x128x32x64, .f32⟩
  | 6 => ⟨S1x128x32x64, .f32⟩
  | 7 => ⟨S512x1024, .bf16⟩
  | 8 => ⟨S512x512, .bf16⟩
  | 9 => ⟨S1x512, .f32⟩
  | 10 => ⟨S512x1024, .bf16⟩
  | 11 => ⟨S1024x1024, .bf16⟩
  | 12 => ⟨S1x32x64, .f32⟩
  | 13 => ⟨S1x32x64, .f32⟩
  | 14 => ⟨S1x32, .f32⟩
  | 15 => ⟨S1x32x64x16, .f32⟩
  | 16 => ⟨S1x32x64x16, .f32⟩
  | 17 => ⟨S1x32x16x64, .f32⟩
  | 18 => ⟨S1x32x16x64, .f32⟩
  | 19 => ⟨S1x32x16, .f32⟩
  | 20 => ⟨S32x64, .f32⟩
  | 21 => ⟨S32x64, .f32⟩
  | 22 => ⟨S32, .f32⟩
  | 23 => ⟨S32, .f32⟩
  | 24 => ⟨S32x1, .f32⟩
  | 25 => ⟨S32x64, .f32⟩
  | 26 => ⟨S32x64, .f32⟩
  | 27 => ⟨S32x64, .f32⟩
  | 28 => ⟨S32x64, .f32⟩
  | 29 => ⟨S32x64, .f32⟩
  | 30 => ⟨S32x64, .f32⟩
  | 31 => ⟨S32x64, .f32⟩
  | 32 => ⟨S32x64, .f32⟩
  | 33 => ⟨S32x64, .f32⟩
  | 34 => ⟨S32x64, .f32⟩
  | 35 => ⟨S32x64, .f32⟩
  | 36 => ⟨S32x64, .f32⟩
  | 37 => ⟨S32x64, .f32⟩
  | 38 => ⟨S32x64, .f32⟩
  | 39 => ⟨S_, .f32⟩
  | 40 => ⟨S32x64, .f32⟩
  | 41 => ⟨S32x64, .f32⟩
  | 42 => ⟨S32x64, .f32⟩
  | 43 => ⟨S32x64, .f32⟩
  | 44 => ⟨S32x64, .f32⟩
  | 45 => ⟨S32x64, .f32⟩
  | 46 => ⟨S32x64, .f32⟩
  | 47 => ⟨S32x64, .f32⟩
  | 48 => ⟨S32x64, .f32⟩
  | 49 => ⟨S32x64, .f32⟩
  | 50 => ⟨S32x64x16, .f32⟩
  | 51 => ⟨S32x64x16, .f32⟩
  | 52 => ⟨S32x64x1, .f32⟩
  | 53 => ⟨S32x64x16, .f32⟩
  | 54 => ⟨S32x64x16, .f32⟩
  | 55 => ⟨S32x64x1, .f32⟩
  | 56 => ⟨S32x64x16, .f32⟩
  | 57 => ⟨S32x64x16, .f32⟩
  | 58 => ⟨S32x64x16, .f32⟩
  | 59 => ⟨S32x64x1, .f32⟩
  | 60 => ⟨S32x64x16, .f32⟩
  | 61 => ⟨S32x64x16, .f32⟩
  | 62 => ⟨S32x64x1, .f32⟩
  | 63 => ⟨S32x64x16, .f32⟩
  | 64 => ⟨S32x64x16, .f32⟩
  | 65 => ⟨S32x64x16, .f32⟩
  | 66 => ⟨S4x128x32x16, .f32⟩
  | 67 => ⟨S32x64x4x128, .f32⟩
  | 68 => ⟨S4x128x32x64, .f32⟩
  | 69 => ⟨S32x64x4x128, .f32⟩
  | 70 => ⟨S4x128x32x64, .f32⟩
  | 71 => ⟨S128x32x64, .f32⟩
  | 72 => ⟨S128x32x64, .f32⟩
  | 73 => ⟨S1x32x64, .f32⟩
  | 74 => ⟨S128x32x64, .f32⟩
  | 75 => ⟨S128x32x64, .f32⟩
  | 76 => ⟨S1x32x64, .f32⟩
  | 77 => ⟨S128x32x64, .f32⟩
  | 78 => ⟨S128x32x64, .f32⟩
  | 79 => ⟨S128x32x64, .f32⟩
  | 80 => ⟨S1x128x32x64, .f32⟩
  | 81 => ⟨S128x32x64, .f32⟩
  | 82 => ⟨S128x32x64, .f32⟩
  | 83 => ⟨S1x32x64, .f32⟩
  | 84 => ⟨S128x32x64, .f32⟩
  | 85 => ⟨S128x32x64, .f32⟩
  | 86 => ⟨S1x32x64, .f32⟩
  | 87 => ⟨S128x32x64, .f32⟩
  | 88 => ⟨S128x32x64, .f32⟩
  | 89 => ⟨S128x32x64, .f32⟩
  | 90 => ⟨S1x128x32x64, .f32⟩
  | 91 => ⟨S128x32x64, .f32⟩
  | 92 => ⟨S128x32x64, .f32⟩
  | 93 => ⟨S1x32x64, .f32⟩
  | 94 => ⟨S128x32x64, .f32⟩
  | 95 => ⟨S128x32x64, .f32⟩
  | 96 => ⟨S1x32x64, .f32⟩
  | 97 => ⟨S128x32x64, .f32⟩
  | 98 => ⟨S128x32x64, .f32⟩
  | 99 => ⟨S128x32x64, .f32⟩
  | 100 => ⟨S1x128x32x64, .f32⟩
  | 101 => ⟨S128x32x64, .f32⟩
  | 102 => ⟨S128x32x64, .f32⟩
  | 103 => ⟨S1x32x64, .f32⟩
  | 104 => ⟨S128x32x64, .f32⟩
  | 105 => ⟨S128x32x64, .f32⟩
  | 106 => ⟨S1x32x64, .f32⟩
  | 107 => ⟨S128x32x64, .f32⟩
  | 108 => ⟨S128x32x64, .f32⟩
  | 109 => ⟨S128x32x64, .f32⟩
  | 110 => ⟨S1x128x32x64, .f32⟩
  | 111 => ⟨S128x32x64, .f32⟩
  | 112 => ⟨S128x32x64, .f32⟩
  | 113 => ⟨S1x32x64, .f32⟩
  | 114 => ⟨S128x32x64, .f32⟩
  | 115 => ⟨S128x32x64, .f32⟩
  | 116 => ⟨S1x32x64, .f32⟩
  | 117 => ⟨S128x32x64, .f32⟩
  | 118 => ⟨S128x32x64, .f32⟩
  | 119 => ⟨S128x32x64, .f32⟩
  | 120 => ⟨S1x128x32x64, .f32⟩
  | 121 => ⟨S128x32x64, .f32⟩
  | 122 => ⟨S128x32x64, .f32⟩
  | 123 => ⟨S1x32x64, .f32⟩
  | 124 => ⟨S128x32x64, .f32⟩
  | 125 => ⟨S128x32x64, .f32⟩
  | 126 => ⟨S1x32x64, .f32⟩
  | 127 => ⟨S128x32x64, .f32⟩
  | _ => ⟨S512x1024, .f32⟩

abbrev hbmTy0_1 (i : Nat) : BufTy := match i % 128 with
  | 0 => ⟨S128x32x64, .f32⟩
  | 1 => ⟨S128x32x64, .f32⟩
  | 2 => ⟨S1x128x32x64, .f32⟩
  | 3 => ⟨S128x32x64, .f32⟩
  | 4 => ⟨S128x32x64, .f32⟩
  | 5 => ⟨S1x32x64, .f32⟩
  | 6 => ⟨S128x32x64, .f32⟩
  | 7 => ⟨S128x32x64, .f32⟩
  | 8 => ⟨S1x32x64, .f32⟩
  | 9 => ⟨S128x32x64, .f32⟩
  | 10 => ⟨S128x32x64, .f32⟩
  | 11 => ⟨S128x32x64, .f32⟩
  | 12 => ⟨S1x128x32x64, .f32⟩
  | 13 => ⟨S128x32x64, .f32⟩
  | 14 => ⟨S128x32x64, .f32⟩
  | 15 => ⟨S1x32x64, .f32⟩
  | 16 => ⟨S128x32x64, .f32⟩
  | 17 => ⟨S128x32x64, .f32⟩
  | 18 => ⟨S1x32x64, .f32⟩
  | 19 => ⟨S128x32x64, .f32⟩
  | 20 => ⟨S128x32x64, .f32⟩
  | 21 => ⟨S128x32x64, .f32⟩
  | 22 => ⟨S1x128x32x64, .f32⟩
  | 23 => ⟨S128x32x64, .f32⟩
  | 24 => ⟨S128x32x64, .f32⟩
  | 25 => ⟨S1x128x32x64, .f32⟩
  | 26 => ⟨S1x128x32x64, .f32⟩
  | 27 => ⟨S1x128x32x64, .f32⟩
  | 28 => ⟨S1x128x32x64, .f32⟩
  | 29 => ⟨S4x128x32x64, .f32⟩
  | 30 => ⟨S32x16x64, .f32⟩
  | 31 => ⟨S32x16x4x128, .f32⟩
  | 32 => ⟨S4x128x32x16, .f32⟩
  | 33 => ⟨S1x128x32x64, .f32⟩
  | 34 => ⟨S1x128x32x64, .f32⟩
  | 35 => ⟨S1x128x32x64, .f32⟩
  | 36 => ⟨S1x128x32x64, .f32⟩
  | 37 => ⟨S4x128x32x64, .f32⟩
  | 38 => ⟨S32x16x64, .f32⟩
  | 39 => ⟨S32x16x64, .f32⟩
  | 40 => ⟨S32x16x4x128, .f32⟩
  | 41 => ⟨S4x128x32x16, .f32⟩
  | 42 => ⟨S4x128x32x16, .f32⟩
  | 43 => ⟨S32x16, .f32⟩
  | 44 => ⟨S1x1x32x16, .f32⟩
  | 45 => ⟨S4x128x32x16, .f32⟩
  | 46 => ⟨S4x128x32x16, .f32⟩
  | 47 => ⟨S4x128x32x16, .f32⟩
  | 48 => ⟨S512x512, .f32⟩
  | 49 => ⟨S512x512, .f32⟩
  | 50 => ⟨S512x512, .f32⟩
  | 51 => ⟨S_, .f32⟩
  | 52 => ⟨S512x512, .f32⟩
  | 53 => ⟨S512x512, .f32⟩
  | 54 => ⟨S512x512, .f32⟩
  | 55 => ⟨S_, .f32⟩
  | 56 => ⟨S512x512, .f32⟩
  | 57 => ⟨S512x512, .f32⟩
  | 58 => ⟨S512x512, .f32⟩
  | 59 => ⟨S_, .f32⟩
  | 60 => ⟨S512x512, .f32⟩
  | 61 => ⟨S512x512, .f32⟩
  | 62 => ⟨S_, .f32⟩
  | 63 => ⟨S512x512, .f32⟩
  | 64 => ⟨S512x512, .f32⟩
  | 65 => ⟨S512x512, .f32⟩
  | 66 => ⟨S512x512, .f32⟩
  | 67 => ⟨S512x512, .f32⟩
  | 68 => ⟨S512, .f32⟩
  | 69 => ⟨S1x512, .f32⟩
  | 70 => ⟨S512x512, .f32⟩
  | 71 => ⟨S512x512, .f32⟩
  | 72 => ⟨S512x512, .f32⟩
  | 73 => ⟨S512x512, .f32⟩
  | 74 => ⟨S_, .f32⟩
  | 75 => ⟨S512x512, .f32⟩
  | 76 => ⟨S512x512, .f32⟩
  | 77 => ⟨S_, .f32⟩
  | 78 => ⟨S512x512, .f32⟩
  | 79 => ⟨S512x512, .f32⟩
  | 80 => ⟨S512x512, .f32⟩
  | 81 => ⟨S512x1024, .f32⟩
  | 82 => ⟨S512x1024, .f32⟩
  | 83 => ⟨S512x1024, .f32⟩
  | 84 => ⟨S512x1024, .f32⟩
  | 85 => ⟨S512x1024, .f32⟩
  | 86 => ⟨S512x1024, .f32⟩
  | 87 => ⟨S512x1024, .f32⟩
  | 88 => ⟨S512x1024, .f32⟩
  | 89 => ⟨S512x1024, .f32⟩
  | 90 => ⟨S1024x1024, .f32⟩
  | 91 => ⟨S512x1024, .f32⟩
  | 92 => ⟨S512x1024, .f32⟩
  | 93 => ⟨S128x2048, .f32⟩
  | 94 => ⟨S128x2048, .f32⟩
  | _ => ⟨S512x1024, .f32⟩

abbrev hbmTy (i : Nat) : BufTy := match i / 128 with
  | 0 => hbmTy0_0 i
  | 1 => hbmTy0_1 i
  | _ => ⟨S512x1024, .f32⟩

abbrev bufTy : (tb : Table) → Fin (tcTables nBuf tb) → BufTy
  | .hbm, ⟨i, _⟩ => hbmTy i
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_v145 : Ref sig .tc := ⟨.hbm, 166, rfl⟩
abbrev main_v146 : Ref sig .tc := ⟨.hbm, 167, rfl⟩
abbrev main_v147 : Ref sig .tc := ⟨.hbm, 168, rfl⟩
abbrev main_v148 : Ref sig .tc := ⟨.hbm, 169, rfl⟩
abbrev main_v149 : Ref sig .tc := ⟨.hbm, 170, rfl⟩
abbrev main_v150 : Ref sig .tc := ⟨.hbm, 171, rfl⟩
abbrev main_v151 : Ref sig .tc := ⟨.hbm, 172, rfl⟩
abbrev main_v152 : Ref sig .tc := ⟨.hbm, 173, rfl⟩
abbrev main_v153 : Ref sig .tc := ⟨.hbm, 174, rfl⟩
abbrev main_v154 : Ref sig .tc := ⟨.hbm, 175, rfl⟩
abbrev main_v155 : Ref sig .tc := ⟨.hbm, 176, rfl⟩
abbrev main_v156 : Ref sig .tc := ⟨.hbm, 177, rfl⟩
abbrev main_v157 : Ref sig .tc := ⟨.hbm, 178, rfl⟩
abbrev main_cst_0 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_cst_1 : Ref sig .tc := ⟨.hbm, 183, rfl⟩
abbrev main_v161 : Ref sig .tc := ⟨.hbm, 184, rfl⟩
abbrev main_v162 : Ref sig .tc := ⟨.hbm, 185, rfl⟩
abbrev main_v163 : Ref sig .tc := ⟨.hbm, 186, rfl⟩
abbrev main_cst_2 : Ref sig .tc := ⟨.hbm, 187, rfl⟩
abbrev main_v164 : Ref sig .tc := ⟨.hbm, 188, rfl⟩
abbrev main_v165 : Ref sig .tc := ⟨.hbm, 189, rfl⟩
abbrev main_cst_3 : Ref sig .tc := ⟨.hbm, 190, rfl⟩
abbrev main_v166 : Ref sig .tc := ⟨.hbm, 191, rfl⟩
abbrev main_v167 : Ref sig .tc := ⟨.hbm, 192, rfl⟩
abbrev main_v168 : Ref sig .tc := ⟨.hbm, 193, rfl⟩
abbrev main_v169 : Ref sig .tc := ⟨.hbm, 194, rfl⟩
abbrev main_v170 : Ref sig .tc := ⟨.hbm, 195, rfl⟩
abbrev main_v171 : Ref sig .tc := ⟨.hbm, 196, rfl⟩
abbrev main_v172 : Ref sig .tc := ⟨.hbm, 197, rfl⟩
abbrev main_v173 : Ref sig .tc := ⟨.hbm, 198, rfl⟩
abbrev main_v174 : Ref sig .tc := ⟨.hbm, 199, rfl⟩
abbrev main_v175 : Ref sig .tc := ⟨.hbm, 200, rfl⟩
abbrev main_v176 : Ref sig .tc := ⟨.hbm, 201, rfl⟩
abbrev main_cst_4 : Ref sig .tc := ⟨.hbm, 202, rfl⟩
abbrev main_v177 : Ref sig .tc := ⟨.hbm, 203, rfl⟩
abbrev main_v178 : Ref sig .tc := ⟨.hbm, 204, rfl⟩
abbrev main_cst_5 : Ref sig .tc := ⟨.hbm, 205, rfl⟩
abbrev main_v179 : Ref sig .tc := ⟨.hbm, 206, rfl⟩
abbrev main_v180 : Ref sig .tc := ⟨.hbm, 207, rfl⟩
abbrev main_v181 : Ref sig .tc := ⟨.hbm, 208, rfl⟩
abbrev main_v182 : Ref sig .tc := ⟨.hbm, 209, rfl⟩
abbrev main_v183 : Ref sig .tc := ⟨.hbm, 210, rfl⟩
abbrev main_v184 : Ref sig .tc := ⟨.hbm, 211, rfl⟩
abbrev main_v185 : Ref sig .tc := ⟨.hbm, 212, rfl⟩
abbrev main_v186 : Ref sig .tc := ⟨.hbm, 213, rfl⟩
abbrev main_v187 : Ref sig .tc := ⟨.hbm, 214, rfl⟩
abbrev main_v188 : Ref sig .tc := ⟨.hbm, 215, rfl⟩
abbrev main_v189 : Ref sig .tc := ⟨.hbm, 216, rfl⟩
abbrev main_v190 : Ref sig .tc := ⟨.hbm, 217, rfl⟩
abbrev main_v191 : Ref sig .tc := ⟨.hbm, 218, rfl⟩
abbrev main_v192 : Ref sig .tc := ⟨.hbm, 219, rfl⟩
abbrev main_v193 : Ref sig .tc := ⟨.hbm, 220, rfl⟩
abbrev main_v194 : Ref sig .tc := ⟨.hbm, 221, rfl⟩
abbrev main_v195 : Ref sig .tc := ⟨.hbm, 222, rfl⟩

abbrev nD : Nat := 1
abbrev τ : Topo := Topo.v7x

variable {F : FTy → Type} [FloatOps F]
-- ==== Kernel3.lean ====
abbrev S16384x1024 : Shape := ⟨2, ![16384, 1024]⟩
abbrev S1x1024 : Shape := ⟨2, ![1, 1024]⟩
abbrev S1024x2816 : Shape := ⟨2, ![1024, 2816]⟩
abbrev S2816x1024 : Shape := ⟨2, ![2816, 1024]⟩
abbrev S1024 : Shape := ⟨1, ![1024]⟩
abbrev S1024x1024 : Shape := ⟨2, ![1024, 1024]⟩
abbrev S1024x1 : Shape := ⟨2, ![1024, 1]⟩
abbrev S1024x256 : Shape := ⟨2, ![1024, 256]⟩
abbrev S256x1024 : Shape := ⟨2, ![256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S1024, .f32⟩
  | .hbm, ⟨6, _⟩ => ⟨S1x1024, .f32⟩
  | .hbm, ⟨7, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1024x1024, .f32⟩
  | .local _ .vmem, ⟨7, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S16384x1024 : Shape := ⟨2, ![16384, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1024 : Shape := ⟨1, ![1024]⟩
abbrev S16384x2816 : Shape := ⟨2, ![16384, 2816]⟩

abbrev nBuf : Space → Nat
  | .hbm => 42
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S1024x2816, .f32⟩
  | .hbm, ⟨23, _⟩ => ⟨S16384x2816, .f32⟩
  | .hbm, ⟨24, _⟩ => ⟨S16384x2816, .f32⟩
  | .hbm, ⟨25, _⟩ => ⟨S16384x2816, .f32⟩
  | .hbm, ⟨26, _⟩ => ⟨S_, .f32⟩
  | .hbm, ⟨27, _⟩ => ⟨S16384x2816, .f32⟩
  | .hbm, ⟨28, _⟩ => ⟨S16384x2816, .f32⟩
  | .hbm, ⟨29, _⟩ => ⟨S_, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S1024x2816, .f32⟩
  | .hbm, ⟨34, _⟩ => ⟨S16384x2816, .f32⟩
  | .hbm, ⟨35, _⟩ => ⟨S16384x2816, .f32⟩
  | .hbm, ⟨36, _⟩ => ⟨S2816x1024, .f32⟩
  | .hbm, ⟨37, _⟩ => ⟨S16384x1024, .f32⟩
  | .hbm, ⟨38, _⟩ => ⟨S_, .f32⟩
  | .hbm, ⟨39, _⟩ => ⟨S16384x1024, .f32⟩
  | .hbm, ⟨40, _⟩ => ⟨S16384x1024, .f32⟩
  | .hbm, ⟨41, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩

abbrev nD : Nat := 1
abbrev τ : Topo := Topo.v7x

variable {F : FTy → Type} [FloatOps F]
-- ==== Kernel4.lean ====
abbrev S2x8192x1024 : Shape := ⟨3, ![2, 8192, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1x1024x3328 : Shape := ⟨3, ![1, 1024, 3328]⟩
abbrev S1x64 : Shape := ⟨2, ![1, 64]⟩
abbrev S128x128 : Shape := ⟨2, ![128, 128]⟩
abbrev S1024 : Shape := ⟨1, ![1024]⟩
abbrev S1024x2816 : Shape := ⟨2, ![1024, 2816]⟩
abbrev S2816x1024 : Shape := ⟨2, ![2816, 1024]⟩
abbrev S1024x3328 : Shape := ⟨2, ![1024, 3328]⟩
abbrev S64 : Shape := ⟨1, ![64]⟩
abbrev S2x64 : Shape := ⟨2, ![2, 64]⟩
abbrev S128 : Shape := ⟨1, ![128]⟩
abbrev S1x128 : Shape := ⟨2, ![1, 128]⟩
abbrev S16 : Shape := ⟨1, ![16]⟩
abbrev S_ : Shape := ⟨0, ![]⟩
abbrev S1x16 : Shape := ⟨2, ![1, 16]⟩
abbrev S2x16 : Shape := ⟨2, ![2, 16]⟩
abbrev S32 : Shape := ⟨1, ![32]⟩
abbrev S512 : Shape := ⟨1, ![512]⟩
abbrev S1x32 : Shape := ⟨2, ![1, 32]⟩
abbrev S4x32 : Shape := ⟨2, ![4, 32]⟩
abbrev S32x1 : Shape := ⟨2, ![32, 1]⟩
abbrev S32x128 : Shape := ⟨2, ![32, 128]⟩
abbrev S512x1 : Shape := ⟨2, ![512, 1]⟩
abbrev S512x128 : Shape := ⟨2, ![512, 128]⟩
abbrev S32x1x128 : Shape := ⟨3, ![32, 1, 128]⟩
abbrev S32x2x128 : Shape := ⟨3, ![32, 2, 128]⟩
abbrev S1x512x128 : Shape := ⟨3, ![1, 512, 128]⟩
abbrev S6x512x128 : Shape := ⟨3, ![6, 512, 128]⟩
abbrev S16384x1024 : Shape := ⟨2, ![16384, 1024]⟩
abbrev S16384x512 : Shape := ⟨2, ![16384, 512]⟩
abbrev S16384x128 : Shape := ⟨2, ![16384, 128]⟩
abbrev S512x1024 : Shape := ⟨2, ![512, 1024]⟩
abbrev S1x2x128 : Shape := ⟨3, ![1, 2, 128]⟩
abbrev S512x512 : Shape := ⟨2, ![512, 512]⟩
abbrev S1024x256 : Shape := ⟨2, ![1024, 256]⟩
abbrev S512x256 : Shape := ⟨2, ![512, 256]⟩
abbrev S256x1024 : Shape := ⟨2, ![256, 1024]⟩
abbrev S1x1x128 : Shape := ⟨3, ![1, 1, 128]⟩
abbrev S1024x1280 : Shape := ⟨2, ![1024, 1280]⟩
abbrev S512x1280 : Shape := ⟨2, ![512, 1280]⟩
abbrev S1024x1024 : Shape := ⟨2, ![1024, 1024]⟩
abbrev S2x8192x128 : Shape := ⟨3, ![2, 8192, 128]⟩
abbrev S2x128x128 : Shape := ⟨3, ![2, 128, 128]⟩
abbrev S2x128x2x64 : Shape := ⟨4, ![2, 128, 2, 64]⟩

abbrev nBuf : Space → Nat
  | .hbm => 125
  | .vmem => 28
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1x1024, .f32⟩
  | .hbm, ⟨6, _⟩ => ⟨S1x1024x3328, .f32⟩
  | .hbm, ⟨7, _⟩ => ⟨S1x64, .f32⟩
  | .hbm, ⟨8, _⟩ => ⟨S1x64, .f32⟩
  | .hbm, ⟨9, _⟩ => ⟨S128x128, .f32⟩
  | .hbm, ⟨10, _⟩ => ⟨S1024, .f32⟩
  | .hbm, ⟨11, _⟩ => ⟨S1x1024, .f32⟩
  | .hbm, ⟨12, _⟩ => ⟨S1024x2816, .f32⟩
  | .hbm, ⟨13, _⟩ => ⟨S1024x2816, .bf16⟩
  | .hbm, ⟨14, _⟩ => ⟨S1024x2816, .f32⟩
  | .hbm, ⟨15, _⟩ => ⟨S1024x2816, .bf16⟩
  | .hbm, ⟨16, _⟩ => ⟨S2816x1024, .f32⟩
  | .hbm, ⟨17, _⟩ => ⟨S2816x1024, .bf16⟩
  | .hbm, ⟨18, _⟩ => ⟨S1024, .f32⟩
  | .hbm, ⟨19, _⟩ => ⟨S1x1024, .f32⟩
  | .hbm, ⟨20, _⟩ => ⟨S1024x3328, .f32⟩
  | .hbm, ⟨21, _⟩ => ⟨S1024x3328, .bf16⟩
  | .hbm, ⟨22, _⟩ => ⟨S64, .f32⟩
  | .hbm, ⟨23, _⟩ => ⟨S1x64, .f32⟩
  | .hbm, ⟨24, _⟩ => ⟨S2x64, .f32⟩
  | .hbm, ⟨25, _⟩ => ⟨S128, .f32⟩
  | .hbm, ⟨26, _⟩ => ⟨S1x128, .f32⟩
  | .hbm, ⟨27, _⟩ => ⟨S64, .f32⟩
  | .hbm, ⟨28, _⟩ => ⟨S1x64, .f32⟩
  | .hbm, ⟨29, _⟩ => ⟨S2x64, .f32⟩
  | .hbm, ⟨30, _⟩ => ⟨S128, .f32⟩
  | .hbm, ⟨31, _⟩ => ⟨S1x128, .f32⟩
  | .hbm, ⟨32, _⟩ => ⟨S128x128, .bf16⟩
  | .hbm, ⟨33, _⟩ => ⟨S16, .f32⟩
  | .hbm, ⟨34, _⟩ => ⟨S_, .f32⟩
  | .hbm, ⟨35, _⟩ => ⟨S16, .f32⟩
  | .hbm, ⟨36, _⟩ => ⟨S16, .f32⟩
  | .hbm, ⟨37, _⟩ => ⟨S1x16, .f32⟩
  | .hbm, ⟨38, _⟩ => ⟨S2x16, .f32⟩
  | .hbm, ⟨39, _⟩ => ⟨S32, .f32⟩
  | .hbm, ⟨40, _⟩ => ⟨S512, .f32⟩
  | .hbm, ⟨41, _⟩ => ⟨S128, .i32⟩
  | .hbm, ⟨42, _⟩ => ⟨S32, .f32⟩
  | .hbm, ⟨43, _⟩ => ⟨S_, .f32⟩
  | .hbm, ⟨44, _⟩ => ⟨S32, .f32⟩
  | .hbm, ⟨45, _⟩ => ⟨S32, .f32⟩
  | .hbm, ⟨46, _⟩ => ⟨S_, .f32⟩
  | .hbm, ⟨47, _⟩ => ⟨S32, .f32⟩
  | .hbm, ⟨48, _⟩ => ⟨S32, .f32⟩
  | .hbm, ⟨49, _⟩ => ⟨S_, .f32⟩
  | .hbm, ⟨50, _⟩ => ⟨S32, .f32⟩
  | .hbm, ⟨51, _⟩ => ⟨S32, .f32⟩
  | .hbm, ⟨52, _⟩ => ⟨S1x32, .f32⟩
  | .hbm, ⟨53, _⟩ => ⟨S4x32, .f32⟩
  | .hbm, ⟨54, _⟩ => ⟨S128, .f32⟩
  | .hbm, ⟨55, _⟩ => ⟨S_, .i32⟩
  | .hbm, ⟨56, _⟩ => ⟨S128, .i32⟩
  | .hbm, ⟨57, _⟩ => ⟨S128, .i32⟩
  | .hbm, ⟨58, _⟩ => ⟨S_, .i32⟩
  | .hbm, ⟨59, _⟩ => ⟨S128, .i32⟩
  | .hbm, ⟨60, _⟩ => ⟨S128, .i1⟩
  | .hbm, ⟨61, _⟩ => ⟨S32x1, .f32⟩
  | .hbm, ⟨62, _⟩ => ⟨S1x128, .f32⟩
  | .hbm, ⟨63, _⟩ => ⟨S32x128, .f32⟩
  | .hbm, ⟨64, _⟩ => ⟨S32x128, .f32⟩
  | .hbm, ⟨65, _⟩ => ⟨S32x128, .f32⟩
  | .hbm, ⟨66, _⟩ => ⟨S512x1, .f32⟩
  | .hbm, ⟨67, _⟩ => ⟨S1x128, .f32⟩
  | .hbm, ⟨68, _⟩ => ⟨S512x128, .f32⟩
  | .hbm, ⟨69, _⟩ => ⟨S512x128, .f32⟩
  | .hbm, ⟨70, _⟩ => ⟨S512x128, .f32⟩
  | .hbm, ⟨71, _⟩ => ⟨S32x128, .f32⟩
  | .hbm, ⟨72, _⟩ => ⟨S32x128, .f32⟩
  | .hbm, ⟨73, _⟩ => ⟨S32x1x128, .f32⟩
  | .hbm, ⟨74, _⟩ => ⟨S32x1x128, .f32⟩
  | .hbm, ⟨75, _⟩ => ⟨S32x2x128, .f32⟩
  | .hbm, ⟨76, _⟩ => ⟨S512x128, .f32⟩
  | .hbm, ⟨77, _⟩ => ⟨S512x128, .f32⟩
  | .hbm, ⟨78, _⟩ => ⟨S_, .f32⟩
  | .hbm, ⟨79, _⟩ => ⟨S_, .f32⟩
  | .hbm, ⟨80, _⟩ => ⟨S128, .f32⟩
  | .hbm, ⟨81, _⟩ => ⟨S128, .f32⟩
  | .hbm, ⟨82, _⟩ => ⟨S128, .f32⟩
  | .hbm, ⟨83, _⟩ => ⟨S_, .f32⟩
  | .hbm, ⟨84, _⟩ => ⟨S_, .f32⟩
  | .hbm, ⟨85, _⟩ => ⟨S128, .f32⟩
  | .hbm, ⟨86, _⟩ => ⟨S128, .f32⟩
  | .hbm, ⟨87, _⟩ => ⟨S128, .f32⟩
  | .hbm, ⟨88, _⟩ => ⟨S128, .f32⟩
  | .hbm, ⟨89, _⟩ => ⟨S1x128, .f32⟩
  | .hbm, ⟨90, _⟩ => ⟨S512x128, .f32⟩
  | .hbm, ⟨91, _⟩ => ⟨S512x128, .f32⟩
  | .hbm, ⟨92, _⟩ => ⟨S128, .f32⟩
  | .hbm, ⟨93, _⟩ => ⟨S1x128, .f32⟩
  | .hbm, ⟨94, _⟩ => ⟨S512x128, .f32⟩
  | .hbm, ⟨95, _⟩ => ⟨S512x128, .f32⟩
  | .hbm, ⟨96, _⟩ => ⟨S128, .f32⟩
  | .hbm, ⟨97, _⟩ => ⟨S1x128, .f32⟩
  | .hbm, ⟨98, _⟩ => ⟨S512x128, .f32⟩
  | .hbm, ⟨99, _⟩ => ⟨S512x128, .f32⟩
  | .hbm, ⟨100, _⟩ => ⟨S128, .f32⟩
  | .hbm, ⟨101, _⟩ => ⟨S1x128, .f32⟩
  | .hbm, ⟨102, _⟩ => ⟨S512x128, .f32⟩
  | .hbm, ⟨103, _⟩ => ⟨S512x128, .f32⟩
  | .hbm, ⟨104, _⟩ => ⟨S1x512x128, .f32⟩
  | .hbm, ⟨105, _⟩ => ⟨S1x512x128, .f32⟩
  | .hbm, ⟨106, _⟩ => ⟨S1x512x128, .f32⟩
  | .hbm, ⟨107, _⟩ => ⟨S1x512x128, .f32⟩
  | .hbm, ⟨108, _⟩ => ⟨S1x512x128, .f32⟩
  | .hbm, ⟨109, _⟩ => ⟨S1x512x128, .f32⟩
  | .hbm, ⟨110, _⟩ => ⟨S6x512x128, .f32⟩
  | .hbm, ⟨111, _⟩ => ⟨S16384x1024, .f32⟩
  | .hbm, ⟨112, _⟩ => ⟨S16384x1024, .f32⟩
  | .hbm, ⟨113, _⟩ => ⟨S16384x512, .bf16⟩
  | .hbm, ⟨114, _⟩ => ⟨S16384x128, .f32⟩
  | .hbm, ⟨115, _⟩ => ⟨S16384x128, .f32⟩
  | .hbm, ⟨116, _⟩ => ⟨S16384x512, .f32⟩
  | .hbm, ⟨117, _⟩ => ⟨S16384x1024, .bf16⟩
  | .hbm, ⟨118, _⟩ => ⟨S16384x1024, .bf16⟩
  | .hbm, ⟨119, _⟩ => ⟨S2x8192x128, .f32⟩
  | .hbm, ⟨120, _⟩ => ⟨S2x128x128, .f32⟩
  | .hbm, ⟨121, _⟩ => ⟨S2x128x2x64, .f32⟩
  | .hbm, ⟨122, _⟩ => ⟨S2x8192x128, .f32⟩
  | .hbm, ⟨123, _⟩ => ⟨S2x128x128, .f32⟩
  | .hbm, ⟨124, _⟩ => ⟨S2x128x2x64, .f32⟩
  | .local _ .vmem, ⟨0, _⟩ => ⟨S512x1024, .f32⟩
  | .local _ .vmem, ⟨1, _⟩ => ⟨S512x1024, .f32⟩
  | .local _ .vmem, ⟨2, _⟩ => ⟨S1x2x128, .f32⟩
  | .local _ .vmem, ⟨3, _⟩ => ⟨S1x2x128, .f32⟩
  | .local _ .vmem, ⟨4, _⟩ => ⟨S6x512x128, .f32⟩
  | .local _ .vmem, ⟨5, _⟩ => ⟨S1x1024, .f32⟩
  | .local _ .vmem, ⟨6, _⟩ => ⟨S1024x2816, .bf16⟩
  | .local _ .vmem, ⟨7, _⟩ => ⟨S1024x2816, .bf16⟩
  | .local _ .vmem, ⟨8, _⟩ => ⟨S2816x1024, .bf16⟩
  | .local _ .vmem, ⟨9, _⟩ => ⟨S1x1024, .f32⟩
  | .local _ .vmem, ⟨10, _⟩ => ⟨S1024x3328, .bf16⟩
  | .local _ .vmem, ⟨11, _⟩ => ⟨S1x128, .f32⟩
  | .local _ .vmem, ⟨12, _⟩ => ⟨S1x128, .f32⟩
  | .local _ .vmem, ⟨13, _⟩ => ⟨S128x128, .bf16⟩
  | .local _ .vmem, ⟨14, _⟩ => ⟨S512x1024, .f32⟩
  | .local _ .vmem, ⟨15, _⟩ => ⟨S512x1024, .f32⟩
  | .local _ .vmem, ⟨16, _⟩ => ⟨S512x512, .bf16⟩
  | .local _ .vmem, ⟨17, _⟩ => ⟨S512x512, .bf16⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S512x512, .f32⟩
  | .local _ .vmem, ⟨23, _⟩ => ⟨S512x512, .f32⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_0 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_1 : Ref sig .tc := ⟨.hbm, 43, rfl⟩
abbrev main_v32 : Ref sig .tc := ⟨.hbm, 44, rfl⟩
abbrev main_v33 : Ref sig .tc := ⟨.hbm, 45, rfl⟩
abbrev main_cst_2 : Ref sig .tc := ⟨.hbm, 46, rfl⟩
abbrev main_v34 : Ref sig .tc := ⟨.hbm, 47, rfl⟩
abbrev main_v35 : Ref sig .tc := ⟨.hbm, 48, rfl⟩
abbrev main_cst_3 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c : Ref sig .tc := ⟨.hbm, 55, rfl⟩
abbrev main_v41 : Ref sig .tc := ⟨.hbm, 56, rfl⟩
abbrev main_v42 : Ref sig .tc := ⟨.hbm, 57, rfl⟩
abbrev main_c_4 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_5 : Ref sig .tc := ⟨.hbm, 78, rfl⟩
abbrev main_cst_6 : Ref sig .tc := ⟨.hbm, 79, rfl⟩
abbrev main_call0_v0 : Ref sig .tc := ⟨.hbm, 80, rfl⟩
abbrev main_call0_v1 : Ref sig .tc := ⟨.hbm, 81, rfl⟩
abbrev main_v62 : Ref sig .tc := ⟨.hbm, 82, rfl⟩
abbrev main_cst_7 : Ref sig .tc := ⟨.hbm, 83, rfl⟩
abbrev main_cst_8 : Ref sig .tc := ⟨.hbm, 84, rfl⟩
abbrev main_call1_v0 : Ref sig .tc := ⟨.hbm, 85, rfl⟩
abbrev main_call1_v1 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88_0 : Ref sig .tc := ⟨.hbm, 112, rfl⟩
abbrev main_v88_1 : Ref sig .tc := ⟨.hbm, 113, rfl⟩
abbrev main_v88_2 : Ref sig .tc := ⟨.hbm, 114, rfl⟩
abbrev main_v88_3 : Ref sig .tc := ⟨.hbm, 115, rfl⟩
abbrev main_v88_4 : Ref sig .tc := ⟨.hbm, 116, rfl⟩
abbrev main_v88_5 : Ref sig .tc := ⟨.hbm, 117, rfl⟩
abbrev main_v88_6 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x3328 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference4Ideal.lean ====
abbrev S2x8192x1024 : Shape := ⟨3, ![2, 8192, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1x1024x3328 : Shape := ⟨3, ![1, 1024, 3328]⟩
abbrev S1x64 : Shape := ⟨2, ![1, 64]⟩
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x2816 : Shape := ⟨2, ![1024, 2816]⟩
abbrev S16384x2816 : Shape := ⟨2, ![16384, 2816]⟩
abbrev S2816x1024 : Shape := ⟨2, ![2816, 1024]⟩
abbrev S1024x3328 : Shape := ⟨2, ![1024, 3328]⟩
abbrev S16384x3328 : Shape := ⟨2, ![16384, 3328]⟩
abbrev S16384x512 : Shape := ⟨2, ![16384, 512]⟩
abbrev S16384x128 : Shape := ⟨2, ![16384, 128]⟩
abbrev S8192 : Shape := ⟨1, ![8192]⟩
abbrev S1x8192 : Shape := ⟨2, ![1, 8192]⟩
abbrev S2x8192 : Shape := ⟨2, ![2, 8192]⟩
abbrev S32 : Shape := ⟨1, ![32]⟩
abbrev S1x32 : Shape := ⟨2, ![1, 32]⟩
abbrev S16384x32 : Shape := ⟨2, ![16384, 32]⟩
abbrev S16384x1x32 : Shape := ⟨3, ![16384, 1, 32]⟩
abbrev S16384x8x64 : Shape := ⟨3, ![16384, 8, 64]⟩
abbrev S64 : Shape := ⟨1, ![64]⟩
abbrev S16384x8 : Shape := ⟨2, ![16384, 8]⟩
abbrev S16384x8x1 : Shape := ⟨3, ![16384, 8, 1]⟩
abbrev S1x1x64 : Shape := ⟨3, ![1, 1, 64]⟩
abbrev S16384x8x32 : Shape := ⟨3, ![16384, 8, 32]⟩
abbrev S16384x2x64 : Shape := ⟨3, ![16384, 2, 64]⟩
abbrev S16384x2 : Shape := ⟨2, ![16384, 2]⟩
abbrev S16384x2x1 : Shape := ⟨3, ![16384, 2, 1]⟩
abbrev S16384x2x32 : Shape := ⟨3, ![16384, 2, 32]⟩
abbrev S2x8192x2x64 : Shape := ⟨4, ![2, 8192, 2, 64]⟩
abbrev S2x128x2x64 : Shape := ⟨4, ![2, 128, 2, 64]⟩

abbrev nBuf : Space → Nat
  | .hbm => 189
  | .vmem => 0
  | .smem => 0
  | _ => 0

abbrev hbmTy0_0 (i : Nat) : BufTy := match i % 128 with
  | 0 => ⟨S2x8192x1024, .f32⟩
  | 1 => ⟨S1x1024, .f32⟩
  | 2 => ⟨S1x1024x2816, .f32⟩
  | 3 => ⟨S1x1024x2816, .f32⟩
  | 4 => ⟨S1x2816x1024, .f32⟩
  | 5 => ⟨S1x1024, .f32⟩
  | 6 => ⟨S1x1024x3328, .f32⟩
  | 7 => ⟨S1x64, .f32⟩
  | 8 => ⟨S1x64, .f32⟩
  | 9 => ⟨S16384x1024, .f32⟩
  | 10 => ⟨S1024, .f32⟩
  | 11 => ⟨S16384x1024, .f32⟩
  | 12 => ⟨S_, .f32⟩
  | 13 => ⟨S16384, .f32⟩
  | 14 => ⟨S16384x1, .f32⟩
  | 15 => ⟨S_, .f32⟩
  | 16 => ⟨S16384x1, .f32⟩
  | 17 => ⟨S16384x1, .f32⟩
  | 18 => ⟨S_, .f32⟩
  | 19 => ⟨S16384x1, .f32⟩
  | 20 => ⟨S16384x1, .f32⟩
  | 21 => ⟨S16384x1, .f32⟩
  | 22 => ⟨S16384x1024, .f32⟩
  | 23 => ⟨S16384x1024, .f32⟩
  | 24 => ⟨S1x1024, .f32⟩
  | 25 => ⟨S16384x1024, .f32⟩
  | 26 => ⟨S16384x1024, .f32⟩
  | 27 => ⟨S1024x2816, .f32⟩
  | 28 => ⟨S16384x2816, .f32⟩
  | 29 => ⟨S16384x2816, .f32⟩
  | 30 => ⟨S16384x2816, .f32⟩
  | 31 => ⟨S_, .f32⟩
  | 32 => ⟨S16384x2816, .f32⟩
  | 33 => ⟨S16384x2816, .f32⟩
  | 34 => ⟨S_, .f32⟩
  | 35 => ⟨S16384x2816, .f32⟩
  | 36 => ⟨S16384x2816, .f32⟩
  | 37 => ⟨S16384x2816, .f32⟩
  | 38 => ⟨S1024x2816, .f32⟩
  | 39 => ⟨S16384x2816, .f32⟩
  | 40 => ⟨S16384x2816, .f32⟩
  | 41 => ⟨S2816x1024, .f32⟩
  | 42 => ⟨S16384x1024, .f32⟩
  | 43 => ⟨S_, .f32⟩
  | 44 => ⟨S16384x1024, .f32⟩
  | 45 => ⟨S16384x1024, .f32⟩
  | 46 => ⟨S16384x1024, .f32⟩
  | 47 => ⟨S1024, .f32⟩
  | 48 => ⟨S16384x1024, .f32⟩
  | 49 => ⟨S_, .f32⟩
  | 50 => ⟨S16384, .f32⟩
  | 51 => ⟨S16384x1, .f32⟩
  | 52 => ⟨S_, .f32⟩
  | 53 => ⟨S16384x1, .f32⟩
  | 54 => ⟨S16384x1, .f32⟩
  | 55 => ⟨S_, .f32⟩
  | 56 => ⟨S16384x1, .f32⟩
  | 57 => ⟨S16384x1, .f32⟩
  | 58 => ⟨S16384x1, .f32⟩
  | 59 => ⟨S16384x1024, .f32⟩
  | 60 => ⟨S16384x1024, .f32⟩
  | 61 => ⟨S1x1024, .f32⟩
  | 62 => ⟨S16384x1024, .f32⟩
  | 63 => ⟨S16384x1024, .f32⟩
  | 64 => ⟨S1024x3328, .f32⟩
  | 65 => ⟨S16384x3328, .f32⟩
  | 66 => ⟨S16384x512, .f32⟩
  | 67 => ⟨S16384x128, .f32⟩
  | 68 => ⟨S16384x128, .f32⟩
  | 69 => ⟨S16384x512, .f32⟩
  | 70 => ⟨S16384x1024, .f32⟩
  | 71 => ⟨S16384x1024, .f32⟩
  | 72 => ⟨S8192, .f32⟩
  | 73 => ⟨S1x8192, .f32⟩
  | 74 => ⟨S2x8192, .f32⟩
  | 75 => ⟨S16384, .f32⟩
  | 76 => ⟨S32, .f32⟩
  | 77 => ⟨S_, .f32⟩
  | 78 => ⟨S32, .f32⟩
  | 79 => ⟨S32, .f32⟩
  | 80 => ⟨S_, .f32⟩
  | 81 => ⟨S32, .f32⟩
  | 82 => ⟨S32, .f32⟩
  | 83 => ⟨S_, .f32⟩
  | 84 => ⟨S32, .f32⟩
  | 85 => ⟨S32, .f32⟩
  | 86 => ⟨S16384x1, .f32⟩
  | 87 => ⟨S1x32, .f32⟩
  | 88 => ⟨S16384x32, .f32⟩
  | 89 => ⟨S16384x32, .f32⟩
  | 90 => ⟨S16384x32, .f32⟩
  | 91 => ⟨S16384x32, .f32⟩
  | 92 => ⟨S16384x1x32, .f32⟩
  | 93 => ⟨S16384x32, .f32⟩
  | 94 => ⟨S16384x1x32, .f32⟩
  | 95 => ⟨S16384x8x64, .f32⟩
  | 96 => ⟨S64, .f32⟩
  | 97 => ⟨S16384x8x64, .f32⟩
  | 98 => ⟨S_, .f32⟩
  | 99 => ⟨S16384x8, .f32⟩
  | 100 => ⟨S16384x8x1, .f32⟩
  | 101 => ⟨S_, .f32⟩
  | 102 => ⟨S16384x8x1, .f32⟩
  | 103 => ⟨S16384x8x1, .f32⟩
  | 104 => ⟨S_, .f32⟩
  | 105 => ⟨S16384x8x1, .f32⟩
  | 106 => ⟨S16384x8x1, .f32⟩
  | 107 => ⟨S16384x8x1, .f32⟩
  | 108 => ⟨S16384x8x64, .f32⟩
  | 109 => ⟨S16384x8x64, .f32⟩
  | 110 => ⟨S1x1x64, .f32⟩
  | 111 => ⟨S16384x8x64, .f32⟩
  | 112 => ⟨S16384x8x64, .f32⟩
  | 113 => ⟨S16384x8x32, .f32⟩
  | 114 => ⟨S16384x8x32, .f32⟩
  | 115 => ⟨S16384x8x32, .f32⟩
  | 116 => ⟨S16384x8x32, .f32⟩
  | 117 => ⟨S16384x8x32, .f32⟩
  | 118 => ⟨S16384x8x32, .f32⟩
  | 119 => ⟨S16384x8x32, .f32⟩
  | 120 => ⟨S16384x8x32, .f32⟩
  | 121 => ⟨S16384x8x32, .f32⟩
  | 122 => ⟨S16384x8x32, .f32⟩
  | 123 => ⟨S16384x8x32, .f32⟩
  | 124 => ⟨S16384x8x32, .f32⟩
  | 125 => ⟨S16384x8x32, .f32⟩
  | 126 => ⟨S16384x8x32, .f32⟩
  | 127 => ⟨S16384x8x64, .f32⟩
  | _ => ⟨S2x8192x1024, .f32⟩

abbrev hbmTy0_1 (i : Nat) : BufTy := match i % 128 with
  | 0 => ⟨S_, .f32⟩
  | 1 => ⟨S16384x8x64, .f32⟩
  | 2 => ⟨S16384x8x64, .f32⟩
  | 3 => ⟨S16384x2x64, .f32⟩
  | 4 => ⟨S64, .f32⟩
  | 5 => ⟨S16384x2x64, .f32⟩
  | 6 => ⟨S_, .f32⟩
  | 7 => ⟨S16384x2, .f32⟩
  | 8 => ⟨S16384x2x1, .f32⟩
  | 9 => ⟨S_, .f32⟩
  | 10 => ⟨S16384x2x1, .f32⟩
  | 11 => ⟨S16384x2x1, .f32⟩
  | 12 => ⟨S_, .f32⟩
  | 13 => ⟨S16384x2x1, .f32⟩
  | 14 => ⟨S16384x2x1, .f32⟩
  | 15 => ⟨S16384x2x1, .f32⟩
  | 16 => ⟨S16384x2x64, .f32⟩
  | 17 => ⟨S16384x2x64, .f32⟩
  | 18 => ⟨S1x1x64, .f32⟩
  | 19 => ⟨S16384x2x64, .f32⟩
  | 20 => ⟨S16384x2x64, .f32⟩
  | 21 => ⟨S16384x2x32, .f32⟩
  | 22 => ⟨S16384x2x32, .f32⟩
  | 23 => ⟨S16384x2x32, .f32⟩
  | 24 => ⟨S16384x2x32, .f32⟩
  | 25 => ⟨S16384x2x32, .f32⟩
  | 26 => ⟨S16384x2x32, .f32⟩
  | 27 => ⟨S16384x2x32, .f32⟩
  | 28 => ⟨S16384x2x32, .f32⟩
  | 29 => ⟨S16384x2x32, .f32⟩
  | 30 => ⟨S16384x2x32, .f32⟩
  | 31 => ⟨S16384x2x32, .f32⟩
  | 32 => ⟨S16384x2x32, .f32⟩
  | 33 => ⟨S16384x2x32, .f32⟩
  | 34 => ⟨S16384x2x32, .f32⟩
  | 35 => ⟨S16384x2x64, .f32⟩
  | 36 => ⟨S2x8192x2x64, .f32⟩
  | 37 => ⟨S2x128x2x64, .f32⟩
  | 38 => ⟨S2x8192x2x64, .f32⟩
  | 39 => ⟨S2x128x2x64, .f32⟩
  | 40 => ⟨S16384x512, .f32⟩
  | 41 => ⟨S16384x512, .bf16⟩
  | 42 => ⟨S16384x128, .f32⟩
  | 43 => ⟨S16384x1024, .f32⟩
  | 44 => ⟨S16384x1024, .f32⟩
  | 45 => ⟨S_, .f32⟩
  | 46 => ⟨S16384x1024, .f32⟩
  | 47 => ⟨S16384x1024, .f32⟩
  | 48 => ⟨S_, .f32⟩
  | 49 => ⟨S16384x1024, .f32⟩
  | 50 => ⟨S16384x1024, .f32⟩
  | 51 => ⟨S16384x1024, .bf16⟩
  | 52 => ⟨S16384x1024, .f32⟩
  | 53 => ⟨S16384x1024, .f32⟩
  | 54 => ⟨S_, .f32⟩
  | 55 => ⟨S16384x1024, .f32⟩
  | 56 => ⟨S16384x1024, .f32⟩
  | 57 => ⟨S_, .f32⟩
  | 58 => ⟨S16384x1024, .f32⟩
  | 59 => ⟨S16384x1024, .f32⟩
  | 60 => ⟨S16384x1024, .bf16⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_2 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_3 : Ref sig .tc := ⟨.hbm, 49, rfl⟩
abbrev main_v28 : Ref sig .tc := ⟨.hbm, 50, rfl⟩
abbrev main_v29 : Ref sig .tc := ⟨.hbm, 51, rfl⟩
abbrev main_cst_4 : Ref sig .tc := ⟨.hbm, 52, rfl⟩
abbrev main_v30 : Ref sig .tc := ⟨.hbm, 53, rfl⟩
abbrev main_v31 : Ref sig .tc := ⟨.hbm, 54, rfl⟩
abbrev main_cst_5 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_6 : Ref sig .tc := ⟨.hbm, 77, rfl⟩
abbrev main_v53 : Ref sig .tc := ⟨.hbm, 78, rfl⟩
abbrev main_v54 : Ref sig .tc := ⟨.hbm, 79, rfl⟩
abbrev main_cst_7 : Ref sig .tc := ⟨.hbm, 80, rfl⟩
abbrev main_v55 : Ref sig .tc := ⟨.hbm, 81, rfl⟩
abbrev main_v56 : Ref sig .tc := ⟨.hbm, 82, rfl⟩
abbrev main_cst_8 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_9 : Ref sig .tc := ⟨.hbm, 98, rfl⟩
abbrev main_v71 : Ref sig .tc := ⟨.hbm, 99, rfl⟩
abbrev main_v72 : Ref sig .tc := ⟨.hbm, 100, rfl⟩
abbrev main_cst_10 : Ref sig .tc := ⟨.hbm, 101, rfl⟩
abbrev main_v73 : Ref sig .tc := ⟨.hbm, 102, rfl⟩
abbrev main_v74 : Ref sig .tc := ⟨.hbm, 103, rfl⟩
abbrev main_cst_11 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_cst_12 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_cst_13 : Ref sig .tc := ⟨.hbm, 134, rfl⟩
abbrev main_v103 : Ref sig .tc := ⟨.hbm, 135, rfl⟩
abbrev main_v104 : Ref sig .tc := ⟨.hbm, 136, rfl⟩
abbrev main_cst_14 : Ref sig .tc := ⟨.hbm, 137, rfl⟩
abbrev main_v105 : Ref sig .tc := ⟨.hbm, 138, rfl⟩
abbrev main_v106 : Ref sig .tc := ⟨.hbm, 139, rfl⟩
abbrev main_cst_15 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_cst_16 : Ref sig .tc := ⟨.hbm, 173, rfl⟩
abbrev main_v139 : Ref sig .tc := ⟨.hbm, 174, rfl⟩
abbrev main_v140 : Ref sig .tc := ⟨.hbm, 175, rfl⟩
abbrev main_cst_17 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_cst_18 : Ref sig .tc := ⟨.hbm, 182, rfl⟩
abbrev main_v146 : Ref sig .tc := ⟨.hbm, 183, rfl⟩
abbrev main_v147 : Ref sig .tc := ⟨.hbm, 184, rfl⟩
abbrev main_cst_19 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩

abbrev nD : Nat := 1
abbrev τ : Topo := Topo.v7x

variable {F : FTy → Type} [FloatOps F]
-- ==== Kernel5.lean ====
abbrev S512x1024 : Shape := ⟨2, ![512, 1024]⟩
abbrev S1x1024 : Shape := ⟨2, ![1, 1024]⟩
abbrev S1024x2816 : Shape := ⟨2, ![1024, 2816]⟩
abbrev S2816x1024 : Shape := ⟨2, ![2816, 1024]⟩
abbrev S1024 : Shape := ⟨1, ![1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩
abbrev S4x128x1024 : Shape := ⟨3, ![4, 128, 1024]⟩
abbrev S128x4x1024 : Shape := ⟨3, ![128, 4, 1024]⟩

abbrev nBuf : Space → Nat
  | .hbm => 10
  | .vmem => 6
  | .smem => 0
  | _ => 0

abbrev bufTy : (tb : Table) → Fin (tcTables nBuf tb) → BufTy
  | .hbm, ⟨0, _⟩ => ⟨S512x1024, .f32⟩
  | .hbm, ⟨1, _⟩ => ⟨S1x1024, .f32⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S1024, .f32⟩
  | .hbm, ⟨6, _⟩ => ⟨S1x1024, .f32⟩
  | .hbm, ⟨7, _⟩ => ⟨S512x1024, .f32⟩
  | .hbm, ⟨8, _⟩ => ⟨S4x128x1024, .f32⟩
  | .hbm, ⟨9, _⟩ => ⟨S128x4x1024, .f32⟩
  | .local _ .vmem, ⟨0, _⟩ => ⟨S512x1024, .f32⟩
  | .local _ .vmem, ⟨1, _⟩ => ⟨S1x1024, .f32⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== Reference5Ideal.lean ====
abbrev S512x1024 : Shape := ⟨2, ![512, 1024]⟩
abbrev S1x1024 : Shape := ⟨2, ![1, 1024]⟩
abbrev S1024x2816 : Shape := ⟨2, ![1024, 2816]⟩
abbrev S2816x1024 : Shape := ⟨2, ![2816, 1024]⟩
abbrev S4x128x1024 : Shape := ⟨3, ![4, 128, 1024]⟩
abbrev S128x4x1024 : Shape := ⟨3, ![128, 4, 1024]⟩
abbrev S_ : Shape := ⟨0, ![]⟩
abbrev S128x4 : Shape := ⟨2, ![128, 4]⟩
abbrev S128x4x1 : Shape := ⟨3, ![128, 4, 1]⟩
abbrev S1024 : Shape := ⟨1, ![1024]⟩
abbrev S1x1x1024 : Shape := ⟨3, ![1, 1, 1024]⟩
abbrev S128x4x2816 : Shape := ⟨3, ![128, 4, 2816]⟩

abbrev nBuf : Space → Nat
  | .hbm => 44
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1x1024, .f32⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S4x128x1024, .f32⟩
  | .hbm, ⟨6, _⟩ => ⟨S128x4x1024, .f32⟩
  | .hbm, ⟨7, _⟩ => ⟨S128x4x1024, .f32⟩
  | .hbm, ⟨8, _⟩ => ⟨S_, .f32⟩
  | .hbm, ⟨9, _⟩ => ⟨S128x4, .f32⟩
  | .hbm, ⟨10, _⟩ => ⟨S128x4x1, .f32⟩
  | .hbm, ⟨11, _⟩ => ⟨S_, .f32⟩
  | .hbm, ⟨12, _⟩ => ⟨S128x4x1, .f32⟩
  | .hbm, ⟨13, _⟩ => ⟨S128x4x1, .f32⟩
  | .hbm, ⟨14, _⟩ => ⟨S_, .f32⟩
  | .hbm, ⟨15, _⟩ => ⟨S128x4x1, .f32⟩
  | .hbm, ⟨16, _⟩ => ⟨S128x4x1, .f32⟩
  | .hbm, ⟨17, _⟩ => ⟨S128x4x1, .f32⟩
  | .hbm, ⟨18, _⟩ => ⟨S128x4x1024, .f32⟩
  | .hbm, ⟨19, _⟩ => ⟨S128x4x1024, .f32⟩
  | .hbm, ⟨20, _⟩ => ⟨S1024, .f32⟩
  | .hbm, ⟨21, _⟩ => ⟨S1x1x1024, .f32⟩
  | .hbm, ⟨22, _⟩ => ⟨S128x4x1024, .f32⟩
  | .hbm, ⟨23, _⟩ => ⟨S128x4x1024, .f32⟩
  | .hbm, ⟨24, _⟩ => ⟨S1024x2816, .f32⟩
  | .hbm, ⟨25, _⟩ => ⟨S128x4x2816, .f32⟩
  | .hbm, ⟨26, _⟩ => ⟨S128x4x2816, .f32⟩
  | .hbm, ⟨27, _⟩ => ⟨S128x4x2816, .f32⟩
  | .hbm, ⟨28, _⟩ => ⟨S_, .f32⟩
  | .hbm, ⟨29, _⟩ => ⟨S128x4x2816, .f32⟩
  | .hbm, ⟨30, _⟩ => ⟨S128x4x2816, .f32⟩
  | .hbm, ⟨31, _⟩ => ⟨S_, .f32⟩
  | .hbm, ⟨32, _⟩ => ⟨S128x4x2816, .f32⟩
  | .hbm, ⟨33, _⟩ => ⟨S128x4x2816, .f32⟩
  | .hbm, ⟨34, _⟩ => ⟨S128x4x2816, .f32⟩
  | .hbm, ⟨35, _⟩ => ⟨S1024x2816, .f32⟩
  | .hbm, ⟨36, _⟩ => ⟨S128x4x2816, .f32⟩
  | .hbm, ⟨37, _⟩ => ⟨S128x4x2816, .f32⟩
  | .hbm, ⟨38, _⟩ => ⟨S2816x1024, .f32⟩
  | .hbm, ⟨39, _⟩ => ⟨S128x4x1024, .f32⟩
  | .hbm, ⟨40, _⟩ => ⟨S_, .f32⟩
  | .hbm, ⟨41, _⟩ => ⟨S128x4x1024, .f32⟩
  | .hbm, ⟨42, _⟩ => ⟨S128x4x1024, .f32⟩
  | .hbm, ⟨43, _⟩ => ⟨S128x4x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_2 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩

abbrev nD : Nat := 1
abbrev τ : Topo := Topo.v7x

variable {F : FTy → Type} [FloatOps F]
-- ==== Kernel6.lean ====
abbrev S512x512 : Shape := ⟨2, ![512, 512]⟩
abbrev S512x128 : Shape := ⟨2, ![512, 128]⟩
abbrev S1x128x128x2x64 : Shape := ⟨5, ![1, 128, 128, 2, 64]⟩
abbrev S1x8 : Shape := ⟨2, ![1, 8]⟩
abbrev S128x128x2x64 : Shape := ⟨4, ![128, 128, 2, 64]⟩
abbrev S128x2x64x128 : Shape := ⟨4, ![128, 2, 64, 128]⟩
abbrev S8 : Shape := ⟨1, ![8]⟩
abbrev S4x128x512 : Shape := ⟨3, ![4, 128, 512]⟩
abbrev S4x128x128 : Shape := ⟨3, ![4, 128, 128]⟩
abbrev S4x32x512 : Shape := ⟨3, ![4, 32, 512]⟩
abbrev S4x32x128 : Shape := ⟨3, ![4, 32, 128]⟩
abbrev S32x2x64x128 : Shape := ⟨4, ![32, 2, 64, 128]⟩
abbrev S32x8x512 : Shape := ⟨3, ![32, 8, 512]⟩
abbrev S32x128x128 : Shape := ⟨3, ![32, 128, 128]⟩
abbrev S64x128 : Shape := ⟨2, ![64, 128]⟩
abbrev S1x1x512 : Shape := ⟨3, ![1, 1, 512]⟩
abbrev S1x512 : Shape := ⟨2, ![1, 512]⟩
abbrev S1x1x128 : Shape := ⟨3, ![1, 1, 128]⟩
abbrev S1x128 : Shape := ⟨2, ![1, 128]⟩
abbrev S1x128x128 : Shape := ⟨3, ![1, 128, 128]⟩
abbrev S128x128 : Shape := ⟨2, ![128, 128]⟩
abbrev S1x1x64x128 : Shape := ⟨4, ![1, 1, 64, 128]⟩
abbrev S64x256 : Shape := ⟨2, ![64, 256]⟩
abbrev S128x256 : Shape := ⟨2, ![128, 256]⟩
abbrev S1x8x512 : Shape := ⟨3, ![1, 8, 512]⟩
abbrev S8x512 : Shape := ⟨2, ![8, 512]⟩
abbrev S8x128 : Shape := ⟨2, ![8, 128]⟩
abbrev S32x128 : Shape := ⟨2, ![32, 128]⟩
abbrev S32x256 : Shape := ⟨2, ![32, 256]⟩
abbrev S2048x256 : Shape := ⟨2, ![2048, 256]⟩
abbrev S1 : Shape := ⟨1, ![1]⟩
abbrev S8x1 : Shape := ⟨2, ![8, 1]⟩
abbrev S2048x1 : Shape := ⟨2, ![2048, 1]⟩
abbrev S2048 : Shape := ⟨1, ![2048]⟩

abbrev nBuf : Space → Nat
  | .hbm => 19
  | .vmem => 19
  | .smem => 1
  | _ => 0

abbrev bufTy : (tb : Table) → Fin (tcTables nBuf tb) → BufTy
  | .hbm, ⟨0, _⟩ => ⟨S512x512, .f32⟩
  | .hbm, ⟨1, _⟩ => ⟨S512x128, .f32⟩
  | .hbm, ⟨2, _⟩ => ⟨S512x128, .f32⟩
  | .hbm, ⟨3, _⟩ => ⟨S1x128x128x2x64, .f32⟩
  | .hbm, ⟨4, _⟩ => ⟨S1x128x128x2x64, .f32⟩
  | .hbm, ⟨5, _⟩ => ⟨S1x8, .f32⟩
  | .hbm, ⟨6, _⟩ => ⟨S128x128x2x64, .f32⟩
  | .hbm, ⟨7, _⟩ => ⟨S128x2x64x128, .f32⟩
  | .hbm, ⟨8, _⟩ => ⟨S128x128x2x64, .f32⟩
  | .hbm, ⟨9, _⟩ => ⟨S128x2x64x128, .f32⟩
  | .hbm, ⟨10, _⟩ => ⟨S8, .f32⟩
  | .hbm, ⟨11, _⟩ => ⟨S4x128x512, .f32⟩
  | .hbm, ⟨12, _⟩ => ⟨S4x128x128, .f32⟩
  | .hbm, ⟨13, _⟩ => ⟨S4x128x128, .f32⟩
  | .hbm, ⟨14, _⟩ => ⟨S4x128x512, .f32⟩
  | .hbm, ⟨15, _⟩ => ⟨S128x2x64x128, .f32⟩
  | .hbm, ⟨16, _⟩ => ⟨S128x2x64x128, .f32⟩
  | .hbm, ⟨17, _⟩ => ⟨S128x128x2x64, .f32⟩
  | .hbm, ⟨18, _⟩ => ⟨S128x128x2x64, .f32⟩
  | .local _ .vmem, ⟨0, _⟩ => ⟨S4x32x512, .f32⟩
  | .local _ .vmem, ⟨1, _⟩ => ⟨S4x32x512, .f32⟩
  | .local _ .vmem, ⟨2, _⟩ => ⟨S4x32x128, .f32⟩
  | .local _ .vmem, ⟨3, _⟩ => ⟨S4x32x128, .f32⟩
  | .local _ .vmem, ⟨4, _⟩ => ⟨S4x32x128, .f32⟩
  | .local _ .vmem, ⟨5, _⟩ => ⟨S4x32x128, .f32⟩
  | .local _ .vmem, ⟨6, _⟩ => ⟨S32x2x64x128, .f32⟩
  | .local _ .vmem, ⟨7, _⟩ => ⟨S32x2x64x128, .f32⟩
  | .local _ .vmem, ⟨8, _⟩ => ⟨S32x2x64x128, .f32⟩
  | .local _ .vmem, ⟨9, _⟩ => ⟨S32x2x64x128, .f32⟩
  | .local _ .vmem, ⟨10, _⟩ => ⟨S4x32x512, .f32⟩
  | .local _ .vmem, ⟨11, _⟩ => ⟨S4x32x512, .f32⟩
  | .local _ .vmem, ⟨12, _⟩ => ⟨S32x2x64x128, .f32⟩
  | .local _ .vmem, ⟨13, _⟩ => ⟨S32x2x64x128, .f32⟩
  | .local _ .vmem, ⟨14, _⟩ => ⟨S32x2x64x128, .f32⟩
  | .local _ .vmem, ⟨15, _⟩ => ⟨S32x2x64x128, .f32⟩
  | .local _ .vmem, ⟨16, _⟩ => ⟨S32x8x512, .f32⟩
  | .local _ .vmem, ⟨17, _⟩ => ⟨S32x128x128, .f32⟩
  | .local _ .vmem, ⟨18, _⟩ => ⟨S32x128x128, .f32⟩
  | .local _ .smem, ⟨0, _⟩ => ⟨S8, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_stg5_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x2x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x2x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .smem S8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4x32x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x2x64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x2x64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference6Ideal.lean ====
abbrev S512x512 : Shape := ⟨2, ![512, 512]⟩
abbrev S512x128 : Shape := ⟨2, ![512, 128]⟩
abbrev S1x128x128x2x64 : Shape := ⟨5, ![1, 128, 128, 2, 64]⟩
abbrev S1x8 : Shape := ⟨2, ![1, 8]⟩
abbrev S4x128x2x64 : Shape := ⟨4, ![4, 128, 2, 64]⟩
abbrev S128x4x2x64 : Shape := ⟨4, ![128, 4, 2, 64]⟩
abbrev S128x128x2x64 : Shape := ⟨4, ![128, 128, 2, 64]⟩
abbrev S128x132x2x64 : Shape := ⟨4, ![128, 132, 2, 64]⟩

abbrev nBuf : Space → Nat
  | .hbm => 16
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512x128, .f32⟩
  | .hbm, ⟨2, _⟩ => ⟨S512x128, .f32⟩
  | .hbm, ⟨3, _⟩ => ⟨S1x128x128x2x64, .f32⟩
  | .hbm, ⟨4, _⟩ => ⟨S1x128x128x2x64, .f32⟩
  | .hbm, ⟨5, _⟩ => ⟨S1x8, .f32⟩
  | .hbm, ⟨6, _⟩ => ⟨S4x128x2x64, .f32⟩
  | .hbm, ⟨7, _⟩ => ⟨S128x4x2x64, .f32⟩
  | .hbm, ⟨8, _⟩ => ⟨S4x128x2x64, .f32⟩
  | .hbm, ⟨9, _⟩ => ⟨S128x4x2x64, .f32⟩
  | .hbm, ⟨10, _⟩ => ⟨S128x128x2x64, .f32⟩
  | .hbm, ⟨11, _⟩ => ⟨S128x132x2x64, .f32⟩
  | .hbm, ⟨12, _⟩ => ⟨S128x128x2x64, .f32⟩
  | .hbm, ⟨13, _⟩ => ⟨S128x132x2x64, .f32⟩
  | .hbm, ⟨14, _⟩ => ⟨S128x128x2x64, .f32⟩
  | .hbm, ⟨15, _⟩ => ⟨S128x128x2x64, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Proof.Swiglu.lean ====
module

public import Idealize.ShloMosaic.Lib.Pointwise

@[expose] public section

set_option maxRecDepth 16384

noncomputable section

namespace Cert.Layer

open Idealize.ShloMosaic

/-! # The gated feed-forward half block on one row, as plain arithmetic -/

/-- Entry `k` of a row of 1024 numbers scaled to unit root mean square and then by its gain. -/
def unit (x g : Fin 1024 → EReal) (k : Fin 1024) : EReal :=
  x k * Ideal.rsqrt (Ideal.div (∑ i, x i * x i) (Ideal.ofBits .f32 0x44800000#32) + Ideal.ofBits .f32 0x358637BD#32) * g k

/-- A gated unit: the swish of the first number times the second. -/
def gate (u v : EReal) : EReal := u * Ideal.logistic u * v

/-- Hidden unit `f` of the row `h` under two weight matrices with `n` columns. -/
def hidden {n : ℕ} (h : Fin 1024 → EReal) (w1 w3 : Fin 1024 → Fin n → EReal) (f : Fin n) : EReal :=
  gate (∑ k, h k * w1 k f) (∑ k, h k * w3 k f)

/-- Entry `d` of the half-step residual: the row plus half of the feed-forward map of the scaled row. -/
def half (x g : Fin 1024 → EReal) (w1 w3 : Fin 1024 → Fin 2816 → EReal) (w2 : Fin 2816 → Fin 1024 → EReal) (d : Fin 1024) : EReal :=
  x d + Ideal.ofBits .f32 0x3F000000#32 * ∑ f, hidden (unit x g) w1 w3 f * w2 f d

/-- A sum over 2816 terms is the sum of its eleven runs of 256, added in order. -/
theorem sum_eleven (p : Fin 2816 → EReal) :
    ∑ f, p f = (∑ x : Fin 256, p ⟨x.val, by omega⟩) + (∑ x : Fin 256, p ⟨256 + x.val, by omega⟩)
      + (∑ x : Fin 256, p ⟨512 + x.val, by omega⟩) + (∑ x : Fin 256, p ⟨768 + x.val, by omega⟩)
      + (∑ x : Fin 256, p ⟨1024 + x.val, by omega⟩) + (∑ x : Fin 256, p ⟨1280 + x.val, by omega⟩)
      + (∑ x : Fin 256, p ⟨1536 + x.val, by omega⟩) + (∑ x : Fin 256, p ⟨1792 + x.val, by omega⟩)
      + (∑ x : Fin 256, p ⟨2048 + x.val, by omega⟩) + (∑ x : Fin 256, p ⟨2304 + x.val, by omega⟩)
      + (∑ x : Fin 256, p ⟨2560 + x.val, by omega⟩) := by
  have e (q : Fin 11 → EReal) : ∑ j, q j = q 0 + q 1 + q 2 + q 3 + q 4 + q 5 + q 6 + q 7 + q 8 + q 9 + q 10 := by
    simp only [Fin.sum_univ_succ, Fin.sum_univ_zero, add_zero, ← add_assoc]
    rfl
  have e0 : (∑ x : Fin 256, p ⟨x.val, by omega⟩) = ∑ x : Fin 256, p ⟨(0 : Fin 11).val * 256 + x.val, by simp; omega⟩ :=
    Finset.sum_congr rfl fun x _ => congrArg p (Fin.ext (by show x.val = 0 * 256 + x.val; omega))
  rw [Fin.sum_univ_tiles 11 256 rfl p, e, e0]
  rfl

end Cert.Layer
-- ==== Proof.FfnSampleKernel.lean ====
module

public import proofs.«01_k».proof.Proof.Gen.Kernel5Ideal.Frame
public import proofs.«01_k».proof.Proof.Swiglu
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Kernel5Ideal.RefValue

open Cert.Kernel5Ideal Cert.Kernel5Ideal.Gen Cert.Layer

/-! # The feed-forward call on the sample group: what it leaves in its result array -/

/-- The origin of a whole-block access. -/
theorem origin : (![0, 0] : Fin 2 → Nat) = fun _ => 0 := funext fun a => by fin_cases a <;> rfl

/-- The scaled row that the body hands to the matrix products. -/
theorem scaled_apply (v0 : Vec Ideal S512x1024 .f32) (v1 : Vec Ideal S1x1024 .f32) (r : Fin 512) (k : Fin 1024) :
    k0_pay2 v0 v1 (ix2 r k) = unit (fun i => v0 (ix2 r i)) (fun i => v1 (ix2 0 i)) k := by
  pointwise [k0_pay2]
  rfl

/-- One chunk of 256 hidden units. -/
theorem chunk_apply (h : Vec Ideal S512x1024 .bf16) (a b : Vec Ideal S1024x256 .bf16) (r : Fin 512) (f : Fin 256) :
    k0_pay10 h a b (ix2 r f) = hidden (fun k => h (ix2 r k)) (fun k f => a (ix2 k f)) (fun k f => b (ix2 k f)) f := by
  pointwise [k0_pay10]
  rfl

/-- What one grid point leaves in its result block, entry by entry: the half-step residual of the block's row. -/
theorem block_apply (x0 : Vec Ideal S512x1024 .f32) (x1 : Vec Ideal S1x1024 .f32) (x2 x3 : Vec Ideal S1024x2816 .bf16)
    (x4 : Vec Ideal S2816x1024 .bf16) (r : Fin 512) (d : Fin 1024) :
    out0_5 x0 x1 x2 x3 x4 (ix2 r d)
      = half (fun i => x0 (ix2 r i)) (fun i => x1 (ix2 0 i)) (fun k f => x2 (ix2 k f)) (fun k f => x3 (ix2 k f))
          (fun f d => x4 (ix2 f d)) d := by
  have hs : ∀ k, k0_pay2 (View.ld x0 r0_0) (View.ld x1 r0_1) (ix2 r k) = unit (fun i => x0 (ix2 r i)) (fun i => x1 (ix2 0 i)) k := by
    intro k
    rw [View.ld_unit_zero origin, View.ld_unit_zero origin, scaled_apply]
  have h4 : k0_pay4 (View.ld x0 r0_0) (View.ld x1 r0_1) (View.ld x2 r0_4) (View.ld x3 r0_4)
      = k0_pay10 (k0_pay11 x0 x1 x2 x3 x4) (View.ld x2 r0_4) (View.ld x3 r0_4) := rfl
  have h6 : ∀ h a b, k0_pay6 (F := Ideal) h a b = k0_pay10 h a b := fun _ _ _ => rfl
  have h8 : ∀ h a b, k0_pay8 (F := Ideal) h a b = k0_pay10 h a b := fun _ _ _ => rfl
  unfold out0_5
  rw [View.canon_unit_zero origin, h4, h6, h8]
  have h11 : ∀ k, k0_pay11 x0 x1 x2 x3 x4 (ix2 r k) = unit (fun i => x0 (ix2 r i)) (fun i => x1 (ix2 0 i)) k := hs
  generalize k0_pay11 x0 x1 x2 x3 x4 = h at h11 ⊢
  pointwise [k0_pay1, k0_pay9, k0_pay7, k0_pay5, k0_pay3]
  simp only [chunk_apply, hs, h11]
  pointwise
  unfold half
  rw [sum_eleven]
  rfl

variable (m : (ℓ : Loc nD τ sig) → Buf (Elt Ideal) ℓ) (ρ : Dev nD → PrngReg)

/-- The norm's gain, as the region finds it: the argument, reshaped twice. -/
theorem gain_apply (c : Dev nD) (k : Fin 1024) : V m c main_v1 (ix2 0 k) = m ((c : Thread nD τ).loc main_arg1) (ix2 0 k) := by
  simp only [V, V0, List.flatten_cons, List.flatten_nil, List.append_nil]
  after_results
  pointwise

/-- Where each window's block lies at a grid point. -/
theorem starts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- There is one grid point, the first. -/
theorem point (t : Fin cfg0.N) : t.val = 0 := by have h := t.isLt; have e : cfg0.N = 1 := N_0; omega

theorem rows_read (c : Dev nD) (t : Fin cfg0.N) (r : Fin 512) (k : Fin 1024) :
    iblk m c 0 t (ix2 r k) = m ((c : Thread nD τ).loc main_arg0) (ix2 (r) k) := by
  obtain ⟨e0, e1, _⟩ := starts t
  rw [← V_main_arg0 m c]
  show V m c main_arg0 (((cfg0.win 0).blk t).view.emb (ix2 r k)) = _
  congr 1
  funext a; apply Fin.ext
  match a with
  | ⟨0, _⟩ => show win0_0.index t (0 : Fin 2) * 512 + 1 * r.val = r.val; rw [e0, point t]; omega
  | ⟨1, _⟩ => show win0_0.index t (1 : Fin 2) * 1024 + 1 * k.val = k.val; omega

theorem gain_read (c : Dev nD) (t : Fin cfg0.N) (k : Fin 1024) :
    iblk m c 1 t (ix2 0 k) = m ((c : Thread nD τ).loc main_arg1) (ix2 0 k) := by
  obtain ⟨_, _, e0, e1, _⟩ := starts t
  rw [← gain_apply m c]
  show V m c main_v1 (((cfg0.win 1).blk t).view.emb (ix2 0 k)) = _
  congr 1
  funext a; apply Fin.ext
  match a with
  | ⟨0, _⟩ => show win0_1.index t (0 : Fin 2) * 1 + 1 * 0 = 0; omega
  | ⟨1, _⟩ => show win0_1.index t (1 : Fin 2) * 1024 + 1 * k.val = k.val; omega

theorem w1_read (c : Dev nD) (t : Fin cfg0.N) (k : Fin 1024) (f : Fin 2816) :
    iblk m c 2 t (ix2 k f) = m ((c : Thread nD τ).loc main_arg2) (ix2 k f) := by
  obtain ⟨_, _, _, _, e0, e1, _⟩ := starts t
  rw [← V_main_arg2 m c]
  show V m c main_arg2 (((cfg0.win 2).blk t).view.emb (ix2 k f)) = _
  congr 1
  funext a; apply Fin.ext
  match a with
  | ⟨0, _⟩ => show win0_2.index t (0 : Fin 2) * 1024 + 1 * k.val = k.val; omega
  | ⟨1, _⟩ => show win0_2.index t (1 : Fin 2) * 2816 + 1 * f.val = f.val; omega

theorem w3_read (c : Dev nD) (t : Fin cfg0.N) (k : Fin 1024) (f : Fin 2816) :
    iblk m c 3 t (ix2 k f) = m ((c : Thread nD τ).loc main_arg3) (ix2 k f) := by
  obtain ⟨_, _, _, _, _, _, e0, e1, _⟩ := starts t
  rw [← V_main_arg3 m c]
  show V m c main_arg3 (((cfg0.win 3).blk t).view.emb (ix2 k f)) = _
  congr 1
  funext a; apply Fin.ext
  match a with
  | ⟨0, _⟩ => show win0_3.index t (0 : Fin 2) * 1024 + 1 * k.val = k.val; omega
  | ⟨1, _⟩ => show win0_3.index t (1 : Fin 2) * 2816 + 1 * f.val = f.val; omega

theorem w2_read (c : Dev nD) (t : Fin cfg0.N) (f : Fin 2816) (d : Fin 1024) :
    iblk m c 4 t (ix2 f d) = m ((c : Thread nD τ).loc main_arg4) (ix2 f d) := by
  obtain ⟨_, _, _, _, _, _, _, _, e0, e1, _⟩ := starts t
  rw [← V_main_arg4 m c]
  show V m c main_arg4 (((cfg0.win 4).blk t).view.emb (ix2 f d)) = _
  congr 1
  funext a; apply Fin.ext
  match a with
  | ⟨0, _⟩ => show win0_4.index t (0 : Fin 2) * 2816 + 1 * f.val = f.val; omega
  | ⟨1, _⟩ => show win0_4.index t (1 : Fin 2) * 1024 + 1 * d.val = d.val; omega

/-- The whole result array: row by row, the half-step residual of the argument's row. -/
def result (c : Dev nD) : Buf (Elt Ideal) ((c : Thread nD τ).loc main_v2) := fun i : S512x1024.Idx =>
  half (fun k => m ((c : Thread nD τ).loc main_arg0) (ix2 (i 0) k)) (fun k => m ((c : Thread nD τ).loc main_arg1) (ix2 0 k))
    (fun k f => m ((c : Thread nD τ).loc main_arg2) (ix2 k f)) (fun k f => m ((c : Thread nD τ).loc main_arg3) (ix2 k f))
    (fun f d => m ((c : Thread nD τ).loc main_arg4) (ix2 f d)) (i 1)

/-- What point `t` writes back is block `t` of that array. -/
theorem flushed_eq (c : Dev nD) (t : Fin cfg0.N) :
    (dats m 0 c).flushed 5 t = ((cfg0.win 5).blk t).view.read (Elt Ideal) (result m c) := by
  obtain ⟨_, _, _, _, _, _, _, _, _, _, e0, e1⟩ := starts t
  show (cfg0.win 5).cut (grid0.coords t) ((dats m 0 c).after 5 t) = _
  rw [after0_5]
  funext j
  have hj : j = ix2 (n0 := 512) (n1 := 1024) ⟨(j 0).val, (j 0).isLt⟩ ⟨(j 1).val, (j 1).isLt⟩ := by
    funext a; match a with | ⟨0, _⟩ => rfl | ⟨1, _⟩ => rfl
  rw [hj]
  generalize (⟨(j 0).val, (j 0).isLt⟩ : Fin 512) = r
  generalize (⟨(j 1).val, (j 1).isLt⟩ : Fin 1024) = d
  have he : ((cfg0.win 5).blk t).view.emb (ix2 r d) = ix2 (r) d := by
    funext a; apply Fin.ext
    match a with
    | ⟨0, _⟩ => show win0_5.index t (0 : Fin 2) * 512 + 1 * r.val = r.val; rw [e0, point t]; omega
    | ⟨1, _⟩ => show win0_5.index t (1 : Fin 2) * 1024 + 1 * d.val = d.val; omega
  show out0_5 (iblk m c 0 t) (iblk m c 1 t) (iblk m c 2 t) (iblk m c 3 t) (iblk m c 4 t) (ix2 r d)
    = result m c (((cfg0.win 5).blk t).view.emb (ix2 r d))
  rw [he, block_apply]
  simp only [rows_read, gain_read, w1_read, w3_read, w2_read]
  rfl

/-- Every index of the result array lies in the one point's block. -/
theorem cover (i : S512x1024.Idx) : ∃ t : Fin cfg0.N, (cfg0.win 5).flush t = true ∧ i ∈ ((cfg0.win 5).blk t).view.set := by
  have hN : cfg0.N = 1 := N_0
  refine ⟨⟨0, by omega⟩, flush0_5 _, ?_⟩
  generalize (⟨0, by omega⟩ : Fin cfg0.N) = t
  obtain ⟨_, _, _, _, _, _, _, _, _, _, e0, e1⟩ := starts t
  have ht := point t
  show i ∈ ((View.whole main_v2).slice (win0_5.rect t)).set
  rw [View.set_slice_whole, Rect.mem_set_unit]
  have h0 : (i 0 : Nat) < 512 := (i 0).isLt
  have h1 : (i 1 : Nat) < 1024 := (i 1).isLt
  intro a
  match a with
  | ⟨0, _⟩ => show win0_5.index t (0 : Fin 2) * 512 ≤ (i 0 : Nat) ∧ (i 0 : Nat) < win0_5.index t (0 : Fin 2) * 512 + 512
              rw [e0, ht]; omega
  | ⟨1, _⟩ => show win0_5.index t (1 : Fin 2) * 1024 ≤ (i 1 : Nat) ∧ (i 1 : Nat) < win0_5.index t (1 : Fin 2) * 1024 + 1024
              rw [e1]; omega

/-- The call's result array at the end of the region. -/
theorem array (c : Dev nD) : (dats m 0 c).arrAt 5 cfg0.N = result m c :=
  (dats m 0 c).arrAt_eq_of_cover 5 (result m c) (fun t _ => flushed_eq m c t) cover

/-- The region's arrays are different buffers. -/
theorem arrays_distinct : Function.Injective (Pipeline.arrRef spec0) :=
  (by decide : ∀ a b : Fin 6, Pipeline.arrRef spec0 a = Pipeline.arrRef spec0 b → a = b)

/-- Four steps of 128 sequences, turned into 128 sequences of four steps. -/
theorem turned_rows (y : Vec Ideal S512x1024 .f32) (b : Fin 128) (s : Fin 4) (d : Fin 1024) :
    transpose S128x4x1024 [1, 0, 2] (shapeCast S4x128x1024 y shapeCasts_S512x1024_S4x128x1024) transposes_S4x128x1024_S128x4x1024_1_0_2 (ix3 b s d)
    = y (ix2 ⟨s.val * 128 + b.val, by omega⟩ d) := by
  pointwise

/-- The lines after the region, read at one entry. -/
theorem turned_after (U : Valuation τ sig (Elt Ideal)) (b : Fin 128) (s : Fin 4) (d : Fin 1024) :
    StableHlo.after hostOps1 U (Proc.devRef .tc main_v4) (ix3 b s d)
      = U (Proc.devRef .tc main_v2) (ix2 (n0 := 512) (n1 := 1024) ⟨s.val * 128 + b.val, by omega⟩ d) := by
  unfold hostOps1
  after_results
  generalize U (Proc.devRef .tc main_v2) = y
  exact turned_rows y b s d

/-- The sample group's result: sequence by sequence and step by step, the half-step residual of the step's row. -/
def turnedResult (c : Dev nD) : Buf (Elt Ideal) ((c : Thread nD τ).loc main_v4) := fun i : S128x4x1024.Idx =>
  result m c (ix2 (n0 := 512) (n1 := 1024)
    ⟨(i 1).val * 128 + (i 0).val, by have h0 : (i 0).val < 128 := (i 0).isLt; have h1 : (i 1).val < 4 := (i 1).isLt; omega⟩ ⟨(i 2).val, (i 2).isLt⟩)

/-- The lines after the region leave it so. -/
theorem turned_tail (c : Dev nD) : Pipeline.afterTail₀ cfgs (dats m) 0 (V0 m) [hostOps1] c main_v4 = turnedResult m c := by
  have ha := (Pipeline.withArrays_arr spec0 arrays_distinct c (V0 m c) (fun w => (dats m 0 c).arrAt w cfg0.N) 5).trans (array m c)
  unfold Pipeline.afterTail₀
  change Pipeline.withArrays spec0 c (V0 m c) (fun w => (dats m 0 c).arrAt w cfg0.N) (Proc.devRef .tc main_v2) = _ at ha
  show StableHlo.after hostOps1 (Pipeline.withArrays spec0 c (V0 m c) (fun w => (dats m 0 c).arrAt w cfg0.N)) (Proc.devRef .tc main_v4) = _
  generalize Pipeline.withArrays spec0 c (V0 m c) (fun w => (dats m 0 c).arrAt w cfg0.N) = U at ha ⊢
  funext i
  have hi : i = ix3 (n0 := 128) (n1 := 4) (n2 := 1024) ⟨(i 0).val, (i 0).isLt⟩ ⟨(i 1).val, (i 1).isLt⟩ ⟨(i 2).val, (i 2).isLt⟩ := by
    funext a; match a with | ⟨0, _⟩ => rfl | ⟨1, _⟩ => rfl | ⟨2, _⟩ => rfl
  rw [hi, turned_after, ha]
  rfl

/-- The run, read: the result array holds the half-step residual of every row, the arguments as they were. -/
theorem run : θ_run defs (onTc (τ := τ) (main (F := Ideal))) ⟨m, fun _ => 0, ρ⟩ fun r => ∀ c : Dev nD,
      r.2.mem ((c : Thread nD τ).loc main_v4) = turnedResult m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h.1 c).2 main_v4 (Pipeline.mem_restRefs_of main_v4 (by decide) (by decide))).trans (turned_tail m c), h.2 c⟩)
    (θ_run_and (run_main m ρ) (unchanged m ρ))

end Cert.Kernel5Ideal.RefValue
-- ==== Proof.FfnSample.lean ====
module

public import proofs.«01_k».proof.Defs
public import proofs.«01_k».proof.Proof.Gen.Reference5Ideal.Run
public import proofs.«01_k».proof.Proof.Gen.Reference5Ideal.Read
public import proofs.«01_k».proof.Proof.FfnSampleKernel

@[expose] public section

set_option maxRecDepth 16384

noncomputable section

open Idealize.ShloMosaic Idealize.ShloMosaic.TcCoe Idealize.SL.Sem

namespace Cert.Reference5Ideal.RefValue

open Cert.Reference5Ideal Cert.Reference5Ideal.Read Cert.Layer

/-! # The feed-forward call on the sample group against its reference -/

/-- The reference's scaled rows. -/
theorem scaled_apply (x0 : (⟨S512x1024, .f32⟩ : BufTy).Contents (Elt Ideal)) (x1 : (⟨S1x1024, .f32⟩ : BufTy).Contents (Elt Ideal))
    (b : Fin 128) (s : Fin 4) (k : Fin 1024) :
    val_main_v15 (F := Ideal) x0 x1 (ix3 b s k) = unit (fun i => x0 (ix2 ⟨s.val * 128 + b.val, by omega⟩ i)) (fun i => x1 (ix2 0 i)) k := by
  pointwise [val_main_v15, val_main_v14, val_main_v13, val_main_v12, val_main_v11, val_main_v10, val_main_v9, val_main_v8,
    val_main_v7, val_main_v6, val_main_v5, val_main_v4, val_main_v3, val_main_v2, val_main_v1, val_main_v0, val_main_cst, val_main_cst_0, val_main_cst_1]
  rfl

/-- The reference's hidden units. -/
theorem hidden_apply (x0 : (⟨S512x1024, .f32⟩ : BufTy).Contents (Elt Ideal)) (x1 : (⟨S1x1024, .f32⟩ : BufTy).Contents (Elt Ideal))
    (x2 x3 : (⟨S1024x2816, .bf16⟩ : BufTy).Contents (Elt Ideal)) (b : Fin 128) (s : Fin 4) (f : Fin 2816) :
    val_main_v21 (F := Ideal) x0 x1 x2 x3 (ix3 b s f)
      = hidden (unit (fun i => x0 (ix2 ⟨s.val * 128 + b.val, by omega⟩ i)) (fun i => x1 (ix2 0 i))) (fun k f => x2 (ix2 k f)) (fun k f => x3 (ix2 k f)) f := by
  pointwise [val_main_v21, val_main_v20, val_main_v19, val_main_v18, val_main_v17, val_main_v16, val_main_call0_v0, val_main_call0_v1,
    val_main_call0_v2, val_main_call0_v3, val_main_call0_v4, val_main_call0_v5, val_main_call0_cst, val_main_call0_cst_0]
  simp only [scaled_apply]
  rfl

/-- The reference's result, entry by entry. -/
theorem result_apply (x0 : (⟨S512x1024, .f32⟩ : BufTy).Contents (Elt Ideal)) (x1 : (⟨S1x1024, .f32⟩ : BufTy).Contents (Elt Ideal))
    (x2 x3 : (⟨S1024x2816, .bf16⟩ : BufTy).Contents (Elt Ideal)) (x4 : (⟨S2816x1024, .bf16⟩ : BufTy).Contents (Elt Ideal))
    (b : Fin 128) (s : Fin 4) (d : Fin 1024) :
    val_main_v26 (F := Ideal) x0 x1 x2 x3 x4 (ix3 b s d)
      = half (fun i => x0 (ix2 ⟨s.val * 128 + b.val, by omega⟩ i)) (fun i => x1 (ix2 0 i)) (fun k f => x2 (ix2 k f)) (fun k f => x3 (ix2 k f)) (fun f d => x4 (ix2 f d)) d := by
  pointwise [val_main_v26, val_main_v25, val_main_v24, val_main_v23, val_main_v22, val_main_v1, val_main_v0, val_main_cst_2]
  simp only [hidden_apply]
  rfl

end Cert.Reference5Ideal.RefValue

namespace Cert.Proof

/-- The feed-forward kernel on the sample group computes the reference's half-step residual, entry by entry. -/
theorem ffn_sample_algebraic : Cert.algebraic_Kernel5Ideal_Reference5Ideal := by
  intro m ρ m' ρ' _ hag
  refine ⟨fun c => Cert.Kernel5Ideal.RefValue.turnedResult m c, Cert.Kernel5Ideal.RefValue.run m ρ, ?_⟩
  refine (θ_run Cert.Reference5Ideal.defs _ _).mono (fun _ h c => ⟨(h c).1.trans ?_, (h c).2⟩) (Cert.Reference5Ideal.Value.run (F := Ideal) m' ρ')
  obtain ⟨h0, h1, h2, h3, h4⟩ := hag c
  rw [Cert.Reference5Ideal.Read.val_main_v26_eq, h0, h1, h2, h3, h4]
  funext i
  have hi : i = ix3 (n0 := 128) (n1 := 4) (n2 := 1024) ⟨(i 0).val, (i 0).isLt⟩ ⟨(i 1).val, (i 1).isLt⟩ ⟨(i 2).val, (i 2).isLt⟩ := by
    funext a; match a with | ⟨0, _⟩ => rfl | ⟨1, _⟩ => rfl | ⟨2, _⟩ => rfl
  rw [hi, Cert.Reference5Ideal.RefValue.result_apply]
  rfl

end Cert.Proof
-- ==== Proof.CacheRows.lean ====
module

public import proofs.«01_k».proof.Proof.Gen.Kernel6Ideal.Frame
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.Kernel6Ideal.RefValue

open Cert.Kernel6Ideal Cert.Kernel6Ideal.Gen

/-! # The sample attention: the rows put into the scratch buffers, and the window that is left of a cache -/

/-- A row stored last is what the buffer holds there. -/
theorem row_here (s t : Nat) (hs : s < 32) (ht : t < 128)
    (inb : ∀ a, (![s, t, 0] : Fin 3 → Nat) a + S1x1x128.size a ≤ S32x128x128.size a)
    (w : S1x1x128.Idx → Elt Ideal .f32) (L : List (View.Piece (Elt Ideal) S32x128x128 .f32)) (l : Fin 128) :
    View.canon ((⟨Rect.unit ![s, t, 0] S1x1x128.size inb, w⟩ : View.Piece (Elt Ideal) S32x128x128 .f32) :: L)
      (ix3 (⟨s, hs⟩ : Fin 32) (⟨t, ht⟩ : Fin 128) l) = w (ix3 (0 : Fin 1) (0 : Fin 1) l) := by
  have he : (Rect.unit (s := S32x128x128) ![s, t, 0] S1x1x128.size inb).emb (ix3 (0 : Fin 1) (0 : Fin 1) l)
      = ix3 (⟨s, hs⟩ : Fin 32) (⟨t, ht⟩ : Fin 128) l := by
    funext a
    apply Fin.ext
    fin_cases a <;> simp [Rect.emb, Rect.unit, ix3]
  rw [← he]
  exact View.canon_cons_emb _ _ _ _

/-- A row stored at another place leaves what the buffer holds. -/
theorem row_elsewhere (s t s' t' : Nat) (hs : s < 32) (ht : t < 128) (hne : t' ≠ t)
    (inb : ∀ a, (![s', t', 0] : Fin 3 → Nat) a + S1x1x128.size a ≤ S32x128x128.size a)
    (w : S1x1x128.Idx → Elt Ideal .f32) (L : List (View.Piece (Elt Ideal) S32x128x128 .f32)) (l : Fin 128) :
    View.canon ((⟨Rect.unit ![s', t', 0] S1x1x128.size inb, w⟩ : View.Piece (Elt Ideal) S32x128x128 .f32) :: L)
      (ix3 (⟨s, hs⟩ : Fin 32) (⟨t, ht⟩ : Fin 128) l) = View.canon L (ix3 (⟨s, hs⟩ : Fin 32) (⟨t, ht⟩ : Fin 128) l) := by
  refine View.canon_cons_of_not_mem _ L fun hm => ?_
  have h1 := ((Rect.mem_set_unit (s := S32x128x128) (inb := inb)).mp hm) 1
  have h2 : t' ≤ t ∧ t < t' + 1 := h1
  omega

/-- A row of the argument block, read through its staging buffer and given the scratch row's shape. -/
theorem stored_row (arg2 : Memref sig .tc .vmem S4x32x128 .f32) (harg2 : arg2.IsWhole) (x1 : Vec Ideal S4x32x128 .f32)
    (t s : Nat) (ht : t < 4) (hs : s < 32)
    (inb : ∀ a, (![t, s, 0] : Fin 3 → Nat) a + S1x1x128.size a ≤ S4x32x128.size a) (l : Fin 128) :
    k0_pay11 (F := Ideal) (View.readAt (Elt Ideal) arg2.view (Rect.unit (s := S4x32x128) ![t, s, 0] S1x1x128.size inb).toLoadRect (harg2.unread x1))
      (ix3 (0 : Fin 1) (0 : Fin 1) l) = x1 (ix3 ⟨t, ht⟩ ⟨s, hs⟩ l) := by
  rw [View.readAt_eq_ld, harg2.read_unread]
  pointwise [k0_pay11]

/-- Four rows stored one after another into sequence `s`'s part of the scratch buffer, and that part read back. -/
theorem four_rows (v : View sig .tc .vmem S32x128x128 .f32) (s : Nat) (hs : s < 32) (x : Vec Ideal S4x32x128 .f32)
    (L : List (View.Piece (Elt Ideal) S32x128x128 .f32))
    (i0 : ∀ a, (![s, 0, 0] : Fin 3 → Nat) a + S1x1x128.size a ≤ S32x128x128.size a)
    (i1 : ∀ a, (![s, 1, 0] : Fin 3 → Nat) a + S1x1x128.size a ≤ S32x128x128.size a)
    (i2 : ∀ a, (![s, 2, 0] : Fin 3 → Nat) a + S1x1x128.size a ≤ S32x128x128.size a)
    (i3 : ∀ a, (![s, 3, 0] : Fin 3 → Nat) a + S1x1x128.size a ≤ S32x128x128.size a)
    (inb : ∀ a, (![s, 0, 0] : Fin 3 → Nat) a + S1x128x128.size a ≤ S32x128x128.size a)
    (w0 w1 w2 w3 : S1x1x128.Idx → Elt Ideal .f32)
    (h0 : ∀ l : Fin 128, w0 (ix3 (0 : Fin 1) (0 : Fin 1) l) = x (ix3 (0 : Fin 4) ⟨s, hs⟩ l))
    (h1 : ∀ l : Fin 128, w1 (ix3 (0 : Fin 1) (0 : Fin 1) l) = x (ix3 (1 : Fin 4) ⟨s, hs⟩ l))
    (h2 : ∀ l : Fin 128, w2 (ix3 (0 : Fin 1) (0 : Fin 1) l) = x (ix3 (2 : Fin 4) ⟨s, hs⟩ l))
    (h3 : ∀ l : Fin 128, w3 (ix3 (0 : Fin 1) (0 : Fin 1) l) = x (ix3 (3 : Fin 4) ⟨s, hs⟩ l))
    (t : Fin 4) (l : Fin 128) :
    v.readCov ((⟨Rect.unit ![s, 3, 0] S1x1x128.size i3, w3⟩ : View.Piece (Elt Ideal) S32x128x128 .f32) ::
        ⟨Rect.unit ![s, 2, 0] S1x1x128.size i2, w2⟩ :: ⟨Rect.unit ![s, 1, 0] S1x1x128.size i1, w1⟩ ::
        ⟨Rect.unit ![s, 0, 0] S1x1x128.size i0, w0⟩ :: L)
      (Rect.unit (s := S32x128x128) ![s, 0, 0] S1x128x128.size inb).toLoadRect (ix3 (0 : Fin 1) (⟨t.val, by omega⟩ : Fin 128) l)
      = x (ix3 t ⟨s, hs⟩ l) := by
  have hi : (Rect.unit (s := S32x128x128) ![s, 0, 0] S1x128x128.size inb).toLoadRect.idx (ix3 (0 : Fin 1) (⟨t.val, by omega⟩ : Fin 128) l)
      = ix3 (⟨s, hs⟩ : Fin 32) (⟨t.val, by omega⟩ : Fin 128) l := by
    funext a
    apply Fin.ext
    fin_cases a <;> simp [LoadRect.idx, Rect.toLoadRect, Rect.unit, ix3]
  rw [View.readCov_eq_canon']
  dsimp only
  rw [hi]
  fin_cases t
  · rw [row_elsewhere _ _ _ _ _ _ (by decide), row_elsewhere _ _ _ _ _ _ (by decide), row_elsewhere _ _ _ _ _ _ (by decide), row_here]
    exact h0 l
  · rw [row_elsewhere _ _ _ _ _ _ (by decide), row_elsewhere _ _ _ _ _ _ (by decide), row_here]
    exact h1 l
  · rw [row_elsewhere _ _ _ _ _ _ (by decide), row_here]
    exact h2 l
  · rw [row_here]
    exact h3 l

/-- The window left of a cache block and four new rows: the cache without its first four positions, then the new rows. -/
def moved (x1 : Vec Ideal S4x32x128 .f32) (x3 : Vec Ideal S32x2x64x128 .f32) (s : Fin 32) (g : Fin 2) (d : Fin 64) (w : Fin 128) : EReal :=
  if h : w.val < 124 then x3 (ix4 s g d ⟨w.val + 4, by omega⟩)
  else x1 (ix3 ⟨w.val - 124, by omega⟩ s ⟨64 * g.val + d.val, by omega⟩)

/-- The comparison word of a lane number with 124. -/
theorem lane_word : ∀ w : Fin 128, IntOp.cmpi CmpIPredicate.slt (BitVec.ofNat 32 w.val) 124#32 = if w.val < 124 then 1#1 else 0#1 := by
  decide

/-- Turning the lanes by 124 reads four lanes further on, and from the start again at the end. -/
theorem lane_turn (w : Fin 128) : (w.val + 128 - 124) % 128 = if w.val < 124 then w.val + 4 else w.val - 124 := by
  split <;> omega

/-- What the body stores for the first head of a sequence. -/
theorem first_head (V : Vec Ideal S1x128x128 .f32) (O : Vec Ideal S1x1x64x128 .f32) (d : Fin 64) (w : Fin 128) :
    k0_pay27 k0_pay6 V O (ix4 (0 : Fin 1) (0 : Fin 1) d w)
      = if h : w.val < 124 then O (ix4 (0 : Fin 1) (0 : Fin 1) d ⟨w.val + 4, by omega⟩)
        else V (ix3 (0 : Fin 1) ⟨w.val - 124, by omega⟩ ⟨d.val, by omega⟩) := by
  pointwise [k0_pay27, k0_pay6, k0_pay26, k0_pay24, k0_pay22]
  rw [lane_word]
  have hw := lane_turn w
  by_cases h : w.val < 124
  · rw [if_pos h, dif_pos h]
    rw [if_pos h] at hw
    simp only [hw]
    rfl
  · rw [if_neg h, dif_neg h]
    rw [if_neg h] at hw
    simp only [hw]
    rfl

/-- What the body stores for the second head of a sequence. -/
theorem second_head (V : Vec Ideal S1x128x128 .f32) (O : Vec Ideal S1x1x64x128 .f32) (d : Fin 64) (w : Fin 128) :
    k0_pay33 k0_pay6 (k0_pay24 V) O (ix4 (0 : Fin 1) (0 : Fin 1) d w)
      = if h : w.val < 124 then O (ix4 (0 : Fin 1) (0 : Fin 1) d ⟨w.val + 4, by omega⟩)
        else V (ix3 (0 : Fin 1) ⟨w.val - 124, by omega⟩ ⟨64 + d.val, by omega⟩) := by
  pointwise [k0_pay33, k0_pay6, k0_pay32, k0_pay24, k0_pay22]
  rw [lane_word]
  have hw := lane_turn w
  by_cases h : w.val < 124
  · rw [if_pos h, dif_pos h]
    rw [if_pos h] at hw
    simp only [hw]
    rfl
  · rw [if_neg h, dif_neg h]
    rw [if_neg h] at hw
    simp only [hw]
    rfl

/-- A head's block of the cache, read through its staging buffer. -/
theorem old_block (arg4 : Memref sig .tc .vmem S32x2x64x128 .f32) (harg4 : arg4.IsWhole) (x3 : Vec Ideal S32x2x64x128 .f32)
    (s g : Nat) (hs : s < 32) (hg : g < 2)
    (inb : ∀ a, (![s, g, 0, 0] : Fin 4 → Nat) a + S1x1x64x128.size a ≤ S32x2x64x128.size a) (d : Fin 64) (w : Fin 128) :
    View.readAt (Elt Ideal) arg4.view (Rect.unit (s := S32x2x64x128) ![s, g, 0, 0] S1x1x64x128.size inb).toLoadRect (harg4.unread x3)
      (ix4 (0 : Fin 1) (0 : Fin 1) d w) = x3 (ix4 ⟨s, hs⟩ ⟨g, hg⟩ d w) := by
  rw [View.readAt_eq_ld, harg4.read_unread]
  pointwise

/-- The window left of a cache block, at an index of the block. -/
def movedAt (x1 : Vec Ideal S4x32x128 .f32) (x3 : Vec Ideal S32x2x64x128 .f32) (y : S32x2x64x128.Idx) : EReal :=
  moved x1 x3 (y 0) (y 1) (y 2) (y 3)

/-- The store for the first head of sequence `s` is a block of the window. -/
theorem first_piece (s : Nat) (hs : s < 32) (x1 : Vec Ideal S4x32x128 .f32) (x3 : Vec Ideal S32x2x64x128 .f32)
    (V : Vec Ideal S1x128x128 .f32) (O : Vec Ideal S1x1x64x128 .f32)
    (hV : ∀ (t : Fin 4) (l : Fin 128), V (ix3 (0 : Fin 1) (⟨t.val, by omega⟩ : Fin 128) l) = x1 (ix3 t ⟨s, hs⟩ l))
    (hO : ∀ (d : Fin 64) (w : Fin 128), O (ix4 (0 : Fin 1) (0 : Fin 1) d w) = x3 (ix4 ⟨s, hs⟩ (0 : Fin 2) d w))
    (x : S1x1x64x128.Idx) (y : S32x2x64x128.Idx) (h0 : (y 0).val = s) (h1 : (y 1).val = 0) (h2 : (y 2).val = (x 2).val)
    (h3 : (y 3).val = (x 3).val) : k0_pay27 k0_pay6 V O x = movedAt x1 x3 y := by
  have hx : x = ix4 (0 : Fin 1) (0 : Fin 1) (x 2) (x 3) := by
    funext a
    apply Fin.ext
    fin_cases a
    · have := (x 0).isLt; change _ < 1 at this; change (x 0).val = 0; omega
    · have := (x 1).isLt; change _ < 1 at this; change (x 1).val = 0; omega
    · rfl
    · rfl
  have e0 : y 0 = (⟨s, hs⟩ : Fin 32) := Fin.ext h0
  have e1 : y 1 = (0 : Fin 2) := Fin.ext h1
  have e2 : y 2 = x 2 := Fin.ext h2
  have e3 : y 3 = x 3 := Fin.ext h3
  rw [hx]
  refine (first_head V O (x 2) (x 3)).trans ?_
  unfold movedAt moved
  rw [e0, e1, e2, e3]
  refine dite_congr rfl (fun h => hO _ _) fun h => ?_
  refine (hV ⟨(x 3).val - 124, by have := (x 3).isLt; change _ < 128 at this; omega⟩ _).trans (congrArg x1 (funext fun a => Fin.ext ?_))
  fin_cases a
  · rfl
  · rfl
  · change (x 2).val = 64 * 0 + (x 2).val; omega

/-- The store for the second head of sequence `s` is a block of the window. -/
theorem second_piece (s : Nat) (hs : s < 32) (x1 : Vec Ideal S4x32x128 .f32) (x3 : Vec Ideal S32x2x64x128 .f32)
    (V : Vec Ideal S1x128x128 .f32) (O : Vec Ideal S1x1x64x128 .f32)
    (hV : ∀ (t : Fin 4) (l : Fin 128), V (ix3 (0 : Fin 1) (⟨t.val, by omega⟩ : Fin 128) l) = x1 (ix3 t ⟨s, hs⟩ l))
    (hO : ∀ (d : Fin 64) (w : Fin 128), O (ix4 (0 : Fin 1) (0 : Fin 1) d w) = x3 (ix4 ⟨s, hs⟩ (1 : Fin 2) d w))
    (x : S1x1x64x128.Idx) (y : S32x2x64x128.Idx) (h0 : (y 0).val = s) (h1 : (y 1).val = 1) (h2 : (y 2).val = (x 2).val)
    (h3 : (y 3).val = (x 3).val) : k0_pay33 k0_pay6 (k0_pay24 V) O x = movedAt x1 x3 y := by
  have hx : x = ix4 (0 : Fin 1) (0 : Fin 1) (x 2) (x 3) := by
    funext a
    apply Fin.ext
    fin_cases a
    · have := (x 0).isLt; change _ < 1 at this; change (x 0).val = 0; omega
    · have := (x 1).isLt; change _ < 1 at this; change (x 1).val = 0; omega
    · rfl
    · rfl
  have e0 : y 0 = (⟨s, hs⟩ : Fin 32) := Fin.ext h0
  have e1 : y 1 = (1 : Fin 2) := Fin.ext h1
  have e2 : y 2 = x 2 := Fin.ext h2
  have e3 : y 3 = x 3 := Fin.ext h3
  rw [hx]
  refine (second_head V O (x 2) (x 3)).trans ?_
  unfold movedAt moved
  rw [e0, e1, e2, e3]
  refine dite_congr rfl (fun h => hO _ _) fun h => ?_
  refine (hV ⟨(x 3).val - 124, by have := (x 3).isLt; change _ < 128 at this; omega⟩ _).trans (congrArg x1 (funext fun a => Fin.ext ?_))
  fin_cases a
  · rfl
  · rfl
  · rfl

end Cert.Kernel6Ideal.RefValue
end
-- ==== Proof.CacheKeyRows.lean ====
module

public import proofs.«01_k».proof.Proof.CacheRows

@[expose] public section

set_option maxRecDepth 16384

noncomputable section

open Idealize.ShloMosaic Idealize.ShloMosaic.TcCoe Idealize.SL.Sem

namespace Cert.Kernel6Ideal.RefValue

open Cert.Kernel6Ideal Cert.Kernel6Ideal.Gen

/-! # The sample attention: the new key rows, read back from the scratch buffer -/

/-- Sequence 0's part of the key scratch buffer holds its four new rows when it is read. -/
theorem key_rows_0 (c : Dev nD) (arg2 : Memref sig .tc .vmem S4x32x128 .f32) (h : arg2.IsWhole) (scratch : Memref sig .tc .vmem S32x128x128 .f32)
    (x : Vec Ideal S4x32x128 .f32) (t : Fin 4) (l : Fin 128) :
    scratch.view.readCov (kernelRun0_A.sl.HS1_5 c arg2 h x) (Rect.unit (s := S32x128x128) ![0, 0, 0] S1x128x128.size (by decide)).toLoadRect
      (ix3 (0 : Fin 1) (⟨t.val, by omega⟩ : Fin 128) l) = x (ix3 t ⟨0, by decide⟩ l) :=
  four_rows scratch.view 0 (by decide) x _ _ _ _ _ _ _ _ _ _
    (fun l => stored_row arg2 h x 0 0 (by decide) (by decide) (by decide) l) (fun l => stored_row arg2 h x 1 0 (by decide) (by decide) (by decide) l)
    (fun l => stored_row arg2 h x 2 0 (by decide) (by decide) (by decide) l) (fun l => stored_row arg2 h x 3 0 (by decide) (by decide) (by decide) l) t l

/-- Sequence 1's part of the key scratch buffer holds its four new rows when it is read. -/
theorem key_rows_1 (c : Dev nD) (arg2 : Memref sig .tc .vmem S4x32x128 .f32) (h : arg2.IsWhole) (scratch : Memref sig .tc .vmem S32x128x128 .f32)
    (x : Vec Ideal S4x32x128 .f32) (t : Fin 4) (l : Fin 128) :
    scratch.view.readCov (kernelRun0_A.sl.HS1_9 c arg2 h x) (Rect.unit (s := S32x128x128) ![1, 0, 0] S1x128x128.size (by decide)).toLoadRect
      (ix3 (0 : Fin 1) (⟨t.val, by omega⟩ : Fin 128) l) = x (ix3 t ⟨1, by decide⟩ l) :=
  four_rows scratch.view 1 (by decide) x (kernelRun0_A.sl.HS1_5 c arg2 h x) _ _ _ _ _ _ _ _ _
    (fun l => stored_row arg2 h x 0 1 (by decide) (by decide) (by decide) l) (fun l => stored_row arg2 h x 1 1 (by decide) (by decide) (by decide) l)
    (fun l => stored_row arg2 h x 2 1 (by decide) (by decide) (by decide) l) (fun l => stored_row arg2 h x 3 1 (by decide) (by decide) (by decide) l) t l

/-- Sequence 2's part of the key scratch buffer holds its four new rows when it is read. -/
theorem key_rows_2 (c : Dev nD) (arg2 : Memref sig .tc .vmem S4x32x128 .f32) (h : arg2.IsWhole) (scratch : Memref sig .tc .vmem S32x128x128 .f32)
    (x : Vec Ideal S4x32x128 .f32) (t : Fin 4) (l : Fin 128) :
    scratch.view.readCov (kernelRun0_A.sl.HS1_13 c arg2 h x) (Rect.unit (s := S32x128x128) ![2, 0, 0] S1x128x128.size (by decide)).toLoadRect
      (ix3 (0 : Fin 1) (⟨t.val, by omega⟩ : Fin 128) l) = x (ix3 t ⟨2, by decide⟩ l) :=
  four_rows scratch.view 2 (by decide) x (kernelRun0_A.sl.HS1_9 c arg2 h x) _ _ _ _ _ _ _ _ _
    (fun l => stored_row arg2 h x 0 2 (by decide) (by decide) (by decide) l) (fun l => stored_row arg2 h x 1 2 (by decide) (by decide) (by decide) l)
    (fun l => stored_row arg2 h x 2 2 (by decide) (by decide) (by decide) l) (fun l => stored_row arg2 h x 3 2 (by decide) (by decide) (by decide) l) t l

/-- Sequence 3's part of the key scratch buffer holds its four new rows when it is read. -/
theorem key_rows_3 (c : Dev nD) (arg2 : Memref sig .tc .vmem S4x32x128 .f32) (h : arg2.IsWhole) (scratch : Memref sig .tc .vmem S32x128x128 .f32)
    (x : Vec Ideal S4x32x128 .f32) (t : Fin 4) (l : Fin 128) :
    scratch.view.readCov (kernelRun0_A.sl.HS1_17 c arg2 h x) (Rect.unit (s := S32x128x128) ![3, 0, 0] S1x128x128.size (by decide)).toLoadRect
      (ix3 (0 : Fin 1) (⟨t.val, by omega⟩ : Fin 128) l) = x (ix3 t ⟨3, by decide⟩ l) :=
  four_rows scratch.view 3 (by decide) x (kernelRun0_A.sl.HS1_13 c arg2 h x) _ _ _ _ _ _ _ _ _
    (fun l => stored_row arg2 h x 0 3 (by decide) (by decide) (by decide) l) (fun l => stored_row arg2 h x 1 3 (by decide) (by decide) (by decide) l)
    (fun l => stored_row arg2 h x 2 3 (by decide) (by decide) (by decide) l) (fun l => stored_row arg2 h x 3 3 (by decide) (by decide) (by decide) l) t l

/-- Sequence 4's part of the key scratch buffer holds its four new rows when it is read. -/
theorem key_rows_4 (c : Dev nD) (arg2 : Memref sig .tc .vmem S4x32x128 .f32) (h : arg2.IsWhole) (scratch : Memref sig .tc .vmem S32x128x128 .f32)
    (x : Vec Ideal S4x32x128 .f32) (t : Fin 4) (l : Fin 128) :
    scratch.view.readCov (kernelRun0_A.sl.HS1_21 c arg2 h x) (Rect.unit (s := S32x128x128) ![4, 0, 0] S1x128x128.size (by decide)).toLoadRect
      (ix3 (0 : Fin 1) (⟨t.val, by omega⟩ : Fin 128) l) = x (ix3 t ⟨4, by decide⟩ l) :=
  four_rows scratch.view 4 (by decide) x (kernelRun0_A.sl.HS1_17 c arg2 h x) _ _ _ _ _ _ _ _ _
    (fun l => stored_row arg2 h x 0 4 (by decide) (by decide) (by decide) l) (fun l => stored_row arg2 h x 1 4 (by decide) (by decide) (by decide) l)
    (fun l => stored_row arg2 h x 2 4 (by decide) (by decide) (by decide) l) (fun l => stored_row arg2 h x 3 4 (by decide) (by decide) (by decide) l) t l

/-- Sequence 5's part of the key scratch buffer holds its four new rows when it is read. -/
theorem key_rows_5 (c : Dev nD) (arg2 : Memref sig .tc .vmem S4x32x128 .f32) (h : arg2.IsWhole) (scratch : Memref sig .tc .vmem S32x128x128 .f32)
    (x : Vec Ideal S4x32x128 .f32) (t : Fin 4) (l : Fin 128) :
    scratch.view.readCov (kernelRun0_A.sl.HS1_25 c arg2 h x) (Rect.unit (s := S32x128x128) ![5, 0, 0] S1x128x128.size (by decide)).toLoadRect
      (ix3 (0 : Fin 1) (⟨t.val, by omega⟩ : Fin 128) l) = x (ix3 t ⟨5, by decide⟩ l) :=
  four_rows scratch.view 5 (by decide) x (kernelRun0_A.sl.HS1_21 c arg2 h x) _ _ _ _ _ _ _ _ _
    (fun l => stored_row arg2 h x 0 5 (by decide) (by decide) (by decide) l) (fun l => stored_row arg2 h x 1 5 (by decide) (by decide) (by decide) l)
    (fun l => stored_row arg2 h x 2 5 (by decide) (by decide) (by decide) l) (fun l => stored_row arg2 h x 3 5 (by decide) (by decide) (by decide) l) t l

/-- Sequence 6's part of the key scratch buffer holds its four new rows when it is read. -/
theorem key_rows_6 (c : Dev nD) (arg2 : Memref sig .tc .vmem S4x32x128 .f32) (h : arg2.IsWhole) (scratch : Memref sig .tc .vmem S32x128x128 .f32)
    (x : Vec Ideal S4x32x128 .f32) (t : Fin 4) (l : Fin 128) :
    scratch.view.readCov (kernelRun0_A.sl.HS1_29 c arg2 h x) (Rect.unit (s := S32x128x128) ![6, 0, 0] S1x128x128.size (by decide)).toLoadRect
      (ix3 (0 : Fin 1) (⟨t.val, by omega⟩ : Fin 128) l) = x (ix3 t ⟨6, by decide⟩ l) :=
  four_rows scratch.view 6 (by decide) x (kernelRun0_A.sl.HS1_25 c arg2 h x) _ _ _ _ _ _ _ _ _
    (fun l => stored_row arg2 h x 0 6 (by decide) (by decide) (by decide) l) (fun l => stored_row arg2 h x 1 6 (by decide) (by decide) (by decide) l)
    (fun l => stored_row arg2 h x 2 6 (by decide) (by decide) (by decide) l) (fun l => stored_row arg2 h x 3 6 (by decide) (by decide) (by decide) l) t l

/-- Sequence 7's part of the key scratch buffer holds its four new rows when it is read. -/
theorem key_rows_7 (c : Dev nD) (arg2 : Memref sig .tc .vmem S4x32x128 .f32) (h : arg2.IsWhole) (scratch : Memref sig .tc .vmem S32x128x128 .f32)
    (x : Vec Ideal S4x32x128 .f32) (t : Fin 4) (l : Fin 128) :
    scratch.view.readCov (kernelRun0_A.sl.HS1_33 c arg2 h x) (Rect.unit (s := S32x128x128) ![7, 0, 0] S1x128x128.size (by decide)).toLoadRect
      (ix3 (0 : Fin 1) (⟨t.val, by omega⟩ : Fin 128) l) = x (ix3 t ⟨7, by decide⟩ l) :=
  four_rows scratch.view 7 (by decide) x (kernelRun0_A.sl.HS1_29 c arg2 h x) _ _ _ _ _ _ _ _ _
    (fun l => stored_row arg2 h x 0 7 (by decide) (by decide) (by decide) l) (fun l => stored_row arg2 h x 1 7 (by decide) (by decide) (by decide) l)
    (fun l => stored_row arg2 h x 2 7 (by decide) (by decide) (by decide) l) (fun l => stored_row arg2 h x 3 7 (by decide) (by decide) (by decide) l) t l

/-- Sequence 8's part of the key scratch buffer holds its four new rows when it is read. -/
theorem key_rows_8 (c : Dev nD) (arg2 : Memref sig .tc .vmem S4x32x128 .f32) (h : arg2.IsWhole) (scratch : Memref sig .tc .vmem S32x128x128 .f32)
    (x : Vec Ideal S4x32x128 .f32) (t : Fin 4) (l : Fin 128) :
    scratch.view.readCov (kernelRun0_A.sl.HS1_37 c arg2 h x) (Rect.unit (s := S32x128x128) ![8, 0, 0] S1x128x128.size (by decide)).toLoadRect
      (ix3 (0 : Fin 1) (⟨t.val, by omega⟩ : Fin 128) l) = x (ix3 t ⟨8, by decide⟩ l) :=
  four_rows scratch.view 8 (by decide) x (kernelRun0_A.sl.HS1_33 c arg2 h x) _ _ _ _ _ _ _ _ _
    (fun l => stored_row arg2 h x 0 8 (by decide) (by decide) (by decide) l) (fun l => stored_row arg2 h x 1 8 (by decide) (by decide) (by decide) l)
    (fun l => stored_row arg2 h x 2 8 (by decide) (by decide) (by decide) l) (fun l => stored_row arg2 h x 3 8 (by decide) (by decide) (by decide) l) t l

/-- Sequence 9's part of the key scratch buffer holds its four new rows when it is read. -/
theorem key_rows_9 (c : Dev nD) (arg2 : Memref sig .tc .vmem S4x32x128 .f32) (h : arg2.IsWhole) (scratch : Memref sig .tc .vmem S32x128x128 .f32)
    (x : Vec Ideal S4x32x128 .f32) (t : Fin 4) (l : Fin 128) :
    scratch.view.readCov (kernelRun0_A.sl.HS1_41 c arg2 h x) (Rect.unit (s := S32x128x128) ![9, 0, 0] S1x128x128.size (by decide)).toLoadRect
      (ix3 (0 : Fin 1) (⟨t.val, by omega⟩ : Fin 128) l) = x (ix3 t ⟨9, by decide⟩ l) :=
  four_rows scratch.view 9 (by decide) x (kernelRun0_A.sl.HS1_37 c arg2 h x) _ _ _ _ _ _ _ _ _
    (fun l => stored_row arg2 h x 0 9 (by decide) (by decide) (by decide) l) (fun l => stored_row arg2 h x 1 9 (by decide) (by decide) (by decide) l)
    (fun l => stored_row arg2 h x 2 9 (by decide) (by decide) (by decide) l) (fun l => stored_row arg2 h x 3 9 (by decide) (by decide) (by decide) l) t l

/-- Sequence 10's part of the key scratch buffer holds its four new rows when it is read. -/
theorem key_rows_10 (c : Dev nD) (arg2 : Memref sig .tc .vmem S4x32x128 .f32) (h : arg2.IsWhole) (scratch : Memref sig .tc .vmem S32x128x128 .f32)
    (x : Vec Ideal S4x32x128 .f32) (t : Fin 4) (l : Fin 128) :
    scratch.view.readCov (kernelRun0_A.sl.HS1_45 c arg2 h x) (Rect.unit (s := S32x128x128) ![10, 0, 0] S1x128x128.size (by decide)).toLoadRect
      (ix3 (0 : Fin 1) (⟨t.val, by omega⟩ : Fin 128) l) = x (ix3 t ⟨10, by decide⟩ l) :=
  four_rows scratch.view 10 (by decide) x (kernelRun0_A.sl.HS1_41 c arg2 h x) _ _ _ _ _ _ _ _ _
    (fun l => stored_row arg2 h x 0 10 (by decide) (by decide) (by decide) l) (fun l => stored_row arg2 h x 1 10 (by decide) (by decide) (by decide) l)
    (fun l => stored_row arg2 h x 2 10 (by decide) (by decide) (by decide) l) (fun l => stored_row arg2 h x 3 10 (by decide) (by decide) (by decide) l) t l

/-- Sequence 11's part of the key scratch buffer holds its four new rows when it is read. -/
theorem key_rows_11 (c : Dev nD) (arg2 : Memref sig .tc .vmem S4x32x128 .f32) (h : arg2.IsWhole) (scratch : Memref sig .tc .vmem S32x128x128 .f32)
    (x : Vec Ideal S4x32x128 .f32) (t : Fin 4) (l : Fin 128) :
    scratch.view.readCov (kernelRun0_A.sl.HS1_49 c arg2 h x) (Rect.unit (s := S32x128x128) ![11, 0, 0] S1x128x128.size (by decide)).toLoadRect
      (ix3 (0 : Fin 1) (⟨t.val, by omega⟩ : Fin 128) l) = x (ix3 t ⟨11, by decide⟩ l) :=
  four_rows scratch.view 11 (by decide) x (kernelRun0_A.sl.HS1_45 c arg2 h x) _ _ _ _ _ _ _ _ _
    (fun l => stored_row arg2 h x 0 11 (by decide) (by decide) (by decide) l) (fun l => stored_row arg2 h x 1 11 (by decide) (by decide) (by decide) l)
    (fun l => stored_row arg2 h x 2 11 (by decide) (by decide) (by decide) l) (fun l => stored_row arg2 h x 3 11 (by decide) (by decide) (by decide) l) t l

/-- Sequence 12's part of the key scratch buffer holds its four new rows when it is read. -/
theorem key_rows_12 (c : Dev nD) (arg2 : Memref sig .tc .vmem S4x32x128 .f32) (h : arg2.IsWhole) (scratch : Memref sig .tc .vmem S32x128x128 .f32)
    (x : Vec Ideal S4x32x128 .f32) (t : Fin 4) (l : Fin 128) :
    scratch.view.readCov (kernelRun0_A.sl.HS1_53 c arg2 h x) (Rect.unit (s := S32x128x128) ![12, 0, 0] S1x128x128.size (by decide)).toLoadRect
      (ix3 (0 : Fin 1) (⟨t.val, by omega⟩ : Fin 128) l) = x (ix3 t ⟨12, by decide⟩ l) :=
  four_rows scratch.view 12 (by decide) x (kernelRun0_A.sl.HS1_49 c arg2 h x) _ _ _ _ _ _ _ _ _
    (fun l => stored_row arg2 h x 0 12 (by decide) (by decide) (by decide) l) (fun l => stored_row arg2 h x 1 12 (by decide) (by decide) (by decide) l)
    (fun l => stored_row arg2 h x 2 12 (by decide) (by decide) (by decide) l) (fun l => stored_row arg2 h x 3 12 (by decide) (by decide) (by decide) l) t l

/-- Sequence 13's part of the key scratch buffer holds its four new rows when it is read. -/
theorem key_rows_13 (c : Dev nD) (arg2 : Memref sig .tc .vmem S4x32x128 .f32) (h : arg2.IsWhole) (scratch : Memref sig .tc .vmem S32x128x128 .f32)
    (x : Vec Ideal S4x32x128 .f32) (t : Fin 4) (l : Fin 128) :
    scratch.view.readCov (kernelRun0_A.sl.HS1_57 c arg2 h x) (Rect.unit (s := S32x128x128) ![13, 0, 0] S1x128x128.size (by decide)).toLoadRect
      (ix3 (0 : Fin 1) (⟨t.val, by omega⟩ : Fin 128) l) = x (ix3 t ⟨13, by decide⟩ l) :=
  four_rows scratch.view 13 (by decide) x (kernelRun0_A.sl.HS1_53 c arg2 h x) _ _ _ _ _ _ _ _ _
    (fun l => stored_row arg2 h x 0 13 (by decide) (by decide) (by decide) l) (fun l => stored_row arg2 h x 1 13 (by decide) (by decide) (by decide) l)
    (fun l => stored_row arg2 h x 2 13 (by decide) (by decide) (by decide) l) (fun l => stored_row arg2 h x 3 13 (by decide) (by decide) (by decide) l) t l

/-- Sequence 14's part of the key scratch buffer holds its four new rows when it is read. -/
theorem key_rows_14 (c : Dev nD) (arg2 : Memref sig .tc .vmem S4x32x128 .f32) (h : arg2.IsWhole) (scratch : Memref sig .tc .vmem S32x128x128 .f32)
    (x : Vec Ideal S4x32x128 .f32) (t : Fin 4) (l : Fin 128) :
    scratch.view.readCov (kernelRun0_A.sl.HS1_61 c arg2 h x) (Rect.unit (s := S32x128x128) ![14, 0, 0] S1x128x128.size (by decide)).toLoadRect
      (ix3 (0 : Fin 1) (⟨t.val, by omega⟩ : Fin 128) l) = x (ix3 t ⟨14, by decide⟩ l) :=
  four_rows scratch.view 14 (by decide) x (kernelRun0_A.sl.HS1_57 c arg2 h x) _ _ _ _ _ _ _ _ _
    (fun l => stored_row arg2 h x 0 14 (by decide) (by decide) (by decide) l) (fun l => stored_row arg2 h x 1 14 (by decide) (by decide) (by decide) l)
    (fun l => stored_row arg2 h x 2 14 (by decide) (by decide) (by decide) l) (fun l => stored_row arg2 h x 3 14 (by decide) (by decide) (by decide) l) t l

/-- Sequence 15's part of the key scratch buffer holds its four new rows when it is read. -/
theorem key_rows_15 (c : Dev nD) (arg2 : Memref sig .tc .vmem S4x32x128 .f32) (h : arg2.IsWhole) (scratch : Memref sig .tc .vmem S32x128x128 .f32)
    (x : Vec Ideal S4x32x128 .f32) (t : Fin 4) (l : Fin 128) :
    scratch.view.readCov (kernelRun0_A.sl.HS1_65 c arg2 h x) (Rect.unit (s := S32x128x128) ![15, 0, 0] S1x128x128.size (by decide)).toLoadRect
      (ix3 (0 : Fin 1) (⟨t.val, by omega⟩ : Fin 128) l) = x (ix3 t ⟨15, by decide⟩ l) :=
  four_rows scratch.view 15 (by decide) x (kernelRun0_A.sl.HS1_61 c arg2 h x) _ _ _ _ _ _ _ _ _
    (fun l => stored_row arg2 h x 0 15 (by decide) (by decide) (by decide) l) (fun l => stored_row arg2 h x 1 15 (by decide) (by decide) (by decide) l)
    (fun l => stored_row arg2 h x 2 15 (by decide) (by decide) (by decide) l) (fun l => stored_row arg2 h x 3 15 (by decide) (by decide) (by decide) l) t l

/-- Sequence 16's part of the key scratch buffer holds its four new rows when it is read. -/
theorem key_rows_16 (c : Dev nD) (arg2 : Memref sig .tc .vmem S4x32x128 .f32) (h : arg2.IsWhole) (scratch : Memref sig .tc .vmem S32x128x128 .f32)
    (x : Vec Ideal S4x32x128 .f32) (t : Fin 4) (l : Fin 128) :
    scratch.view.readCov (kernelRun0_A.sl.HS1_69 c arg2 h x) (Rect.unit (s := S32x128x128) ![16, 0, 0] S1x128x128.size (by decide)).toLoadRect
      (ix3 (0 : Fin 1) (⟨t.val, by omega⟩ : Fin 128) l) = x (ix3 t ⟨16, by decide⟩ l) :=
  four_rows scratch.view 16 (by decide) x (kernelRun0_A.sl.HS1_65 c arg2 h x) _ _ _ _ _ _ _ _ _
    (fun l => stored_row arg2 h x 0 16 (by decide) (by decide) (by decide) l) (fun l => stored_row arg2 h x 1 16 (by decide) (by decide) (by decide) l)
    (fun l => stored_row arg2 h x 2 16 (by decide) (by decide) (by decide) l) (fun l => stored_row arg2 h x 3 16 (by decide) (by decide) (by decide) l) t l

/-- Sequence 17's part of the key scratch buffer holds its four new rows when it is read. -/
theorem key_rows_17 (c : Dev nD) (arg2 : Memref sig .tc .vmem S4x32x128 .f32) (h : arg2.IsWhole) (scratch : Memref sig .tc .vmem S32x128x128 .f32)
    (x : Vec Ideal S4x32x128 .f32) (t : Fin 4) (l : Fin 128) :
    scratch.view.readCov (kernelRun0_A.sl.HS1_73 c arg2 h x) (Rect.unit (s := S32x128x128) ![17, 0, 0] S1x128x128.size (by decide)).toLoadRect
      (ix3 (0 : Fin 1) (⟨t.val, by omega⟩ : Fin 128) l) = x (ix3 t ⟨17, by decide⟩ l) :=
  four_rows scratch.view 17 (by decide) x (kernelRun0_A.sl.HS1_69 c arg2 h x) _ _ _ _ _ _ _ _ _
    (fun l => stored_row arg2 h x 0 17 (by decide) (by decide) (by decide) l) (fun l => stored_row arg2 h x 1 17 (by decide) (by decide) (by decide) l)
    (fun l => stored_row arg2 h x 2 17 (by decide) (by decide) (by decide) l) (fun l => stored_row arg2 h x 3 17 (by decide) (by decide) (by decide) l) t l

/-- Sequence 18's part of the key scratch buffer holds its four new rows when it is read. -/
theorem key_rows_18 (c : Dev nD) (arg2 : Memref sig .tc .vmem S4x32x128 .f32) (h : arg2.IsWhole) (scratch : Memref sig .tc .vmem S32x128x128 .f32)
    (x : Vec Ideal S4x32x128 .f32) (t : Fin 4) (l : Fin 128) :
    scratch.view.readCov (kernelRun0_A.sl.HS1_77 c arg2 h x) (Rect.unit (s := S32x128x128) ![18, 0, 0] S1x128x128.size (by decide)).toLoadRect
      (ix3 (0 : Fin 1) (⟨t.val, by omega⟩ : Fin 128) l) = x (ix3 t ⟨18, by decide⟩ l) :=
  four_rows scratch.view 18 (by decide) x (kernelRun0_A.sl.HS1_73 c arg2 h x) _ _ _ _ _ _ _ _ _
    (fun l => stored_row arg2 h x 0 18 (by decide) (by decide) (by decide) l) (fun l => stored_row arg2 h x 1 18 (by decide) (by decide) (by decide) l)
    (fun l => stored_row arg2 h x 2 18 (by decide) (by decide) (by decide) l) (fun l => stored_row arg2 h x 3 18 (by decide) (by decide) (by decide) l) t l

/-- Sequence 19's part of the key scratch buffer holds its four new rows when it is read. -/
theorem key_rows_19 (c : Dev nD) (arg2 : Memref sig .tc .vmem S4x32x128 .f32) (h : arg2.IsWhole) (scratch : Memref sig .tc .vmem S32x128x128 .f32)
    (x : Vec Ideal S4x32x128 .f32) (t : Fin 4) (l : Fin 128) :
    scratch.view.readCov (kernelRun0_A.sl.HS1_81 c arg2 h x) (Rect.unit (s := S32x128x128) ![19, 0, 0] S1x128x128.size (by decide)).toLoadRect
      (ix3 (0 : Fin 1) (⟨t.val, by omega⟩ : Fin 128) l) = x (ix3 t ⟨19, by decide⟩ l) :=
  four_rows scratch.view 19 (by decide) x (kernelRun0_A.sl.HS1_77 c arg2 h x) _ _ _ _ _ _ _ _ _
    (fun l => stored_row arg2 h x 0 19 (by decide) (by decide) (by decide) l) (fun l => stored_row arg2 h x 1 19 (by decide) (by decide) (by decide) l)
    (fun l => stored_row arg2 h x 2 19 (by decide) (by decide) (by decide) l) (fun l => stored_row arg2 h x 3 19 (by decide) (by decide) (by decide) l) t l

/-- Sequence 20's part of the key scratch buffer holds its four new rows when it is read. -/
theorem key_rows_20 (c : Dev nD) (arg2 : Memref sig .tc .vmem S4x32x128 .f32) (h : arg2.IsWhole) (scratch : Memref sig .tc .vmem S32x128x128 .f32)
    (x : Vec Ideal S4x32x128 .f32) (t : Fin 4) (l : Fin 128) :
    scratch.view.readCov (kernelRun0_A.sl.HS1_85 c arg2 h x) (Rect.unit (s := S32x128x128) ![20, 0, 0] S1x128x128.size (by decide)).toLoadRect
      (ix3 (0 : Fin 1) (⟨t.val, by omega⟩ : Fin 128) l) = x (ix3 t ⟨20, by decide⟩ l) :=
  four_rows scratch.view 20 (by decide) x (kernelRun0_A.sl.HS1_81 c arg2 h x) _ _ _ _ _ _ _ _ _
    (fun l => stored_row arg2 h x 0 20 (by decide) (by decide) (by decide) l) (fun l => stored_row arg2 h x 1 20 (by decide) (by decide) (by decide) l)
    (fun l => stored_row arg2 h x 2 20 (by decide) (by decide) (by decide) l) (fun l => stored_row arg2 h x 3 20 (by decide) (by decide) (by decide) l) t l

/-- Sequence 21's part of the key scratch buffer holds its four new rows when it is read. -/
theorem key_rows_21 (c : Dev nD) (arg2 : Memref sig .tc .vmem S4x32x128 .f32) (h : arg2.IsWhole) (scratch : Memref sig .tc .vmem S32x128x128 .f32)
    (x : Vec Ideal S4x32x128 .f32) (t : Fin 4) (l : Fin 128) :
    scratch.view.readCov (kernelRun0_A.sl.HS1_89 c arg2 h x) (Rect.unit (s := S32x128x128) ![21, 0, 0] S1x128x128.size (by decide)).toLoadRect
      (ix3 (0 : Fin 1) (⟨t.val, by omega⟩ : Fin 128) l) = x (ix3 t ⟨21, by decide⟩ l) :=
  four_rows scratch.view 21 (by decide) x (kernelRun0_A.sl.HS1_85 c arg2 h x) _ _ _ _ _ _ _ _ _
    (fun l => stored_row arg2 h x 0 21 (by decide) (by decide) (by decide) l) (fun l => stored_row arg2 h x 1 21 (by decide) (by decide) (by decide) l)
    (fun l => stored_row arg2 h x 2 21 (by decide) (by decide) (by decide) l) (fun l => stored_row arg2 h x 3 21 (by decide) (by decide) (by decide) l) t l

/-- Sequence 22's part of the key scratch buffer holds its four new rows when it is read. -/
theorem key_rows_22 (c : Dev nD) (arg2 : Memref sig .tc .vmem S4x32x128 .f32) (h : arg2.IsWhole) (scratch : Memref sig .tc .vmem S32x128x128 .f32)
    (x : Vec Ideal S4x32x128 .f32) (t : Fin 4) (l : Fin 128) :
    scratch.view.readCov (kernelRun0_A.sl.HS1_93 c arg2 h x) (Rect.unit (s := S32x128x128) ![22, 0, 0] S1x128x128.size (by decide)).toLoadRect
      (ix3 (0 : Fin 1) (⟨t.val, by omega⟩ : Fin 128) l) = x (ix3 t ⟨22, by decide⟩ l) :=
  four_rows scratch.view 22 (by decide) x (kernelRun0_A.sl.HS1_89 c arg2 h x) _ _ _ _ _ _ _ _ _
    (fun l => stored_row arg2 h x 0 22 (by decide) (by decide) (by decide) l) (fun l => stored_row arg2 h x 1 22 (by decide) (by decide) (by decide) l)
    (fun l => stored_row arg2 h x 2 22 (by decide) (by decide) (by decide) l) (fun l => stored_row arg2 h x 3 22 (by decide) (by decide) (by decide) l) t l

/-- Sequence 23's part of the key scratch buffer holds its four new rows when it is read. -/
theorem key_rows_23 (c : Dev nD) (arg2 : Memref sig .tc .vmem S4x32x128 .f32) (h : arg2.IsWhole) (scratch : Memref sig .tc .vmem S32x128x128 .f32)
    (x : Vec Ideal S4x32x128 .f32) (t : Fin 4) (l : Fin 128) :
    scratch.view.readCov (kernelRun0_A.sl.HS1_97 c arg2 h x) (Rect.unit (s := S32x128x128) ![23, 0, 0] S1x128x128.size (by decide)).toLoadRect
      (ix3 (0 : Fin 1) (⟨t.val, by omega⟩ : Fin 128) l) = x (ix3 t ⟨23, by decide⟩ l) :=
  four_rows scratch.view 23 (by decide) x (kernelRun0_A.sl.HS1_93 c arg2 h x) _ _ _ _ _ _ _ _ _
    (fun l => stored_row arg2 h x 0 23 (by decide) (by decide) (by decide) l) (fun l => stored_row arg2 h x 1 23 (by decide) (by decide) (by decide) l)
    (fun l => stored_row arg2 h x 2 23 (by decide) (by decide) (by decide) l) (fun l => stored_row arg2 h x 3 23 (by decide) (by decide) (by decide) l) t l

/-- Sequence 24's part of the key scratch buffer holds its four new rows when it is read. -/
theorem key_rows_24 (c : Dev nD) (arg2 : Memref sig .tc .vmem S4x32x128 .f32) (h : arg2.IsWhole) (scratch : Memref sig .tc .vmem S32x128x128 .f32)
    (x : Vec Ideal S4x32x128 .f32) (t : Fin 4) (l : Fin 128) :
    scratch.view.readCov (kernelRun0_A.sl.HS1_101 c arg2 h x) (Rect.unit (s := S32x128x128) ![24, 0, 0] S1x128x128.size (by decide)).toLoadRect
      (ix3 (0 : Fin 1) (⟨t.val, by omega⟩ : Fin 128) l) = x (ix3 t ⟨24, by decide⟩ l) :=
  four_rows scratch.view 24 (by decide) x (kernelRun0_A.sl.HS1_97 c arg2 h x) _ _ _ _ _ _ _ _ _
    (fun l => stored_row arg2 h x 0 24 (by decide) (by decide) (by decide) l) (fun l => stored_row arg2 h x 1 24 (by decide) (by decide) (by decide) l)
    (fun l => stored_row arg2 h x 2 24 (by decide) (by decide) (by decide) l) (fun l => stored_row arg2 h x 3 24 (by decide) (by decide) (by decide) l) t l

/-- Sequence 25's part of the key scratch buffer holds its four new rows when it is read. -/
theorem key_rows_25 (c : Dev nD) (arg2 : Memref sig .tc .vmem S4x32x128 .f32) (h : arg2.IsWhole) (scratch : Memref sig .tc .vmem S32x128x128 .f32)
    (x : Vec Ideal S4x32x128 .f32) (t : Fin 4) (l : Fin 128) :
    scratch.view.readCov (kernelRun0_A.sl.HS1_105 c arg2 h x) (Rect.unit (s := S32x128x128) ![25, 0, 0] S1x128x128.size (by decide)).toLoadRect
      (ix3 (0 : Fin 1) (⟨t.val, by omega⟩ : Fin 128) l) = x (ix3 t ⟨25, by decide⟩ l) :=
  four_rows scratch.view 25 (by decide) x (kernelRun0_A.sl.HS1_101 c arg2 h x) _ _ _ _ _ _ _ _ _
    (fun l => stored_row arg2 h x 0 25 (by decide) (by decide) (by decide) l) (fun l => stored_row arg2 h x 1 25 (by decide) (by decide) (by decide) l)
    (fun l => stored_row arg2 h x 2 25 (by decide) (by decide) (by decide) l) (fun l => stored_row arg2 h x 3 25 (by decide) (by decide) (by decide) l) t l

/-- Sequence 26's part of the key scratch buffer holds its four new rows when it is read. -/
theorem key_rows_26 (c : Dev nD) (arg2 : Memref sig .tc .vmem S4x32x128 .f32) (h : arg2.IsWhole) (scratch : Memref sig .tc .vmem S32x128x128 .f32)
    (x : Vec Ideal S4x32x128 .f32) (t : Fin 4) (l : Fin 128) :
    scratch.view.readCov (kernelRun0_A.sl.HS1_109 c arg2 h x) (Rect.unit (s := S32x128x128) ![26, 0, 0] S1x128x128.size (by decide)).toLoadRect
      (ix3 (0 : Fin 1) (⟨t.val, by omega⟩ : Fin 128) l) = x (ix3 t ⟨26, by decide⟩ l) :=
  four_rows scratch.view 26 (by decide) x (kernelRun0_A.sl.HS1_105 c arg2 h x) _ _ _ _ _ _ _ _ _
    (fun l => stored_row arg2 h x 0 26 (by decide) (by decide) (by decide) l) (fun l => stored_row arg2 h x 1 26 (by decide) (by decide) (by decide) l)
    (fun l => stored_row arg2 h x 2 26 (by decide) (by decide) (by decide) l) (fun l => stored_row arg2 h x 3 26 (by decide) (by decide) (by decide) l) t l

/-- Sequence 27's part of the key scratch buffer holds its four new rows when it is read. -/
theorem key_rows_27 (c : Dev nD) (arg2 : Memref sig .tc .vmem S4x32x128 .f32) (h : arg2.IsWhole) (scratch : Memref sig .tc .vmem S32x128x128 .f32)
    (x : Vec Ideal S4x32x128 .f32) (t : Fin 4) (l : Fin 128) :
    scratch.view.readCov (kernelRun0_A.sl.HS1_113 c arg2 h x) (Rect.unit (s := S32x128x128) ![27, 0, 0] S1x128x128.size (by decide)).toLoadRect
      (ix3 (0 : Fin 1) (⟨t.val, by omega⟩ : Fin 128) l) = x (ix3 t ⟨27, by decide⟩ l) :=
  four_rows scratch.view 27 (by decide) x (kernelRun0_A.sl.HS1_109 c arg2 h x) _ _ _ _ _ _ _ _ _
    (fun l => stored_row arg2 h x 0 27 (by decide) (by decide) (by decide) l) (fun l => stored_row arg2 h x 1 27 (by decide) (by decide) (by decide) l)
    (fun l => stored_row arg2 h x 2 27 (by decide) (by decide) (by decide) l) (fun l => stored_row arg2 h x 3 27 (by decide) (by decide) (by decide) l) t l

/-- Sequence 28's part of the key scratch buffer holds its four new rows when it is read. -/
theorem key_rows_28 (c : Dev nD) (arg2 : Memref sig .tc .vmem S4x32x128 .f32) (h : arg2.IsWhole) (scratch : Memref sig .tc .vmem S32x128x128 .f32)
    (x : Vec Ideal S4x32x128 .f32) (t : Fin 4) (l : Fin 128) :
    scratch.view.readCov (kernelRun0_A.sl.HS1_117 c arg2 h x) (Rect.unit (s := S32x128x128) ![28, 0, 0] S1x128x128.size (by decide)).toLoadRect
      (ix3 (0 : Fin 1) (⟨t.val, by omega⟩ : Fin 128) l) = x (ix3 t ⟨28, by decide⟩ l) :=
  four_rows scratch.view 28 (by decide) x (kernelRun0_A.sl.HS1_113 c arg2 h x) _ _ _ _ _ _ _ _ _
    (fun l => stored_row arg2 h x 0 28 (by decide) (by decide) (by decide) l) (fun l => stored_row arg2 h x 1 28 (by decide) (by decide) (by decide) l)
    (fun l => stored_row arg2 h x 2 28 (by decide) (by decide) (by decide) l) (fun l => stored_row arg2 h x 3 28 (by decide) (by decide) (by decide) l) t l

/-- Sequence 29's part of the key scratch buffer holds its four new rows when it is read. -/
theorem key_rows_29 (c : Dev nD) (arg2 : Memref sig .tc .vmem S4x32x128 .f32) (h : arg2.IsWhole) (scratch : Memref sig .tc .vmem S32x128x128 .f32)
    (x : Vec Ideal S4x32x128 .f32) (t : Fin 4) (l : Fin 128) :
    scratch.view.readCov (kernelRun0_A.sl.HS1_121 c arg2 h x) (Rect.unit (s := S32x128x128) ![29, 0, 0] S1x128x128.size (by decide)).toLoadRect
      (ix3 (0 : Fin 1) (⟨t.val, by omega⟩ : Fin 128) l) = x (ix3 t ⟨29, by decide⟩ l) :=
  four_rows scratch.view 29 (by decide) x (kernelRun0_A.sl.HS1_117 c arg2 h x) _ _ _ _ _ _ _ _ _
    (fun l => stored_row arg2 h x 0 29 (by decide) (by decide) (by decide) l) (fun l => stored_row arg2 h x 1 29 (by decide) (by decide) (by decide) l)
    (fun l => stored_row arg2 h x 2 29 (by decide) (by decide) (by decide) l) (fun l => stored_row arg2 h x 3 29 (by decide) (by decide) (by decide) l) t l

/-- Sequence 30's part of the key scratch buffer holds its four new rows when it is read. -/
theorem key_rows_30 (c : Dev nD) (arg2 : Memref sig .tc .vmem S4x32x128 .f32) (h : arg2.IsWhole) (scratch : Memref sig .tc .vmem S32x128x128 .f32)
    (x : Vec Ideal S4x32x128 .f32) (t : Fin 4) (l : Fin 128) :
    scratch.view.readCov (kernelRun0_A.sl.HS1_125 c arg2 h x) (Rect.unit (s := S32x128x128) ![30, 0, 0] S1x128x128.size (by decide)).toLoadRect
      (ix3 (0 : Fin 1) (⟨t.val, by omega⟩ : Fin 128) l) = x (ix3 t ⟨30, by decide⟩ l) :=
  four_rows scratch.view 30 (by decide) x (kernelRun0_A.sl.HS1_121 c arg2 h x) _ _ _ _ _ _ _ _ _
    (fun l => stored_row arg2 h x 0 30 (by decide) (by decide) (by decide) l) (fun l => stored_row arg2 h x 1 30 (by decide) (by decide) (by decide) l)
    (fun l => stored_row arg2 h x 2 30 (by decide) (by decide) (by decide) l) (fun l => stored_row arg2 h x 3 30 (by decide) (by decide) (by decide) l) t l

/-- Sequence 31's part of the key scratch buffer holds its four new rows when it is read. -/
theorem key_rows_31 (c : Dev nD) (arg2 : Memref sig .tc .vmem S4x32x128 .f32) (h : arg2.IsWhole) (scratch : Memref sig .tc .vmem S32x128x128 .f32)
    (x : Vec Ideal S4x32x128 .f32) (t : Fin 4) (l : Fin 128) :
    scratch.view.readCov (kernelRun0_A.sl.HS1_129 c arg2 h x) (Rect.unit (s := S32x128x128) ![31, 0, 0] S1x128x128.size (by decide)).toLoadRect
      (ix3 (0 : Fin 1) (⟨t.val, by omega⟩ : Fin 128) l) = x (ix3 t ⟨31, by decide⟩ l) :=
  four_rows scratch.view 31 (by decide) x (kernelRun0_A.sl.HS1_125 c arg2 h x) _ _ _ _ _ _ _ _ _
    (fun l => stored_row arg2 h x 0 31 (by decide) (by decide) (by decide) l) (fun l => stored_row arg2 h x 1 31 (by decide) (by decide) (by decide) l)
    (fun l => stored_row arg2 h x 2 31 (by decide) (by decide) (by decide) l) (fun l => stored_row arg2 h x 3 31 (by decide) (by decide) (by decide) l) t l

end Cert.Kernel6Ideal.RefValue
end
-- ==== Proof.CacheKeys.lean ====
module

public import proofs.«01_k».proof.Proof.CacheKeyRows

@[expose] public section

set_option maxRecDepth 16384

noncomputable section

open Idealize.ShloMosaic Idealize.ShloMosaic.TcCoe Idealize.SL.Sem

namespace Cert.Kernel6Ideal.RefValue

open Cert.Kernel6Ideal Cert.Kernel6Ideal.Gen

/-! # The sample attention: the new key cache -/

/-- What one grid point leaves in its block of the new key cache: the window moved on by four. -/
theorem keys_block (m : (ℓ : Loc nD τ sig) → Buf (Elt Ideal) ℓ) (c : Dev nD) (t : Fin cfg0.N) (y : S32x2x64x128.Idx) :
    (outsAt0 m c t).2.1 y = movedAt (iblk m c 1 t) (iblk m c 3 t) y := by
  dsimp only [outsAt0]
  unfold out0_A_7
  rw [View.read_writes_junk_eq_canon]
  unfold kernelRun0_A
  dsimp only
  generalize iblk m c 1 t = x1
  generalize iblk m c 3 t = x3
  canon_tiles x h
  · exact second_piece 31 (by decide) x1 x3 _ _ (key_rows_31 c (ms0_1 t) (hs0_1 t) scM0_1 x1) (old_block (ms0_3 t) (hs0_3 t) x3 31 1 (by decide) (by decide) (by decide)) x y (by omega) (by omega) (by omega) (by omega)
  · exact first_piece 31 (by decide) x1 x3 _ _ (key_rows_31 c (ms0_1 t) (hs0_1 t) scM0_1 x1) (old_block (ms0_3 t) (hs0_3 t) x3 31 0 (by decide) (by decide) (by decide)) x y (by omega) (by omega) (by omega) (by omega)
  · exact second_piece 30 (by decide) x1 x3 _ _ (key_rows_30 c (ms0_1 t) (hs0_1 t) scM0_1 x1) (old_block (ms0_3 t) (hs0_3 t) x3 30 1 (by decide) (by decide) (by decide)) x y (by omega) (by omega) (by omega) (by omega)
  · exact first_piece 30 (by decide) x1 x3 _ _ (key_rows_30 c (ms0_1 t) (hs0_1 t) scM0_1 x1) (old_block (ms0_3 t) (hs0_3 t) x3 30 0 (by decide) (by decide) (by decide)) x y (by omega) (by omega) (by omega) (by omega)
  · exact second_piece 29 (by decide) x1 x3 _ _ (key_rows_29 c (ms0_1 t) (hs0_1 t) scM0_1 x1) (old_block (ms0_3 t) (hs0_3 t) x3 29 1 (by decide) (by decide) (by decide)) x y (by omega) (by omega) (by omega) (by omega)
  · exact first_piece 29 (by decide) x1 x3 _ _ (key_rows_29 c (ms0_1 t) (hs0_1 t) scM0_1 x1) (old_block (ms0_3 t) (hs0_3 t) x3 29 0 (by decide) (by decide) (by decide)) x y (by omega) (by omega) (by omega) (by omega)
  · exact second_piece 28 (by decide) x1 x3 _ _ (key_rows_28 c (ms0_1 t) (hs0_1 t) scM0_1 x1) (old_block (ms0_3 t) (hs0_3 t) x3 28 1 (by decide) (by decide) (by decide)) x y (by omega) (by omega) (by omega) (by omega)
  · exact first_piece 28 (by decide) x1 x3 _ _ (key_rows_28 c (ms0_1 t) (hs0_1 t) scM0_1 x1) (old_block (ms0_3 t) (hs0_3 t) x3 28 0 (by decide) (by decide) (by decide)) x y (by omega) (by omega) (by omega) (by omega)
  · exact second_piece 27 (by decide) x1 x3 _ _ (key_rows_27 c (ms0_1 t) (hs0_1 t) scM0_1 x1) (old_block (ms0_3 t) (hs0_3 t) x3 27 1 (by decide) (by decide) (by decide)) x y (by omega) (by omega) (by omega) (by omega)
  · exact first_piece 27 (by decide) x1 x3 _ _ (key_rows_27 c (ms0_1 t) (hs0_1 t) scM0_1 x1) (old_block (ms0_3 t) (hs0_3 t) x3 27 0 (by decide) (by decide) (by decide)) x y (by omega) (by omega) (by omega) (by omega)
  · exact second_piece 26 (by decide) x1 x3 _ _ (key_rows_26 c (ms0_1 t) (hs0_1 t) scM0_1 x1) (old_block (ms0_3 t) (hs0_3 t) x3 26 1 (by decide) (by decide) (by decide)) x y (by omega) (by omega) (by omega) (by omega)
  · exact first_piece 26 (by decide) x1 x3 _ _ (key_rows_26 c (ms0_1 t) (hs0_1 t) scM0_1 x1) (old_block (ms0_3 t) (hs0_3 t) x3 26 0 (by decide) (by decide) (by decide)) x y (by omega) (by omega) (by omega) (by omega)
  · exact second_piece 25 (by decide) x1 x3 _ _ (key_rows_25 c (ms0_1 t) (hs0_1 t) scM0_1 x1) (old_block (ms0_3 t) (hs0_3 t) x3 25 1 (by decide) (by decide) (by decide)) x y (by omega) (by omega) (by omega) (by omega)
  · exact first_piece 25 (by decide) x1 x3 _ _ (key_rows_25 c (ms0_1 t) (hs0_1 t) scM0_1 x1) (old_block (ms0_3 t) (hs0_3 t) x3 25 0 (by decide) (by decide) (by decide)) x y (by omega) (by omega) (by omega) (by omega)
  · exact second_piece 24 (by decide) x1 x3 _ _ (key_rows_24 c (ms0_1 t) (hs0_1 t) scM0_1 x1) (old_block (ms0_3 t) (hs0_3 t) x3 24 1 (by decide) (by decide) (by decide)) x y (by omega) (by omega) (by omega) (by omega)
  · exact first_piece 24 (by decide) x1 x3 _ _ (key_rows_24 c (ms0_1 t) (hs0_1 t) scM0_1 x1) (old_block (ms0_3 t) (hs0_3 t) x3 24 0 (by decide) (by decide) (by decide)) x y (by omega) (by omega) (by omega) (by omega)
  · exact second_piece 23 (by decide) x1 x3 _ _ (key_rows_23 c (ms0_1 t) (hs0_1 t) scM0_1 x1) (old_block (ms0_3 t) (hs0_3 t) x3 23 1 (by decide) (by decide) (by decide)) x y (by omega) (by omega) (by omega) (by omega)
  · exact first_piece 23 (by decide) x1 x3 _ _ (key_rows_23 c (ms0_1 t) (hs0_1 t) scM0_1 x1) (old_block (ms0_3 t) (hs0_3 t) x3 23 0 (by decide) (by decide) (by decide)) x y (by omega) (by omega) (by omega) (by omega)
  · exact second_piece 22 (by decide) x1 x3 _ _ (key_rows_22 c (ms0_1 t) (hs0_1 t) scM0_1 x1) (old_block (ms0_3 t) (hs0_3 t) x3 22 1 (by decide) (by decide) (by decide)) x y (by omega) (by omega) (by omega) (by omega)
  · exact first_piece 22 (by decide) x1 x3 _ _ (key_rows_22 c (ms0_1 t) (hs0_1 t) scM0_1 x1) (old_block (ms0_3 t) (hs0_3 t) x3 22 0 (by decide) (by decide) (by decide)) x y (by omega) (by omega) (by omega) (by omega)
  · exact second_piece 21 (by decide) x1 x3 _ _ (key_rows_21 c (ms0_1 t) (hs0_1 t) scM0_1 x1) (old_block (ms0_3 t) (hs0_3 t) x3 21 1 (by decide) (by decide) (by decide)) x y (by omega) (by omega) (by omega) (by omega)
  · exact first_piece 21 (by decide) x1 x3 _ _ (key_rows_21 c (ms0_1 t) (hs0_1 t) scM0_1 x1) (old_block (ms0_3 t) (hs0_3 t) x3 21 0 (by decide) (by decide) (by decide)) x y (by omega) (by omega) (by omega) (by omega)
  · exact second_piece 20 (by decide) x1 x3 _ _ (key_rows_20 c (ms0_1 t) (hs0_1 t) scM0_1 x1) (old_block (ms0_3 t) (hs0_3 t) x3 20 1 (by decide) (by decide) (by decide)) x y (by omega) (by omega) (by omega) (by omega)
  · exact first_piece 20 (by decide) x1 x3 _ _ (key_rows_20 c (ms0_1 t) (hs0_1 t) scM0_1 x1) (old_block (ms0_3 t) (hs0_3 t) x3 20 0 (by decide) (by decide) (by decide)) x y (by omega) (by omega) (by omega) (by omega)
  · exact second_piece 19 (by decide) x1 x3 _ _ (key_rows_19 c (ms0_1 t) (hs0_1 t) scM0_1 x1) (old_block (ms0_3 t) (hs0_3 t) x3 19 1 (by decide) (by decide) (by decide)) x y (by omega) (by omega) (by omega) (by omega)
  · exact first_piece 19 (by decide) x1 x3 _ _ (key_rows_19 c (ms0_1 t) (hs0_1 t) scM0_1 x1) (old_block (ms0_3 t) (hs0_3 t) x3 19 0 (by decide) (by decide) (by decide)) x y (by omega) (by omega) (by omega) (by omega)
  · exact second_piece 18 (by decide) x1 x3 _ _ (key_rows_18 c (ms0_1 t) (hs0_1 t) scM0_1 x1) (old_block (ms0_3 t) (hs0_3 t) x3 18 1 (by decide) (by decide) (by decide)) x y (by omega) (by omega) (by omega) (by omega)
  · exact first_piece 18 (by decide) x1 x3 _ _ (key_rows_18 c (ms0_1 t) (hs0_1 t) scM0_1 x1) (old_block (ms0_3 t) (hs0_3 t) x3 18 0 (by decide) (by decide) (by decide)) x y (by omega) (by omega) (by omega) (by omega)
  · exact second_piece 17 (by decide) x1 x3 _ _ (key_rows_17 c (ms0_1 t) (hs0_1 t) scM0_1 x1) (old_block (ms0_3 t) (hs0_3 t) x3 17 1 (by decide) (by decide) (by decide)) x y (by omega) (by omega) (by omega) (by omega)
  · exact first_piece 17 (by decide) x1 x3 _ _ (key_rows_17 c (ms0_1 t) (hs0_1 t) scM0_1 x1) (old_block (ms0_3 t) (hs0_3 t) x3 17 0 (by decide) (by decide) (by decide)) x y (by omega) (by omega) (by omega) (by omega)
  · exact second_piece 16 (by decide) x1 x3 _ _ (key_rows_16 c (ms0_1 t) (hs0_1 t) scM0_1 x1) (old_block (ms0_3 t) (hs0_3 t) x3 16 1 (by decide) (by decide) (by decide)) x y (by omega) (by omega) (by omega) (by omega)
  · exact first_piece 16 (by decide) x1 x3 _ _ (key_rows_16 c (ms0_1 t) (hs0_1 t) scM0_1 x1) (old_block (ms0_3 t) (hs0_3 t) x3 16 0 (by decide) (by decide) (by decide)) x y (by omega) (by omega) (by omega) (by omega)
  · exact second_piece 15 (by decide) x1 x3 _ _ (key_rows_15 c (ms0_1 t) (hs0_1 t) scM0_1 x1) (old_block (ms0_3 t) (hs0_3 t) x3 15 1 (by decide) (by decide) (by decide)) x y (by omega) (by omega) (by omega) (by omega)
  · exact first_piece 15 (by decide) x1 x3 _ _ (key_rows_15 c (ms0_1 t) (hs0_1 t) scM0_1 x1) (old_block (ms0_3 t) (hs0_3 t) x3 15 0 (by decide) (by decide) (by decide)) x y (by omega) (by omega) (by omega) (by omega)
  · exact second_piece 14 (by decide) x1 x3 _ _ (key_rows_14 c (ms0_1 t) (hs0_1 t) scM0_1 x1) (old_block (ms0_3 t) (hs0_3 t) x3 14 1 (by decide) (by decide) (by decide)) x y (by omega) (by omega) (by omega) (by omega)
  · exact first_piece 14 (by decide) x1 x3 _ _ (key_rows_14 c (ms0_1 t) (hs0_1 t) scM0_1 x1) (old_block (ms0_3 t) (hs0_3 t) x3 14 0 (by decide) (by decide) (by decide)) x y (by omega) (by omega) (by omega) (by omega)
  · exact second_piece 13 (by decide) x1 x3 _ _ (key_rows_13 c (ms0_1 t) (hs0_1 t) scM0_1 x1) (old_block (ms0_3 t) (hs0_3 t) x3 13 1 (by decide) (by decide) (by decide)) x y (by omega) (by omega) (by omega) (by omega)
  · exact first_piece 13 (by decide) x1 x3 _ _ (key_rows_13 c (ms0_1 t) (hs0_1 t) scM0_1 x1) (old_block (ms0_3 t) (hs0_3 t) x3 13 0 (by decide) (by decide) (by decide)) x y (by omega) (by omega) (by omega) (by omega)
  · exact second_piece 12 (by decide) x1 x3 _ _ (key_rows_12 c (ms0_1 t) (hs0_1 t) scM0_1 x1) (old_block (ms0_3 t) (hs0_3 t) x3 12 1 (by decide) (by decide) (by decide)) x y (by omega) (by omega) (by omega) (by omega)
  · exact first_piece 12 (by decide) x1 x3 _ _ (key_rows_12 c (ms0_1 t) (hs0_1 t) scM0_1 x1) (old_block (ms0_3 t) (hs0_3 t) x3 12 0 (by decide) (by decide) (by decide)) x y (by omega) (by omega) (by omega) (by omega)
  · exact second_piece 11 (by decide) x1 x3 _ _ (key_rows_11 c (ms0_1 t) (hs0_1 t) scM0_1 x1) (old_block (ms0_3 t) (hs0_3 t) x3 11 1 (by decide) (by decide) (by decide)) x y (by omega) (by omega) (by omega) (by omega)
  · exact first_piece 11 (by decide) x1 x3 _ _ (key_rows_11 c (ms0_1 t) (hs0_1 t) scM0_1 x1) (old_block (ms0_3 t) (hs0_3 t) x3 11 0 (by decide) (by decide) (by decide)) x y (by omega) (by omega) (by omega) (by omega)
  · exact second_piece 10 (by decide) x1 x3 _ _ (key_rows_10 c (ms0_1 t) (hs0_1 t) scM0_1 x1) (old_block (ms0_3 t) (hs0_3 t) x3 10 1 (by decide) (by decide) (by decide)) x y (by omega) (by omega) (by omega) (by omega)
  · exact first_piece 10 (by decide) x1 x3 _ _ (key_rows_10 c (ms0_1 t) (hs0_1 t) scM0_1 x1) (old_block (ms0_3 t) (hs0_3 t) x3 10 0 (by decide) (by decide) (by decide)) x y (by omega) (by omega) (by omega) (by omega)
  · exact second_piece 9 (by decide) x1 x3 _ _ (key_rows_9 c (ms0_1 t) (hs0_1 t) scM0_1 x1) (old_block (ms0_3 t) (hs0_3 t) x3 9 1 (by decide) (by decide) (by decide)) x y (by omega) (by omega) (by omega) (by omega)
  · exact first_piece 9 (by decide) x1 x3 _ _ (key_rows_9 c (ms0_1 t) (hs0_1 t) scM0_1 x1) (old_block (ms0_3 t) (hs0_3 t) x3 9 0 (by decide) (by decide) (by decide)) x y (by omega) (by omega) (by omega) (by omega)
  · exact second_piece 8 (by decide) x1 x3 _ _ (key_rows_8 c (ms0_1 t) (hs0_1 t) scM0_1 x1) (old_block (ms0_3 t) (hs0_3 t) x3 8 1 (by decide) (by decide) (by decide)) x y (by omega) (by omega) (by omega) (by omega)
  · exact first_piece 8 (by decide) x1 x3 _ _ (key_rows_8 c (ms0_1 t) (hs0_1 t) scM0_1 x1) (old_block (ms0_3 t) (hs0_3 t) x3 8 0 (by decide) (by decide) (by decide)) x y (by omega) (by omega) (by omega) (by omega)
  · exact second_piece 7 (by decide) x1 x3 _ _ (key_rows_7 c (ms0_1 t) (hs0_1 t) scM0_1 x1) (old_block (ms0_3 t) (hs0_3 t) x3 7 1 (by decide) (by decide) (by decide)) x y (by omega) (by omega) (by omega) (by omega)
  · exact first_piece 7 (by decide) x1 x3 _ _ (key_rows_7 c (ms0_1 t) (hs0_1 t) scM0_1 x1) (old_block (ms0_3 t) (hs0_3 t) x3 7 0 (by decide) (by decide) (by decide)) x y (by omega) (by omega) (by omega) (by omega)
  · exact second_piece 6 (by decide) x1 x3 _ _ (key_rows_6 c (ms0_1 t) (hs0_1 t) scM0_1 x1) (old_block (ms0_3 t) (hs0_3 t) x3 6 1 (by decide) (by decide) (by decide)) x y (by omega) (by omega) (by omega) (by omega)
  · exact first_piece 6 (by decide) x1 x3 _ _ (key_rows_6 c (ms0_1 t) (hs0_1 t) scM0_1 x1) (old_block (ms0_3 t) (hs0_3 t) x3 6 0 (by decide) (by decide) (by decide)) x y (by omega) (by omega) (by omega) (by omega)
  · exact second_piece 5 (by decide) x1 x3 _ _ (key_rows_5 c (ms0_1 t) (hs0_1 t) scM0_1 x1) (old_block (ms0_3 t) (hs0_3 t) x3 5 1 (by decide) (by decide) (by decide)) x y (by omega) (by omega) (by omega) (by omega)
  · exact first_piece 5 (by decide) x1 x3 _ _ (key_rows_5 c (ms0_1 t) (hs0_1 t) scM0_1 x1) (old_block (ms0_3 t) (hs0_3 t) x3 5 0 (by decide) (by decide) (by decide)) x y (by omega) (by omega) (by omega) (by omega)
  · exact second_piece 4 (by decide) x1 x3 _ _ (key_rows_4 c (ms0_1 t) (hs0_1 t) scM0_1 x1) (old_block (ms0_3 t) (hs0_3 t) x3 4 1 (by decide) (by decide) (by decide)) x y (by omega) (by omega) (by omega) (by omega)
  · exact first_piece 4 (by decide) x1 x3 _ _ (key_rows_4 c (ms0_1 t) (hs0_1 t) scM0_1 x1) (old_block (ms0_3 t) (hs0_3 t) x3 4 0 (by decide) (by decide) (by decide)) x y (by omega) (by omega) (by omega) (by omega)
  · exact second_piece 3 (by decide) x1 x3 _ _ (key_rows_3 c (ms0_1 t) (hs0_1 t) scM0_1 x1) (old_block (ms0_3 t) (hs0_3 t) x3 3 1 (by decide) (by decide) (by decide)) x y (by omega) (by omega) (by omega) (by omega)
  · exact first_piece 3 (by decide) x1 x3 _ _ (key_rows_3 c (ms0_1 t) (hs0_1 t) scM0_1 x1) (old_block (ms0_3 t) (hs0_3 t) x3 3 0 (by decide) (by decide) (by decide)) x y (by omega) (by omega) (by omega) (by omega)
  · exact second_piece 2 (by decide) x1 x3 _ _ (key_rows_2 c (ms0_1 t) (hs0_1 t) scM0_1 x1) (old_block (ms0_3 t) (hs0_3 t) x3 2 1 (by decide) (by decide) (by decide)) x y (by omega) (by omega) (by omega) (by omega)
  · exact first_piece 2 (by decide) x1 x3 _ _ (key_rows_2 c (ms0_1 t) (hs0_1 t) scM0_1 x1) (old_block (ms0_3 t) (hs0_3 t) x3 2 0 (by decide) (by decide) (by decide)) x y (by omega) (by omega) (by omega) (by omega)
  · exact second_piece 1 (by decide) x1 x3 _ _ (key_rows_1 c (ms0_1 t) (hs0_1 t) scM0_1 x1) (old_block (ms0_3 t) (hs0_3 t) x3 1 1 (by decide) (by decide) (by decide)) x y (by omega) (by omega) (by omega) (by omega)
  · exact first_piece 1 (by decide) x1 x3 _ _ (key_rows_1 c (ms0_1 t) (hs0_1 t) scM0_1 x1) (old_block (ms0_3 t) (hs0_3 t) x3 1 0 (by decide) (by decide) (by decide)) x y (by omega) (by omega) (by omega) (by omega)
  · exact second_piece 0 (by decide) x1 x3 _ _ (key_rows_0 c (ms0_1 t) (hs0_1 t) scM0_1 x1) (old_block (ms0_3 t) (hs0_3 t) x3 0 1 (by decide) (by decide) (by decide)) x y (by omega) (by omega) (by omega) (by omega)
  · exact first_piece 0 (by decide) x1 x3 _ _ (key_rows_0 c (ms0_1 t) (hs0_1 t) scM0_1 x1) (old_block (ms0_3 t) (hs0_3 t) x3 0 0 (by decide) (by decide) (by decide)) x y (by omega) (by omega) (by omega) (by omega)

end Cert.Kernel6Ideal.RefValue
end
-- ==== Proof.CacheValueRows.lean ====
module

public import proofs.«01_k».proof.Proof.CacheRows

@[expose] public section

set_option maxRecDepth 16384

noncomputable section

open Idealize.ShloMosaic Idealize.ShloMosaic.TcCoe Idealize.SL.Sem

namespace Cert.Kernel6Ideal.RefValue

open Cert.Kernel6Ideal Cert.Kernel6Ideal.Gen

/-! # The sample attention: the new value rows, read back from the scratch buffer -/

/-- Sequence 0's part of the value scratch buffer holds its four new rows when it is read. -/
theorem value_rows_0 (c : Dev nD) (arg3 : Memref sig .tc .vmem S4x32x128 .f32) (h : arg3.IsWhole) (scratch : Memref sig .tc .vmem S32x128x128 .f32)
    (x : Vec Ideal S4x32x128 .f32) (t : Fin 4) (l : Fin 128) :
    scratch.view.readCov (kernelRun0_A.sl.HS2_5 c arg3 h x) (Rect.unit (s := S32x128x128) ![0, 0, 0] S1x128x128.size (by decide)).toLoadRect
      (ix3 (0 : Fin 1) (⟨t.val, by omega⟩ : Fin 128) l) = x (ix3 t ⟨0, by decide⟩ l) :=
  four_rows scratch.view 0 (by decide) x _ _ _ _ _ _ _ _ _ _
    (fun l => stored_row arg3 h x 0 0 (by decide) (by decide) (by decide) l) (fun l => stored_row arg3 h x 1 0 (by decide) (by decide) (by decide) l)
    (fun l => stored_row arg3 h x 2 0 (by decide) (by decide) (by decide) l) (fun l => stored_row arg3 h x 3 0 (by decide) (by decide) (by decide) l) t l

/-- Sequence 1's part of the value scratch buffer holds its four new rows when it is read. -/
theorem value_rows_1 (c : Dev nD) (arg3 : Memref sig .tc .vmem S4x32x128 .f32) (h : arg3.IsWhole) (scratch : Memref sig .tc .vmem S32x128x128 .f32)
    (x : Vec Ideal S4x32x128 .f32) (t : Fin 4) (l : Fin 128) :
    scratch.view.readCov (kernelRun0_A.sl.HS2_9 c arg3 h x) (Rect.unit (s := S32x128x128) ![1, 0, 0] S1x128x128.size (by decide)).toLoadRect
      (ix3 (0 : Fin 1) (⟨t.val, by omega⟩ : Fin 128) l) = x (ix3 t ⟨1, by decide⟩ l) :=
  four_rows scratch.view 1 (by decide) x (kernelRun0_A.sl.HS2_5 c arg3 h x) _ _ _ _ _ _ _ _ _
    (fun l => stored_row arg3 h x 0 1 (by decide) (by decide) (by decide) l) (fun l => stored_row arg3 h x 1 1 (by decide) (by decide) (by decide) l)
    (fun l => stored_row arg3 h x 2 1 (by decide) (by decide) (by decide) l) (fun l => stored_row arg3 h x 3 1 (by decide) (by decide) (by decide) l) t l

/-- Sequence 2's part of the value scratch buffer holds its four new rows when it is read. -/
theorem value_rows_2 (c : Dev nD) (arg3 : Memref sig .tc .vmem S4x32x128 .f32) (h : arg3.IsWhole) (scratch : Memref sig .tc .vmem S32x128x128 .f32)
    (x : Vec Ideal S4x32x128 .f32) (t : Fin 4) (l : Fin 128) :
    scratch.view.readCov (kernelRun0_A.sl.HS2_13 c arg3 h x) (Rect.unit (s := S32x128x128) ![2, 0, 0] S1x128x128.size (by decide)).toLoadRect
      (ix3 (0 : Fin 1) (⟨t.val, by omega⟩ : Fin 128) l) = x (ix3 t ⟨2, by decide⟩ l) :=
  four_rows scratch.view 2 (by decide) x (kernelRun0_A.sl.HS2_9 c arg3 h x) _ _ _ _ _ _ _ _ _
    (fun l => stored_row arg3 h x 0 2 (by decide) (by decide) (by decide) l) (fun l => stored_row arg3 h x 1 2 (by decide) (by decide) (by decide) l)
    (fun l => stored_row arg3 h x 2 2 (by decide) (by decide) (by decide) l) (fun l => stored_row arg3 h x 3 2 (by decide) (by decide) (by decide) l) t l

/-- Sequence 3's part of the value scratch buffer holds its four new rows when it is read. -/
theorem value_rows_3 (c : Dev nD) (arg3 : Memref sig .tc .vmem S4x32x128 .f32) (h : arg3.IsWhole) (scratch : Memref sig .tc .vmem S32x128x128 .f32)
    (x : Vec Ideal S4x32x128 .f32) (t : Fin 4) (l : Fin 128) :
    scratch.view.readCov (kernelRun0_A.sl.HS2_17 c arg3 h x) (Rect.unit (s := S32x128x128) ![3, 0, 0] S1x128x128.size (by decide)).toLoadRect
      (ix3 (0 : Fin 1) (⟨t.val, by omega⟩ : Fin 128) l) = x (ix3 t ⟨3, by decide⟩ l) :=
  four_rows scratch.view 3 (by decide) x (kernelRun0_A.sl.HS2_13 c arg3 h x) _ _ _ _ _ _ _ _ _
    (fun l => stored_row arg3 h x 0 3 (by decide) (by decide) (by decide) l) (fun l => stored_row arg3 h x 1 3 (by decide) (by decide) (by decide) l)
    (fun l => stored_row arg3 h x 2 3 (by decide) (by decide) (by decide) l) (fun l => stored_row arg3 h x 3 3 (by decide) (by decide) (by decide) l) t l

/-- Sequence 4's part of the value scratch buffer holds its four new rows when it is read. -/
theorem value_rows_4 (c : Dev nD) (arg3 : Memref sig .tc .vmem S4x32x128 .f32) (h : arg3.IsWhole) (scratch : Memref sig .tc .vmem S32x128x128 .f32)
    (x : Vec Ideal S4x32x128 .f32) (t : Fin 4) (l : Fin 128) :
    scratch.view.readCov (kernelRun0_A.sl.HS2_21 c arg3 h x) (Rect.unit (s := S32x128x128) ![4, 0, 0] S1x128x128.size (by decide)).toLoadRect
      (ix3 (0 : Fin 1) (⟨t.val, by omega⟩ : Fin 128) l) = x (ix3 t ⟨4, by decide⟩ l) :=
  four_rows scratch.view 4 (by decide) x (kernelRun0_A.sl.HS2_17 c arg3 h x) _ _ _ _ _ _ _ _ _
    (fun l => stored_row arg3 h x 0 4 (by decide) (by decide) (by decide) l) (fun l => stored_row arg3 h x 1 4 (by decide) (by decide) (by decide) l)
    (fun l => stored_row arg3 h x 2 4 (by decide) (by decide) (by decide) l) (fun l => stored_row arg3 h x 3 4 (by decide) (by decide) (by decide) l) t l

/-- Sequence 5's part of the value scratch buffer holds its four new rows when it is read. -/
theorem value_rows_5 (c : Dev nD) (arg3 : Memref sig .tc .vmem S4x32x128 .f32) (h : arg3.IsWhole) (scratch : Memref sig .tc .vmem S32x128x128 .f32)
    (x : Vec Ideal S4x32x128 .f32) (t : Fin 4) (l : Fin 128) :
    scratch.view.readCov (kernelRun0_A.sl.HS2_25 c arg3 h x) (Rect.unit (s := S32x128x128) ![5, 0, 0] S1x128x128.size (by decide)).toLoadRect
      (ix3 (0 : Fin 1) (⟨t.val, by omega⟩ : Fin 128) l) = x (ix3 t ⟨5, by decide⟩ l) :=
  four_rows scratch.view 5 (by decide) x (kernelRun0_A.sl.HS2_21 c arg3 h x) _ _ _ _ _ _ _ _ _
    (fun l => stored_row arg3 h x 0 5 (by decide) (by decide) (by decide) l) (fun l => stored_row arg3 h x 1 5 (by decide) (by decide) (by decide) l)
    (fun l => stored_row arg3 h x 2 5 (by decide) (by decide) (by decide) l) (fun l => stored_row arg3 h x 3 5 (by decide) (by decide) (by decide) l) t l

/-- Sequence 6's part of the value scratch buffer holds its four new rows when it is read. -/
theorem value_rows_6 (c : Dev nD) (arg3 : Memref sig .tc .vmem S4x32x128 .f32) (h : arg3.IsWhole) (scratch : Memref sig .tc .vmem S32x128x128 .f32)
    (x : Vec Ideal S4x32x128 .f32) (t : Fin 4) (l : Fin 128) :
    scratch.view.readCov (kernelRun0_A.sl.HS2_29 c arg3 h x) (Rect.unit (s := S32x128x128) ![6, 0, 0] S1x128x128.size (by decide)).toLoadRect
      (ix3 (0 : Fin 1) (⟨t.val, by omega⟩ : Fin 128) l) = x (ix3 t ⟨6, by decide⟩ l) :=
  four_rows scratch.view 6 (by decide) x (kernelRun0_A.sl.HS2_25 c arg3 h x) _ _ _ _ _ _ _ _ _
    (fun l => stored_row arg3 h x 0 6 (by decide) (by decide) (by decide) l) (fun l => stored_row arg3 h x 1 6 (by decide) (by decide) (by decide) l)
    (fun l => stored_row arg3 h x 2 6 (by decide) (by decide) (by decide) l) (fun l => stored_row arg3 h x 3 6 (by decide) (by decide) (by decide) l) t l

/-- Sequence 7's part of the value scratch buffer holds its four new rows when it is read. -/
theorem value_rows_7 (c : Dev nD) (arg3 : Memref sig .tc .vmem S4x32x128 .f32) (h : arg3.IsWhole) (scratch : Memref sig .tc .vmem S32x128x128 .f32)
    (x : Vec Ideal S4x32x128 .f32) (t : Fin 4) (l : Fin 128) :
    scratch.view.readCov (kernelRun0_A.sl.HS2_33 c arg3 h x) (Rect.unit (s := S32x128x128) ![7, 0, 0] S1x128x128.size (by decide)).toLoadRect
      (ix3 (0 : Fin 1) (⟨t.val, by omega⟩ : Fin 128) l) = x (ix3 t ⟨7, by decide⟩ l) :=
  four_rows scratch.view 7 (by decide) x (kernelRun0_A.sl.HS2_29 c arg3 h x) _ _ _ _ _ _ _ _ _
    (fun l => stored_row arg3 h x 0 7 (by decide) (by decide) (by decide) l) (fun l => stored_row arg3 h x 1 7 (by decide) (by decide) (by decide) l)
    (fun l => stored_row arg3 h x 2 7 (by decide) (by decide) (by decide) l) (fun l => stored_row arg3 h x 3 7 (by decide) (by decide) (by decide) l) t l

/-- Sequence 8's part of the value scratch buffer holds its four new rows when it is read. -/
theorem value_rows_8 (c : Dev nD) (arg3 : Memref sig .tc .vmem S4x32x128 .f32) (h : arg3.IsWhole) (scratch : Memref sig .tc .vmem S32x128x128 .f32)
    (x : Vec Ideal S4x32x128 .f32) (t : Fin 4) (l : Fin 128) :
    scratch.view.readCov (kernelRun0_A.sl.HS2_37 c arg3 h x) (Rect.unit (s := S32x128x128) ![8, 0, 0] S1x128x128.size (by decide)).toLoadRect
      (ix3 (0 : Fin 1) (⟨t.val, by omega⟩ : Fin 128) l) = x (ix3 t ⟨8, by decide⟩ l) :=
  four_rows scratch.view 8 (by decide) x (kernelRun0_A.sl.HS2_33 c arg3 h x) _ _ _ _ _ _ _ _ _
    (fun l => stored_row arg3 h x 0 8 (by decide) (by decide) (by decide) l) (fun l => stored_row arg3 h x 1 8 (by decide) (by decide) (by decide) l)
    (fun l => stored_row arg3 h x 2 8 (by decide) (by decide) (by decide) l) (fun l => stored_row arg3 h x 3 8 (by decide) (by decide) (by decide) l) t l

/-- Sequence 9's part of the value scratch buffer holds its four new rows when it is read. -/
theorem value_rows_9 (c : Dev nD) (arg3 : Memref sig .tc .vmem S4x32x128 .f32) (h : arg3.IsWhole) (scratch : Memref sig .tc .vmem S32x128x128 .f32)
    (x : Vec Ideal S4x32x128 .f32) (t : Fin 4) (l : Fin 128) :
    scratch.view.readCov (kernelRun0_A.sl.HS2_41 c arg3 h x) (Rect.unit (s := S32x128x128) ![9, 0, 0] S1x128x128.size (by decide)).toLoadRect
      (ix3 (0 : Fin 1) (⟨t.val, by omega⟩ : Fin 128) l) = x (ix3 t ⟨9, by decide⟩ l) :=
  four_rows scratch.view 9 (by decide) x (kernelRun0_A.sl.HS2_37 c arg3 h x) _ _ _ _ _ _ _ _ _
    (fun l => stored_row arg3 h x 0 9 (by decide) (by decide) (by decide) l) (fun l => stored_row arg3 h x 1 9 (by decide) (by decide) (by decide) l)
    (fun l => stored_row arg3 h x 2 9 (by decide) (by decide) (by decide) l) (fun l => stored_row arg3 h x 3 9 (by decide) (by decide) (by decide) l) t l

/-- Sequence 10's part of the value scratch buffer holds its four new rows when it is read. -/
theorem value_rows_10 (c : Dev nD) (arg3 : Memref sig .tc .vmem S4x32x128 .f32) (h : arg3.IsWhole) (scratch : Memref sig .tc .vmem S32x128x128 .f32)
    (x : Vec Ideal S4x32x128 .f32) (t : Fin 4) (l : Fin 128) :
    scratch.view.readCov (kernelRun0_A.sl.HS2_45 c arg3 h x) (Rect.unit (s := S32x128x128) ![10, 0, 0] S1x128x128.size (by decide)).toLoadRect
      (ix3 (0 : Fin 1) (⟨t.val, by omega⟩ : Fin 128) l) = x (ix3 t ⟨10, by decide⟩ l) :=
  four_rows scratch.view 10 (by decide) x (kernelRun0_A.sl.HS2_41 c arg3 h x) _ _ _ _ _ _ _ _ _
    (fun l => stored_row arg3 h x 0 10 (by decide) (by decide) (by decide) l) (fun l => stored_row arg3 h x 1 10 (by decide) (by decide) (by decide) l)
    (fun l => stored_row arg3 h x 2 10 (by decide) (by decide) (by decide) l) (fun l => stored_row arg3 h x 3 10 (by decide) (by decide) (by decide) l) t l

/-- Sequence 11's part of the value scratch buffer holds its four new rows when it is read. -/
theorem value_rows_11 (c : Dev nD) (arg3 : Memref sig .tc .vmem S4x32x128 .f32) (h : arg3.IsWhole) (scratch : Memref sig .tc .vmem S32x128x128 .f32)
    (x : Vec Ideal S4x32x128 .f32) (t : Fin 4) (l : Fin 128) :
    scratch.view.readCov (kernelRun0_A.sl.HS2_49 c arg3 h x) (Rect.unit (s := S32x128x128) ![11, 0, 0] S1x128x128.size (by decide)).toLoadRect
      (ix3 (0 : Fin 1) (⟨t.val, by omega⟩ : Fin 128) l) = x (ix3 t ⟨11, by decide⟩ l) :=
  four_rows scratch.view 11 (by decide) x (kernelRun0_A.sl.HS2_45 c arg3 h x) _ _ _ _ _ _ _ _ _
    (fun l => stored_row arg3 h x 0 11 (by decide) (by decide) (by decide) l) (fun l => stored_row arg3 h x 1 11 (by decide) (by decide) (by decide) l)
    (fun l => stored_row arg3 h x 2 11 (by decide) (by decide) (by decide) l) (fun l => stored_row arg3 h x 3 11 (by decide) (by decide) (by decide) l) t l

/-- Sequence 12's part of the value scratch buffer holds its four new rows when it is read. -/
theorem value_rows_12 (c : Dev nD) (arg3 : Memref sig .tc .vmem S4x32x128 .f32) (h : arg3.IsWhole) (scratch : Memref sig .tc .vmem S32x128x128 .f32)
    (x : Vec Ideal S4x32x128 .f32) (t : Fin 4) (l : Fin 128) :
    scratch.view.readCov (kernelRun0_A.sl.HS2_53 c arg3 h x) (Rect.unit (s := S32x128x128) ![12, 0, 0] S1x128x128.size (by decide)).toLoadRect
      (ix3 (0 : Fin 1) (⟨t.val, by omega⟩ : Fin 128) l) = x (ix3 t ⟨12, by decide⟩ l) :=
  four_rows scratch.view 12 (by decide) x (kernelRun0_A.sl.HS2_49 c arg3 h x) _ _ _ _ _ _ _ _ _
    (fun l => stored_row arg3 h x 0 12 (by decide) (by decide) (by decide) l) (fun l => stored_row arg3 h x 1 12 (by decide) (by decide) (by decide) l)
    (fun l => stored_row arg3 h x 2 12 (by decide) (by decide) (by decide) l) (fun l => stored_row arg3 h x 3 12 (by decide) (by decide) (by decide) l) t l

/-- Sequence 13's part of the value scratch buffer holds its four new rows when it is read. -/
theorem value_rows_13 (c : Dev nD) (arg3 : Memref sig .tc .vmem S4x32x128 .f32) (h : arg3.IsWhole) (scratch : Memref sig .tc .vmem S32x128x128 .f32)
    (x : Vec Ideal S4x32x128 .f32) (t : Fin 4) (l : Fin 128) :
    scratch.view.readCov (kernelRun0_A.sl.HS2_57 c arg3 h x) (Rect.unit (s := S32x128x128) ![13, 0, 0] S1x128x128.size (by decide)).toLoadRect
      (ix3 (0 : Fin 1) (⟨t.val, by omega⟩ : Fin 128) l) = x (ix3 t ⟨13, by decide⟩ l) :=
  four_rows scratch.view 13 (by decide) x (kernelRun0_A.sl.HS2_53 c arg3 h x) _ _ _ _ _ _ _ _ _
    (fun l => stored_row arg3 h x 0 13 (by decide) (by decide) (by decide) l) (fun l => stored_row arg3 h x 1 13 (by decide) (by decide) (by decide) l)
    (fun l => stored_row arg3 h x 2 13 (by decide) (by decide) (by decide) l) (fun l => stored_row arg3 h x 3 13 (by decide) (by decide) (by decide) l) t l

/-- Sequence 14's part of the value scratch buffer holds its four new rows when it is read. -/
theorem value_rows_14 (c : Dev nD) (arg3 : Memref sig .tc .vmem S4x32x128 .f32) (h : arg3.IsWhole) (scratch : Memref sig .tc .vmem S32x128x128 .f32)
    (x : Vec Ideal S4x32x128 .f32) (t : Fin 4) (l : Fin 128) :
    scratch.view.readCov (kernelRun0_A.sl.HS2_61 c arg3 h x) (Rect.unit (s := S32x128x128) ![14, 0, 0] S1x128x128.size (by decide)).toLoadRect
      (ix3 (0 : Fin 1) (⟨t.val, by omega⟩ : Fin 128) l) = x (ix3 t ⟨14, by decide⟩ l) :=
  four_rows scratch.view 14 (by decide) x (kernelRun0_A.sl.HS2_57 c arg3 h x) _ _ _ _ _ _ _ _ _
    (fun l => stored_row arg3 h x 0 14 (by decide) (by decide) (by decide) l) (fun l => stored_row arg3 h x 1 14 (by decide) (by decide) (by decide) l)
    (fun l => stored_row arg3 h x 2 14 (by decide) (by decide) (by decide) l) (fun l => stored_row arg3 h x 3 14 (by decide) (by decide) (by decide) l) t l

/-- Sequence 15's part of the value scratch buffer holds its four new rows when it is read. -/
theorem value_rows_15 (c : Dev nD) (arg3 : Memref sig .tc .vmem S4x32x128 .f32) (h : arg3.IsWhole) (scratch : Memref sig .tc .vmem S32x128x128 .f32)
    (x : Vec Ideal S4x32x128 .f32) (t : Fin 4) (l : Fin 128) :
    scratch.view.readCov (kernelRun0_A.sl.HS2_65 c arg3 h x) (Rect.unit (s := S32x128x128) ![15, 0, 0] S1x128x128.size (by decide)).toLoadRect
      (ix3 (0 : Fin 1) (⟨t.val, by omega⟩ : Fin 128) l) = x (ix3 t ⟨15, by decide⟩ l) :=
  four_rows scratch.view 15 (by decide) x (kernelRun0_A.sl.HS2_61 c arg3 h x) _ _ _ _ _ _ _ _ _
    (fun l => stored_row arg3 h x 0 15 (by decide) (by decide) (by decide) l) (fun l => stored_row arg3 h x 1 15 (by decide) (by decide) (by decide) l)
    (fun l => stored_row arg3 h x 2 15 (by decide) (by decide) (by decide) l) (fun l => stored_row arg3 h x 3 15 (by decide) (by decide) (by decide) l) t l

/-- Sequence 16's part of the value scratch buffer holds its four new rows when it is read. -/
theorem value_rows_16 (c : Dev nD) (arg3 : Memref sig .tc .vmem S4x32x128 .f32) (h : arg3.IsWhole) (scratch : Memref sig .tc .vmem S32x128x128 .f32)
    (x : Vec Ideal S4x32x128 .f32) (t : Fin 4) (l : Fin 128) :
    scratch.view.readCov (kernelRun0_A.sl.HS2_69 c arg3 h x) (Rect.unit (s := S32x128x128) ![16, 0, 0] S1x128x128.size (by decide)).toLoadRect
      (ix3 (0 : Fin 1) (⟨t.val, by omega⟩ : Fin 128) l) = x (ix3 t ⟨16, by decide⟩ l) :=
  four_rows scratch.view 16 (by decide) x (kernelRun0_A.sl.HS2_65 c arg3 h x) _ _ _ _ _ _ _ _ _
    (fun l => stored_row arg3 h x 0 16 (by decide) (by decide) (by decide) l) (fun l => stored_row arg3 h x 1 16 (by decide) (by decide) (by decide) l)
    (fun l => stored_row arg3 h x 2 16 (by decide) (by decide) (by decide) l) (fun l => stored_row arg3 h x 3 16 (by decide) (by decide) (by decide) l) t l

/-- Sequence 17's part of the value scratch buffer holds its four new rows when it is read. -/
theorem value_rows_17 (c : Dev nD) (arg3 : Memref sig .tc .vmem S4x32x128 .f32) (h : arg3.IsWhole) (scratch : Memref sig .tc .vmem S32x128x128 .f32)
    (x : Vec Ideal S4x32x128 .f32) (t : Fin 4) (l : Fin 128) :
    scratch.view.readCov (kernelRun0_A.sl.HS2_73 c arg3 h x) (Rect.unit (s := S32x128x128) ![17, 0, 0] S1x128x128.size (by decide)).toLoadRect
      (ix3 (0 : Fin 1) (⟨t.val, by omega⟩ : Fin 128) l) = x (ix3 t ⟨17, by decide⟩ l) :=
  four_rows scratch.view 17 (by decide) x (kernelRun0_A.sl.HS2_69 c arg3 h x) _ _ _ _ _ _ _ _ _
    (fun l => stored_row arg3 h x 0 17 (by decide) (by decide) (by decide) l) (fun l => stored_row arg3 h x 1 17 (by decide) (by decide) (by decide) l)
    (fun l => stored_row arg3 h x 2 17 (by decide) (by decide) (by decide) l) (fun l => stored_row arg3 h x 3 17 (by decide) (by decide) (by decide) l) t l

/-- Sequence 18's part of the value scratch buffer holds its four new rows when it is read. -/
theorem value_rows_18 (c : Dev nD) (arg3 : Memref sig .tc .vmem S4x32x128 .f32) (h : arg3.IsWhole) (scratch : Memref sig .tc .vmem S32x128x128 .f32)
    (x : Vec Ideal S4x32x128 .f32) (t : Fin 4) (l : Fin 128) :
    scratch.view.readCov (kernelRun0_A.sl.HS2_77 c arg3 h x) (Rect.unit (s := S32x128x128) ![18, 0, 0] S1x128x128.size (by decide)).toLoadRect
      (ix3 (0 : Fin 1) (⟨t.val, by omega⟩ : Fin 128) l) = x (ix3 t ⟨18, by decide⟩ l) :=
  four_rows scratch.view 18 (by decide) x (kernelRun0_A.sl.HS2_73 c arg3 h x) _ _ _ _ _ _ _ _ _
    (fun l => stored_row arg3 h x 0 18 (by decide) (by decide) (by decide) l) (fun l => stored_row arg3 h x 1 18 (by decide) (by decide) (by decide) l)
    (fun l => stored_row arg3 h x 2 18 (by decide) (by decide) (by decide) l) (fun l => stored_row arg3 h x 3 18 (by decide) (by decide) (by decide) l) t l

/-- Sequence 19's part of the value scratch buffer holds its four new rows when it is read. -/
theorem value_rows_19 (c : Dev nD) (arg3 : Memref sig .tc .vmem S4x32x128 .f32) (h : arg3.IsWhole) (scratch : Memref sig .tc .vmem S32x128x128 .f32)
    (x : Vec Ideal S4x32x128 .f32) (t : Fin 4) (l : Fin 128) :
    scratch.view.readCov (kernelRun0_A.sl.HS2_81 c arg3 h x) (Rect.unit (s := S32x128x128) ![19, 0, 0] S1x128x128.size (by decide)).toLoadRect
      (ix3 (0 : Fin 1) (⟨t.val, by omega⟩ : Fin 128) l) = x (ix3 t ⟨19, by decide⟩ l) :=
  four_rows scratch.view 19 (by decide) x (kernelRun0_A.sl.HS2_77 c arg3 h x) _ _ _ _ _ _ _ _ _
    (fun l => stored_row arg3 h x 0 19 (by decide) (by decide) (by decide) l) (fun l => stored_row arg3 h x 1 19 (by decide) (by decide) (by decide) l)
    (fun l => stored_row arg3 h x 2 19 (by decide) (by decide) (by decide) l) (fun l => stored_row arg3 h x 3 19 (by decide) (by decide) (by decide) l) t l

/-- Sequence 20's part of the value scratch buffer holds its four new rows when it is read. -/
theorem value_rows_20 (c : Dev nD) (arg3 : Memref sig .tc .vmem S4x32x128 .f32) (h : arg3.IsWhole) (scratch : Memref sig .tc .vmem S32x128x128 .f32)
    (x : Vec Ideal S4x32x128 .f32) (t : Fin 4) (l : Fin 128) :
    scratch.view.readCov (kernelRun0_A.sl.HS2_85 c arg3 h x) (Rect.unit (s := S32x128x128) ![20, 0, 0] S1x128x128.size (by decide)).toLoadRect
      (ix3 (0 : Fin 1) (⟨t.val, by omega⟩ : Fin 128) l) = x (ix3 t ⟨20, by decide⟩ l) :=
  four_rows scratch.view 20 (by decide) x (kernelRun0_A.sl.HS2_81 c arg3 h x) _ _ _ _ _ _ _ _ _
    (fun l => stored_row arg3 h x 0 20 (by decide) (by decide) (by decide) l) (fun l => stored_row arg3 h x 1 20 (by decide) (by decide) (by decide) l)
    (fun l => stored_row arg3 h x 2 20 (by decide) (by decide) (by decide) l) (fun l => stored_row arg3 h x 3 20 (by decide) (by decide) (by decide) l) t l

/-- Sequence 21's part of the value scratch buffer holds its four new rows when it is read. -/
theorem value_rows_21 (c : Dev nD) (arg3 : Memref sig .tc .vmem S4x32x128 .f32) (h : arg3.IsWhole) (scratch : Memref sig .tc .vmem S32x128x128 .f32)
    (x : Vec Ideal S4x32x128 .f32) (t : Fin 4) (l : Fin 128) :
    scratch.view.readCov (kernelRun0_A.sl.HS2_89 c arg3 h x) (Rect.unit (s := S32x128x128) ![21, 0, 0] S1x128x128.size (by decide)).toLoadRect
      (ix3 (0 : Fin 1) (⟨t.val, by omega⟩ : Fin 128) l) = x (ix3 t ⟨21, by decide⟩ l) :=
  four_rows scratch.view 21 (by decide) x (kernelRun0_A.sl.HS2_85 c arg3 h x) _ _ _ _ _ _ _ _ _
    (fun l => stored_row arg3 h x 0 21 (by decide) (by decide) (by decide) l) (fun l => stored_row arg3 h x 1 21 (by decide) (by decide) (by decide) l)
    (fun l => stored_row arg3 h x 2 21 (by decide) (by decide) (by decide) l) (fun l => stored_row arg3 h x 3 21 (by decide) (by decide) (by decide) l) t l

/-- Sequence 22's part of the value scratch buffer holds its four new rows when it is read. -/
theorem value_rows_22 (c : Dev nD) (arg3 : Memref sig .tc .vmem S4x32x128 .f32) (h : arg3.IsWhole) (scratch : Memref sig .tc .vmem S32x128x128 .f32)
    (x : Vec Ideal S4x32x128 .f32) (t : Fin 4) (l : Fin 128) :
    scratch.view.readCov (kernelRun0_A.sl.HS2_93 c arg3 h x) (Rect.unit (s := S32x128x128) ![22, 0, 0] S1x128x128.size (by decide)).toLoadRect
      (ix3 (0 : Fin 1) (⟨t.val, by omega⟩ : Fin 128) l) = x (ix3 t ⟨22, by decide⟩ l) :=
  four_rows scratch.view 22 (by decide) x (kernelRun0_A.sl.HS2_89 c arg3 h x) _ _ _ _ _ _ _ _ _
    (fun l => stored_row arg3 h x 0 22 (by decide) (by decide) (by decide) l) (fun l => stored_row arg3 h x 1 22 (by decide) (by decide) (by decide) l)
    (fun l => stored_row arg3 h x 2 22 (by decide) (by decide) (by decide) l) (fun l => stored_row arg3 h x 3 22 (by decide) (by decide) (by decide) l) t l

/-- Sequence 23's part of the value scratch buffer holds its four new rows when it is read. -/
theorem value_rows_23 (c : Dev nD) (arg3 : Memref sig .tc .vmem S4x32x128 .f32) (h : arg3.IsWhole) (scratch : Memref sig .tc .vmem S32x128x128 .f32)
    (x : Vec Ideal S4x32x128 .f32) (t : Fin 4) (l : Fin 128) :
    scratch.view.readCov (kernelRun0_A.sl.HS2_97 c arg3 h x) (Rect.unit (s := S32x128x128) ![23, 0, 0] S1x128x128.size (by decide)).toLoadRect
      (ix3 (0 : Fin 1) (⟨t.val, by omega⟩ : Fin 128) l) = x (ix3 t ⟨23, by decide⟩ l) :=
  four_rows scratch.view 23 (by decide) x (kernelRun0_A.sl.HS2_93 c arg3 h x) _ _ _ _ _ _ _ _ _
    (fun l => stored_row arg3 h x 0 23 (by decide) (by decide) (by decide) l) (fun l => stored_row arg3 h x 1 23 (by decide) (by decide) (by decide) l)
    (fun l => stored_row arg3 h x 2 23 (by decide) (by decide) (by decide) l) (fun l => stored_row arg3 h x 3 23 (by decide) (by decide) (by decide) l) t l

/-- Sequence 24's part of the value scratch buffer holds its four new rows when it is read. -/
theorem value_rows_24 (c : Dev nD) (arg3 : Memref sig .tc .vmem S4x32x128 .f32) (h : arg3.IsWhole) (scratch : Memref sig .tc .vmem S32x128x128 .f32)
    (x : Vec Ideal S4x32x128 .f32) (t : Fin 4) (l : Fin 128) :
    scratch.view.readCov (kernelRun0_A.sl.HS2_101 c arg3 h x) (Rect.unit (s := S32x128x128) ![24, 0, 0] S1x128x128.size (by decide)).toLoadRect
      (ix3 (0 : Fin 1) (⟨t.val, by omega⟩ : Fin 128) l) = x (ix3 t ⟨24, by decide⟩ l) :=
  four_rows scratch.view 24 (by decide) x (kernelRun0_A.sl.HS2_97 c arg3 h x) _ _ _ _ _ _ _ _ _
    (fun l => stored_row arg3 h x 0 24 (by decide) (by decide) (by decide) l) (fun l => stored_row arg3 h x 1 24 (by decide) (by decide) (by decide) l)
    (fun l => stored_row arg3 h x 2 24 (by decide) (by decide) (by decide) l) (fun l => stored_row arg3 h x 3 24 (by decide) (by decide) (by decide) l) t l

/-- Sequence 25's part of the value scratch buffer holds its four new rows when it is read. -/
theorem value_rows_25 (c : Dev nD) (arg3 : Memref sig .tc .vmem S4x32x128 .f32) (h : arg3.IsWhole) (scratch : Memref sig .tc .vmem S32x128x128 .f32)
    (x : Vec Ideal S4x32x128 .f32) (t : Fin 4) (l : Fin 128) :
    scratch.view.readCov (kernelRun0_A.sl.HS2_105 c arg3 h x) (Rect.unit (s := S32x128x128) ![25, 0, 0] S1x128x128.size (by decide)).toLoadRect
      (ix3 (0 : Fin 1) (⟨t.val, by omega⟩ : Fin 128) l) = x (ix3 t ⟨25, by decide⟩ l) :=
  four_rows scratch.view 25 (by decide) x (kernelRun0_A.sl.HS2_101 c arg3 h x) _ _ _ _ _ _ _ _ _
    (fun l => stored_row arg3 h x 0 25 (by decide) (by decide) (by decide) l) (fun l => stored_row arg3 h x 1 25 (by decide) (by decide) (by decide) l)
    (fun l => stored_row arg3 h x 2 25 (by decide) (by decide) (by decide) l) (fun l => stored_row arg3 h x 3 25 (by decide) (by decide) (by decide) l) t l

/-- Sequence 26's part of the value scratch buffer holds its four new rows when it is read. -/
theorem value_rows_26 (c : Dev nD) (arg3 : Memref sig .tc .vmem S4x32x128 .f32) (h : arg3.IsWhole) (scratch : Memref sig .tc .vmem S32x128x128 .f32)
    (x : Vec Ideal S4x32x128 .f32) (t : Fin 4) (l : Fin 128) :
    scratch.view.readCov (kernelRun0_A.sl.HS2_109 c arg3 h x) (Rect.unit (s := S32x128x128) ![26, 0, 0] S1x128x128.size (by decide)).toLoadRect
      (ix3 (0 : Fin 1) (⟨t.val, by omega⟩ : Fin 128) l) = x (ix3 t ⟨26, by decide⟩ l) :=
  four_rows scratch.view 26 (by decide) x (kernelRun0_A.sl.HS2_105 c arg3 h x) _ _ _ _ _ _ _ _ _
    (fun l => stored_row arg3 h x 0 26 (by decide) (by decide) (by decide) l) (fun l => stored_row arg3 h x 1 26 (by decide) (by decide) (by decide) l)
    (fun l => stored_row arg3 h x 2 26 (by decide) (by decide) (by decide) l) (fun l => stored_row arg3 h x 3 26 (by decide) (by decide) (by decide) l) t l

/-- Sequence 27's part of the value scratch buffer holds its four new rows when it is read. -/
theorem value_rows_27 (c : Dev nD) (arg3 : Memref sig .tc .vmem S4x32x128 .f32) (h : arg3.IsWhole) (scratch : Memref sig .tc .vmem S32x128x128 .f32)
    (x : Vec Ideal S4x32x128 .f32) (t : Fin 4) (l : Fin 128) :
    scratch.view.readCov (kernelRun0_A.sl.HS2_113 c arg3 h x) (Rect.unit (s := S32x128x128) ![27, 0, 0] S1x128x128.size (by decide)).toLoadRect
      (ix3 (0 : Fin 1) (⟨t.val, by omega⟩ : Fin 128) l) = x (ix3 t ⟨27, by decide⟩ l) :=
  four_rows scratch.view 27 (by decide) x (kernelRun0_A.sl.HS2_109 c arg3 h x) _ _ _ _ _ _ _ _ _
    (fun l => stored_row arg3 h x 0 27 (by decide) (by decide) (by decide) l) (fun l => stored_row arg3 h x 1 27 (by decide) (by decide) (by decide) l)
    (fun l => stored_row arg3 h x 2 27 (by decide) (by decide) (by decide) l) (fun l => stored_row arg3 h x 3 27 (by decide) (by decide) (by decide) l) t l

/-- Sequence 28's part of the value scratch buffer holds its four new rows when it is read. -/
theorem value_rows_28 (c : Dev nD) (arg3 : Memref sig .tc .vmem S4x32x128 .f32) (h : arg3.IsWhole) (scratch : Memref sig .tc .vmem S32x128x128 .f32)
    (x : Vec Ideal S4x32x128 .f32) (t : Fin 4) (l : Fin 128) :
    scratch.view.readCov (kernelRun0_A.sl.HS2_117 c arg3 h x) (Rect.unit (s := S32x128x128) ![28, 0, 0] S1x128x128.size (by decide)).toLoadRect
      (ix3 (0 : Fin 1) (⟨t.val, by omega⟩ : Fin 128) l) = x (ix3 t ⟨28, by decide⟩ l) :=
  four_rows scratch.view 28 (by decide) x (kernelRun0_A.sl.HS2_113 c arg3 h x) _ _ _ _ _ _ _ _ _
    (fun l => stored_row arg3 h x 0 28 (by decide) (by decide) (by decide) l) (fun l => stored_row arg3 h x 1 28 (by decide) (by decide) (by decide) l)
    (fun l => stored_row arg3 h x 2 28 (by decide) (by decide) (by decide) l) (fun l => stored_row arg3 h x 3 28 (by decide) (by decide) (by decide) l) t l

/-- Sequence 29's part of the value scratch buffer holds its four new rows when it is read. -/
theorem value_rows_29 (c : Dev nD) (arg3 : Memref sig .tc .vmem S4x32x128 .f32) (h : arg3.IsWhole) (scratch : Memref sig .tc .vmem S32x128x128 .f32)
    (x : Vec Ideal S4x32x128 .f32) (t : Fin 4) (l : Fin 128) :
    scratch.view.readCov (kernelRun0_A.sl.HS2_121 c arg3 h x) (Rect.unit (s := S32x128x128) ![29, 0, 0] S1x128x128.size (by decide)).toLoadRect
      (ix3 (0 : Fin 1) (⟨t.val, by omega⟩ : Fin 128) l) = x (ix3 t ⟨29, by decide⟩ l) :=
  four_rows scratch.view 29 (by decide) x (kernelRun0_A.sl.HS2_117 c arg3 h x) _ _ _ _ _ _ _ _ _
    (fun l => stored_row arg3 h x 0 29 (by decide) (by decide) (by decide) l) (fun l => stored_row arg3 h x 1 29 (by decide) (by decide) (by decide) l)
    (fun l => stored_row arg3 h x 2 29 (by decide) (by decide) (by decide) l) (fun l => stored_row arg3 h x 3 29 (by decide) (by decide) (by decide) l) t l

/-- Sequence 30's part of the value scratch buffer holds its four new rows when it is read. -/
theorem value_rows_30 (c : Dev nD) (arg3 : Memref sig .tc .vmem S4x32x128 .f32) (h : arg3.IsWhole) (scratch : Memref sig .tc .vmem S32x128x128 .f32)
    (x : Vec Ideal S4x32x128 .f32) (t : Fin 4) (l : Fin 128) :
    scratch.view.readCov (kernelRun0_A.sl.HS2_125 c arg3 h x) (Rect.unit (s := S32x128x128) ![30, 0, 0] S1x128x128.size (by decide)).toLoadRect
      (ix3 (0 : Fin 1) (⟨t.val, by omega⟩ : Fin 128) l) = x (ix3 t ⟨30, by decide⟩ l) :=
  four_rows scratch.view 30 (by decide) x (kernelRun0_A.sl.HS2_121 c arg3 h x) _ _ _ _ _ _ _ _ _
    (fun l => stored_row arg3 h x 0 30 (by decide) (by decide) (by decide) l) (fun l => stored_row arg3 h x 1 30 (by decide) (by decide) (by decide) l)
    (fun l => stored_row arg3 h x 2 30 (by decide) (by decide) (by decide) l) (fun l => stored_row arg3 h x 3 30 (by decide) (by decide) (by decide) l) t l

/-- Sequence 31's part of the value scratch buffer holds its four new rows when it is read. -/
theorem value_rows_31 (c : Dev nD) (arg3 : Memref sig .tc .vmem S4x32x128 .f32) (h : arg3.IsWhole) (scratch : Memref sig .tc .vmem S32x128x128 .f32)
    (x : Vec Ideal S4x32x128 .f32) (t : Fin 4) (l : Fin 128) :
    scratch.view.readCov (kernelRun0_A.sl.HS2_129 c arg3 h x) (Rect.unit (s := S32x128x128) ![31, 0, 0] S1x128x128.size (by decide)).toLoadRect
      (ix3 (0 : Fin 1) (⟨t.val, by omega⟩ : Fin 128) l) = x (ix3 t ⟨31, by decide⟩ l) :=
  four_rows scratch.view 31 (by decide) x (kernelRun0_A.sl.HS2_125 c arg3 h x) _ _ _ _ _ _ _ _ _
    (fun l => stored_row arg3 h x 0 31 (by decide) (by decide) (by decide) l) (fun l => stored_row arg3 h x 1 31 (by decide) (by decide) (by decide) l)
    (fun l => stored_row arg3 h x 2 31 (by decide) (by decide) (by decide) l) (fun l => stored_row arg3 h x 3 31 (by decide) (by decide) (by decide) l) t l

end Cert.Kernel6Ideal.RefValue
end
-- ==== Proof.CacheValues.lean ====
module

public import proofs.«01_k».proof.Proof.CacheValueRows

@[expose] public section

set_option maxRecDepth 16384

noncomputable section

open Idealize.ShloMosaic Idealize.ShloMosaic.TcCoe Idealize.SL.Sem

namespace Cert.Kernel6Ideal.RefValue

open Cert.Kernel6Ideal Cert.Kernel6Ideal.Gen

/-! # The sample attention: the new value cache -/

/-- What one grid point leaves in its block of the new value cache: the window moved on by four. -/
theorem values_block (m : (ℓ : Loc nD τ sig) → Buf (Elt Ideal) ℓ) (c : Dev nD) (t : Fin cfg0.N) (y : S32x2x64x128.Idx) :
    (outsAt0 m c t).2.2 y = movedAt (iblk m c 2 t) (iblk m c 4 t) y := by
  dsimp only [outsAt0]
  unfold out0_A_8
  rw [View.read_writes_junk_eq_canon]
  unfold kernelRun0_A
  dsimp only
  generalize iblk m c 2 t = x1
  generalize iblk m c 4 t = x3
  canon_tiles x h
  · exact second_piece 31 (by decide) x1 x3 _ _ (value_rows_31 c (ms0_2 t) (hs0_2 t) scM0_2 x1) (old_block (ms0_4 t) (hs0_4 t) x3 31 1 (by decide) (by decide) (by decide)) x y (by omega) (by omega) (by omega) (by omega)
  · exact first_piece 31 (by decide) x1 x3 _ _ (value_rows_31 c (ms0_2 t) (hs0_2 t) scM0_2 x1) (old_block (ms0_4 t) (hs0_4 t) x3 31 0 (by decide) (by decide) (by decide)) x y (by omega) (by omega) (by omega) (by omega)
  · exact second_piece 30 (by decide) x1 x3 _ _ (value_rows_30 c (ms0_2 t) (hs0_2 t) scM0_2 x1) (old_block (ms0_4 t) (hs0_4 t) x3 30 1 (by decide) (by decide) (by decide)) x y (by omega) (by omega) (by omega) (by omega)
  · exact first_piece 30 (by decide) x1 x3 _ _ (value_rows_30 c (ms0_2 t) (hs0_2 t) scM0_2 x1) (old_block (ms0_4 t) (hs0_4 t) x3 30 0 (by decide) (by decide) (by decide)) x y (by omega) (by omega) (by omega) (by omega)
  · exact second_piece 29 (by decide) x1 x3 _ _ (value_rows_29 c (ms0_2 t) (hs0_2 t) scM0_2 x1) (old_block (ms0_4 t) (hs0_4 t) x3 29 1 (by decide) (by decide) (by decide)) x y (by omega) (by omega) (by omega) (by omega)
  · exact first_piece 29 (by decide) x1 x3 _ _ (value_rows_29 c (ms0_2 t) (hs0_2 t) scM0_2 x1) (old_block (ms0_4 t) (hs0_4 t) x3 29 0 (by decide) (by decide) (by decide)) x y (by omega) (by omega) (by omega) (by omega)
  · exact second_piece 28 (by decide) x1 x3 _ _ (value_rows_28 c (ms0_2 t) (hs0_2 t) scM0_2 x1) (old_block (ms0_4 t) (hs0_4 t) x3 28 1 (by decide) (by decide) (by decide)) x y (by omega) (by omega) (by omega) (by omega)
  · exact first_piece 28 (by decide) x1 x3 _ _ (value_rows_28 c (ms0_2 t) (hs0_2 t) scM0_2 x1) (old_block (ms0_4 t) (hs0_4 t) x3 28 0 (by decide) (by decide) (by decide)) x y (by omega) (by omega) (by omega) (by omega)
  · exact second_piece 27 (by decide) x1 x3 _ _ (value_rows_27 c (ms0_2 t) (hs0_2 t) scM0_2 x1) (old_block (ms0_4 t) (hs0_4 t) x3 27 1 (by decide) (by decide) (by decide)) x y (by omega) (by omega) (by omega) (by omega)
  · exact first_piece 27 (by decide) x1 x3 _ _ (value_rows_27 c (ms0_2 t) (hs0_2 t) scM0_2 x1) (old_block (ms0_4 t) (hs0_4 t) x3 27 0 (by decide) (by decide) (by decide)) x y (by omega) (by omega) (by omega) (by omega)
  · exact second_piece 26 (by decide) x1 x3 _ _ (value_rows_26 c (ms0_2 t) (hs0_2 t) scM0_2 x1) (old_block (ms0_4 t) (hs0_4 t) x3 26 1 (by decide) (by decide) (by decide)) x y (by omega) (by omega) (by omega) (by omega)
  · exact first_piece 26 (by decide) x1 x3 _ _ (value_rows_26 c (ms0_2 t) (hs0_2 t) scM0_2 x1) (old_block (ms0_4 t) (hs0_4 t) x3 26 0 (by decide) (by decide) (by decide)) x y (by omega) (by omega) (by omega) (by omega)
  · exact second_piece 25 (by decide) x1 x3 _ _ (value_rows_25 c (ms0_2 t) (hs0_2 t) scM0_2 x1) (old_block (ms0_4 t) (hs0_4 t) x3 25 1 (by decide) (by decide) (by decide)) x y (by omega) (by omega) (by omega) (by omega)
  · exact first_piece 25 (by decide) x1 x3 _ _ (value_rows_25 c (ms0_2 t) (hs0_2 t) scM0_2 x1) (old_block (ms0_4 t) (hs0_4 t) x3 25 0 (by decide) (by decide) (by decide)) x y (by omega) (by omega) (by omega) (by omega)
  · exact second_piece 24 (by decide) x1 x3 _ _ (value_rows_24 c (ms0_2 t) (hs0_2 t) scM0_2 x1) (old_block (ms0_4 t) (hs0_4 t) x3 24 1 (by decide) (by decide) (by decide)) x y (by omega) (by omega) (by omega) (by omega)
  · exact first_piece 24 (by decide) x1 x3 _ _ (value_rows_24 c (ms0_2 t) (hs0_2 t) scM0_2 x1) (old_block (ms0_4 t) (hs0_4 t) x3 24 0 (by decide) (by decide) (by decide)) x y (by omega) (by omega) (by omega) (by omega)
  · exact second_piece 23 (by decide) x1 x3 _ _ (value_rows_23 c (ms0_2 t) (hs0_2 t) scM0_2 x1) (old_block (ms0_4 t) (hs0_4 t) x3 23 1 (by decide) (by decide) (by decide)) x y (by omega) (by omega) (by omega) (by omega)
  · exact first_piece 23 (by decide) x1 x3 _ _ (value_rows_23 c (ms0_2 t) (hs0_2 t) scM0_2 x1) (old_block (ms0_4 t) (hs0_4 t) x3 23 0 (by decide) (by decide) (by decide)) x y (by omega) (by omega) (by omega) (by omega)
  · exact second_piece 22 (by decide) x1 x3 _ _ (value_rows_22 c (ms0_2 t) (hs0_2 t) scM0_2 x1) (old_block (ms0_4 t) (hs0_4 t) x3 22 1 (by decide) (by decide) (by decide)) x y (by omega) (by omega) (by omega) (by omega)
  · exact first_piece 22 (by decide) x1 x3 _ _ (value_rows_22 c (ms0_2 t) (hs0_2 t) scM0_2 x1) (old_block (ms0_4 t) (hs0_4 t) x3 22 0 (by decide) (by decide) (by decide)) x y (by omega) (by omega) (by omega) (by omega)
  · exact second_piece 21 (by decide) x1 x3 _ _ (value_rows_21 c (ms0_2 t) (hs0_2 t) scM0_2 x1) (old_block (ms0_4 t) (hs0_4 t) x3 21 1 (by decide) (by decide) (by decide)) x y (by omega) (by omega) (by omega) (by omega)
  · exact first_piece 21 (by decide) x1 x3 _ _ (value_rows_21 c (ms0_2 t) (hs0_2 t) scM0_2 x1) (old_block (ms0_4 t) (hs0_4 t) x3 21 0 (by decide) (by decide) (by decide)) x y (by omega) (by omega) (by omega) (by omega)
  · exact second_piece 20 (by decide) x1 x3 _ _ (value_rows_20 c (ms0_2 t) (hs0_2 t) scM0_2 x1) (old_block (ms0_4 t) (hs0_4 t) x3 20 1 (by decide) (by decide) (by decide)) x y (by omega) (by omega) (by omega) (by omega)
  · exact first_piece 20 (by decide) x1 x3 _ _ (value_rows_20 c (ms0_2 t) (hs0_2 t) scM0_2 x1) (old_block (ms0_4 t) (hs0_4 t) x3 20 0 (by decide) (by decide) (by decide)) x y (by omega) (by omega) (by omega) (by omega)
  · exact second_piece 19 (by decide) x1 x3 _ _ (value_rows_19 c (ms0_2 t) (hs0_2 t) scM0_2 x1) (old_block (ms0_4 t) (hs0_4 t) x3 19 1 (by decide) (by decide) (by decide)) x y (by omega) (by omega) (by omega) (by omega)
  · exact first_piece 19 (by decide) x1 x3 _ _ (value_rows_19 c (ms0_2 t) (hs0_2 t) scM0_2 x1) (old_block (ms0_4 t) (hs0_4 t) x3 19 0 (by decide) (by decide) (by decide)) x y (by omega) (by omega) (by omega) (by omega)
  · exact second_piece 18 (by decide) x1 x3 _ _ (value_rows_18 c (ms0_2 t) (hs0_2 t) scM0_2 x1) (old_block (ms0_4 t) (hs0_4 t) x3 18 1 (by decide) (by decide) (by decide)) x y (by omega) (by omega) (by omega) (by omega)
  · exact first_piece 18 (by decide) x1 x3 _ _ (value_rows_18 c (ms0_2 t) (hs0_2 t) scM0_2 x1) (old_block (ms0_4 t) (hs0_4 t) x3 18 0 (by decide) (by decide) (by decide)) x y (by omega) (by omega) (by omega) (by omega)
  · exact second_piece 17 (by decide) x1 x3 _ _ (value_rows_17 c (ms0_2 t) (hs0_2 t) scM0_2 x1) (old_block (ms0_4 t) (hs0_4 t) x3 17 1 (by decide) (by decide) (by decide)) x y (by omega) (by omega) (by omega) (by omega)
  · exact first_piece 17 (by decide) x1 x3 _ _ (value_rows_17 c (ms0_2 t) (hs0_2 t) scM0_2 x1) (old_block (ms0_4 t) (hs0_4 t) x3 17 0 (by decide) (by decide) (by decide)) x y (by omega) (by omega) (by omega) (by omega)
  · exact second_piece 16 (by decide) x1 x3 _ _ (value_rows_16 c (ms0_2 t) (hs0_2 t) scM0_2 x1) (old_block (ms0_4 t) (hs0_4 t) x3 16 1 (by decide) (by decide) (by decide)) x y (by omega) (by omega) (by omega) (by omega)
  · exact first_piece 16 (by decide) x1 x3 _ _ (value_rows_16 c (ms0_2 t) (hs0_2 t) scM0_2 x1) (old_block (ms0_4 t) (hs0_4 t) x3 16 0 (by decide) (by decide) (by decide)) x y (by omega) (by omega) (by omega) (by omega)
  · exact second_piece 15 (by decide) x1 x3 _ _ (value_rows_15 c (ms0_2 t) (hs0_2 t) scM0_2 x1) (old_block (ms0_4 t) (hs0_4 t) x3 15 1 (by decide) (by decide) (by decide)) x y (by omega) (by omega) (by omega) (by omega)
  · exact first_piece 15 (by decide) x1 x3 _ _ (value_rows_15 c (ms0_2 t) (hs0_2 t) scM0_2 x1) (old_block (ms0_4 t) (hs0_4 t) x3 15 0 (by decide) (by decide) (by decide)) x y (by omega) (by omega) (by omega) (by omega)
  · exact second_piece 14 (by decide) x1 x3 _ _ (value_rows_14 c (ms0_2 t) (hs0_2 t) scM0_2 x1) (old_block (ms0_4 t) (hs0_4 t) x3 14 1 (by decide) (by decide) (by decide)) x y (by omega) (by omega) (by omega) (by omega)
  · exact first_piece 14 (by decide) x1 x3 _ _ (value_rows_14 c (ms0_2 t) (hs0_2 t) scM0_2 x1) (old_block (ms0_4 t) (hs0_4 t) x3 14 0 (by decide) (by decide) (by decide)) x y (by omega) (by omega) (by omega) (by omega)
  · exact second_piece 13 (by decide) x1 x3 _ _ (value_rows_13 c (ms0_2 t) (hs0_2 t) scM0_2 x1) (old_block (ms0_4 t) (hs0_4 t) x3 13 1 (by decide) (by decide) (by decide)) x y (by omega) (by omega) (by omega) (by omega)
  · exact first_piece 13 (by decide) x1 x3 _ _ (value_rows_13 c (ms0_2 t) (hs0_2 t) scM0_2 x1) (old_block (ms0_4 t) (hs0_4 t) x3 13 0 (by decide) (by decide) (by decide)) x y (by omega) (by omega) (by omega) (by omega)
  · exact second_piece 12 (by decide) x1 x3 _ _ (value_rows_12 c (ms0_2 t) (hs0_2 t) scM0_2 x1) (old_block (ms0_4 t) (hs0_4 t) x3 12 1 (by decide) (by decide) (by decide)) x y (by omega) (by omega) (by omega) (by omega)
  · exact first_piece 12 (by decide) x1 x3 _ _ (value_rows_12 c (ms0_2 t) (hs0_2 t) scM0_2 x1) (old_block (ms0_4 t) (hs0_4 t) x3 12 0 (by decide) (by decide) (by decide)) x y (by omega) (by omega) (by omega) (by omega)
  · exact second_piece 11 (by decide) x1 x3 _ _ (value_rows_11 c (ms0_2 t) (hs0_2 t) scM0_2 x1) (old_block (ms0_4 t) (hs0_4 t) x3 11 1 (by decide) (by decide) (by decide)) x y (by omega) (by omega) (by omega) (by omega)
  · exact first_piece 11 (by decide) x1 x3 _ _ (value_rows_11 c (ms0_2 t) (hs0_2 t) scM0_2 x1) (old_block (ms0_4 t) (hs0_4 t) x3 11 0 (by decide) (by decide) (by decide)) x y (by omega) (by omega) (by omega) (by omega)
  · exact second_piece 10 (by decide) x1 x3 _ _ (value_rows_10 c (ms0_2 t) (hs0_2 t) scM0_2 x1) (old_block (ms0_4 t) (hs0_4 t) x3 10 1 (by decide) (by decide) (by decide)) x y (by omega) (by omega) (by omega) (by omega)
  · exact first_piece 10 (by decide) x1 x3 _ _ (value_rows_10 c (ms0_2 t) (hs0_2 t) scM0_2 x1) (old_block (ms0_4 t) (hs0_4 t) x3 10 0 (by decide) (by decide) (by decide)) x y (by omega) (by omega) (by omega) (by omega)
  · exact second_piece 9 (by decide) x1 x3 _ _ (value_rows_9 c (ms0_2 t) (hs0_2 t) scM0_2 x1) (old_block (ms0_4 t) (hs0_4 t) x3 9 1 (by decide) (by decide) (by decide)) x y (by omega) (by omega) (by omega) (by omega)
  · exact first_piece 9 (by decide) x1 x3 _ _ (value_rows_9 c (ms0_2 t) (hs0_2 t) scM0_2 x1) (old_block (ms0_4 t) (hs0_4 t) x3 9 0 (by decide) (by decide) (by decide)) x y (by omega) (by omega) (by omega) (by omega)
  · exact second_piece 8 (by decide) x1 x3 _ _ (value_rows_8 c (ms0_2 t) (hs0_2 t) scM0_2 x1) (old_block (ms0_4 t) (hs0_4 t) x3 8 1 (by decide) (by decide) (by decide)) x y (by omega) (by omega) (by omega) (by omega)
  · exact first_piece 8 (by decide) x1 x3 _ _ (value_rows_8 c (ms0_2 t) (hs0_2 t) scM0_2 x1) (old_block (ms0_4 t) (hs0_4 t) x3 8 0 (by decide) (by decide) (by decide)) x y (by omega) (by omega) (by omega) (by omega)
  · exact second_piece 7 (by decide) x1 x3 _ _ (value_rows_7 c (ms0_2 t) (hs0_2 t) scM0_2 x1) (old_block (ms0_4 t) (hs0_4 t) x3 7 1 (by decide) (by decide) (by decide)) x y (by omega) (by omega) (by omega) (by omega)
  · exact first_piece 7 (by decide) x1 x3 _ _ (value_rows_7 c (ms0_2 t) (hs0_2 t) scM0_2 x1) (old_block (ms0_4 t) (hs0_4 t) x3 7 0 (by decide) (by decide) (by decide)) x y (by omega) (by omega) (by omega) (by omega)
  · exact second_piece 6 (by decide) x1 x3 _ _ (value_rows_6 c (ms0_2 t) (hs0_2 t) scM0_2 x1) (old_block (ms0_4 t) (hs0_4 t) x3 6 1 (by decide) (by decide) (by decide)) x y (by omega) (by omega) (by omega) (by omega)
  · exact first_piece 6 (by decide) x1 x3 _ _ (value_rows_6 c (ms0_2 t) (hs0_2 t) scM0_2 x1) (old_block (ms0_4 t) (hs0_4 t) x3 6 0 (by decide) (by decide) (by decide)) x y (by omega) (by omega) (by omega) (by omega)
  · exact second_piece 5 (by decide) x1 x3 _ _ (value_rows_5 c (ms0_2 t) (hs0_2 t) scM0_2 x1) (old_block (ms0_4 t) (hs0_4 t) x3 5 1 (by decide) (by decide) (by decide)) x y (by omega) (by omega) (by omega) (by omega)
  · exact first_piece 5 (by decide) x1 x3 _ _ (value_rows_5 c (ms0_2 t) (hs0_2 t) scM0_2 x1) (old_block (ms0_4 t) (hs0_4 t) x3 5 0 (by decide) (by decide) (by decide)) x y (by omega) (by omega) (by omega) (by omega)
  · exact second_piece 4 (by decide) x1 x3 _ _ (value_rows_4 c (ms0_2 t) (hs0_2 t) scM0_2 x1) (old_block (ms0_4 t) (hs0_4 t) x3 4 1 (by decide) (by decide) (by decide)) x y (by omega) (by omega) (by omega) (by omega)
  · exact first_piece 4 (by decide) x1 x3 _ _ (value_rows_4 c (ms0_2 t) (hs0_2 t) scM0_2 x1) (old_block (ms0_4 t) (hs0_4 t) x3 4 0 (by decide) (by decide) (by decide)) x y (by omega) (by omega) (by omega) (by omega)
  · exact second_piece 3 (by decide) x1 x3 _ _ (value_rows_3 c (ms0_2 t) (hs0_2 t) scM0_2 x1) (old_block (ms0_4 t) (hs0_4 t) x3 3 1 (by decide) (by decide) (by decide)) x y (by omega) (by omega) (by omega) (by omega)
  · exact first_piece 3 (by decide) x1 x3 _ _ (value_rows_3 c (ms0_2 t) (hs0_2 t) scM0_2 x1) (old_block (ms0_4 t) (hs0_4 t) x3 3 0 (by decide) (by decide) (by decide)) x y (by omega) (by omega) (by omega) (by omega)
  · exact second_piece 2 (by decide) x1 x3 _ _ (value_rows_2 c (ms0_2 t) (hs0_2 t) scM0_2 x1) (old_block (ms0_4 t) (hs0_4 t) x3 2 1 (by decide) (by decide) (by decide)) x y (by omega) (by omega) (by omega) (by omega)
  · exact first_piece 2 (by decide) x1 x3 _ _ (value_rows_2 c (ms0_2 t) (hs0_2 t) scM0_2 x1) (old_block (ms0_4 t) (hs0_4 t) x3 2 0 (by decide) (by decide) (by decide)) x y (by omega) (by omega) (by omega) (by omega)
  · exact second_piece 1 (by decide) x1 x3 _ _ (value_rows_1 c (ms0_2 t) (hs0_2 t) scM0_2 x1) (old_block (ms0_4 t) (hs0_4 t) x3 1 1 (by decide) (by decide) (by decide)) x y (by omega) (by omega) (by omega) (by omega)
  · exact first_piece 1 (by decide) x1 x3 _ _ (value_rows_1 c (ms0_2 t) (hs0_2 t) scM0_2 x1) (old_block (ms0_4 t) (hs0_4 t) x3 1 0 (by decide) (by decide) (by decide)) x y (by omega) (by omega) (by omega) (by omega)
  · exact second_piece 0 (by decide) x1 x3 _ _ (value_rows_0 c (ms0_2 t) (hs0_2 t) scM0_2 x1) (old_block (ms0_4 t) (hs0_4 t) x3 0 1 (by decide) (by decide) (by decide)) x y (by omega) (by omega) (by omega) (by omega)
  · exact first_piece 0 (by decide) x1 x3 _ _ (value_rows_0 c (ms0_2 t) (hs0_2 t) scM0_2 x1) (old_block (ms0_4 t) (hs0_4 t) x3 0 0 (by decide) (by decide) (by decide)) x y (by omega) (by omega) (by omega) (by omega)

end Cert.Kernel6Ideal.RefValue
end
-- ==== Proof.CacheResult.lean ====
module

public import proofs.«01_k».proof.Proof.CacheKeys
public import proofs.«01_k».proof.Proof.CacheValues
public import Idealize.ShloMosaic.Lib.StableHlo.ReadAt

@[expose] public section

set_option maxRecDepth 16384

noncomputable section

open Idealize.ShloMosaic Idealize.ShloMosaic.TcCoe Idealize.SL.Sem

namespace Cert.Kernel6Ideal.RefValue

open Cert.Kernel6Ideal Cert.Kernel6Ideal.Gen

/-! # The sample attention: the two new caches at the end of the run -/

/-- A cache moved on by four: its positions but the first four, then the four new rows of the sequence, head by head. -/
def newCache (new : Vec Ideal S512x128 .f32) (old : Vec Ideal S1x128x128x2x64 .f32) (b w : Fin 128) (g : Fin 2) (d : Fin 64) : EReal :=
  if h : w.val < 124 then old (ix5 (0 : Fin 1) b ⟨w.val + 4, by omega⟩ g d)
  else new (ix2 ⟨(w.val - 124) * 128 + b.val, by omega⟩ ⟨64 * g.val + d.val, by omega⟩)

/-- Where each window's block lies at a grid point. -/
theorem starts : ∀ t : Fin cfg0.N, win0_1.index t (0 : Fin 3) = 0 ∧ win0_1.index t (1 : Fin 3) = t.val ∧ win0_1.index t (2 : Fin 3) = 0
    ∧ win0_2.index t (0 : Fin 3) = 0 ∧ win0_2.index t (1 : Fin 3) = t.val ∧ win0_2.index t (2 : Fin 3) = 0
    ∧ (win0_3.index t (0 : Fin 4) = t.val ∧ win0_3.index t (1 : Fin 4) = 0 ∧ win0_3.index t (2 : Fin 4) = 0 ∧ win0_3.index t (3 : Fin 4) = 0)
    ∧ (win0_4.index t (0 : Fin 4) = t.val ∧ win0_4.index t (1 : Fin 4) = 0 ∧ win0_4.index t (2 : Fin 4) = 0 ∧ win0_4.index t (3 : Fin 4) = 0)
    ∧ (win0_7.index t (0 : Fin 4) = t.val ∧ win0_7.index t (1 : Fin 4) = 0 ∧ win0_7.index t (2 : Fin 4) = 0 ∧ win0_7.index t (3 : Fin 4) = 0)
    ∧ (win0_8.index t (0 : Fin 4) = t.val ∧ win0_8.index t (1 : Fin 4) = 0 ∧ win0_8.index t (2 : Fin 4) = 0 ∧ win0_8.index t (3 : Fin 4) = 0) :=
  (by decide +kernel : ∀ t : Fin grid0.N, _)

/-- There are four grid points. -/
theorem points (t : Fin cfg0.N) : t.val < 4 := by have h := t.isLt; have e : cfg0.N = 4 := N_0; omega

/-- The region's arrays are different buffers. -/
theorem arrays_distinct : Function.Injective (Pipeline.arrRef spec0) :=
  (by decide : ∀ a b : Fin 9, Pipeline.arrRef spec0 a = Pipeline.arrRef spec0 b → a = b)

/-- A cache with its positions brought from the lanes to the second axis. -/
theorem from_lanes (y : Vec Ideal S128x2x64x128 .f32) (b w : Fin 128) (g : Fin 2) (d : Fin 64) :
    transpose S128x128x2x64 [0, 3, 1, 2] y transposes_S128x2x64x128_S128x128x2x64_0_3_1_2 (ix4 b w g d) = y (ix4 b g d w) := by
  pointwise

/-- A row of the block of one grid point is a row of the array. -/
theorem moved_rows (t : Fin 4) (new : Vec Ideal S512x128 .f32) (old : Vec Ideal S1x128x128x2x64 .f32)
    (x1 : Vec Ideal S4x32x128 .f32) (x3 : Vec Ideal S32x2x64x128 .f32)
    (h1 : ∀ (r : Fin 4) (s : Fin 32) (l : Fin 128), x1 (ix3 r s l) = new (ix2 ⟨r.val * 128 + (32 * t.val + s.val), by omega⟩ l))
    (h3 : ∀ (s : Fin 32) (g : Fin 2) (d : Fin 64) (w : Fin 128), x3 (ix4 s g d w) = old (ix5 (0 : Fin 1) ⟨32 * t.val + s.val, by omega⟩ w g d))
    (s : Fin 32) (g : Fin 2) (d : Fin 64) (w : Fin 128) :
    moved x1 x3 s g d w = newCache new old ⟨32 * t.val + s.val, by omega⟩ w g d := by
  unfold moved newCache
  exact dite_congr rfl (fun h => h3 _ _ _ _) fun h => h1 _ _ _

variable (m : (ℓ : Loc nD τ sig) → Buf (Elt Ideal) ℓ) (ρ : Dev nD → PrngReg)

/-- The new key rows, as the region finds them: the argument with its row axis split into steps and sequences. -/
theorem keys_new (c : Dev nD) (r : Fin 4) (b l : Fin 128) : V m c main_v6 (ix3 r b l) = m ((c : Thread nD τ).loc main_arg1) (ix2 (n0 := 512) (n1 := 128) ⟨r.val * 128 + b.val, by omega⟩ l) := by
  simp only [V, V0, List.flatten_cons, List.flatten_nil, List.append_nil]
  after_results
  pointwise

/-- The key cache, as the region finds it: the argument with its positions brought to the lanes. -/
theorem keys_old (c : Dev nD) (b w : Fin 128) (g : Fin 2) (d : Fin 64) : V m c main_v1 (ix4 b g d w) = m ((c : Thread nD τ).loc main_arg3) (ix5 (0 : Fin 1) b w g d) := by
  simp only [V, V0, List.flatten_cons, List.flatten_nil, List.append_nil]
  after_results
  pointwise

theorem keys_new_read (c : Dev nD) (t : Fin cfg0.N) (r : Fin 4) (s : Fin 32) (l : Fin 128) :
    iblk m c 1 t (ix3 r s l) = m ((c : Thread nD τ).loc main_arg1) (ix2 (n0 := 512) (n1 := 128) ⟨r.val * 128 + (32 * t.val + s.val), by have := points t; omega⟩ l) := by
  obtain ⟨e0, e1, e2, _⟩ := starts t
  have ht := points t
  rw [← keys_new m c r ⟨32 * t.val + s.val, by omega⟩ l]
  show V m c main_v6 (((cfg0.win 1).blk t).view.emb (ix3 r s l)) = _
  congr 1
  funext a; apply Fin.ext
  match a with
  | ⟨0, _⟩ => show win0_1.index t (0 : Fin 3) * 4 + 1 * r.val = r.val; omega
  | ⟨1, _⟩ => show win0_1.index t (1 : Fin 3) * 32 + 1 * s.val = 32 * t.val + s.val; omega
  | ⟨2, _⟩ => show win0_1.index t (2 : Fin 3) * 128 + 1 * l.val = l.val; omega

theorem keys_old_read (c : Dev nD) (t : Fin cfg0.N) (s : Fin 32) (g : Fin 2) (d : Fin 64) (w : Fin 128) :
    iblk m c 3 t (ix4 s g d w) = m ((c : Thread nD τ).loc main_arg3) (ix5 (n0 := 1) (n1 := 128) (n2 := 128) (n3 := 2) (n4 := 64) 0 ⟨32 * t.val + s.val, by have := points t; omega⟩ w g d) := by
  obtain ⟨_, _, _, _, _, _, ⟨e0, e1, e2, e3⟩, _⟩ := starts t
  have ht := points t
  rw [← keys_old m c ⟨32 * t.val + s.val, by omega⟩ w g d]
  show V m c main_v1 (((cfg0.win 3).blk t).view.emb (ix4 s g d w)) = _
  congr 1
  funext a; apply Fin.ext
  match a with
  | ⟨0, _⟩ => show win0_3.index t (0 : Fin 4) * 32 + 1 * s.val = 32 * t.val + s.val; omega
  | ⟨1, _⟩ => show win0_3.index t (1 : Fin 4) * 2 + 1 * g.val = g.val; omega
  | ⟨2, _⟩ => show win0_3.index t (2 : Fin 4) * 64 + 1 * d.val = d.val; omega
  | ⟨3, _⟩ => show win0_3.index t (3 : Fin 4) * 128 + 1 * w.val = w.val; omega

/-- The new key cache as the region leaves it, its positions on the lanes. -/
def keysLanes (c : Dev nD) : Buf (Elt Ideal) ((c : Thread nD τ).loc main_v8_1) := fun i : S128x2x64x128.Idx =>
  newCache (m ((c : Thread nD τ).loc main_arg1)) (m ((c : Thread nD τ).loc main_arg3)) (i 0) (i 3) (i 1) (i 2)

/-- What point `t` writes back is block `t` of that array. -/
theorem keys_flushed (c : Dev nD) (t : Fin cfg0.N) :
    (dats m 0 c).flushed 7 t = ((cfg0.win 7).blk t).view.read (Elt Ideal) (keysLanes m c) := by
  obtain ⟨_, _, _, _, _, _, _, _, ⟨e0, e1, e2, e3⟩, _⟩ := starts t
  have ht := points t
  show (cfg0.win 7).cut (grid0.coords t) ((dats m 0 c).after 7 t) = _
  rw [after0_7]
  funext j
  have hj : j = ix4 (n0 := 32) (n1 := 2) (n2 := 64) (n3 := 128) ⟨(j 0).val, (j 0).isLt⟩ ⟨(j 1).val, (j 1).isLt⟩ ⟨(j 2).val, (j 2).isLt⟩ ⟨(j 3).val, (j 3).isLt⟩ := by
    funext a; match a with | ⟨0, _⟩ => rfl | ⟨1, _⟩ => rfl | ⟨2, _⟩ => rfl | ⟨3, _⟩ => rfl
  rw [hj]
  generalize (⟨(j 0).val, (j 0).isLt⟩ : Fin 32) = s
  generalize (⟨(j 1).val, (j 1).isLt⟩ : Fin 2) = g
  generalize (⟨(j 2).val, (j 2).isLt⟩ : Fin 64) = d
  generalize (⟨(j 3).val, (j 3).isLt⟩ : Fin 128) = w
  have he : ((cfg0.win 7).blk t).view.emb (ix4 s g d w) = ix4 (n0 := 128) (n1 := 2) (n2 := 64) (n3 := 128) ⟨32 * t.val + s.val, by omega⟩ g d w := by
    funext a; apply Fin.ext
    match a with
    | ⟨0, _⟩ => show win0_7.index t (0 : Fin 4) * 32 + 1 * s.val = 32 * t.val + s.val; omega
    | ⟨1, _⟩ => show win0_7.index t (1 : Fin 4) * 2 + 1 * g.val = g.val; omega
    | ⟨2, _⟩ => show win0_7.index t (2 : Fin 4) * 64 + 1 * d.val = d.val; omega
    | ⟨3, _⟩ => show win0_7.index t (3 : Fin 4) * 128 + 1 * w.val = w.val; omega
  show (outsAt0 m c t).2.1 (ix4 s g d w) = keysLanes m c (((cfg0.win 7).blk t).view.emb (ix4 s g d w))
  rw [he, keys_block]
  exact moved_rows ⟨t.val, ht⟩ _ _ _ _ (keys_new_read m c t) (keys_old_read m c t) s g d w

/-- Every index of the array lies in some point's block. -/
theorem keys_cover (i : S128x2x64x128.Idx) : ∃ t : Fin cfg0.N, (cfg0.win 7).flush t = true ∧ i ∈ ((cfg0.win 7).blk t).view.set := by
  have h0 : (i 0 : Nat) < 128 := (i 0).isLt
  have h1 : (i 1 : Nat) < 2 := (i 1).isLt
  have h2 : (i 2 : Nat) < 64 := (i 2).isLt
  have h3 : (i 3 : Nat) < 128 := (i 3).isLt
  have hN : cfg0.N = 4 := N_0
  refine ⟨⟨(i 0).val / 32, by omega⟩, flush0_7 _, ?_⟩
  have hv : (⟨(i 0).val / 32, by omega⟩ : Fin cfg0.N).val = (i 0).val / 32 := rfl
  generalize (⟨(i 0).val / 32, by omega⟩ : Fin cfg0.N) = t at hv ⊢
  obtain ⟨_, _, _, _, _, _, _, _, ⟨e0, e1, e2, e3⟩, _⟩ := starts t
  show i ∈ ((View.whole main_v8_1).slice (win0_7.rect t)).set
  rw [View.set_slice_whole, Rect.mem_set_unit]
  intro a
  match a with
  | ⟨0, _⟩ => show win0_7.index t (0 : Fin 4) * 32 ≤ (i 0 : Nat) ∧ (i 0 : Nat) < win0_7.index t (0 : Fin 4) * 32 + 32; omega
  | ⟨1, _⟩ => show win0_7.index t (1 : Fin 4) * 2 ≤ (i 1 : Nat) ∧ (i 1 : Nat) < win0_7.index t (1 : Fin 4) * 2 + 2; omega
  | ⟨2, _⟩ => show win0_7.index t (2 : Fin 4) * 64 ≤ (i 2 : Nat) ∧ (i 2 : Nat) < win0_7.index t (2 : Fin 4) * 64 + 64; omega
  | ⟨3, _⟩ => show win0_7.index t (3 : Fin 4) * 128 ≤ (i 3 : Nat) ∧ (i 3 : Nat) < win0_7.index t (3 : Fin 4) * 128 + 128; omega

/-- The new key cache at the end of the region. -/
theorem keys_array (c : Dev nD) : (dats m 0 c).arrAt 7 cfg0.N = keysLanes m c :=
  (dats m 0 c).arrAt_eq_of_cover 7 (keysLanes m c) (fun t _ => keys_flushed m c t) keys_cover

/-- The lines after the region, read at one entry. -/
theorem keys_after (U : Valuation τ sig (Elt Ideal)) (b w : Fin 128) (g : Fin 2) (d : Fin 64) :
    StableHlo.after hostOps1 U (Proc.devRef .tc main_v9) (ix4 b w g d) = U (Proc.devRef .tc main_v8_1) (ix4 b g d w) := by
  unfold hostOps1
  after_results
  generalize U (Proc.devRef .tc main_v8_1) = y
  exact from_lanes y b w g d

/-- The new key cache. -/
def keysResult (c : Dev nD) : Buf (Elt Ideal) ((c : Thread nD τ).loc main_v9) := fun i : S128x128x2x64.Idx =>
  newCache (m ((c : Thread nD τ).loc main_arg1)) (m ((c : Thread nD τ).loc main_arg3)) (i 0) (i 1) (i 2) (i 3)

/-- The lines after the region leave it so. -/
theorem keys_tail (c : Dev nD) : Pipeline.afterTail₀ cfgs (dats m) 0 (V0 m) [hostOps1] c main_v9 = keysResult m c := by
  have ha := (Pipeline.withArrays_arr spec0 arrays_distinct c (V0 m c) (fun w => (dats m 0 c).arrAt w cfg0.N) 7).trans (keys_array m c)
  unfold Pipeline.afterTail₀
  change Pipeline.withArrays spec0 c (V0 m c) (fun w => (dats m 0 c).arrAt w cfg0.N) (Proc.devRef .tc main_v8_1) = _ at ha
  show StableHlo.after hostOps1 (Pipeline.withArrays spec0 c (V0 m c) (fun w => (dats m 0 c).arrAt w cfg0.N)) (Proc.devRef .tc main_v9) = _
  generalize Pipeline.withArrays spec0 c (V0 m c) (fun w => (dats m 0 c).arrAt w cfg0.N) = U at ha ⊢
  funext i
  have hi : i = ix4 (n0 := 128) (n1 := 128) (n2 := 2) (n3 := 64) ⟨(i 0).val, (i 0).isLt⟩ ⟨(i 1).val, (i 1).isLt⟩ ⟨(i 2).val, (i 2).isLt⟩ ⟨(i 3).val, (i 3).isLt⟩ := by
    funext a; match a with | ⟨0, _⟩ => rfl | ⟨1, _⟩ => rfl | ⟨2, _⟩ => rfl | ⟨3, _⟩ => rfl
  rw [hi, keys_after, ha]
  rfl

/-- That array at the end of the run. -/
theorem keys_end (c : Dev nD) (r : PUnit × MemSt nD τ sig (Elt Ideal)) (h : Pipeline.FramePost cfgs (dats m) 0 (Pipeline.afterTail₀ cfgs (dats m) 0 (V0 m) [hostOps1]) r) :
    r.2.mem ((c : Thread nD τ).loc main_v9) = keysResult m c :=
  ((h c).2 main_v9 (Pipeline.mem_restRefs_of main_v9 (by decide) (by decide))).trans (keys_tail m c)

/-- The new value rows, as the region finds them: the argument with its row axis split into steps and sequences. -/
theorem values_new (c : Dev nD) (r : Fin 4) (b l : Fin 128) : V m c main_v7 (ix3 r b l) = m ((c : Thread nD τ).loc main_arg2) (ix2 (n0 := 512) (n1 := 128) ⟨r.val * 128 + b.val, by omega⟩ l) := by
  simp only [V, V0, List.flatten_cons, List.flatten_nil, List.append_nil]
  after_results
  pointwise

/-- The value cache, as the region finds it: the argument with its positions brought to the lanes. -/
theorem values_old (c : Dev nD) (b w : Fin 128) (g : Fin 2) (d : Fin 64) : V m c main_v3 (ix4 b g d w) = m ((c : Thread nD τ).loc main_arg4) (ix5 (0 : Fin 1) b w g d) := by
  simp only [V, V0, List.flatten_cons, List.flatten_nil, List.append_nil]
  after_results
  pointwise

theorem values_new_read (c : Dev nD) (t : Fin cfg0.N) (r : Fin 4) (s : Fin 32) (l : Fin 128) :
    iblk m c 2 t (ix3 r s l) = m ((c : Thread nD τ).loc main_arg2) (ix2 (n0 := 512) (n1 := 128) ⟨r.val * 128 + (32 * t.val + s.val), by have := points t; omega⟩ l) := by
  obtain ⟨_, _, _, e0, e1, e2, _⟩ := starts t
  have ht := points t
  rw [← values_new m c r ⟨32 * t.val + s.val, by omega⟩ l]
  show V m c main_v7 (((cfg0.win 2).blk t).view.emb (ix3 r s l)) = _
  congr 1
  funext a; apply Fin.ext
  match a with
  | ⟨0, _⟩ => show win0_2.index t (0 : Fin 3) * 4 + 1 * r.val = r.val; omega
  | ⟨1, _⟩ => show win0_2.index t (1 : Fin 3) * 32 + 1 * s.val = 32 * t.val + s.val; omega
  | ⟨2, _⟩ => show win0_2.index t (2 : Fin 3) * 128 + 1 * l.val = l.val; omega

theorem values_old_read (c : Dev nD) (t : Fin cfg0.N) (s : Fin 32) (g : Fin 2) (d : Fin 64) (w : Fin 128) :
    iblk m c 4 t (ix4 s g d w) = m ((c : Thread nD τ).loc main_arg4) (ix5 (n0 := 1) (n1 := 128) (n2 := 128) (n3 := 2) (n4 := 64) 0 ⟨32 * t.val + s.val, by have := points t; omega⟩ w g d) := by
  obtain ⟨_, _, _, _, _, _, _, ⟨e0, e1, e2, e3⟩, _⟩ := starts t
  have ht := points t
  rw [← values_old m c ⟨32 * t.val + s.val, by omega⟩ w g d]
  show V m c main_v3 (((cfg0.win 4).blk t).view.emb (ix4 s g d w)) = _
  congr 1
  funext a; apply Fin.ext
  match a with
  | ⟨0, _⟩ => show win0_4.index t (0 : Fin 4) * 32 + 1 * s.val = 32 * t.val + s.val; omega
  | ⟨1, _⟩ => show win0_4.index t (1 : Fin 4) * 2 + 1 * g.val = g.val; omega
  | ⟨2, _⟩ => show win0_4.index t (2 : Fin 4) * 64 + 1 * d.val = d.val; omega
  | ⟨3, _⟩ => show win0_4.index t (3 : Fin 4) * 128 + 1 * w.val = w.val; omega

/-- The new value cache as the region leaves it, its positions on the lanes. -/
def valuesLanes (c : Dev nD) : Buf (Elt Ideal) ((c : Thread nD τ).loc main_v8_2) := fun i : S128x2x64x128.Idx =>
  newCache (m ((c : Thread nD τ).loc main_arg2)) (m ((c : Thread nD τ).loc main_arg4)) (i 0) (i 3) (i 1) (i 2)

/-- What point `t` writes back is block `t` of that array. -/
theorem values_flushed (c : Dev nD) (t : Fin cfg0.N) :
    (dats m 0 c).flushed 8 t = ((cfg0.win 8).blk t).view.read (Elt Ideal) (valuesLanes m c) := by
  obtain ⟨_, _, _, _, _, _, _, _, _, ⟨e0, e1, e2, e3⟩⟩ := starts t
  have ht := points t
  show (cfg0.win 8).cut (grid0.coords t) ((dats m 0 c).after 8 t) = _
  rw [after0_8]
  funext j
  have hj : j = ix4 (n0 := 32) (n1 := 2) (n2 := 64) (n3 := 128) ⟨(j 0).val, (j 0).isLt⟩ ⟨(j 1).val, (j 1).isLt⟩ ⟨(j 2).val, (j 2).isLt⟩ ⟨(j 3).val, (j 3).isLt⟩ := by
    funext a; match a with | ⟨0, _⟩ => rfl | ⟨1, _⟩ => rfl | ⟨2, _⟩ => rfl | ⟨3, _⟩ => rfl
  rw [hj]
  generalize (⟨(j 0).val, (j 0).isLt⟩ : Fin 32) = s
  generalize (⟨(j 1).val, (j 1).isLt⟩ : Fin 2) = g
  generalize (⟨(j 2).val, (j 2).isLt⟩ : Fin 64) = d
  generalize (⟨(j 3).val, (j 3).isLt⟩ : Fin 128) = w
  have he : ((cfg0.win 8).blk t).view.emb (ix4 s g d w) = ix4 (n0 := 128) (n1 := 2) (n2 := 64) (n3 := 128) ⟨32 * t.val + s.val, by omega⟩ g d w := by
    funext a; apply Fin.ext
    match a with
    | ⟨0, _⟩ => show win0_8.index t (0 : Fin 4) * 32 + 1 * s.val = 32 * t.val + s.val; omega
    | ⟨1, _⟩ => show win0_8.index t (1 : Fin 4) * 2 + 1 * g.val = g.val; omega
    | ⟨2, _⟩ => show win0_8.index t (2 : Fin 4) * 64 + 1 * d.val = d.val; omega
    | ⟨3, _⟩ => show win0_8.index t (3 : Fin 4) * 128 + 1 * w.val = w.val; omega
  show (outsAt0 m c t).2.2 (ix4 s g d w) = valuesLanes m c (((cfg0.win 8).blk t).view.emb (ix4 s g d w))
  rw [he, values_block]
  exact moved_rows ⟨t.val, ht⟩ _ _ _ _ (values_new_read m c t) (values_old_read m c t) s g d w

/-- Every index of the array lies in some point's block. -/
theorem values_cover (i : S128x2x64x128.Idx) : ∃ t : Fin cfg0.N, (cfg0.win 8).flush t = true ∧ i ∈ ((cfg0.win 8).blk t).view.set := by
  have h0 : (i 0 : Nat) < 128 := (i 0).isLt
  have h1 : (i 1 : Nat) < 2 := (i 1).isLt
  have h2 : (i 2 : Nat) < 64 := (i 2).isLt
  have h3 : (i 3 : Nat) < 128 := (i 3).isLt
  have hN : cfg0.N = 4 := N_0
  refine ⟨⟨(i 0).val / 32, by omega⟩, flush0_8 _, ?_⟩
  have hv : (⟨(i 0).val / 32, by omega⟩ : Fin cfg0.N).val = (i 0).val / 32 := rfl
  generalize (⟨(i 0).val / 32, by omega⟩ : Fin cfg0.N) = t at hv ⊢
  obtain ⟨_, _, _, _, _, _, _, _, _, ⟨e0, e1, e2, e3⟩⟩ := starts t
  show i ∈ ((View.whole main_v8_2).slice (win0_8.rect t)).set
  rw [View.set_slice_whole, Rect.mem_set_unit]
  intro a
  match a with
  | ⟨0, _⟩ => show win0_8.index t (0 : Fin 4) * 32 ≤ (i 0 : Nat) ∧ (i 0 : Nat) < win0_8.index t (0 : Fin 4) * 32 + 32; omega
  | ⟨1, _⟩ => show win0_8.index t (1 : Fin 4) * 2 ≤ (i 1 : Nat) ∧ (i 1 : Nat) < win0_8.index t (1 : Fin 4) * 2 + 2; omega
  | ⟨2, _⟩ => show win0_8.index t (2 : Fin 4) * 64 ≤ (i 2 : Nat) ∧ (i 2 : Nat) < win0_8.index t (2 : Fin 4) * 64 + 64; omega
  | ⟨3, _⟩ => show win0_8.index t (3 : Fin 4) * 128 ≤ (i 3 : Nat) ∧ (i 3 : Nat) < win0_8.index t (3 : Fin 4) * 128 + 128; omega

/-- The new value cache at the end of the region. -/
theorem values_array (c : Dev nD) : (dats m 0 c).arrAt 8 cfg0.N = valuesLanes m c :=
  (dats m 0 c).arrAt_eq_of_cover 8 (valuesLanes m c) (fun t _ => values_flushed m c t) values_cover

/-- The lines after the region, read at one entry. -/
theorem values_after (U : Valuation τ sig (Elt Ideal)) (b w : Fin 128) (g : Fin 2) (d : Fin 64) :
    StableHlo.after hostOps1 U (Proc.devRef .tc main_v10) (ix4 b w g d) = U (Proc.devRef .tc main_v8_2) (ix4 b g d w) := by
  unfold hostOps1
  after_results
  generalize U (Proc.devRef .tc main_v8_2) = y
  exact from_lanes y b w g d

/-- The new value cache. -/
def valuesResult (c : Dev nD) : Buf (Elt Ideal) ((c : Thread nD τ).loc main_v10) := fun i : S128x128x2x64.Idx =>
  newCache (m ((c : Thread nD τ).loc main_arg2)) (m ((c : Thread nD τ).loc main_arg4)) (i 0) (i 1) (i 2) (i 3)

/-- The lines after the region leave it so. -/
theorem values_tail (c : Dev nD) : Pipeline.afterTail₀ cfgs (dats m) 0 (V0 m) [hostOps1] c main_v10 = valuesResult m c := by
  have ha := (Pipeline.withArrays_arr spec0 arrays_distinct c (V0 m c) (fun w => (dats m 0 c).arrAt w cfg0.N) 8).trans (values_array m c)
  unfold Pipeline.afterTail₀
  change Pipeline.withArrays spec0 c (V0 m c) (fun w => (dats m 0 c).arrAt w cfg0.N) (Proc.devRef .tc main_v8_2) = _ at ha
  show StableHlo.after hostOps1 (Pipeline.withArrays spec0 c (V0 m c) (fun w => (dats m 0 c).arrAt w cfg0.N)) (Proc.devRef .tc main_v10) = _
  generalize Pipeline.withArrays spec0 c (V0 m c) (fun w => (dats m 0 c).arrAt w cfg0.N) = U at ha ⊢
  funext i
  have hi : i = ix4 (n0 := 128) (n1 := 128) (n2 := 2) (n3 := 64) ⟨(i 0).val, (i 0).isLt⟩ ⟨(i 1).val, (i 1).isLt⟩ ⟨(i 2).val, (i 2).isLt⟩ ⟨(i 3).val, (i 3).isLt⟩ := by
    funext a; match a with | ⟨0, _⟩ => rfl | ⟨1, _⟩ => rfl | ⟨2, _⟩ => rfl | ⟨3, _⟩ => rfl
  rw [hi, values_after, ha]
  rfl

/-- That array at the end of the run. -/
theorem values_end (c : Dev nD) (r : PUnit × MemSt nD τ sig (Elt Ideal)) (h : Pipeline.FramePost cfgs (dats m) 0 (Pipeline.afterTail₀ cfgs (dats m) 0 (V0 m) [hostOps1]) r) :
    r.2.mem ((c : Thread nD τ).loc main_v10) = valuesResult m c :=
  ((h c).2 main_v10 (Pipeline.mem_restRefs_of main_v10 (by decide) (by decide))).trans (values_tail m c)

end Cert.Kernel6Ideal.RefValue
end
-- ==== Proof.AttnSample.lean ====
module

public import proofs.«01_k».proof.Defs
public import proofs.«01_k».proof.Proof.Gen.Reference6Ideal.Run
public import proofs.«01_k».proof.Proof.Gen.Reference6Ideal.Read
public import proofs.«01_k».proof.Proof.CacheResult

@[expose] public section

set_option maxRecDepth 16384

noncomputable section

open Idealize.ShloMosaic Idealize.ShloMosaic.TcCoe Idealize.SL.Sem

namespace Cert.Reference6Ideal.RefValue

open Cert.Reference6Ideal Cert.Reference6Ideal.Read

/-! # The sample attention against its reference: the two new caches -/

/-- The reference's new key cache, entry by entry. -/
theorem keys_apply (x1 : (⟨S512x128, .f32⟩ : BufTy).Contents (Elt Ideal)) (x3 : (⟨S1x128x128x2x64, .f32⟩ : BufTy).Contents (Elt Ideal))
    (b w : Fin 128) (g : Fin 2) (d : Fin 64) : val_main_v8 (F := Ideal) x1 x3 (ix4 b w g d) = Cert.Kernel6Ideal.RefValue.newCache x1 x3 b w g d := by
  pointwise [val_main_v8, val_main_v5, val_main_v4, val_main_v1, val_main_v0]
  unfold Cert.Kernel6Ideal.RefValue.newCache
  refine dite_congr (propext ⟨fun h => by omega, fun h => by omega⟩) (fun h => congrArg x3 (funext fun a => Fin.ext ?_)) fun h => congrArg x1 (funext fun a => Fin.ext ?_)
  · match a with
    | ⟨0, _⟩ => rfl
    | ⟨1, _⟩ => rfl
    | ⟨2, _⟩ => show 4 + w.val = w.val + 4; omega
    | ⟨3, _⟩ => rfl
    | ⟨4, _⟩ => rfl
  · match a with
    | ⟨0, _⟩ => show (4 + w.val - 128) * 128 + b.val = (w.val - 124) * 128 + b.val; omega
    | ⟨1, _⟩ => show g.val * 64 + d.val = 64 * g.val + d.val; omega

/-- The reference's new value cache, entry by entry. -/
theorem values_apply (x2 : (⟨S512x128, .f32⟩ : BufTy).Contents (Elt Ideal)) (x4 : (⟨S1x128x128x2x64, .f32⟩ : BufTy).Contents (Elt Ideal))
    (b w : Fin 128) (g : Fin 2) (d : Fin 64) : val_main_v9 (F := Ideal) x2 x4 (ix4 b w g d) = Cert.Kernel6Ideal.RefValue.newCache x2 x4 b w g d := by
  pointwise [val_main_v9, val_main_v7, val_main_v6, val_main_v3, val_main_v2]
  unfold Cert.Kernel6Ideal.RefValue.newCache
  refine dite_congr (propext ⟨fun h => by omega, fun h => by omega⟩) (fun h => congrArg x4 (funext fun a => Fin.ext ?_)) fun h => congrArg x2 (funext fun a => Fin.ext ?_)
  · match a with
    | ⟨0, _⟩ => rfl
    | ⟨1, _⟩ => rfl
    | ⟨2, _⟩ => show 4 + w.val = w.val + 4; omega
    | ⟨3, _⟩ => rfl
    | ⟨4, _⟩ => rfl
  · match a with
    | ⟨0, _⟩ => show (4 + w.val - 128) * 128 + b.val = (w.val - 124) * 128 + b.val; omega
    | ⟨1, _⟩ => show g.val * 64 + d.val = 64 * g.val + d.val; omega

end Cert.Reference6Ideal.RefValue

namespace Cert.Kernel6Ideal.RefValue

open Cert.Kernel6Ideal Cert.Kernel6Ideal.Gen

variable (m : (ℓ : Loc nD τ sig) → Buf (Elt Ideal) ℓ) (ρ : Dev nD → PrngReg)

/-- The run, read: the two result arrays hold the new caches, the arguments are as they were. -/
theorem run : θ_run defs (onTc (τ := τ) (main (F := Ideal))) ⟨m, fun _ => 0, ρ⟩ fun r => ∀ c : Dev nD,
      r.2.mem ((c : Thread nD τ).loc main_v9) = keysResult m c
      ∧ r.2.mem ((c : Thread nD τ).loc main_v10) = valuesResult m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨keys_end m c r h.1, values_end m c r h.1, h.2 c⟩)
    (θ_run_and (run_main m ρ) (unchanged m ρ))

end Cert.Kernel6Ideal.RefValue

namespace Cert.Proof

/-- The sample attention's two new caches are the reference's, entry by entry. -/
theorem attn_algebraic : Cert.algebraic_Kernel6Ideal_Reference6Ideal := by
  intro m ρ m' ρ' _ hag
  refine ⟨fun c => Cert.Kernel6Ideal.RefValue.keysResult m c, fun c => Cert.Kernel6Ideal.RefValue.valuesResult m c, Cert.Kernel6Ideal.RefValue.run m ρ, ?_⟩
  refine (θ_run Cert.Reference6Ideal.defs _ _).mono (fun _ h c => ⟨(h c).1.trans ?_, (h c).2.1.trans ?_, (h c).2.2⟩) (Cert.Reference6Ideal.Value.run (F := Ideal) m' ρ')
  · obtain ⟨_, h1, _, h3, _, _⟩ := hag c
    rw [Cert.Reference6Ideal.Read.val_main_v8_eq, h1, h3]
    funext i
    have hi : i = ix4 (n0 := 128) (n1 := 128) (n2 := 2) (n3 := 64) ⟨(i 0).val, (i 0).isLt⟩ ⟨(i 1).val, (i 1).isLt⟩ ⟨(i 2).val, (i 2).isLt⟩ ⟨(i 3).val, (i 3).isLt⟩ := by
      funext a; match a with | ⟨0, _⟩ => rfl | ⟨1, _⟩ => rfl | ⟨2, _⟩ => rfl | ⟨3, _⟩ => rfl
    rw [hi, Cert.Reference6Ideal.RefValue.keys_apply]
    rfl
  · obtain ⟨_, _, h2, _, h4, _⟩ := hag c
    rw [Cert.Reference6Ideal.Read.val_main_v9_eq, h2, h4]
    funext i
    have hi : i = ix4 (n0 := 128) (n1 := 128) (n2 := 2) (n3 := 64) ⟨(i 0).val, (i 0).isLt⟩ ⟨(i 1).val, (i 1).isLt⟩ ⟨(i 2).val, (i 2).isLt⟩ ⟨(i 3).val, (i 3).isLt⟩ := by
      funext a; match a with | ⟨0, _⟩ => rfl | ⟨1, _⟩ => rfl | ⟨2, _⟩ => rfl | ⟨3, _⟩ => rfl
    rw [hi, Cert.Reference6Ideal.RefValue.values_apply]
    rfl

end Cert.Proof
end
-- ==== Proof.MixSteps.lean ====
module

public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.KernelIdeal.RefValue

open Cert.KernelIdeal Cert.KernelIdeal.Gen

/-! # The recurrence of the sample group: one step, four steps, and reading the scratch buffers -/

/-- The real part of a step of the recurrence. -/
def stepRe (ar ai xr xi b : EReal) : EReal := ar * xr - ai * xi + b

/-- The imaginary part of a step of the recurrence. -/
def stepIm (ar ai xr xi b : EReal) : EReal := ar * xi + ai * xr + b

/-- The state after one more step, both parts. -/
def stepBoth (ar ai : EReal) (x : EReal × EReal) (b e : EReal) : EReal × EReal :=
  (stepRe ar ai x.1 x.2 b, stepIm ar ai x.1 x.2 e)

/-- The state after four steps. -/
def fourSteps (ar ai : EReal) (x : EReal × EReal) (b e : Fin 4 → EReal) : EReal × EReal :=
  stepBoth ar ai (stepBoth ar ai (stepBoth ar ai (stepBoth ar ai x (b 0) (e 0)) (b 1) (e 1)) (b 2) (e 2)) (b 3) (e 3)

/-- The state of sequence `b` in lane `l` after its four steps, from the rows of the input array. -/
def stateAt (ar ai : Fin 2048 → EReal) (sr si : Vec Ideal S128x2048 .f32) (br bi : S512x2048.Idx → EReal) (b : Fin 128) (l : Fin 2048) : EReal × EReal :=
  fourSteps (ar l) (ai l) (sr (ix2 b l), si (ix2 b l)) (fun t => br (ix2 (n0 := 512) (n1 := 2048) ⟨128 * t.val + b.val, by omega⟩ l))
    (fun t => bi (ix2 (n0 := 512) (n1 := 2048) ⟨128 * t.val + b.val, by omega⟩ l))

/-- The kernel's step, real part, entry by entry. -/
theorem step_re (a i : FVec Ideal S1x128 .f32) (X Y B : FVec Ideal S128x128 .f32) (b j : Fin 128) :
    k1_pay23 a i X Y B (ix2 b j) = stepRe (a (ix2 (0 : Fin 1) j)) (i (ix2 (0 : Fin 1) j)) (X (ix2 b j)) (Y (ix2 b j)) (B (ix2 b j)) := by
  pointwise [k1_pay23]
  rfl

/-- The kernel's step, imaginary part, entry by entry. -/
theorem step_im (a i : FVec Ideal S1x128 .f32) (X Y B : FVec Ideal S128x128 .f32) (b j : Fin 128) :
    k1_pay24 a i X Y B (ix2 b j) = stepIm (a (ix2 (0 : Fin 1) j)) (i (ix2 (0 : Fin 1) j)) (X (ix2 b j)) (Y (ix2 b j)) (B (ix2 b j)) := by
  pointwise [k1_pay24]
  rfl

/-- A block of 128 lanes of a row. -/
theorem lanes_of_row (o : Nat) (ho : o + 128 ≤ 2048) (A : FVec Ideal S1x2048 .f32) (hs : S1x2048.Slices ![0, o] S1x128) (j : Fin 128) :
    extractStridedSlice S1x128 ![0, o] A hs (ix2 (0 : Fin 1) j) = A (ix2 (0 : Fin 1) (⟨o + j.val, by omega⟩ : Fin 2048)) := by
  pointwise

/-- A block read through its staging buffer keeps its entries when given its own shape. -/
theorem same_block (X : Vec Ideal S128x128 .f32) (b j : Fin 128) : k1_pay17 X (ix2 b j) = X (ix2 b j) := by
  pointwise [k1_pay17]

/-- A block stored elsewhere leaves what the buffer holds. -/
theorem elsewhere (o1 o2 r l : Nat) (hr : r < 512) (hl : l < 2048) (hne : r < o1 ∨ o1 + 128 ≤ r ∨ l < o2 ∨ o2 + 128 ≤ l)
    (inb : ∀ a, (![o1, o2] : Fin 2 → Nat) a + S128x128.size a ≤ S512x2048.size a)
    (w : S128x128.Idx → Elt Ideal .f32) (L : List (View.Piece (Elt Ideal) S512x2048 .f32)) :
    View.canon ((⟨Rect.unit ![o1, o2] S128x128.size inb, w⟩ : View.Piece (Elt Ideal) S512x2048 .f32) :: L)
      (ix2 (⟨r, hr⟩ : Fin 512) (⟨l, hl⟩ : Fin 2048)) = View.canon L (ix2 (⟨r, hr⟩ : Fin 512) (⟨l, hl⟩ : Fin 2048)) := by
  refine View.canon_cons_of_not_mem _ L fun hm => ?_
  have h1 := ((Rect.mem_set_unit (s := S512x2048) (inb := inb)).mp hm) 0
  have h2 := ((Rect.mem_set_unit (s := S512x2048) (inb := inb)).mp hm) 1
  have h1' : o1 ≤ r ∧ r < o1 + 128 := h1
  have h2' : o2 ≤ l ∧ l < o2 + 128 := h2
  omega

/-- The state of one lane after the steps up to step `t`. -/
def upTo (ar ai : EReal) (x : EReal × EReal) (b e : Fin 4 → EReal) (t : Nat) : EReal × EReal :=
  if t = 0 then stepBoth ar ai x (b 0) (e 0)
  else if t = 1 then stepBoth ar ai (stepBoth ar ai x (b 0) (e 0)) (b 1) (e 1)
  else if t = 2 then stepBoth ar ai (stepBoth ar ai (stepBoth ar ai x (b 0) (e 0)) (b 1) (e 1)) (b 2) (e 2)
  else fourSteps ar ai x b e

/-- The state in row `r`, which is step `r / 128` of sequence `r % 128`, and lane `l`. -/
def rowState (ar ai : Fin 2048 → EReal) (sr si : Vec Ideal S128x2048 .f32) (br bi : S512x2048.Idx → EReal) (r : Fin 512) (l : Fin 2048) : EReal × EReal :=
  upTo (ar l) (ai l) (sr (ix2 (⟨r.val % 128, by omega⟩ : Fin 128) l), si (ix2 (⟨r.val % 128, by omega⟩ : Fin 128) l))
    (fun t => br (ix2 (n0 := 512) (n1 := 2048) ⟨128 * t.val + r.val % 128, by omega⟩ l)) (fun t => bi (ix2 (n0 := 512) (n1 := 2048) ⟨128 * t.val + r.val % 128, by omega⟩ l)) (r.val / 128)

/-- Rows of the step `t`, by sequence. -/
theorem rowState_step (ar ai : Fin 2048 → EReal) (sr si : Vec Ideal S128x2048 .f32) (br bi : S512x2048.Idx → EReal) (t : Nat) (ht : t < 4) (b : Fin 128) (l : Fin 2048) :
    rowState ar ai sr si br bi (⟨128 * t + b.val, by omega⟩ : Fin 512) l = upTo (ar l) (ai l) (sr (ix2 b l), si (ix2 b l))
      (fun t => br (ix2 (n0 := 512) (n1 := 2048) ⟨128 * t.val + b.val, by omega⟩ l)) (fun t => bi (ix2 (n0 := 512) (n1 := 2048) ⟨128 * t.val + b.val, by omega⟩ l)) t := by
  have h1 : (128 * t + b.val) % 128 = b.val := by omega
  have h2 : (128 * t + b.val) / 128 = t := by omega
  unfold rowState
  simp only [h1, h2]

/-- A scratch buffer in the middle of a block of 128 lanes: the lanes before `o` and the first `t` steps of the block hold the target,
    the rest holds the first values. -/
def Held (T f : Fin 512 → Fin 2048 → EReal) (o t : Nat) (L : List (View.Piece (Elt Ideal) S512x2048 .f32)) : Prop :=
  ∀ (r : Fin 512) (l : Fin 2048), View.canon L (ix2 r l) = if l.val < o ∨ l.val < o + 128 ∧ r.val < 128 * t then T r l else f r l

theorem Held.next {T f : Fin 512 → Fin 2048 → EReal} {o : Nat} {L : List (View.Piece (Elt Ideal) S512x2048 .f32)} (h : Held T f o 4 L) : Held T f (o + 128) 0 L := by
  intro r l
  rw [h r l]
  have := r.isLt
  refine if_congr ⟨fun h => ?_, fun h => ?_⟩ rfl rfl <;> omega

/-- One more block stored. -/
theorem Held.store {T f : Fin 512 → Fin 2048 → EReal} {o t : Nat} {L : List (View.Piece (Elt Ideal) S512x2048 .f32)} (h : Held T f o t L) (o1 : Nat) (e1 : o1 = 128 * t) (ht : t < 4)
    (ho : o + 128 ≤ 2048) (inb : ∀ a, (![o1, o] : Fin 2 → Nat) a + S128x128.size a ≤ S512x2048.size a) (w : S128x128.Idx → Elt Ideal .f32)
    (hw : ∀ b j : Fin 128, w (ix2 b j) = T ⟨128 * t + b.val, by omega⟩ ⟨o + j.val, by omega⟩) :
    Held T f o (t + 1) ((⟨Rect.unit (s := S512x2048) ![o1, o] S128x128.size inb, w⟩ : View.Piece (Elt Ideal) S512x2048 .f32) :: L) := by
  intro r l
  subst e1
  by_cases hin : (128 * t ≤ r.val ∧ r.val < 128 * t + 128) ∧ (o ≤ l.val ∧ l.val < o + 128)
  · obtain ⟨⟨r0, r1⟩, l0, l1⟩ := hin
    have hy : (Rect.unit (s := S512x2048) ![128 * t, o] S128x128.size inb).emb (ix2 (⟨r.val - 128 * t, by omega⟩ : Fin 128) (⟨l.val - o, by omega⟩ : Fin 128)) = ix2 r l := by
      funext a
      apply Fin.ext
      match a with
      | ⟨0, _⟩ => show 128 * t + 1 * (r.val - 128 * t) = r.val; omega
      | ⟨1, _⟩ => show o + 1 * (l.val - o) = l.val; omega
    rw [if_pos (by omega), ← hy, View.canon_cons_emb, hw]
    congr 1 <;> apply Fin.ext <;> simp only <;> omega
  · have e := elsewhere (128 * t) o r.val l.val r.isLt l.isLt (by omega) inb w L
    rw [show View.canon _ (ix2 r l) = View.canon L (ix2 r l) from e, h r l]
    refine if_congr ⟨fun h => ?_, fun h => ?_⟩ rfl rfl <;> omega

/-- The block of the step to come, read back: the first values. -/
theorem Held.load {T f : Fin 512 → Fin 2048 → EReal} {o t : Nat} {L : List (View.Piece (Elt Ideal) S512x2048 .f32)} (h : Held T f o t L) (v : View sig .tc .vmem S512x2048 .f32)
    (o1 : Nat) (e1 : o1 = 128 * t) (ht : t < 4) (ho : o + 128 ≤ 2048) (inb : ∀ a, (![o1, o] : Fin 2 → Nat) a + S128x128.size a ≤ S512x2048.size a) (b j : Fin 128) :
    v.readCov L (Rect.unit (s := S512x2048) ![o1, o] S128x128.size inb).toLoadRect (ix2 b j) = f ⟨128 * t + b.val, by omega⟩ ⟨o + j.val, by omega⟩ := by
  subst e1
  have hi : (Rect.unit (s := S512x2048) ![128 * t, o] S128x128.size inb).toLoadRect.idx (ix2 b j)
      = ix2 (n0 := 512) (n1 := 2048) ⟨128 * t + b.val, by omega⟩ ⟨o + j.val, by omega⟩ := by
    funext a
    apply Fin.ext
    fin_cases a <;> simp [LoadRect.idx, Rect.toLoadRect, Rect.unit, ix2]
  rw [View.readCov_eq_canon']
  dsimp only
  rw [hi, h, if_neg (by simp only; omega)]

/-- A block of a state array, read through its staging buffer. -/
theorem state_block (a : Memref sig .tc .vmem S128x2048 .f32) (ha : a.IsWhole) (x : Vec Ideal S128x2048 .f32) (o : Nat) (ho : o + 128 ≤ 2048)
    (inb : ∀ k, (![0, o] : Fin 2 → Nat) k + S128x128.size k ≤ S128x2048.size k) (b j : Fin 128) :
    View.readAt (Elt Ideal) a.view (Rect.unit (s := S128x2048) ![0, o] S128x128.size inb).toLoadRect (ha.unread x) (ix2 b j)
      = x (ix2 (n0 := 128) (n1 := 2048) b ⟨o + j.val, by omega⟩) := by
  rw [View.readAt_eq_ld, ha.read_unread]
  pointwise

end Cert.KernelIdeal.RefValue
end
-- ==== Proof.MixBlock.lean ====
module

public import proofs.«01_k».proof.Proof.MixSteps

@[expose] public section

set_option maxRecDepth 16384

noncomputable section

open Idealize.ShloMosaic Idealize.ShloMosaic.TcCoe Idealize.SL.Sem

namespace Cert.KernelIdeal.RefValue

open Cert.KernelIdeal Cert.KernelIdeal.Gen

/-! # The recurrence of the sample group: a block of 128 lanes -/

/-- A block given its own shape keeps its entries. -/
theorem same_shape (X : Vec Ideal S128x128 .f32) (h : S128x128.ShapeCasts S128x128) (b j : Fin 128) : shapeCast S128x128 X h (ix2 b j) = X (ix2 b j) := by
  pointwise

section block

/-- The kernel's blocks after step 0 and the two scratch buffers with them stored. -/
abbrev blockRe0 (o : Nat) (A I : FVec Ideal S1x2048 .f32) (hs : S1x2048.Slices ![0, o] S1x128) (hc : S128x128.ShapeCasts S128x128)
    (XR XI : Vec Ideal S128x128 .f32) (v w : View sig .tc .vmem S512x2048 .f32) (L K : List (View.Piece (Elt Ideal) S512x2048 .f32))
    (inb0 : ∀ a, (![0, o] : Fin 2 → Nat) a + S128x128.size a ≤ S512x2048.size a) : FVec Ideal S128x128 .f32 := k1_pay23 (extractStridedSlice S1x128 ![0, o] A hs) (extractStridedSlice S1x128 ![0, o] I hs) (k1_pay17 XR) (k1_pay17 XI) (v.readCov L (Rect.unit (s := S512x2048) ![0, o] S128x128.size inb0).toLoadRect)
@[inherit_doc blockRe0] abbrev blockIm0 (o : Nat) (A I : FVec Ideal S1x2048 .f32) (hs : S1x2048.Slices ![0, o] S1x128) (hc : S128x128.ShapeCasts S128x128)
    (XR XI : Vec Ideal S128x128 .f32) (v w : View sig .tc .vmem S512x2048 .f32) (L K : List (View.Piece (Elt Ideal) S512x2048 .f32))
    (inb0 : ∀ a, (![0, o] : Fin 2 → Nat) a + S128x128.size a ≤ S512x2048.size a) : FVec Ideal S128x128 .f32 := k1_pay24 (extractStridedSlice S1x128 ![0, o] A hs) (extractStridedSlice S1x128 ![0, o] I hs) (k1_pay17 XR) (k1_pay17 XI) (w.readCov K (Rect.unit (s := S512x2048) ![0, o] S128x128.size inb0).toLoadRect)
@[inherit_doc blockRe0] abbrev blockL0 (o : Nat) (A I : FVec Ideal S1x2048 .f32) (hs : S1x2048.Slices ![0, o] S1x128) (hc : S128x128.ShapeCasts S128x128)
    (XR XI : Vec Ideal S128x128 .f32) (v w : View sig .tc .vmem S512x2048 .f32) (L K : List (View.Piece (Elt Ideal) S512x2048 .f32))
    (inb0 : ∀ a, (![0, o] : Fin 2 → Nat) a + S128x128.size a ≤ S512x2048.size a) : List (View.Piece (Elt Ideal) S512x2048 .f32) := ⟨(Rect.unit (s := S512x2048) ![0, o] S128x128.size inb0), shapeCast S128x128 (blockRe0 o A I hs hc XR XI v w L K inb0) hc⟩ :: L
@[inherit_doc blockRe0] abbrev blockK0 (o : Nat) (A I : FVec Ideal S1x2048 .f32) (hs : S1x2048.Slices ![0, o] S1x128) (hc : S128x128.ShapeCasts S128x128)
    (XR XI : Vec Ideal S128x128 .f32) (v w : View sig .tc .vmem S512x2048 .f32) (L K : List (View.Piece (Elt Ideal) S512x2048 .f32))
    (inb0 : ∀ a, (![0, o] : Fin 2 → Nat) a + S128x128.size a ≤ S512x2048.size a) : List (View.Piece (Elt Ideal) S512x2048 .f32) := ⟨(Rect.unit (s := S512x2048) ![0, o] S128x128.size inb0), shapeCast S128x128 (blockIm0 o A I hs hc XR XI v w L K inb0) hc⟩ :: K

/-- The kernel's blocks after step 1 and the two scratch buffers with them stored. -/
abbrev blockRe1 (o : Nat) (A I : FVec Ideal S1x2048 .f32) (hs : S1x2048.Slices ![0, o] S1x128) (hc : S128x128.ShapeCasts S128x128)
    (XR XI : Vec Ideal S128x128 .f32) (v w : View sig .tc .vmem S512x2048 .f32) (L K : List (View.Piece (Elt Ideal) S512x2048 .f32))
    (inb0 : ∀ a, (![0, o] : Fin 2 → Nat) a + S128x128.size a ≤ S512x2048.size a)
    (inb1 : ∀ a, (![128, o] : Fin 2 → Nat) a + S128x128.size a ≤ S512x2048.size a) : FVec Ideal S128x128 .f32 := k1_pay23 (extractStridedSlice S1x128 ![0, o] A hs) (extractStridedSlice S1x128 ![0, o] I hs) (blockRe0 o A I hs hc XR XI v w L K inb0) (blockIm0 o A I hs hc XR XI v w L K inb0) (v.readCov (blockL0 o A I hs hc XR XI v w L K inb0) (Rect.unit (s := S512x2048) ![128, o] S128x128.size inb1).toLoadRect)
@[inherit_doc blockRe1] abbrev blockIm1 (o : Nat) (A I : FVec Ideal S1x2048 .f32) (hs : S1x2048.Slices ![0, o] S1x128) (hc : S128x128.ShapeCasts S128x128)
    (XR XI : Vec Ideal S128x128 .f32) (v w : View sig .tc .vmem S512x2048 .f32) (L K : List (View.Piece (Elt Ideal) S512x2048 .f32))
    (inb0 : ∀ a, (![0, o] : Fin 2 → Nat) a + S128x128.size a ≤ S512x2048.size a)
    (inb1 : ∀ a, (![128, o] : Fin 2 → Nat) a + S128x128.size a ≤ S512x2048.size a) : FVec Ideal S128x128 .f32 := k1_pay24 (extractStridedSlice S1x128 ![0, o] A hs) (extractStridedSlice S1x128 ![0, o] I hs) (blockRe0 o A I hs hc XR XI v w L K inb0) (blockIm0 o A I hs hc XR XI v w L K inb0) (w.readCov (blockK0 o A I hs hc XR XI v w L K inb0) (Rect.unit (s := S512x2048) ![128, o] S128x128.size inb1).toLoadRect)
@[inherit_doc blockRe1] abbrev blockL1 (o : Nat) (A I : FVec Ideal S1x2048 .f32) (hs : S1x2048.Slices ![0, o] S1x128) (hc : S128x128.ShapeCasts S128x128)
    (XR XI : Vec Ideal S128x128 .f32) (v w : View sig .tc .vmem S512x2048 .f32) (L K : List (View.Piece (Elt Ideal) S512x2048 .f32))
    (inb0 : ∀ a, (![0, o] : Fin 2 → Nat) a + S128x128.size a ≤ S512x2048.size a)
    (inb1 : ∀ a, (![128, o] : Fin 2 → Nat) a + S128x128.size a ≤ S512x2048.size a) : List (View.Piece (Elt Ideal) S512x2048 .f32) := ⟨(Rect.unit (s := S512x2048) ![128, o] S128x128.size inb1), shapeCast S128x128 (blockRe1 o A I hs hc XR XI v w L K inb0 inb1) hc⟩ :: (blockL0 o A I hs hc XR XI v w L K inb0)
@[inherit_doc blockRe1] abbrev blockK1 (o : Nat) (A I : FVec Ideal S1x2048 .f32) (hs : S1x2048.Slices ![0, o] S1x128) (hc : S128x128.ShapeCasts S128x128)
    (XR XI : Vec Ideal S128x128 .f32) (v w : View sig .tc .vmem S512x2048 .f32) (L K : List (View.Piece (Elt Ideal) S512x2048 .f32))
    (inb0 : ∀ a, (![0, o] : Fin 2 → Nat) a + S128x128.size a ≤ S512x2048.size a)
    (inb1 : ∀ a, (![128, o] : Fin 2 → Nat) a + S128x128.size a ≤ S512x2048.size a) : List (View.Piece (Elt Ideal) S512x2048 .f32) := ⟨(Rect.unit (s := S512x2048) ![128, o] S128x128.size inb1), shapeCast S128x128 (blockIm1 o A I hs hc XR XI v w L K inb0 inb1) hc⟩ :: (blockK0 o A I hs hc XR XI v w L K inb0)

/-- The kernel's blocks after step 2 and the two scratch buffers with them stored. -/
abbrev blockRe2 (o : Nat) (A I : FVec Ideal S1x2048 .f32) (hs : S1x2048.Slices ![0, o] S1x128) (hc : S128x128.ShapeCasts S128x128)
    (XR XI : Vec Ideal S128x128 .f32) (v w : View sig .tc .vmem S512x2048 .f32) (L K : List (View.Piece (Elt Ideal) S512x2048 .f32))
    (inb0 : ∀ a, (![0, o] : Fin 2 → Nat) a + S128x128.size a ≤ S512x2048.size a)
    (inb1 : ∀ a, (![128, o] : Fin 2 → Nat) a + S128x128.size a ≤ S512x2048.size a)
    (inb2 : ∀ a, (![256, o] : Fin 2 → Nat) a + S128x128.size a ≤ S512x2048.size a) : FVec Ideal S128x128 .f32 := k1_pay23 (extractStridedSlice S1x128 ![0, o] A hs) (extractStridedSlice S1x128 ![0, o] I hs) (blockRe1 o A I hs hc XR XI v w L K inb0 inb1) (blockIm1 o A I hs hc XR XI v w L K inb0 inb1) (v.readCov (blockL1 o A I hs hc XR XI v w L K inb0 inb1) (Rect.unit (s := S512x2048) ![256, o] S128x128.size inb2).toLoadRect)
@[inherit_doc blockRe2] abbrev blockIm2 (o : Nat) (A I : FVec Ideal S1x2048 .f32) (hs : S1x2048.Slices ![0, o] S1x128) (hc : S128x128.ShapeCasts S128x128)
    (XR XI : Vec Ideal S128x128 .f32) (v w : View sig .tc .vmem S512x2048 .f32) (L K : List (View.Piece (Elt Ideal) S512x2048 .f32))
    (inb0 : ∀ a, (![0, o] : Fin 2 → Nat) a + S128x128.size a ≤ S512x2048.size a)
    (inb1 : ∀ a, (![128, o] : Fin 2 → Nat) a + S128x128.size a ≤ S512x2048.size a)
    (inb2 : ∀ a, (![256, o] : Fin 2 → Nat) a + S128x128.size a ≤ S512x2048.size a) : FVec Ideal S128x128 .f32 := k1_pay24 (extractStridedSlice S1x128 ![0, o] A hs) (extractStridedSlice S1x128 ![0, o] I hs) (blockRe1 o A I hs hc XR XI v w L K inb0 inb1) (blockIm1 o A I hs hc XR XI v w L K inb0 inb1) (w.readCov (blockK1 o A I hs hc XR XI v w L K inb0 inb1) (Rect.unit (s := S512x2048) ![256, o] S128x128.size inb2).toLoadRect)
@[inherit_doc blockRe2] abbrev blockL2 (o : Nat) (A I : FVec Ideal S1x2048 .f32) (hs : S1x2048.Slices ![0, o] S1x128) (hc : S128x128.ShapeCasts S128x128)
    (XR XI : Vec Ideal S128x128 .f32) (v w : View sig .tc .vmem S512x2048 .f32) (L K : List (View.Piece (Elt Ideal) S512x2048 .f32))
    (inb0 : ∀ a, (![0, o] : Fin 2 → Nat) a + S128x128.size a ≤ S512x2048.size a)
    (inb1 : ∀ a, (![128, o] : Fin 2 → Nat) a + S128x128.size a ≤ S512x2048.size a)
    (inb2 : ∀ a, (![256, o] : Fin 2 → Nat) a + S128x128.size a ≤ S512x2048.size a) : List (View.Piece (Elt Ideal) S512x2048 .f32) := ⟨(Rect.unit (s := S512x2048) ![256, o] S128x128.size inb2), shapeCast S128x128 (blockRe2 o A I hs hc XR XI v w L K inb0 inb1 inb2) hc⟩ :: (blockL1 o A I hs hc XR XI v w L K inb0 inb1)
@[inherit_doc blockRe2] abbrev blockK2 (o : Nat) (A I : FVec Ideal S1x2048 .f32) (hs : S1x2048.Slices ![0, o] S1x128) (hc : S128x128.ShapeCasts S128x128)
    (XR XI : Vec Ideal S128x128 .f32) (v w : View sig .tc .vmem S512x2048 .f32) (L K : List (View.Piece (Elt Ideal) S512x2048 .f32))
    (inb0 : ∀ a, (![0, o] : Fin 2 → Nat) a + S128x128.size a ≤ S512x2048.size a)
    (inb1 : ∀ a, (![128, o] : Fin 2 → Nat) a + S128x128.size a ≤ S512x2048.size a)
    (inb2 : ∀ a, (![256, o] : Fin 2 → Nat) a + S128x128.size a ≤ S512x2048.size a) : List (View.Piece (Elt Ideal) S512x2048 .f32) := ⟨(Rect.unit (s := S512x2048) ![256, o] S128x128.size inb2), shapeCast S128x128 (blockIm2 o A I hs hc XR XI v w L K inb0 inb1 inb2) hc⟩ :: (blockK1 o A I hs hc XR XI v w L K inb0 inb1)

/-- The kernel's blocks after step 3 and the two scratch buffers with them stored. -/
abbrev blockRe3 (o : Nat) (A I : FVec Ideal S1x2048 .f32) (hs : S1x2048.Slices ![0, o] S1x128) (hc : S128x128.ShapeCasts S128x128)
    (XR XI : Vec Ideal S128x128 .f32) (v w : View sig .tc .vmem S512x2048 .f32) (L K : List (View.Piece (Elt Ideal) S512x2048 .f32))
    (inb0 : ∀ a, (![0, o] : Fin 2 → Nat) a + S128x128.size a ≤ S512x2048.size a)
    (inb1 : ∀ a, (![128, o] : Fin 2 → Nat) a + S128x128.size a ≤ S512x2048.size a)
    (inb2 : ∀ a, (![256, o] : Fin 2 → Nat) a + S128x128.size a ≤ S512x2048.size a)
    (inb3 : ∀ a, (![384, o] : Fin 2 → Nat) a + S128x128.size a ≤ S512x2048.size a) : FVec Ideal S128x128 .f32 := k1_pay23 (extractStridedSlice S1x128 ![0, o] A hs) (extractStridedSlice S1x128 ![0, o] I hs) (blockRe2 o A I hs hc XR XI v w L K inb0 inb1 inb2) (blockIm2 o A I hs hc XR XI v w L K inb0 inb1 inb2) (v.readCov (blockL2 o A I hs hc XR XI v w L K inb0 inb1 inb2) (Rect.unit (s := S512x2048) ![384, o] S128x128.size inb3).toLoadRect)
@[inherit_doc blockRe3] abbrev blockIm3 (o : Nat) (A I : FVec Ideal S1x2048 .f32) (hs : S1x2048.Slices ![0, o] S1x128) (hc : S128x128.ShapeCasts S128x128)
    (XR XI : Vec Ideal S128x128 .f32) (v w : View sig .tc .vmem S512x2048 .f32) (L K : List (View.Piece (Elt Ideal) S512x2048 .f32))
    (inb0 : ∀ a, (![0, o] : Fin 2 → Nat) a + S128x128.size a ≤ S512x2048.size a)
    (inb1 : ∀ a, (![128, o] : Fin 2 → Nat) a + S128x128.size a ≤ S512x2048.size a)
    (inb2 : ∀ a, (![256, o] : Fin 2 → Nat) a + S128x128.size a ≤ S512x2048.size a)
    (inb3 : ∀ a, (![384, o] : Fin 2 → Nat) a + S128x128.size a ≤ S512x2048.size a) : FVec Ideal S128x128 .f32 := k1_pay24 (extractStridedSlice S1x128 ![0, o] A hs) (extractStridedSlice S1x128 ![0, o] I hs) (blockRe2 o A I hs hc XR XI v w L K inb0 inb1 inb2) (blockIm2 o A I hs hc XR XI v w L K inb0 inb1 inb2) (w.readCov (blockK2 o A I hs hc XR XI v w L K inb0 inb1 inb2) (Rect.unit (s := S512x2048) ![384, o] S128x128.size inb3).toLoadRect)
@[inherit_doc blockRe3] abbrev blockL3 (o : Nat) (A I : FVec Ideal S1x2048 .f32) (hs : S1x2048.Slices ![0, o] S1x128) (hc : S128x128.ShapeCasts S128x128)
    (XR XI : Vec Ideal S128x128 .f32) (v w : View sig .tc .vmem S512x2048 .f32) (L K : List (View.Piece (Elt Ideal) S512x2048 .f32))
    (inb0 : ∀ a, (![0, o] : Fin 2 → Nat) a + S128x128.size a ≤ S512x2048.size a)
    (inb1 : ∀ a, (![128, o] : Fin 2 → Nat) a + S128x128.size a ≤ S512x2048.size a)
    (inb2 : ∀ a, (![256, o] : Fin 2 → Nat) a + S128x128.size a ≤ S512x2048.size a)
    (inb3 : ∀ a, (![384, o] : Fin 2 → Nat) a + S128x128.size a ≤ S512x2048.size a) : List (View.Piece (Elt Ideal) S512x2048 .f32) := ⟨(Rect.unit (s := S512x2048) ![384, o] S128x128.size inb3), shapeCast S128x128 (blockRe3 o A I hs hc XR XI v w L K inb0 inb1 inb2 inb3) hc⟩ :: (blockL2 o A I hs hc XR XI v w L K inb0 inb1 inb2)
@[inherit_doc blockRe3] abbrev blockK3 (o : Nat) (A I : FVec Ideal S1x2048 .f32) (hs : S1x2048.Slices ![0, o] S1x128) (hc : S128x128.ShapeCasts S128x128)
    (XR XI : Vec Ideal S128x128 .f32) (v w : View sig .tc .vmem S512x2048 .f32) (L K : List (View.Piece (Elt Ideal) S512x2048 .f32))
    (inb0 : ∀ a, (![0, o] : Fin 2 → Nat) a + S128x128.size a ≤ S512x2048.size a)
    (inb1 : ∀ a, (![128, o] : Fin 2 → Nat) a + S128x128.size a ≤ S512x2048.size a)
    (inb2 : ∀ a, (![256, o] : Fin 2 → Nat) a + S128x128.size a ≤ S512x2048.size a)
    (inb3 : ∀ a, (![384, o] : Fin 2 → Nat) a + S128x128.size a ≤ S512x2048.size a) : List (View.Piece (Elt Ideal) S512x2048 .f32) := ⟨(Rect.unit (s := S512x2048) ![384, o] S128x128.size inb3), shapeCast S128x128 (blockIm3 o A I hs hc XR XI v w L K inb0 inb1 inb2 inb3) hc⟩ :: (blockK2 o A I hs hc XR XI v w L K inb0 inb1 inb2)

variable (o : Nat) (ho : o + 128 ≤ 2048) (A I : FVec Ideal S1x2048 .f32) (hs : S1x2048.Slices ![0, o] S1x128) (hc : S128x128.ShapeCasts S128x128)
  (XR XI : Vec Ideal S128x128 .f32) (v w : View sig .tc .vmem S512x2048 .f32) (L K : List (View.Piece (Elt Ideal) S512x2048 .f32))
  (inb0 : ∀ a, (![0, o] : Fin 2 → Nat) a + S128x128.size a ≤ S512x2048.size a)
  (inb1 : ∀ a, (![128, o] : Fin 2 → Nat) a + S128x128.size a ≤ S512x2048.size a)
  (inb2 : ∀ a, (![256, o] : Fin 2 → Nat) a + S128x128.size a ≤ S512x2048.size a)
  (inb3 : ∀ a, (![384, o] : Fin 2 → Nat) a + S128x128.size a ≤ S512x2048.size a)

variable (ar ai : Fin 2048 → EReal) (sr si : Vec Ideal S128x2048 .f32) (br bi : S512x2048.Idx → EReal)

/-- What the real scratch buffer comes to hold. -/
abbrev goalRe (r : Fin 512) (l : Fin 2048) : EReal := (rowState ar ai sr si br bi r l).1
/-- What the imaginary scratch buffer comes to hold. -/
abbrev goalIm (r : Fin 512) (l : Fin 2048) : EReal := (rowState ar ai sr si br bi r l).2
/-- The first values of a scratch buffer, by row and lane. -/
abbrev firstOf (f : S512x2048.Idx → EReal) (r : Fin 512) (l : Fin 2048) : EReal := f (ix2 r l)

include ho in
/-- A whole block of 128 lanes: four steps, each stored over its inputs. -/
theorem block (hA : ∀ l, A (ix2 (0 : Fin 1) l) = ar l) (hI : ∀ l, I (ix2 (0 : Fin 1) l) = ai l)
    (hXR : ∀ b j : Fin 128, XR (ix2 b j) = sr (ix2 (n0 := 128) (n1 := 2048) b ⟨o + j.val, by omega⟩))
    (hXI : ∀ b j : Fin 128, XI (ix2 b j) = si (ix2 (n0 := 128) (n1 := 2048) b ⟨o + j.val, by omega⟩))
    (hL : Held (goalRe ar ai sr si br bi) (firstOf br) o 0 L) (hK : Held (goalIm ar ai sr si br bi) (firstOf bi) o 0 K) :
    (Held (goalRe ar ai sr si br bi) (firstOf br) (o + 128) 0 (blockL3 o A I hs hc XR XI v w L K inb0 inb1 inb2 inb3)
      ∧ Held (goalIm ar ai sr si br bi) (firstOf bi) (o + 128) 0 (blockK3 o A I hs hc XR XI v w L K inb0 inb1 inb2 inb3))
    ∧ (∀ (x : S128x128.Idx) (y : S128x2048.Idx), (y 0).val = (x 0).val → (y 1).val = o + (x 1).val →
        blockRe3 o A I hs hc XR XI v w L K inb0 inb1 inb2 inb3 x = (stateAt ar ai sr si br bi (y 0) (y 1)).1)
    ∧ (∀ (x : S128x128.Idx) (y : S128x2048.Idx), (y 0).val = (x 0).val → (y 1).val = o + (x 1).val →
        blockIm3 o A I hs hc XR XI v w L K inb0 inb1 inb2 inb3 x = (stateAt ar ai sr si br bi (y 0) (y 1)).2) := by
  have x0 : ∀ b j : Fin 128, blockRe0 o A I hs hc XR XI v w L K inb0 (ix2 b j) = (rowState ar ai sr si br bi ⟨128 * 0 + b.val, by omega⟩ ⟨o + j.val, by omega⟩).1 := fun b j => by
    refine (step_re _ _ _ _ _ b j).trans ?_
    rw [lanes_of_row o ho, lanes_of_row o ho, hA, hI, same_block, same_block, hXR, hXI, Held.load hL v 0 rfl (by decide) ho, rowState_step _ _ _ _ _ _ 0 (by decide)]
    rfl
  have y0 : ∀ b j : Fin 128, blockIm0 o A I hs hc XR XI v w L K inb0 (ix2 b j) = (rowState ar ai sr si br bi ⟨128 * 0 + b.val, by omega⟩ ⟨o + j.val, by omega⟩).2 := fun b j => by
    refine (step_im _ _ _ _ _ b j).trans ?_
    rw [lanes_of_row o ho, lanes_of_row o ho, hA, hI, same_block, same_block, hXR, hXI, Held.load hK w 0 rfl (by decide) ho, rowState_step _ _ _ _ _ _ 0 (by decide)]
    rfl
  have l0 := Held.store hL 0 rfl (by decide) ho inb0 (shapeCast S128x128 (blockRe0 o A I hs hc XR XI v w L K inb0) hc) fun b j => (same_shape _ hc b j).trans (x0 b j)
  have k0 := Held.store hK 0 rfl (by decide) ho inb0 (shapeCast S128x128 (blockIm0 o A I hs hc XR XI v w L K inb0) hc) fun b j => (same_shape _ hc b j).trans (y0 b j)
  have x1 : ∀ b j : Fin 128, blockRe1 o A I hs hc XR XI v w L K inb0 inb1 (ix2 b j) = (rowState ar ai sr si br bi ⟨128 * 1 + b.val, by omega⟩ ⟨o + j.val, by omega⟩).1 := fun b j => by
    refine (step_re _ _ _ _ _ b j).trans ?_
    rw [lanes_of_row o ho, lanes_of_row o ho, hA, hI, x0, y0, Held.load l0 v 128 rfl (by decide) ho, rowState_step _ _ _ _ _ _ 1 (by decide)]
    rw [rowState_step _ _ _ _ _ _ 0 (by decide)]; rfl
  have y1 : ∀ b j : Fin 128, blockIm1 o A I hs hc XR XI v w L K inb0 inb1 (ix2 b j) = (rowState ar ai sr si br bi ⟨128 * 1 + b.val, by omega⟩ ⟨o + j.val, by omega⟩).2 := fun b j => by
    refine (step_im _ _ _ _ _ b j).trans ?_
    rw [lanes_of_row o ho, lanes_of_row o ho, hA, hI, x0, y0, Held.load k0 w 128 rfl (by decide) ho, rowState_step _ _ _ _ _ _ 1 (by decide)]
    rw [rowState_step _ _ _ _ _ _ 0 (by decide)]; rfl
  have l1 := Held.store l0 128 rfl (by decide) ho inb1 (shapeCast S128x128 (blockRe1 o A I hs hc XR XI v w L K inb0 inb1) hc) fun b j => (same_shape _ hc b j).trans (x1 b j)
  have k1 := Held.store k0 128 rfl (by decide) ho inb1 (shapeCast S128x128 (blockIm1 o A I hs hc XR XI v w L K inb0 inb1) hc) fun b j => (same_shape _ hc b j).trans (y1 b j)
  have x2 : ∀ b j : Fin 128, blockRe2 o A I hs hc XR XI v w L K inb0 inb1 inb2 (ix2 b j) = (rowState ar ai sr si br bi ⟨128 * 2 + b.val, by omega⟩ ⟨o + j.val, by omega⟩).1 := fun b j => by
    refine (step_re _ _ _ _ _ b j).trans ?_
    rw [lanes_of_row o ho, lanes_of_row o ho, hA, hI, x1, y1, Held.load l1 v 256 rfl (by decide) ho, rowState_step _ _ _ _ _ _ 2 (by decide)]
    rw [rowState_step _ _ _ _ _ _ 1 (by decide)]; rfl
  have y2 : ∀ b j : Fin 128, blockIm2 o A I hs hc XR XI v w L K inb0 inb1 inb2 (ix2 b j) = (rowState ar ai sr si br bi ⟨128 * 2 + b.val, by omega⟩ ⟨o + j.val, by omega⟩).2 := fun b j => by
    refine (step_im _ _ _ _ _ b j).trans ?_
    rw [lanes_of_row o ho, lanes_of_row o ho, hA, hI, x1, y1, Held.load k1 w 256 rfl (by decide) ho, rowState_step _ _ _ _ _ _ 2 (by decide)]
    rw [rowState_step _ _ _ _ _ _ 1 (by decide)]; rfl
  have l2 := Held.store l1 256 rfl (by decide) ho inb2 (shapeCast S128x128 (blockRe2 o A I hs hc XR XI v w L K inb0 inb1 inb2) hc) fun b j => (same_shape _ hc b j).trans (x2 b j)
  have k2 := Held.store k1 256 rfl (by decide) ho inb2 (shapeCast S128x128 (blockIm2 o A I hs hc XR XI v w L K inb0 inb1 inb2) hc) fun b j => (same_shape _ hc b j).trans (y2 b j)
  have x3 : ∀ b j : Fin 128, blockRe3 o A I hs hc XR XI v w L K inb0 inb1 inb2 inb3 (ix2 b j) = (rowState ar ai sr si br bi ⟨128 * 3 + b.val, by omega⟩ ⟨o + j.val, by omega⟩).1 := fun b j => by
    refine (step_re _ _ _ _ _ b j).trans ?_
    rw [lanes_of_row o ho, lanes_of_row o ho, hA, hI, x2, y2, Held.load l2 v 384 rfl (by decide) ho, rowState_step _ _ _ _ _ _ 3 (by decide)]
    rw [rowState_step _ _ _ _ _ _ 2 (by decide)]; rfl
  have y3 : ∀ b j : Fin 128, blockIm3 o A I hs hc XR XI v w L K inb0 inb1 inb2 inb3 (ix2 b j) = (rowState ar ai sr si br bi ⟨128 * 3 + b.val, by omega⟩ ⟨o + j.val, by omega⟩).2 := fun b j => by
    refine (step_im _ _ _ _ _ b j).trans ?_
    rw [lanes_of_row o ho, lanes_of_row o ho, hA, hI, x2, y2, Held.load k2 w 384 rfl (by decide) ho, rowState_step _ _ _ _ _ _ 3 (by decide)]
    rw [rowState_step _ _ _ _ _ _ 2 (by decide)]; rfl
  have l3 := Held.store l2 384 rfl (by decide) ho inb3 (shapeCast S128x128 (blockRe3 o A I hs hc XR XI v w L K inb0 inb1 inb2 inb3) hc) fun b j => (same_shape _ hc b j).trans (x3 b j)
  have k3 := Held.store k2 384 rfl (by decide) ho inb3 (shapeCast S128x128 (blockIm3 o A I hs hc XR XI v w L K inb0 inb1 inb2 inb3) hc) fun b j => (same_shape _ hc b j).trans (y3 b j)
  have hx : ∀ (x : S128x128.Idx) (y : S128x2048.Idx), (y 0).val = (x 0).val → (y 1).val = o + (x 1).val →
      ∃ b j : Fin 128, x = ix2 b j ∧ y 0 = b ∧ y 1 = (⟨o + j.val, by omega⟩ : Fin 2048) := fun x y h0 h1 =>
    ⟨x 0, x 1, by funext a; match a with | ⟨0, _⟩ => rfl | ⟨1, _⟩ => rfl, Fin.ext h0, Fin.ext h1⟩
  refine ⟨⟨l3.next, k3.next⟩, fun x y h0 h1 => ?_, fun x y h0 h1 => ?_⟩
  · obtain ⟨b, j, rfl, e0, e1⟩ := hx x y h0 h1
    rw [e0, e1, x3, rowState_step _ _ _ _ _ _ 3 (by decide)]
    rfl
  · obtain ⟨b, j, rfl, e0, e1⟩ := hx x y h0 h1
    rw [e0, e1, y3, rowState_step _ _ _ _ _ _ 3 (by decide)]
    rfl

end block

end Cert.KernelIdeal.RefValue
end
-- ==== Proof.MixState.lean ====
module

public import proofs.«01_k».proof.Proof.MixBlock

@[expose] public section

set_option maxRecDepth 16384

noncomputable section

open Idealize.ShloMosaic Idealize.ShloMosaic.TcCoe Idealize.SL.Sem

namespace Cert.KernelIdeal.RefValue

open Cert.KernelIdeal Cert.KernelIdeal.Gen

/-! # The recurrence of the sample group: the scratch buffers block by block, and the states one grid point leaves -/

section scratch

variable (c : Dev nD) (a3 : Memref sig .tc .vmem S512x512 .f32) (h3 : a3.IsWhole) (a6 : Memref sig .tc .vmem S128x2048 .f32) (h6 : a6.IsWhole)
  (a7 : Memref sig .tc .vmem S128x2048 .f32) (h7 : a7.IsWhole) (a13 : Memref sig .tc .vmem S1x2048 .f32) (h13 : a13.IsWhole)
  (a14 : Memref sig .tc .vmem S1x2048 .f32) (h14 : a14.IsWhole) (a15 : Memref sig .tc .vmem S1x2048 .f32) (h15 : a15.IsWhole)
  (a16 : Memref sig .tc .vmem S2x256x1024 .bf16) (h16 : a16.IsWhole) (a17 : Memref sig .tc .vmem S2x256x1024 .bf16) (h17 : a17.IsWhole)
  (a23 a24 : Memref sig .tc .vmem S512x2048 .f32)
  (x2 : Vec Ideal S512x512 .f32) (x5 x6 : Vec Ideal S128x2048 .f32) (x12 x13 x14 : Vec Ideal S1x2048 .f32) (x15 x16 : Vec Ideal S2x256x1024 .bf16)

/-- An entry of the real scratch buffer before the recurrence begins. -/
def first0 (y : S512x2048.Idx) : EReal := View.canon (kernelRun1_A.sl.HS0_2 c a3 h3 a16 h16 x2 x15) y

/-- An entry of the imaginary scratch buffer before the recurrence begins. -/
def first1 (y : S512x2048.Idx) : EReal := View.canon (kernelRun1_A.sl.HS1_2 c a3 h3 a17 h17 x2 x16) y

variable (ar ai : Fin 2048 → EReal)

/-- Both scratch buffers with the lanes before `o` done. -/
def Both (o : Nat) (L K : List (View.Piece (Elt Ideal) S512x2048 .f32)) : Prop :=
  Held (goalRe ar ai x5 x6 (first0 c a3 h3 a16 h16 x2 x15) (first1 c a3 h3 a17 h17 x2 x16)) (firstOf (first0 c a3 h3 a16 h16 x2 x15)) o 0 L
    ∧ Held (goalIm ar ai x5 x6 (first0 c a3 h3 a16 h16 x2 x15) (first1 c a3 h3 a17 h17 x2 x16)) (firstOf (first1 c a3 h3 a17 h17 x2 x16)) o 0 K

/-- Before the recurrence begins nothing is done. -/
theorem both_0 : Both c a3 h3 a16 h16 a17 h17 x2 x5 x6 x15 x16 ar ai 0 (kernelRun1_A.sl.HS0_2 c a3 h3 a16 h16 x2 x15) (kernelRun1_A.sl.HS1_2 c a3 h3 a17 h17 x2 x16) :=
  ⟨fun r l => (if_neg (by omega)).symm, fun r l => (if_neg (by omega)).symm⟩

variable (hA : ∀ l, kernelRun1_A.sl.r c a13 h13 a14 h14 a15 h15 x12 x13 x14 (ix2 (0 : Fin 1) l) = ar l)
  (hI : ∀ l, kernelRun1_A.sl.r_1 c a13 h13 a14 h14 a15 h15 x12 x13 x14 (ix2 (0 : Fin 1) l) = ai l)

include hA hI in
/-- 1 blocks of 128 lanes done. -/
theorem both_1 : Both c a3 h3 a16 h16 a17 h17 x2 x5 x6 x15 x16 ar ai 128 (kernelRun1_A.sl.HS0_6 c a3 h3 a6 h6 a7 h7 a13 h13 a14 h14 a15 h15 a16 h16 a17 h17 a23 a24 x2 x5 x6 x12 x13 x14 x15 x16) (kernelRun1_A.sl.HS1_6 c a3 h3 a6 h6 a7 h7 a13 h13 a14 h14 a15 h15 a16 h16 a17 h17 a23 a24 x2 x5 x6 x12 x13 x14 x15 x16) :=
  (block 0 (by decide) _ _ (by decide) rfl _ _ a23.view a24.view _ _ (by decide) (by decide) (by decide) (by decide) ar ai x5 x6 _ _ hA hI
    (state_block a6 h6 x5 0 (by decide) (by decide)) (state_block a7 h7 x6 0 (by decide) (by decide)) (both_0 c a3 h3 a16 h16 a17 h17 x2 x5 x6 x15 x16 ar ai).1 (both_0 c a3 h3 a16 h16 a17 h17 x2 x5 x6 x15 x16 ar ai).2).1

include hA hI in
/-- 2 blocks of 128 lanes done. -/
theorem both_2 : Both c a3 h3 a16 h16 a17 h17 x2 x5 x6 x15 x16 ar ai 256 (kernelRun1_A.sl.HS0_10 c a3 h3 a6 h6 a7 h7 a13 h13 a14 h14 a15 h15 a16 h16 a17 h17 a23 a24 x2 x5 x6 x12 x13 x14 x15 x16) (kernelRun1_A.sl.HS1_10 c a3 h3 a6 h6 a7 h7 a13 h13 a14 h14 a15 h15 a16 h16 a17 h17 a23 a24 x2 x5 x6 x12 x13 x14 x15 x16) :=
  (block 128 (by decide) _ _ (by decide) rfl _ _ a23.view a24.view _ _ (by decide) (by decide) (by decide) (by decide) ar ai x5 x6 _ _ hA hI
    (state_block a6 h6 x5 128 (by decide) (by decide)) (state_block a7 h7 x6 128 (by decide) (by decide)) (both_1 c a3 h3 a6 h6 a7 h7 a13 h13 a14 h14 a15 h15 a16 h16 a17 h17 a23 a24 x2 x5 x6 x12 x13 x14 x15 x16 ar ai hA hI).1 (both_1 c a3 h3 a6 h6 a7 h7 a13 h13 a14 h14 a15 h15 a16 h16 a17 h17 a23 a24 x2 x5 x6 x12 x13 x14 x15 x16 ar ai hA hI).2).1

include hA hI in
/-- 3 blocks of 128 lanes done. -/
theorem both_3 : Both c a3 h3 a16 h16 a17 h17 x2 x5 x6 x15 x16 ar ai 384 (kernelRun1_A.sl.HS0_14 c a3 h3 a6 h6 a7 h7 a13 h13 a14 h14 a15 h15 a16 h16 a17 h17 a23 a24 x2 x5 x6 x12 x13 x14 x15 x16) (kernelRun1_A.sl.HS1_14 c a3 h3 a6 h6 a7 h7 a13 h13 a14 h14 a15 h15 a16 h16 a17 h17 a23 a24 x2 x5 x6 x12 x13 x14 x15 x16) :=
  (block 256 (by decide) _ _ (by decide) rfl _ _ a23.view a24.view _ _ (by decide) (by decide) (by decide) (by decide) ar ai x5 x6 _ _ hA hI
    (state_block a6 h6 x5 256 (by decide) (by decide)) (state_block a7 h7 x6 256 (by decide) (by decide)) (both_2 c a3 h3 a6 h6 a7 h7 a13 h13 a14 h14 a15 h15 a16 h16 a17 h17 a23 a24 x2 x5 x6 x12 x13 x14 x15 x16 ar ai hA hI).1 (both_2 c a3 h3 a6 h6 a7 h7 a13 h13 a14 h14 a15 h15 a16 h16 a17 h17 a23 a24 x2 x5 x6 x12 x13 x14 x15 x16 ar ai hA hI).2).1

include hA hI in
/-- 4 blocks of 128 lanes done. -/
theorem both_4 : Both c a3 h3 a16 h16 a17 h17 x2 x5 x6 x15 x16 ar ai 512 (kernelRun1_A.sl.HS0_18 c a3 h3 a6 h6 a7 h7 a13 h13 a14 h14 a15 h15 a16 h16 a17 h17 a23 a24 x2 x5 x6 x12 x13 x14 x15 x16) (kernelRun1_A.sl.HS1_18 c a3 h3 a6 h6 a7 h7 a13 h13 a14 h14 a15 h15 a16 h16 a17 h17 a23 a24 x2 x5 x6 x12 x13 x14 x15 x16) :=
  (block 384 (by decide) _ _ (by decide) rfl _ _ a23.view a24.view _ _ (by decide) (by decide) (by decide) (by decide) ar ai x5 x6 _ _ hA hI
    (state_block a6 h6 x5 384 (by decide) (by decide)) (state_block a7 h7 x6 384 (by decide) (by decide)) (both_3 c a3 h3 a6 h6 a7 h7 a13 h13 a14 h14 a15 h15 a16 h16 a17 h17 a23 a24 x2 x5 x6 x12 x13 x14 x15 x16 ar ai hA hI).1 (both_3 c a3 h3 a6 h6 a7 h7 a13 h13 a14 h14 a15 h15 a16 h16 a17 h17 a23 a24 x2 x5 x6 x12 x13 x14 x15 x16 ar ai hA hI).2).1

include hA hI in
/-- 5 blocks of 128 lanes done. -/
theorem both_5 : Both c a3 h3 a16 h16 a17 h17 x2 x5 x6 x15 x16 ar ai 640 (kernelRun1_A.sl.HS0_22 c a3 h3 a6 h6 a7 h7 a13 h13 a14 h14 a15 h15 a16 h16 a17 h17 a23 a24 x2 x5 x6 x12 x13 x14 x15 x16) (kernelRun1_A.sl.HS1_22 c a3 h3 a6 h6 a7 h7 a13 h13 a14 h14 a15 h15 a16 h16 a17 h17 a23 a24 x2 x5 x6 x12 x13 x14 x15 x16) :=
  (block 512 (by decide) _ _ (by decide) rfl _ _ a23.view a24.view _ _ (by decide) (by decide) (by decide) (by decide) ar ai x5 x6 _ _ hA hI
    (state_block a6 h6 x5 512 (by decide) (by decide)) (state_block a7 h7 x6 512 (by decide) (by decide)) (both_4 c a3 h3 a6 h6 a7 h7 a13 h13 a14 h14 a15 h15 a16 h16 a17 h17 a23 a24 x2 x5 x6 x12 x13 x14 x15 x16 ar ai hA hI).1 (both_4 c a3 h3 a6 h6 a7 h7 a13 h13 a14 h14 a15 h15 a16 h16 a17 h17 a23 a24 x2 x5 x6 x12 x13 x14 x15 x16 ar ai hA hI).2).1

include hA hI in
/-- 6 blocks of 128 lanes done. -/
theorem both_6 : Both c a3 h3 a16 h16 a17 h17 x2 x5 x6 x15 x16 ar ai 768 (kernelRun1_A.sl.HS0_26 c a3 h3 a6 h6 a7 h7 a13 h13 a14 h14 a15 h15 a16 h16 a17 h17 a23 a24 x2 x5 x6 x12 x13 x14 x15 x16) (kernelRun1_A.sl.HS1_26 c a3 h3 a6 h6 a7 h7 a13 h13 a14 h14 a15 h15 a16 h16 a17 h17 a23 a24 x2 x5 x6 x12 x13 x14 x15 x16) :=
  (block 640 (by decide) _ _ (by decide) rfl _ _ a23.view a24.view _ _ (by decide) (by decide) (by decide) (by decide) ar ai x5 x6 _ _ hA hI
    (state_block a6 h6 x5 640 (by decide) (by decide)) (state_block a7 h7 x6 640 (by decide) (by decide)) (both_5 c a3 h3 a6 h6 a7 h7 a13 h13 a14 h14 a15 h15 a16 h16 a17 h17 a23 a24 x2 x5 x6 x12 x13 x14 x15 x16 ar ai hA hI).1 (both_5 c a3 h3 a6 h6 a7 h7 a13 h13 a14 h14 a15 h15 a16 h16 a17 h17 a23 a24 x2 x5 x6 x12 x13 x14 x15 x16 ar ai hA hI).2).1

include hA hI in
/-- 7 blocks of 128 lanes done. -/
theorem both_7 : Both c a3 h3 a16 h16 a17 h17 x2 x5 x6 x15 x16 ar ai 896 (kernelRun1_A.sl.HS0_30 c a3 h3 a6 h6 a7 h7 a13 h13 a14 h14 a15 h15 a16 h16 a17 h17 a23 a24 x2 x5 x6 x12 x13 x14 x15 x16) (kernelRun1_A.sl.HS1_30 c a3 h3 a6 h6 a7 h7 a13 h13 a14 h14 a15 h15 a16 h16 a17 h17 a23 a24 x2 x5 x6 x12 x13 x14 x15 x16) :=
  (block 768 (by decide) _ _ (by decide) rfl _ _ a23.view a24.view _ _ (by decide) (by decide) (by decide) (by decide) ar ai x5 x6 _ _ hA hI
    (state_block a6 h6 x5 768 (by decide) (by decide)) (state_block a7 h7 x6 768 (by decide) (by decide)) (both_6 c a3 h3 a6 h6 a7 h7 a13 h13 a14 h14 a15 h15 a16 h16 a17 h17 a23 a24 x2 x5 x6 x12 x13 x14 x15 x16 ar ai hA hI).1 (both_6 c a3 h3 a6 h6 a7 h7 a13 h13 a14 h14 a15 h15 a16 h16 a17 h17 a23 a24 x2 x5 x6 x12 x13 x14 x15 x16 ar ai hA hI).2).1

include hA hI in
/-- 8 blocks of 128 lanes done. -/
theorem both_8 : Both c a3 h3 a16 h16 a17 h17 x2 x5 x6 x15 x16 ar ai 1024 (kernelRun1_A.sl.HS0_34 c a3 h3 a6 h6 a7 h7 a13 h13 a14 h14 a15 h15 a16 h16 a17 h17 a23 a24 x2 x5 x6 x12 x13 x14 x15 x16) (kernelRun1_A.sl.HS1_34 c a3 h3 a6 h6 a7 h7 a13 h13 a14 h14 a15 h15 a16 h16 a17 h17 a23 a24 x2 x5 x6 x12 x13 x14 x15 x16) :=
  (block 896 (by decide) _ _ (by decide) rfl _ _ a23.view a24.view _ _ (by decide) (by decide) (by decide) (by decide) ar ai x5 x6 _ _ hA hI
    (state_block a6 h6 x5 896 (by decide) (by decide)) (state_block a7 h7 x6 896 (by decide) (by decide)) (both_7 c a3 h3 a6 h6 a7 h7 a13 h13 a14 h14 a15 h15 a16 h16 a17 h17 a23 a24 x2 x5 x6 x12 x13 x14 x15 x16 ar ai hA hI).1 (both_7 c a3 h3 a6 h6 a7 h7 a13 h13 a14 h14 a15 h15 a16 h16 a17 h17 a23 a24 x2 x5 x6 x12 x13 x14 x15 x16 ar ai hA hI).2).1

include hA hI in
/-- 9 blocks of 128 lanes done. -/
theorem both_9 : Both c a3 h3 a16 h16 a17 h17 x2 x5 x6 x15 x16 ar ai 1152 (kernelRun1_A.sl.HS0_38 c a3 h3 a6 h6 a7 h7 a13 h13 a14 h14 a15 h15 a16 h16 a17 h17 a23 a24 x2 x5 x6 x12 x13 x14 x15 x16) (kernelRun1_A.sl.HS1_38 c a3 h3 a6 h6 a7 h7 a13 h13 a14 h14 a15 h15 a16 h16 a17 h17 a23 a24 x2 x5 x6 x12 x13 x14 x15 x16) :=
  (block 1024 (by decide) _ _ (by decide) rfl _ _ a23.view a24.view _ _ (by decide) (by decide) (by decide) (by decide) ar ai x5 x6 _ _ hA hI
    (state_block a6 h6 x5 1024 (by decide) (by decide)) (state_block a7 h7 x6 1024 (by decide) (by decide)) (both_8 c a3 h3 a6 h6 a7 h7 a13 h13 a14 h14 a15 h15 a16 h16 a17 h17 a23 a24 x2 x5 x6 x12 x13 x14 x15 x16 ar ai hA hI).1 (both_8 c a3 h3 a6 h6 a7 h7 a13 h13 a14 h14 a15 h15 a16 h16 a17 h17 a23 a24 x2 x5 x6 x12 x13 x14 x15 x16 ar ai hA hI).2).1

include hA hI in
/-- 10 blocks of 128 lanes done. -/
theorem both_10 : Both c a3 h3 a16 h16 a17 h17 x2 x5 x6 x15 x16 ar ai 1280 (kernelRun1_A.sl.HS0_42 c a3 h3 a6 h6 a7 h7 a13 h13 a14 h14 a15 h15 a16 h16 a17 h17 a23 a24 x2 x5 x6 x12 x13 x14 x15 x16) (kernelRun1_A.sl.HS1_42 c a3 h3 a6 h6 a7 h7 a13 h13 a14 h14 a15 h15 a16 h16 a17 h17 a23 a24 x2 x5 x6 x12 x13 x14 x15 x16) :=
  (block 1152 (by decide) _ _ (by decide) rfl _ _ a23.view a24.view _ _ (by decide) (by decide) (by decide) (by decide) ar ai x5 x6 _ _ hA hI
    (state_block a6 h6 x5 1152 (by decide) (by decide)) (state_block a7 h7 x6 1152 (by decide) (by decide)) (both_9 c a3 h3 a6 h6 a7 h7 a13 h13 a14 h14 a15 h15 a16 h16 a17 h17 a23 a24 x2 x5 x6 x12 x13 x14 x15 x16 ar ai hA hI).1 (both_9 c a3 h3 a6 h6 a7 h7 a13 h13 a14 h14 a15 h15 a16 h16 a17 h17 a23 a24 x2 x5 x6 x12 x13 x14 x15 x16 ar ai hA hI).2).1

include hA hI in
/-- 11 blocks of 128 lanes done. -/
theorem both_11 : Both c a3 h3 a16 h16 a17 h17 x2 x5 x6 x15 x16 ar ai 1408 (kernelRun1_A.sl.HS0_46 c a3 h3 a6 h6 a7 h7 a13 h13 a14 h14 a15 h15 a16 h16 a17 h17 a23 a24 x2 x5 x6 x12 x13 x14 x15 x16) (kernelRun1_A.sl.HS1_46 c a3 h3 a6 h6 a7 h7 a13 h13 a14 h14 a15 h15 a16 h16 a17 h17 a23 a24 x2 x5 x6 x12 x13 x14 x15 x16) :=
  (block 1280 (by decide) _ _ (by decide) rfl _ _ a23.view a24.view _ _ (by decide) (by decide) (by decide) (by decide) ar ai x5 x6 _ _ hA hI
    (state_block a6 h6 x5 1280 (by decide) (by decide)) (state_block a7 h7 x6 1280 (by decide) (by decide)) (both_10 c a3 h3 a6 h6 a7 h7 a13 h13 a14 h14 a15 h15 a16 h16 a17 h17 a23 a24 x2 x5 x6 x12 x13 x14 x15 x16 ar ai hA hI).1 (both_10 c a3 h3 a6 h6 a7 h7 a13 h13 a14 h14 a15 h15 a16 h16 a17 h17 a23 a24 x2 x5 x6 x12 x13 x14 x15 x16 ar ai hA hI).2).1

include hA hI in
/-- 12 blocks of 128 lanes done. -/
theorem both_12 : Both c a3 h3 a16 h16 a17 h17 x2 x5 x6 x15 x16 ar ai 1536 (kernelRun1_A.sl.HS0_50 c a3 h3 a6 h6 a7 h7 a13 h13 a14 h14 a15 h15 a16 h16 a17 h17 a23 a24 x2 x5 x6 x12 x13 x14 x15 x16) (kernelRun1_A.sl.HS1_50 c a3 h3 a6 h6 a7 h7 a13 h13 a14 h14 a15 h15 a16 h16 a17 h17 a23 a24 x2 x5 x6 x12 x13 x14 x15 x16) :=
  (block 1408 (by decide) _ _ (by decide) rfl _ _ a23.view a24.view _ _ (by decide) (by decide) (by decide) (by decide) ar ai x5 x6 _ _ hA hI
    (state_block a6 h6 x5 1408 (by decide) (by decide)) (state_block a7 h7 x6 1408 (by decide) (by decide)) (both_11 c a3 h3 a6 h6 a7 h7 a13 h13 a14 h14 a15 h15 a16 h16 a17 h17 a23 a24 x2 x5 x6 x12 x13 x14 x15 x16 ar ai hA hI).1 (both_11 c a3 h3 a6 h6 a7 h7 a13 h13 a14 h14 a15 h15 a16 h16 a17 h17 a23 a24 x2 x5 x6 x12 x13 x14 x15 x16 ar ai hA hI).2).1

include hA hI in
/-- 13 blocks of 128 lanes done. -/
theorem both_13 : Both c a3 h3 a16 h16 a17 h17 x2 x5 x6 x15 x16 ar ai 1664 (kernelRun1_A.sl.HS0_54 c a3 h3 a6 h6 a7 h7 a13 h13 a14 h14 a15 h15 a16 h16 a17 h17 a23 a24 x2 x5 x6 x12 x13 x14 x15 x16) (kernelRun1_A.sl.HS1_54 c a3 h3 a6 h6 a7 h7 a13 h13 a14 h14 a15 h15 a16 h16 a17 h17 a23 a24 x2 x5 x6 x12 x13 x14 x15 x16) :=
  (block 1536 (by decide) _ _ (by decide) rfl _ _ a23.view a24.view _ _ (by decide) (by decide) (by decide) (by decide) ar ai x5 x6 _ _ hA hI
    (state_block a6 h6 x5 1536 (by decide) (by decide)) (state_block a7 h7 x6 1536 (by decide) (by decide)) (both_12 c a3 h3 a6 h6 a7 h7 a13 h13 a14 h14 a15 h15 a16 h16 a17 h17 a23 a24 x2 x5 x6 x12 x13 x14 x15 x16 ar ai hA hI).1 (both_12 c a3 h3 a6 h6 a7 h7 a13 h13 a14 h14 a15 h15 a16 h16 a17 h17 a23 a24 x2 x5 x6 x12 x13 x14 x15 x16 ar ai hA hI).2).1

include hA hI in
/-- 14 blocks of 128 lanes done. -/
theorem both_14 : Both c a3 h3 a16 h16 a17 h17 x2 x5 x6 x15 x16 ar ai 1792 (kernelRun1_A.sl.HS0_58 c a3 h3 a6 h6 a7 h7 a13 h13 a14 h14 a15 h15 a16 h16 a17 h17 a23 a24 x2 x5 x6 x12 x13 x14 x15 x16) (kernelRun1_A.sl.HS1_58 c a3 h3 a6 h6 a7 h7 a13 h13 a14 h14 a15 h15 a16 h16 a17 h17 a23 a24 x2 x5 x6 x12 x13 x14 x15 x16) :=
  (block 1664 (by decide) _ _ (by decide) rfl _ _ a23.view a24.view _ _ (by decide) (by decide) (by decide) (by decide) ar ai x5 x6 _ _ hA hI
    (state_block a6 h6 x5 1664 (by decide) (by decide)) (state_block a7 h7 x6 1664 (by decide) (by decide)) (both_13 c a3 h3 a6 h6 a7 h7 a13 h13 a14 h14 a15 h15 a16 h16 a17 h17 a23 a24 x2 x5 x6 x12 x13 x14 x15 x16 ar ai hA hI).1 (both_13 c a3 h3 a6 h6 a7 h7 a13 h13 a14 h14 a15 h15 a16 h16 a17 h17 a23 a24 x2 x5 x6 x12 x13 x14 x15 x16 ar ai hA hI).2).1

include hA hI in
/-- 15 blocks of 128 lanes done. -/
theorem both_15 : Both c a3 h3 a16 h16 a17 h17 x2 x5 x6 x15 x16 ar ai 1920 (kernelRun1_A.sl.HS0_62 c a3 h3 a6 h6 a7 h7 a13 h13 a14 h14 a15 h15 a16 h16 a17 h17 a23 a24 x2 x5 x6 x12 x13 x14 x15 x16) (kernelRun1_A.sl.HS1_62 c a3 h3 a6 h6 a7 h7 a13 h13 a14 h14 a15 h15 a16 h16 a17 h17 a23 a24 x2 x5 x6 x12 x13 x14 x15 x16) :=
  (block 1792 (by decide) _ _ (by decide) rfl _ _ a23.view a24.view _ _ (by decide) (by decide) (by decide) (by decide) ar ai x5 x6 _ _ hA hI
    (state_block a6 h6 x5 1792 (by decide) (by decide)) (state_block a7 h7 x6 1792 (by decide) (by decide)) (both_14 c a3 h3 a6 h6 a7 h7 a13 h13 a14 h14 a15 h15 a16 h16 a17 h17 a23 a24 x2 x5 x6 x12 x13 x14 x15 x16 ar ai hA hI).1 (both_14 c a3 h3 a6 h6 a7 h7 a13 h13 a14 h14 a15 h15 a16 h16 a17 h17 a23 a24 x2 x5 x6 x12 x13 x14 x15 x16 ar ai hA hI).2).1

include hA hI in
/-- 16 blocks of 128 lanes done. -/
theorem both_16 : Both c a3 h3 a16 h16 a17 h17 x2 x5 x6 x15 x16 ar ai 2048 (kernelRun1_A.sl.HS0_66 c a3 h3 a6 h6 a7 h7 a13 h13 a14 h14 a15 h15 a16 h16 a17 h17 a23 a24 x2 x5 x6 x12 x13 x14 x15 x16) (kernelRun1_A.sl.HS1_66 c a3 h3 a6 h6 a7 h7 a13 h13 a14 h14 a15 h15 a16 h16 a17 h17 a23 a24 x2 x5 x6 x12 x13 x14 x15 x16) :=
  (block 1920 (by decide) _ _ (by decide) rfl _ _ a23.view a24.view _ _ (by decide) (by decide) (by decide) (by decide) ar ai x5 x6 _ _ hA hI
    (state_block a6 h6 x5 1920 (by decide) (by decide)) (state_block a7 h7 x6 1920 (by decide) (by decide)) (both_15 c a3 h3 a6 h6 a7 h7 a13 h13 a14 h14 a15 h15 a16 h16 a17 h17 a23 a24 x2 x5 x6 x12 x13 x14 x15 x16 ar ai hA hI).1 (both_15 c a3 h3 a6 h6 a7 h7 a13 h13 a14 h14 a15 h15 a16 h16 a17 h17 a23 a24 x2 x5 x6 x12 x13 x14 x15 x16 ar ai hA hI).2).1

end scratch

variable (V : Dev nD → (b : Ref sig .tc) → b.ty.Contents (Elt Ideal))

/-- What the grid point leaves in the real state array: each lane after its four steps. -/
theorem state_re_block (c : Dev nD) (t : Fin cfg1.N) (ar ai : Fin 2048 → EReal)
    (hA : ∀ l, kernelRun1_A.sl.r c (ms1_12 t) (hs1_12 t) (ms1_13 t) (hs1_13 t) (ms1_14 t) (hs1_14 t) (iblk1 V c 12 t) (iblk1 V c 13 t) (iblk1 V c 14 t) (ix2 (0 : Fin 1) l) = ar l)
    (hI : ∀ l, kernelRun1_A.sl.r_1 c (ms1_12 t) (hs1_12 t) (ms1_13 t) (hs1_13 t) (ms1_14 t) (hs1_14 t) (iblk1 V c 12 t) (iblk1 V c 13 t) (iblk1 V c 14 t) (ix2 (0 : Fin 1) l) = ai l) (y : S128x2048.Idx) :
    (outsAt1 V c t).2.1 y = (stateAt ar ai (iblk1 V c 5 t) (iblk1 V c 6 t)
      (first0 c (ms1_2 t) (hs1_2 t) (ms1_15 t) (hs1_15 t) (iblk1 V c 2 t) (iblk1 V c 15 t))
      (first1 c (ms1_2 t) (hs1_2 t) (ms1_16 t) (hs1_16 t) (iblk1 V c 2 t) (iblk1 V c 16 t)) (y 0) (y 1)).1 := by
  dsimp only [outsAt1]
  unfold out1_A_20
  rw [View.read_writes_junk_eq_canon]
  unfold kernelRun1_A
  dsimp only
  generalize iblk1 V c 2 t = x2
  generalize iblk1 V c 5 t = x5
  generalize iblk1 V c 6 t = x6
  generalize iblk1 V c 12 t = x12 at hA hI ⊢
  generalize iblk1 V c 13 t = x13 at hA hI ⊢
  generalize iblk1 V c 14 t = x14 at hA hI ⊢
  generalize iblk1 V c 15 t = x15
  generalize iblk1 V c 16 t = x16
  let p2 := ms1_2 t; let q2 := hs1_2 t
  let p5 := ms1_5 t; let q5 := hs1_5 t
  let p6 := ms1_6 t; let q6 := hs1_6 t
  let p12 := ms1_12 t; let q12 := hs1_12 t
  let p13 := ms1_13 t; let q13 := hs1_13 t
  let p14 := ms1_14 t; let q14 := hs1_14 t
  let p15 := ms1_15 t; let q15 := hs1_15 t
  let p16 := ms1_16 t; let q16 := hs1_16 t
  let s0 := scM1_0; let s1 := scM1_1
  canon_tiles x h
  · exact (block 1920 (by decide) _ _ (by decide) rfl _ _ s0.view s1.view _ _ (by decide) (by decide) (by decide) (by decide) ar ai x5 x6 _ _ hA hI
      (state_block p5 q5 x5 1920 (by decide) (by decide)) (state_block p6 q6 x6 1920 (by decide) (by decide)) (both_15 c p2 q2 p5 q5 p6 q6 p12 q12 p13 q13 p14 q14 p15 q15 p16 q16 s0 s1 x2 x5 x6 x12 x13 x14 x15 x16 ar ai hA hI).1 (both_15 c p2 q2 p5 q5 p6 q6 p12 q12 p13 q13 p14 q14 p15 q15 p16 q16 s0 s1 x2 x5 x6 x12 x13 x14 x15 x16 ar ai hA hI).2).2.1 x y (by omega) (by omega)
  · exact (block 1792 (by decide) _ _ (by decide) rfl _ _ s0.view s1.view _ _ (by decide) (by decide) (by decide) (by decide) ar ai x5 x6 _ _ hA hI
      (state_block p5 q5 x5 1792 (by decide) (by decide)) (state_block p6 q6 x6 1792 (by decide) (by decide)) (both_14 c p2 q2 p5 q5 p6 q6 p12 q12 p13 q13 p14 q14 p15 q15 p16 q16 s0 s1 x2 x5 x6 x12 x13 x14 x15 x16 ar ai hA hI).1 (both_14 c p2 q2 p5 q5 p6 q6 p12 q12 p13 q13 p14 q14 p15 q15 p16 q16 s0 s1 x2 x5 x6 x12 x13 x14 x15 x16 ar ai hA hI).2).2.1 x y (by omega) (by omega)
  · exact (block 1664 (by decide) _ _ (by decide) rfl _ _ s0.view s1.view _ _ (by decide) (by decide) (by decide) (by decide) ar ai x5 x6 _ _ hA hI
      (state_block p5 q5 x5 1664 (by decide) (by decide)) (state_block p6 q6 x6 1664 (by decide) (by decide)) (both_13 c p2 q2 p5 q5 p6 q6 p12 q12 p13 q13 p14 q14 p15 q15 p16 q16 s0 s1 x2 x5 x6 x12 x13 x14 x15 x16 ar ai hA hI).1 (both_13 c p2 q2 p5 q5 p6 q6 p12 q12 p13 q13 p14 q14 p15 q15 p16 q16 s0 s1 x2 x5 x6 x12 x13 x14 x15 x16 ar ai hA hI).2).2.1 x y (by omega) (by omega)
  · exact (block 1536 (by decide) _ _ (by decide) rfl _ _ s0.view s1.view _ _ (by decide) (by decide) (by decide) (by decide) ar ai x5 x6 _ _ hA hI
      (state_block p5 q5 x5 1536 (by decide) (by decide)) (state_block p6 q6 x6 1536 (by decide) (by decide)) (both_12 c p2 q2 p5 q5 p6 q6 p12 q12 p13 q13 p14 q14 p15 q15 p16 q16 s0 s1 x2 x5 x6 x12 x13 x14 x15 x16 ar ai hA hI).1 (both_12 c p2 q2 p5 q5 p6 q6 p12 q12 p13 q13 p14 q14 p15 q15 p16 q16 s0 s1 x2 x5 x6 x12 x13 x14 x15 x16 ar ai hA hI).2).2.1 x y (by omega) (by omega)
  · exact (block 1408 (by decide) _ _ (by decide) rfl _ _ s0.view s1.view _ _ (by decide) (by decide) (by decide) (by decide) ar ai x5 x6 _ _ hA hI
      (state_block p5 q5 x5 1408 (by decide) (by decide)) (state_block p6 q6 x6 1408 (by decide) (by decide)) (both_11 c p2 q2 p5 q5 p6 q6 p12 q12 p13 q13 p14 q14 p15 q15 p16 q16 s0 s1 x2 x5 x6 x12 x13 x14 x15 x16 ar ai hA hI).1 (both_11 c p2 q2 p5 q5 p6 q6 p12 q12 p13 q13 p14 q14 p15 q15 p16 q16 s0 s1 x2 x5 x6 x12 x13 x14 x15 x16 ar ai hA hI).2).2.1 x y (by omega) (by omega)
  · exact (block 1280 (by decide) _ _ (by decide) rfl _ _ s0.view s1.view _ _ (by decide) (by decide) (by decide) (by decide) ar ai x5 x6 _ _ hA hI
      (state_block p5 q5 x5 1280 (by decide) (by decide)) (state_block p6 q6 x6 1280 (by decide) (by decide)) (both_10 c p2 q2 p5 q5 p6 q6 p12 q12 p13 q13 p14 q14 p15 q15 p16 q16 s0 s1 x2 x5 x6 x12 x13 x14 x15 x16 ar ai hA hI).1 (both_10 c p2 q2 p5 q5 p6 q6 p12 q12 p13 q13 p14 q14 p15 q15 p16 q16 s0 s1 x2 x5 x6 x12 x13 x14 x15 x16 ar ai hA hI).2).2.1 x y (by omega) (by omega)
  · exact (block 1152 (by decide) _ _ (by decide) rfl _ _ s0.view s1.view _ _ (by decide) (by decide) (by decide) (by decide) ar ai x5 x6 _ _ hA hI
      (state_block p5 q5 x5 1152 (by decide) (by decide)) (state_block p6 q6 x6 1152 (by decide) (by decide)) (both_9 c p2 q2 p5 q5 p6 q6 p12 q12 p13 q13 p14 q14 p15 q15 p16 q16 s0 s1 x2 x5 x6 x12 x13 x14 x15 x16 ar ai hA hI).1 (both_9 c p2 q2 p5 q5 p6 q6 p12 q12 p13 q13 p14 q14 p15 q15 p16 q16 s0 s1 x2 x5 x6 x12 x13 x14 x15 x16 ar ai hA hI).2).2.1 x y (by omega) (by omega)
  · exact (block 1024 (by decide) _ _ (by decide) rfl _ _ s0.view s1.view _ _ (by decide) (by decide) (by decide) (by decide) ar ai x5 x6 _ _ hA hI
      (state_block p5 q5 x5 1024 (by decide) (by decide)) (state_block p6 q6 x6 1024 (by decide) (by decide)) (both_8 c p2 q2 p5 q5 p6 q6 p12 q12 p13 q13 p14 q14 p15 q15 p16 q16 s0 s1 x2 x5 x6 x12 x13 x14 x15 x16 ar ai hA hI).1 (both_8 c p2 q2 p5 q5 p6 q6 p12 q12 p13 q13 p14 q14 p15 q15 p16 q16 s0 s1 x2 x5 x6 x12 x13 x14 x15 x16 ar ai hA hI).2).2.1 x y (by omega) (by omega)
  · exact (block 896 (by decide) _ _ (by decide) rfl _ _ s0.view s1.view _ _ (by decide) (by decide) (by decide) (by decide) ar ai x5 x6 _ _ hA hI
      (state_block p5 q5 x5 896 (by decide) (by decide)) (state_block p6 q6 x6 896 (by decide) (by decide)) (both_7 c p2 q2 p5 q5 p6 q6 p12 q12 p13 q13 p14 q14 p15 q15 p16 q16 s0 s1 x2 x5 x6 x12 x13 x14 x15 x16 ar ai hA hI).1 (both_7 c p2 q2 p5 q5 p6 q6 p12 q12 p13 q13 p14 q14 p15 q15 p16 q16 s0 s1 x2 x5 x6 x12 x13 x14 x15 x16 ar ai hA hI).2).2.1 x y (by omega) (by omega)
  · exact (block 768 (by decide) _ _ (by decide) rfl _ _ s0.view s1.view _ _ (by decide) (by decide) (by decide) (by decide) ar ai x5 x6 _ _ hA hI
      (state_block p5 q5 x5 768 (by decide) (by decide)) (state_block p6 q6 x6 768 (by decide) (by decide)) (both_6 c p2 q2 p5 q5 p6 q6 p12 q12 p13 q13 p14 q14 p15 q15 p16 q16 s0 s1 x2 x5 x6 x12 x13 x14 x15 x16 ar ai hA hI).1 (both_6 c p2 q2 p5 q5 p6 q6 p12 q12 p13 q13 p14 q14 p15 q15 p16 q16 s0 s1 x2 x5 x6 x12 x13 x14 x15 x16 ar ai hA hI).2).2.1 x y (by omega) (by omega)
  · exact (block 640 (by decide) _ _ (by decide) rfl _ _ s0.view s1.view _ _ (by decide) (by decide) (by decide) (by decide) ar ai x5 x6 _ _ hA hI
      (state_block p5 q5 x5 640 (by decide) (by decide)) (state_block p6 q6 x6 640 (by decide) (by decide)) (both_5 c p2 q2 p5 q5 p6 q6 p12 q12 p13 q13 p14 q14 p15 q15 p16 q16 s0 s1 x2 x5 x6 x12 x13 x14 x15 x16 ar ai hA hI).1 (both_5 c p2 q2 p5 q5 p6 q6 p12 q12 p13 q13 p14 q14 p15 q15 p16 q16 s0 s1 x2 x5 x6 x12 x13 x14 x15 x16 ar ai hA hI).2).2.1 x y (by omega) (by omega)
  · exact (block 512 (by decide) _ _ (by decide) rfl _ _ s0.view s1.view _ _ (by decide) (by decide) (by decide) (by decide) ar ai x5 x6 _ _ hA hI
      (state_block p5 q5 x5 512 (by decide) (by decide)) (state_block p6 q6 x6 512 (by decide) (by decide)) (both_4 c p2 q2 p5 q5 p6 q6 p12 q12 p13 q13 p14 q14 p15 q15 p16 q16 s0 s1 x2 x5 x6 x12 x13 x14 x15 x16 ar ai hA hI).1 (both_4 c p2 q2 p5 q5 p6 q6 p12 q12 p13 q13 p14 q14 p15 q15 p16 q16 s0 s1 x2 x5 x6 x12 x13 x14 x15 x16 ar ai hA hI).2).2.1 x y (by omega) (by omega)
  · exact (block 384 (by decide) _ _ (by decide) rfl _ _ s0.view s1.view _ _ (by decide) (by decide) (by decide) (by decide) ar ai x5 x6 _ _ hA hI
      (state_block p5 q5 x5 384 (by decide) (by decide)) (state_block p6 q6 x6 384 (by decide) (by decide)) (both_3 c p2 q2 p5 q5 p6 q6 p12 q12 p13 q13 p14 q14 p15 q15 p16 q16 s0 s1 x2 x5 x6 x12 x13 x14 x15 x16 ar ai hA hI).1 (both_3 c p2 q2 p5 q5 p6 q6 p12 q12 p13 q13 p14 q14 p15 q15 p16 q16 s0 s1 x2 x5 x6 x12 x13 x14 x15 x16 ar ai hA hI).2).2.1 x y (by omega) (by omega)
  · exact (block 256 (by decide) _ _ (by decide) rfl _ _ s0.view s1.view _ _ (by decide) (by decide) (by decide) (by decide) ar ai x5 x6 _ _ hA hI
      (state_block p5 q5 x5 256 (by decide) (by decide)) (state_block p6 q6 x6 256 (by decide) (by decide)) (both_2 c p2 q2 p5 q5 p6 q6 p12 q12 p13 q13 p14 q14 p15 q15 p16 q16 s0 s1 x2 x5 x6 x12 x13 x14 x15 x16 ar ai hA hI).1 (both_2 c p2 q2 p5 q5 p6 q6 p12 q12 p13 q13 p14 q14 p15 q15 p16 q16 s0 s1 x2 x5 x6 x12 x13 x14 x15 x16 ar ai hA hI).2).2.1 x y (by omega) (by omega)
  · exact (block 128 (by decide) _ _ (by decide) rfl _ _ s0.view s1.view _ _ (by decide) (by decide) (by decide) (by decide) ar ai x5 x6 _ _ hA hI
      (state_block p5 q5 x5 128 (by decide) (by decide)) (state_block p6 q6 x6 128 (by decide) (by decide)) (both_1 c p2 q2 p5 q5 p6 q6 p12 q12 p13 q13 p14 q14 p15 q15 p16 q16 s0 s1 x2 x5 x6 x12 x13 x14 x15 x16 ar ai hA hI).1 (both_1 c p2 q2 p5 q5 p6 q6 p12 q12 p13 q13 p14 q14 p15 q15 p16 q16 s0 s1 x2 x5 x6 x12 x13 x14 x15 x16 ar ai hA hI).2).2.1 x y (by omega) (by omega)
  · exact (block 0 (by decide) _ _ (by decide) rfl _ _ s0.view s1.view _ _ (by decide) (by decide) (by decide) (by decide) ar ai x5 x6 _ _ hA hI
      (state_block p5 q5 x5 0 (by decide) (by decide)) (state_block p6 q6 x6 0 (by decide) (by decide)) (both_0 c p2 q2 p15 q15 p16 q16 x2 x5 x6 x15 x16 ar ai).1 (both_0 c p2 q2 p15 q15 p16 q16 x2 x5 x6 x15 x16 ar ai).2).2.1 x y (by omega) (by omega)

/-- What the grid point leaves in the imaginary state array: each lane after its four steps. -/
theorem state_im_block (c : Dev nD) (t : Fin cfg1.N) (ar ai : Fin 2048 → EReal)
    (hA : ∀ l, kernelRun1_A.sl.r c (ms1_12 t) (hs1_12 t) (ms1_13 t) (hs1_13 t) (ms1_14 t) (hs1_14 t) (iblk1 V c 12 t) (iblk1 V c 13 t) (iblk1 V c 14 t) (ix2 (0 : Fin 1) l) = ar l)
    (hI : ∀ l, kernelRun1_A.sl.r_1 c (ms1_12 t) (hs1_12 t) (ms1_13 t) (hs1_13 t) (ms1_14 t) (hs1_14 t) (iblk1 V c 12 t) (iblk1 V c 13 t) (iblk1 V c 14 t) (ix2 (0 : Fin 1) l) = ai l) (y : S128x2048.Idx) :
    (outsAt1 V c t).2.2 y = (stateAt ar ai (iblk1 V c 5 t) (iblk1 V c 6 t)
      (first0 c (ms1_2 t) (hs1_2 t) (ms1_15 t) (hs1_15 t) (iblk1 V c 2 t) (iblk1 V c 15 t))
      (first1 c (ms1_2 t) (hs1_2 t) (ms1_16 t) (hs1_16 t) (iblk1 V c 2 t) (iblk1 V c 16 t)) (y 0) (y 1)).2 := by
  dsimp only [outsAt1]
  unfold out1_A_21
  rw [View.read_writes_junk_eq_canon]
  unfold kernelRun1_A
  dsimp only
  generalize iblk1 V c 2 t = x2
  generalize iblk1 V c 5 t = x5
  generalize iblk1 V c 6 t = x6
  generalize iblk1 V c 12 t = x12 at hA hI ⊢
  generalize iblk1 V c 13 t = x13 at hA hI ⊢
  generalize iblk1 V c 14 t = x14 at hA hI ⊢
  generalize iblk1 V c 15 t = x15
  generalize iblk1 V c 16 t = x16
  let p2 := ms1_2 t; let q2 := hs1_2 t
  let p5 := ms1_5 t; let q5 := hs1_5 t
  let p6 := ms1_6 t; let q6 := hs1_6 t
  let p12 := ms1_12 t; let q12 := hs1_12 t
  let p13 := ms1_13 t; let q13 := hs1_13 t
  let p14 := ms1_14 t; let q14 := hs1_14 t
  let p15 := ms1_15 t; let q15 := hs1_15 t
  let p16 := ms1_16 t; let q16 := hs1_16 t
  let s0 := scM1_0; let s1 := scM1_1
  canon_tiles x h
  · exact (block 1920 (by decide) _ _ (by decide) rfl _ _ s0.view s1.view _ _ (by decide) (by decide) (by decide) (by decide) ar ai x5 x6 _ _ hA hI
      (state_block p5 q5 x5 1920 (by decide) (by decide)) (state_block p6 q6 x6 1920 (by decide) (by decide)) (both_15 c p2 q2 p5 q5 p6 q6 p12 q12 p13 q13 p14 q14 p15 q15 p16 q16 s0 s1 x2 x5 x6 x12 x13 x14 x15 x16 ar ai hA hI).1 (both_15 c p2 q2 p5 q5 p6 q6 p12 q12 p13 q13 p14 q14 p15 q15 p16 q16 s0 s1 x2 x5 x6 x12 x13 x14 x15 x16 ar ai hA hI).2).2.2 x y (by omega) (by omega)
  · exact (block 1792 (by decide) _ _ (by decide) rfl _ _ s0.view s1.view _ _ (by decide) (by decide) (by decide) (by decide) ar ai x5 x6 _ _ hA hI
      (state_block p5 q5 x5 1792 (by decide) (by decide)) (state_block p6 q6 x6 1792 (by decide) (by decide)) (both_14 c p2 q2 p5 q5 p6 q6 p12 q12 p13 q13 p14 q14 p15 q15 p16 q16 s0 s1 x2 x5 x6 x12 x13 x14 x15 x16 ar ai hA hI).1 (both_14 c p2 q2 p5 q5 p6 q6 p12 q12 p13 q13 p14 q14 p15 q15 p16 q16 s0 s1 x2 x5 x6 x12 x13 x14 x15 x16 ar ai hA hI).2).2.2 x y (by omega) (by omega)
  · exact (block 1664 (by decide) _ _ (by decide) rfl _ _ s0.view s1.view _ _ (by decide) (by decide) (by decide) (by decide) ar ai x5 x6 _ _ hA hI
      (state_block p5 q5 x5 1664 (by decide) (by decide)) (state_block p6 q6 x6 1664 (by decide) (by decide)) (both_13 c p2 q2 p5 q5 p6 q6 p12 q12 p13 q13 p14 q14 p15 q15 p16 q16 s0 s1 x2 x5 x6 x12 x13 x14 x15 x16 ar ai hA hI).1 (both_13 c p2 q2 p5 q5 p6 q6 p12 q12 p13 q13 p14 q14 p15 q15 p16 q16 s0 s1 x2 x5 x6 x12 x13 x14 x15 x16 ar ai hA hI).2).2.2 x y (by omega) (by omega)
  · exact (block 1536 (by decide) _ _ (by decide) rfl _ _ s0.view s1.view _ _ (by decide) (by decide) (by decide) (by decide) ar ai x5 x6 _ _ hA hI
      (state_block p5 q5 x5 1536 (by decide) (by decide)) (state_block p6 q6 x6 1536 (by decide) (by decide)) (both_12 c p2 q2 p5 q5 p6 q6 p12 q12 p13 q13 p14 q14 p15 q15 p16 q16 s0 s1 x2 x5 x6 x12 x13 x14 x15 x16 ar ai hA hI).1 (both_12 c p2 q2 p5 q5 p6 q6 p12 q12 p13 q13 p14 q14 p15 q15 p16 q16 s0 s1 x2 x5 x6 x12 x13 x14 x15 x16 ar ai hA hI).2).2.2 x y (by omega) (by omega)
  · exact (block 1408 (by decide) _ _ (by decide) rfl _ _ s0.view s1.view _ _ (by decide) (by decide) (by decide) (by decide) ar ai x5 x6 _ _ hA hI
      (state_block p5 q5 x5 1408 (by decide) (by decide)) (state_block p6 q6 x6 1408 (by decide) (by decide)) (both_11 c p2 q2 p5 q5 p6 q6 p12 q12 p13 q13 p14 q14 p15 q15 p16 q16 s0 s1 x2 x5 x6 x12 x13 x14 x15 x16 ar ai hA hI).1 (both_11 c p2 q2 p5 q5 p6 q6 p12 q12 p13 q13 p14 q14 p15 q15 p16 q16 s0 s1 x2 x5 x6 x12 x13 x14 x15 x16 ar ai hA hI).2).2.2 x y (by omega) (by omega)
  · exact (block 1280 (by decide) _ _ (by decide) rfl _ _ s0.view s1.view _ _ (by decide) (by decide) (by decide) (by decide) ar ai x5 x6 _ _ hA hI
      (state_block p5 q5 x5 1280 (by decide) (by decide)) (state_block p6 q6 x6 1280 (by decide) (by decide)) (both_10 c p2 q2 p5 q5 p6 q6 p12 q12 p13 q13 p14 q14 p15 q15 p16 q16 s0 s1 x2 x5 x6 x12 x13 x14 x15 x16 ar ai hA hI).1 (both_10 c p2 q2 p5 q5 p6 q6 p12 q12 p13 q13 p14 q14 p15 q15 p16 q16 s0 s1 x2 x5 x6 x12 x13 x14 x15 x16 ar ai hA hI).2).2.2 x y (by omega) (by omega)
  · exact (block 1152 (by decide) _ _ (by decide) rfl _ _ s0.view s1.view _ _ (by decide) (by decide) (by decide) (by decide) ar ai x5 x6 _ _ hA hI
      (state_block p5 q5 x5 1152 (by decide) (by decide)) (state_block p6 q6 x6 1152 (by decide) (by decide)) (both_9 c p2 q2 p5 q5 p6 q6 p12 q12 p13 q13 p14 q14 p15 q15 p16 q16 s0 s1 x2 x5 x6 x12 x13 x14 x15 x16 ar ai hA hI).1 (both_9 c p2 q2 p5 q5 p6 q6 p12 q12 p13 q13 p14 q14 p15 q15 p16 q16 s0 s1 x2 x5 x6 x12 x13 x14 x15 x16 ar ai hA hI).2).2.2 x y (by omega) (by omega)
  · exact (block 1024 (by decide) _ _ (by decide) rfl _ _ s0.view s1.view _ _ (by decide) (by decide) (by decide) (by decide) ar ai x5 x6 _ _ hA hI
      (state_block p5 q5 x5 1024 (by decide) (by decide)) (state_block p6 q6 x6 1024 (by decide) (by decide)) (both_8 c p2 q2 p5 q5 p6 q6 p12 q12 p13 q13 p14 q14 p15 q15 p16 q16 s0 s1 x2 x5 x6 x12 x13 x14 x15 x16 ar ai hA hI).1 (both_8 c p2 q2 p5 q5 p6 q6 p12 q12 p13 q13 p14 q14 p15 q15 p16 q16 s0 s1 x2 x5 x6 x12 x13 x14 x15 x16 ar ai hA hI).2).2.2 x y (by omega) (by omega)
  · exact (block 896 (by decide) _ _ (by decide) rfl _ _ s0.view s1.view _ _ (by decide) (by decide) (by decide) (by decide) ar ai x5 x6 _ _ hA hI
      (state_block p5 q5 x5 896 (by decide) (by decide)) (state_block p6 q6 x6 896 (by decide) (by decide)) (both_7 c p2 q2 p5 q5 p6 q6 p12 q12 p13 q13 p14 q14 p15 q15 p16 q16 s0 s1 x2 x5 x6 x12 x13 x14 x15 x16 ar ai hA hI).1 (both_7 c p2 q2 p5 q5 p6 q6 p12 q12 p13 q13 p14 q14 p15 q15 p16 q16 s0 s1 x2 x5 x6 x12 x13 x14 x15 x16 ar ai hA hI).2).2.2 x y (by omega) (by omega)
  · exact (block 768 (by decide) _ _ (by decide) rfl _ _ s0.view s1.view _ _ (by decide) (by decide) (by decide) (by decide) ar ai x5 x6 _ _ hA hI
      (state_block p5 q5 x5 768 (by decide) (by decide)) (state_block p6 q6 x6 768 (by decide) (by decide)) (both_6 c p2 q2 p5 q5 p6 q6 p12 q12 p13 q13 p14 q14 p15 q15 p16 q16 s0 s1 x2 x5 x6 x12 x13 x14 x15 x16 ar ai hA hI).1 (both_6 c p2 q2 p5 q5 p6 q6 p12 q12 p13 q13 p14 q14 p15 q15 p16 q16 s0 s1 x2 x5 x6 x12 x13 x14 x15 x16 ar ai hA hI).2).2.2 x y (by omega) (by omega)
  · exact (block 640 (by decide) _ _ (by decide) rfl _ _ s0.view s1.view _ _ (by decide) (by decide) (by decide) (by decide) ar ai x5 x6 _ _ hA hI
      (state_block p5 q5 x5 640 (by decide) (by decide)) (state_block p6 q6 x6 640 (by decide) (by decide)) (both_5 c p2 q2 p5 q5 p6 q6 p12 q12 p13 q13 p14 q14 p15 q15 p16 q16 s0 s1 x2 x5 x6 x12 x13 x14 x15 x16 ar ai hA hI).1 (both_5 c p2 q2 p5 q5 p6 q6 p12 q12 p13 q13 p14 q14 p15 q15 p16 q16 s0 s1 x2 x5 x6 x12 x13 x14 x15 x16 ar ai hA hI).2).2.2 x y (by omega) (by omega)
  · exact (block 512 (by decide) _ _ (by decide) rfl _ _ s0.view s1.view _ _ (by decide) (by decide) (by decide) (by decide) ar ai x5 x6 _ _ hA hI
      (state_block p5 q5 x5 512 (by decide) (by decide)) (state_block p6 q6 x6 512 (by decide) (by decide)) (both_4 c p2 q2 p5 q5 p6 q6 p12 q12 p13 q13 p14 q14 p15 q15 p16 q16 s0 s1 x2 x5 x6 x12 x13 x14 x15 x16 ar ai hA hI).1 (both_4 c p2 q2 p5 q5 p6 q6 p12 q12 p13 q13 p14 q14 p15 q15 p16 q16 s0 s1 x2 x5 x6 x12 x13 x14 x15 x16 ar ai hA hI).2).2.2 x y (by omega) (by omega)
  · exact (block 384 (by decide) _ _ (by decide) rfl _ _ s0.view s1.view _ _ (by decide) (by decide) (by decide) (by decide) ar ai x5 x6 _ _ hA hI
      (state_block p5 q5 x5 384 (by decide) (by decide)) (state_block p6 q6 x6 384 (by decide) (by decide)) (both_3 c p2 q2 p5 q5 p6 q6 p12 q12 p13 q13 p14 q14 p15 q15 p16 q16 s0 s1 x2 x5 x6 x12 x13 x14 x15 x16 ar ai hA hI).1 (both_3 c p2 q2 p5 q5 p6 q6 p12 q12 p13 q13 p14 q14 p15 q15 p16 q16 s0 s1 x2 x5 x6 x12 x13 x14 x15 x16 ar ai hA hI).2).2.2 x y (by omega) (by omega)
  · exact (block 256 (by decide) _ _ (by decide) rfl _ _ s0.view s1.view _ _ (by decide) (by decide) (by decide) (by decide) ar ai x5 x6 _ _ hA hI
      (state_block p5 q5 x5 256 (by decide) (by decide)) (state_block p6 q6 x6 256 (by decide) (by decide)) (both_2 c p2 q2 p5 q5 p6 q6 p12 q12 p13 q13 p14 q14 p15 q15 p16 q16 s0 s1 x2 x5 x6 x12 x13 x14 x15 x16 ar ai hA hI).1 (both_2 c p2 q2 p5 q5 p6 q6 p12 q12 p13 q13 p14 q14 p15 q15 p16 q16 s0 s1 x2 x5 x6 x12 x13 x14 x15 x16 ar ai hA hI).2).2.2 x y (by omega) (by omega)
  · exact (block 128 (by decide) _ _ (by decide) rfl _ _ s0.view s1.view _ _ (by decide) (by decide) (by decide) (by decide) ar ai x5 x6 _ _ hA hI
      (state_block p5 q5 x5 128 (by decide) (by decide)) (state_block p6 q6 x6 128 (by decide) (by decide)) (both_1 c p2 q2 p5 q5 p6 q6 p12 q12 p13 q13 p14 q14 p15 q15 p16 q16 s0 s1 x2 x5 x6 x12 x13 x14 x15 x16 ar ai hA hI).1 (both_1 c p2 q2 p5 q5 p6 q6 p12 q12 p13 q13 p14 q14 p15 q15 p16 q16 s0 s1 x2 x5 x6 x12 x13 x14 x15 x16 ar ai hA hI).2).2.2 x y (by omega) (by omega)
  · exact (block 0 (by decide) _ _ (by decide) rfl _ _ s0.view s1.view _ _ (by decide) (by decide) (by decide) (by decide) ar ai x5 x6 _ _ hA hI
      (state_block p5 q5 x5 0 (by decide) (by decide)) (state_block p6 q6 x6 0 (by decide) (by decide)) (both_0 c p2 q2 p15 q15 p16 q16 x2 x5 x6 x15 x16 ar ai).1 (both_0 c p2 q2 p15 q15 p16 q16 x2 x5 x6 x15 x16 ar ai).2).2.2 x y (by omega) (by omega)

end Cert.KernelIdeal.RefValue
end
-- ==== Proof.MixInput.lean ====
module

public import proofs.«01_k».proof.Proof.MixState
public import Idealize.ShloMosaic.Lib.StableHlo.ReadAt

@[expose] public section

set_option maxRecDepth 16384

noncomputable section

open Idealize.ShloMosaic Idealize.ShloMosaic.TcCoe Idealize.SL.Sem

namespace Cert.KernelIdeal.RefValue

open Cert.KernelIdeal Cert.KernelIdeal.Gen

/-! # The recurrence of the sample group: the decay, the input weights and the input rows lane by lane -/

/-- The real part of the decay of one step: `e^(Δ a) cos(Δ b)` with `Δ = e^d`. -/
def decayRe (a b d : EReal) : EReal := Ideal.exp (Ideal.exp d * a) * Ideal.cos (Ideal.exp d * b)
/-- The imaginary part of the decay of one step. -/
def decayIm (a b d : EReal) : EReal := Ideal.exp (Ideal.exp d * a) * Ideal.sin (Ideal.exp d * b)
/-- The real part of (decay − 1) / (a + i b). -/
def factorRe (a b d : EReal) : EReal := Ideal.div ((decayRe a b d - 1) * a + decayIm a b d * b) (a * a + b * b)
/-- The imaginary part of (decay − 1) / (a + i b). -/
def factorIm (a b d : EReal) : EReal := Ideal.div (decayIm a b d * a - (decayRe a b d - 1) * b) (a * a + b * b)

/-- The decays the layer's grid point computes. -/
theorem decay_re (a12 : Memref sig .tc .vmem S1x2048 .f32) (h12 : a12.IsWhole) (a13 : Memref sig .tc .vmem S1x2048 .f32) (h13 : a13.IsWhole)
    (a14 : Memref sig .tc .vmem S1x2048 .f32) (h14 : a14.IsWhole) (c : Dev nD) (x12 x13 x14 : Vec Ideal S1x2048 .f32) (l : Fin 2048) :
    kernelRun1_A.sl.r c a12 h12 a13 h13 a14 h14 x12 x13 x14 (ix2 (0 : Fin 1) l)
      = decayRe (x12 (ix2 (0 : Fin 1) l)) (x13 (ix2 (0 : Fin 1) l)) (x14 (ix2 (0 : Fin 1) l)) := by
  unfold kernelRun1_A.sl.r
  rw [View.readAt_eq_ld, View.readAt_eq_ld, View.readAt_eq_ld, h12.read_unread, h13.read_unread, h14.read_unread]
  pointwise [k1_pay5, k1_pay4, k1_pay3, k1_pay2]
  rfl

theorem decay_im (a12 : Memref sig .tc .vmem S1x2048 .f32) (h12 : a12.IsWhole) (a13 : Memref sig .tc .vmem S1x2048 .f32) (h13 : a13.IsWhole)
    (a14 : Memref sig .tc .vmem S1x2048 .f32) (h14 : a14.IsWhole) (c : Dev nD) (x12 x13 x14 : Vec Ideal S1x2048 .f32) (l : Fin 2048) :
    kernelRun1_A.sl.r_1 c a12 h12 a13 h13 a14 h14 x12 x13 x14 (ix2 (0 : Fin 1) l)
      = decayIm (x12 (ix2 (0 : Fin 1) l)) (x13 (ix2 (0 : Fin 1) l)) (x14 (ix2 (0 : Fin 1) l)) := by
  unfold kernelRun1_A.sl.r_1
  rw [View.readAt_eq_ld, View.readAt_eq_ld, View.readAt_eq_ld, h12.read_unread, h13.read_unread, h14.read_unread]
  pointwise [k1_pay6, k1_pay4, k1_pay3, k1_pay2]
  rfl

/-- A row of inputs against one lane's weights over the half of the channels the lane belongs to. -/
def rowTimes (u : Vec Ideal S512x512 .f32) (w : Vec Ideal S2x256x1024 .bf16) (r : Fin 512) (l : Fin 2048) : EReal :=
  ∑ k : Fin 256, u (ix2 (n0 := 512) (n1 := 512) r ⟨256 * (l.val / 1024) + k.val, by omega⟩) * w (ix3 (n0 := 2) (n1 := 256) (n2 := 1024) ⟨l.val / 1024, by omega⟩ k ⟨l.val % 1024, by omega⟩)

/-- `rowTimes` at a lane given by its half and its place in it. -/
theorem row_times (u : Vec Ideal S512x512 .f32) (w : Vec Ideal S2x256x1024 .bf16) (r : Fin 512) (l : Fin 2048) (h : Fin 2) (j : Fin 1024) (hl : l.val = 1024 * h.val + j.val) :
    rowTimes u w r l = ∑ k : Fin 256, u (ix2 (n0 := 512) (n1 := 512) r ⟨256 * h.val + k.val, by omega⟩) * w (ix3 h k j) := by
  have e1 : l.val / 1024 = h.val := by omega
  have e2 : l.val % 1024 = j.val := by omega
  unfold rowTimes
  refine Finset.sum_congr rfl fun k _ => congrArg₂ (· * ·) (congrArg u ?_) (congrArg w ?_)
  · simp only [e1]
  · simp only [e1, e2]

/-- The real input rows of all four steps, as they stand before the recurrence. -/
theorem first_re (c : Dev nD) (a3 : Memref sig .tc .vmem S512x512 .f32) (h3 : a3.IsWhole) (a16 : Memref sig .tc .vmem S2x256x1024 .bf16) (h16 : a16.IsWhole)
    (x2 : Vec Ideal S512x512 .f32) (x15 : Vec Ideal S2x256x1024 .bf16) (y : S512x2048.Idx) :
    first0 c a3 h3 a16 h16 x2 x15 y = rowTimes x2 x15 (y 0) (y 1) := by
  unfold first0 kernelRun1_A.sl.HS0_2 kernelRun1_A.sl.r_3 kernelRun1_A.sl.r_4 kernelRun1_A.sl.cst_20
  rw [View.readAt_eq_ld, View.readAt_eq_ld, View.readAt_eq_ld, h3.read_unread, h16.read_unread]
  canon_tiles x h
  · have e0 : (y 0 : Fin 512) = x 0 := Fin.ext (by omega)
    rw [row_times x2 x15 (y 0) (y 1) 1 (x 1) (by first | exact h1 | (show (y 1).val = 1024 * 1 + (x 1).val; omega)), e0]
    pointwise [k1_pay13, k1_pay11, k1_pay12, k1_pay7]
  · have e0 : (y 0 : Fin 512) = x 0 := Fin.ext (by omega)
    rw [row_times x2 x15 (y 0) (y 1) 0 (x 1) (by first | exact h1 | (show (y 1).val = 1024 * 0 + (x 1).val; omega)), e0]
    pointwise [k1_pay9, k1_pay8, k1_pay7]

/-- The imaginary input rows of all four steps, as they stand before the recurrence. -/
theorem first_im (c : Dev nD) (a3 : Memref sig .tc .vmem S512x512 .f32) (h3 : a3.IsWhole) (a17 : Memref sig .tc .vmem S2x256x1024 .bf16) (h17 : a17.IsWhole)
    (x2 : Vec Ideal S512x512 .f32) (x16 : Vec Ideal S2x256x1024 .bf16) (y : S512x2048.Idx) :
    first1 c a3 h3 a17 h17 x2 x16 y = rowTimes x2 x16 (y 0) (y 1) := by
  unfold first1 kernelRun1_A.sl.HS1_2 kernelRun1_A.sl.r_3
  rw [View.readAt_eq_ld, View.readAt_eq_ld, View.readAt_eq_ld, h3.read_unread, h17.read_unread]
  canon_tiles x h
  · have e0 : (y 0 : Fin 512) = x 0 := Fin.ext (by omega)
    rw [row_times x2 x16 (y 0) (y 1) 1 (x 1) (by first | exact h1 | (show (y 1).val = 1024 * 1 + (x 1).val; omega)), e0]
    pointwise [k1_pay14, k1_pay11, k1_pay7]
  · have e0 : (y 0 : Fin 512) = x 0 := Fin.ext (by omega)
    rw [row_times x2 x16 (y 0) (y 1) 0 (x 1) (by first | exact h1 | (show (y 1).val = 1024 * 0 + (x 1).val; omega)), e0]
    pointwise [k1_pay10, k1_pay8, k1_pay7]

/-- The real part of one input weight. -/
def weightRe (x0 x1 x2 : Vec Ideal S1x2048 .f32) (x3 x4 : Vec Ideal S2x256x1024 .f32) (h : Fin 2) (k : Fin 256) (j : Fin 1024) : EReal :=
  x3 (ix3 h k j) * factorRe (x0 (ix2 (n0 := 1) (n1 := 2048) 0 ⟨1024 * h.val + j.val, by omega⟩)) (x1 (ix2 (n0 := 1) (n1 := 2048) 0 ⟨1024 * h.val + j.val, by omega⟩)) (x2 (ix2 (n0 := 1) (n1 := 2048) 0 ⟨1024 * h.val + j.val, by omega⟩))
    - x4 (ix3 h k j) * factorIm (x0 (ix2 (n0 := 1) (n1 := 2048) 0 ⟨1024 * h.val + j.val, by omega⟩)) (x1 (ix2 (n0 := 1) (n1 := 2048) 0 ⟨1024 * h.val + j.val, by omega⟩)) (x2 (ix2 (n0 := 1) (n1 := 2048) 0 ⟨1024 * h.val + j.val, by omega⟩))
/-- The imaginary part of one input weight. -/
def weightIm (x0 x1 x2 : Vec Ideal S1x2048 .f32) (x3 x4 : Vec Ideal S2x256x1024 .f32) (h : Fin 2) (k : Fin 256) (j : Fin 1024) : EReal :=
  x3 (ix3 h k j) * factorIm (x0 (ix2 (n0 := 1) (n1 := 2048) 0 ⟨1024 * h.val + j.val, by omega⟩)) (x1 (ix2 (n0 := 1) (n1 := 2048) 0 ⟨1024 * h.val + j.val, by omega⟩)) (x2 (ix2 (n0 := 1) (n1 := 2048) 0 ⟨1024 * h.val + j.val, by omega⟩))
    + x4 (ix3 h k j) * factorRe (x0 (ix2 (n0 := 1) (n1 := 2048) 0 ⟨1024 * h.val + j.val, by omega⟩)) (x1 (ix2 (n0 := 1) (n1 := 2048) 0 ⟨1024 * h.val + j.val, by omega⟩)) (x2 (ix2 (n0 := 1) (n1 := 2048) 0 ⟨1024 * h.val + j.val, by omega⟩))

theorem factor_re (x0 x1 x2 : Vec Ideal S1x2048 .f32) (l : Fin 2048) :
    k0_pay15 x0 x1 x2 (ix2 (0 : Fin 1) l) = factorRe (x0 (ix2 (0 : Fin 1) l)) (x1 (ix2 (0 : Fin 1) l)) (x2 (ix2 (0 : Fin 1) l)) := by
  pointwise [k0_pay15, k0_pay14, k0_pay13, k0_pay12, k0_pay11, k0_pay10, k0_pay9, k0_pay8]
  rfl
theorem factor_im (x0 x1 x2 : Vec Ideal S1x2048 .f32) (l : Fin 2048) :
    k0_pay16 x0 x1 x2 (ix2 (0 : Fin 1) l) = factorIm (x0 (ix2 (0 : Fin 1) l)) (x1 (ix2 (0 : Fin 1) l)) (x2 (ix2 (0 : Fin 1) l)) := by
  pointwise [k0_pay16, k0_pay14, k0_pay13, k0_pay12, k0_pay11, k0_pay10, k0_pay9, k0_pay8]
  rfl

/-- A load of a whole row of lanes is the row. -/
theorem whole_row (x : Vec Ideal S1x2048 .f32) : View.ld x r0_0 = x := by
  funext i
  have hi : i = ix2 (n0 := 1) (n1 := 2048) (i 0) (i 1) := by funext a; match a with | ⟨0, _⟩ => rfl | ⟨1, _⟩ => rfl
  rw [hi]
  pointwise
  exact congrArg x (by funext a; match a with | ⟨0, _⟩ => exact Subsingleton.elim (α := Fin 1) _ _ | ⟨1, _⟩ => rfl)

/-- The input weights the first call leaves, real part. -/
theorem weights_re (x0 x1 x2 : Vec Ideal S1x2048 .f32) (x3 x4 : Vec Ideal S2x256x1024 .f32) (y : S2x256x1024.Idx) :
    out0_5 x0 x1 x2 x3 x4 y = weightRe x0 x1 x2 x3 x4 (y 0) (y 1) (y 2) := by
  unfold out0_5 k0_pay22 k0_pay23
  simp only [whole_row]
  canon_tiles x h
  · have e0 : (y 0 : Fin 2) = (1 : Fin 2) := Fin.ext (by show (y 0).val = 1; omega)
    have e1 : (y 1 : Fin 256) = x 1 := Fin.ext (by omega)
    have e2 : (y 2 : Fin 1024) = x 2 := Fin.ext (by omega)
    rw [e0, e1, e2]
    simp only [weightRe, weightIm, ← factor_re, ← factor_im]
    pointwise [k0_pay6, k0_pay5, k0_pay4, k0_pay3, k0_pay2]
  · have e0 : (y 0 : Fin 2) = (0 : Fin 2) := Fin.ext (by show (y 0).val = 0; omega)
    have e1 : (y 1 : Fin 256) = x 1 := Fin.ext (by omega)
    have e2 : (y 2 : Fin 1024) = x 2 := Fin.ext (by omega)
    rw [e0, e1, e2]
    simp only [weightRe, weightIm, ← factor_re, ← factor_im]
    pointwise [k0_pay21, k0_pay20, k0_pay19, k0_pay18, k0_pay17]

/-- The input weights the first call leaves, imaginary part. -/
theorem weights_im (x0 x1 x2 : Vec Ideal S1x2048 .f32) (x3 x4 : Vec Ideal S2x256x1024 .f32) (y : S2x256x1024.Idx) :
    out0_6 x0 x1 x2 x3 x4 y = weightIm x0 x1 x2 x3 x4 (y 0) (y 1) (y 2) := by
  unfold out0_6 k0_pay22 k0_pay23
  simp only [whole_row]
  canon_tiles x h
  · have e0 : (y 0 : Fin 2) = (1 : Fin 2) := Fin.ext (by show (y 0).val = 1; omega)
    have e1 : (y 1 : Fin 256) = x 1 := Fin.ext (by omega)
    have e2 : (y 2 : Fin 1024) = x 2 := Fin.ext (by omega)
    rw [e0, e1, e2]
    simp only [weightRe, weightIm, ← factor_re, ← factor_im]
    pointwise [k0_pay7, k0_pay5, k0_pay4, k0_pay3, k0_pay2]
  · have e0 : (y 0 : Fin 2) = (0 : Fin 2) := Fin.ext (by show (y 0).val = 0; omega)
    have e1 : (y 1 : Fin 256) = x 1 := Fin.ext (by omega)
    have e2 : (y 2 : Fin 1024) = x 2 := Fin.ext (by omega)
    rw [e0, e1, e2]
    simp only [weightRe, weightIm, ← factor_re, ← factor_im]
    pointwise [k0_pay1, k0_pay20, k0_pay19, k0_pay18, k0_pay17]

/-- What sixteen channels add to one lane in one step, real part: the channels against the discretised input weights. -/
def inRe (a b d : EReal) (p q u : Fin 16 → EReal) : EReal := ∑ k : Fin 16, u k * (p k * factorRe a b d - q k * factorIm a b d)
/-- What sixteen channels add to one lane in one step, imaginary part. -/
def inIm (a b d : EReal) (p q u : Fin 16 → EReal) : EReal := ∑ k : Fin 16, u k * (p k * factorIm a b d + q k * factorRe a b d)

/-- One lane after its four steps, from its rates, its two state entries, its input weights and the channels of the four steps. -/
def laneState (a b d sr si : EReal) (p q : Fin 16 → EReal) (u : Fin 4 → Fin 16 → EReal) : EReal × EReal :=
  fourSteps (decayRe a b d) (decayIm a b d) (sr, si) (fun t => inRe a b d p q (u t)) (fun t => inIm a b d p q (u t))

/-- The states of all sequences and lanes after the four steps, from the layer's arrays: lane `l` is state `l % 64` of group `l / 64`,
    which reads the group's own sixteen channels. -/
def newState (x2 : Vec Ideal S512x512 .f32) (x5 x6 : Vec Ideal S1x128x32x64 .f32) (x12 x13 : Vec Ideal S1x32x64 .f32) (x14 : Vec Ideal S1x32 .f32)
    (x15 x16 : Vec Ideal S1x32x64x16 .f32) (b : Fin 128) (l : Fin 2048) : EReal × EReal :=
  laneState (x12 (ix3 (0 : Fin 1) (⟨l.val / 64, by omega⟩ : Fin 32) (⟨l.val % 64, by omega⟩ : Fin 64))) (x13 (ix3 (0 : Fin 1) (⟨l.val / 64, by omega⟩ : Fin 32) (⟨l.val % 64, by omega⟩ : Fin 64)))
    (x14 (ix2 (0 : Fin 1) (⟨l.val / 64, by omega⟩ : Fin 32)))
    (x5 (ix4 (0 : Fin 1) b (⟨l.val / 64, by omega⟩ : Fin 32) (⟨l.val % 64, by omega⟩ : Fin 64))) (x6 (ix4 (0 : Fin 1) b (⟨l.val / 64, by omega⟩ : Fin 32) (⟨l.val % 64, by omega⟩ : Fin 64)))
    (fun k => x15 (ix4 (0 : Fin 1) (⟨l.val / 64, by omega⟩ : Fin 32) (⟨l.val % 64, by omega⟩ : Fin 64) k)) (fun k => x16 (ix4 (0 : Fin 1) (⟨l.val / 64, by omega⟩ : Fin 32) (⟨l.val % 64, by omega⟩ : Fin 64) k))
    (fun t k => x2 (ix2 (⟨128 * t.val + b.val, by omega⟩ : Fin 512) (⟨16 * (l.val / 64) + k.val, by omega⟩ : Fin 512)))

end Cert.KernelIdeal.RefValue
end
-- ==== Proof.MixHost.lean ====
module

public import proofs.«01_k».proof.Proof.MixInput
public import Idealize.ShloMosaic.Lib.StableHlo.ReadAt

@[expose] public section

set_option maxRecDepth 16384

noncomputable section

open Idealize.ShloMosaic Idealize.ShloMosaic.TcCoe Idealize.SL.Sem

namespace Cert.KernelIdeal.RefValue

open Cert.KernelIdeal Cert.KernelIdeal.Gen

/-! # The recurrence of the sample group: what the host prepares for the two calls -/

/-- A 0/1 mask: 1 where a channel and a lane belong to the same group. -/
def sameGroup (k : Fin 256) (j : Fin 1024) : EReal := if k.val / 16 = j.val / 64 then 1 else 0

/-- An entry with the mask applied. -/
def masked (x s : EReal) : EReal := x * s

/-- Dividing the channel index by 16, as words. -/
theorem word_div_16 : ∀ k : Fin 256, IntOp.divsi .host (BitVec.ofNat 32 k.val) 16#32 = BitVec.ofNat 32 (k.val / 16) := by decide +kernel

/-- Dividing the lane index by 64, as words. -/
theorem word_div_64 : ∀ j : Fin 1024, IntOp.divsi .host (BitVec.ofNat 32 j.val) 64#32 = BitVec.ofNat 32 (j.val / 64) := by decide +kernel

/-- The comparison of the two quotients. -/
theorem word_same (k : Fin 256) (j : Fin 1024) :
    IntOp.cmpi CmpIPredicate.eq (IntOp.divsi ArithUnit.host (BitVec.ofNat 32 k.val) 16#32) (IntOp.divsi ArithUnit.host (BitVec.ofNat 32 j.val) 64#32)
      = BitVec.ofBool (decide (k.val / 16 = j.val / 64)) := by
  rw [word_div_16, word_div_64, WordCmp.cmpi_eq_eq]
  congr 1
  rw [decide_eq_decide]
  constructor
  · intro h
    have h' := congrArg BitVec.toNat h
    simp only [BitVec.toNat_ofNat] at h'
    omega
  · intro h
    rw [h]

variable (W : Valuation τ sig (Elt Ideal))

theorem host4_v43 (l : Fin 2048) : StableHlo.after hostOps0_4 W main_v43 (ix2 (0 : Fin 1) l)
    = W main_arg12 (ix3 (0 : Fin 1) (⟨l.val / 64, by omega⟩ : Fin 32) (⟨l.val % 64, by omega⟩ : Fin 64)) := by
  unfold hostOps0_4
  after_results
  pointwise

theorem host4_v45 (l : Fin 2048) : StableHlo.after hostOps0_4 W main_v45 (ix2 (0 : Fin 1) l)
    = W main_arg13 (ix3 (0 : Fin 1) (⟨l.val / 64, by omega⟩ : Fin 32) (⟨l.val % 64, by omega⟩ : Fin 64)) := by
  unfold hostOps0_4
  after_results
  pointwise

theorem host4_v49 (l : Fin 2048) : StableHlo.after hostOps0_4 W main_v49 (ix2 (0 : Fin 1) l) = W main_arg14 (ix2 (0 : Fin 1) (⟨l.val / 64, by omega⟩ : Fin 32)) := by
  unfold hostOps0_4
  after_results
  pointwise

theorem host4_v56 (h : Fin 2) (k : Fin 256) (j : Fin 1024) : StableHlo.after hostOps0_4 W main_v56 (ix3 h k j)
    = W main_arg15 (ix4 (0 : Fin 1) (⟨h.val * 16 + j.val / 64, by omega⟩ : Fin 32) (⟨j.val % 64, by omega⟩ : Fin 64) (⟨k.val % 16, by omega⟩ : Fin 16)) := by
  unfold hostOps0_4
  after_results
  pointwise

theorem host4_v63 (k : Fin 256) (j : Fin 1024) : StableHlo.after hostOps0_4 W main_v63 (ix2 k j) = BitVec.ofBool (decide (k.val / 16 = j.val / 64)) := by
  rw [← word_same]
  unfold hostOps0_4
  after_results
  pointwise

theorem host4_one (i : S_.Idx) : StableHlo.after hostOps0_4 W main_cst_8 i = (1 : EReal) := by
  unfold hostOps0_4
  after_results
  pointwise

theorem host4_zero (i : S_.Idx) : StableHlo.after hostOps0_4 W main_cst_9 i = (0 : EReal) := by
  unfold hostOps0_4
  after_results
  pointwise

theorem host_v64 (k : Fin 256) (j : Fin 1024) (hm : W main_v63 (ix2 k j) = BitVec.ofBool (decide (k.val / 16 = j.val / 64)))
    (h1 : ∀ i : S_.Idx, W main_cst_8 i = (1 : EReal)) (h0 : ∀ i : S_.Idx, W main_cst_9 i = (0 : EReal)) :
    StableHlo.after hostOps0_5 W main_v64 (ix2 k j) = sameGroup k j := by
  unfold hostOps0_5
  after_results
  show (if W main_v63 (ix2 k j) = 1#1 then W main_cst_8 _ else W main_cst_9 _) = sameGroup k j
  rw [hm, h1, h0]
  unfold sameGroup
  by_cases h : k.val / 16 = j.val / 64
  · rw [if_pos h, decide_eq_true h]
    exact if_pos rfl
  · rw [if_neg h, decide_eq_false h]
    exact if_neg (show ¬ ((0#1 : BitVec 1) = 1#1) by decide)

theorem host_v68 (h : Fin 2) (k : Fin 256) (j : Fin 1024) : StableHlo.after hostOps0_6 W main_v68 (ix3 h k j)
    = masked (W main_v56 (ix3 h k j)) (W main_v64 (ix2 k j)) := by
  unfold hostOps0_6
  after_results
  pointwise
  rfl

theorem host6_v75 (h : Fin 2) (k : Fin 256) (j : Fin 1024) : StableHlo.after hostOps0_6 W main_v75 (ix3 h k j)
    = W main_arg16 (ix4 (0 : Fin 1) (⟨h.val * 16 + j.val / 64, by omega⟩ : Fin 32) (⟨j.val % 64, by omega⟩ : Fin 64) (⟨k.val % 16, by omega⟩ : Fin 16)) := by
  unfold hostOps0_6
  after_results
  pointwise

theorem host6_v82 (k : Fin 256) (j : Fin 1024) : StableHlo.after hostOps0_6 W main_v82 (ix2 k j) = BitVec.ofBool (decide (k.val / 16 = j.val / 64)) := by
  rw [← word_same]
  unfold hostOps0_6
  after_results
  pointwise

theorem host6_one (i : S_.Idx) : StableHlo.after hostOps0_6 W main_cst_12 i = (1 : EReal) := by
  unfold hostOps0_6
  after_results
  pointwise

theorem host6_zero (i : S_.Idx) : StableHlo.after hostOps0_6 W main_cst_13 i = (0 : EReal) := by
  unfold hostOps0_6
  after_results
  pointwise

theorem host_v83 (k : Fin 256) (j : Fin 1024) (hm : W main_v82 (ix2 k j) = BitVec.ofBool (decide (k.val / 16 = j.val / 64)))
    (h1 : ∀ i : S_.Idx, W main_cst_12 i = (1 : EReal)) (h0 : ∀ i : S_.Idx, W main_cst_13 i = (0 : EReal)) :
    StableHlo.after hostOps0_7 W main_v83 (ix2 k j) = sameGroup k j := by
  unfold hostOps0_7
  after_results
  show (if W main_v82 (ix2 k j) = 1#1 then W main_cst_12 _ else W main_cst_13 _) = sameGroup k j
  rw [hm, h1, h0]
  unfold sameGroup
  by_cases h : k.val / 16 = j.val / 64
  · rw [if_pos h, decide_eq_true h]
    exact if_pos rfl
  · rw [if_neg h, decide_eq_false h]
    exact if_neg (show ¬ ((0#1 : BitVec 1) = 1#1) by decide)

theorem host_v87 (h : Fin 2) (k : Fin 256) (j : Fin 1024) : StableHlo.after hostOps0_8 W main_v87 (ix3 h k j)
    = masked (W main_v75 (ix3 h k j)) (W main_v83 (ix2 k j)) := by
  unfold hostOps0_8
  after_results
  pointwise
  rfl

theorem host_v93 (b : Fin 128) (l : Fin 2048) : StableHlo.after hostOps1 W main_v93 (ix2 b l)
    = W main_arg5 (ix4 (0 : Fin 1) b (⟨l.val / 64, by omega⟩ : Fin 32) (⟨l.val % 64, by omega⟩ : Fin 64)) := by
  unfold hostOps1
  after_results
  pointwise

theorem host_v95 (b : Fin 128) (l : Fin 2048) : StableHlo.after hostOps1 W main_v95 (ix2 b l)
    = W main_arg6 (ix4 (0 : Fin 1) b (⟨l.val / 64, by omega⟩ : Fin 32) (⟨l.val % 64, by omega⟩ : Fin 64)) := by
  unfold hostOps1
  after_results
  pointwise

variable (m : (ℓ : Loc nD τ sig) → Buf (Elt Ideal) ℓ) (ρ : Dev nD → PrngReg)

/-- A buffer of the fifth stretch of host operations that nothing later writes, as the first call finds it. -/
theorem from_fifth (c : Dev nD) (r : Ref sig .tc) (h5 : r ∉ hostOps0_5_W) (h6 : r ∉ hostOps0_6_W) (h7 : r ∉ hostOps0_7_W) (h8 : r ∉ hostOps0_8_W) :
    V9 m ρ c r = StableHlo.after hostOps0_4 (W4 m ρ c) (Proc.devRef .tc r) :=
  (W9_of m ρ c r h8).trans ((W8_of m ρ c r h7).trans ((W7_of m ρ c r h6).trans (W6_of m ρ c r h5)))

theorem rate_re (c : Dev nD) (l : Fin 2048) : V9 m ρ c main_v43 (ix2 (0 : Fin 1) l)
    = m ((c : Thread nD τ).loc main_arg12) (ix3 (0 : Fin 1) (⟨l.val / 64, by omega⟩ : Fin 32) (⟨l.val % 64, by omega⟩ : Fin 64)) := by
  rw [from_fifth m ρ c main_v43 (by decide) (by decide) (by decide) (by decide), host4_v43, W4_args m ρ c main_arg12 (by decide)]

theorem rate_im (c : Dev nD) (l : Fin 2048) : V9 m ρ c main_v45 (ix2 (0 : Fin 1) l)
    = m ((c : Thread nD τ).loc main_arg13) (ix3 (0 : Fin 1) (⟨l.val / 64, by omega⟩ : Fin 32) (⟨l.val % 64, by omega⟩ : Fin 64)) := by
  rw [from_fifth m ρ c main_v45 (by decide) (by decide) (by decide) (by decide), host4_v45, W4_args m ρ c main_arg13 (by decide)]

theorem log_step (c : Dev nD) (l : Fin 2048) : V9 m ρ c main_v49 (ix2 (0 : Fin 1) l)
    = m ((c : Thread nD τ).loc main_arg14) (ix2 (0 : Fin 1) (⟨l.val / 64, by omega⟩ : Fin 32)) := by
  rw [from_fifth m ρ c main_v49 (by decide) (by decide) (by decide) (by decide), host4_v49, W4_args m ρ c main_arg14 (by decide)]

/-- The real input matrix, as the first call finds it: block diagonal over the groups of each half. -/
theorem input_re (c : Dev nD) (h : Fin 2) (k : Fin 256) (j : Fin 1024) : V9 m ρ c main_v68 (ix3 h k j)
    = masked (m ((c : Thread nD τ).loc main_arg15) (ix4 (0 : Fin 1) (⟨h.val * 16 + j.val / 64, by omega⟩ : Fin 32) (⟨j.val % 64, by omega⟩ : Fin 64) (⟨k.val % 16, by omega⟩ : Fin 16))) (sameGroup k j) := by
  show W9 m ρ c (Proc.devRef .tc main_v68) (ix3 h k j) = _
  rw [W9_of m ρ c main_v68 (by decide), W8_of m ρ c main_v68 (by decide)]
  show StableHlo.after hostOps0_6 (W6 m ρ c) main_v68 (ix3 h k j) = _
  rw [host_v68]
  refine congrArg₂ masked ?_ ?_
  · rw [W6_of m ρ c main_v56 (by decide), ← W4_args m ρ c main_arg15 (by decide)]
    exact host4_v56 (W4 m ρ c) h k j
  · exact host_v64 (W5 m ρ c) k j (host4_v63 (W4 m ρ c) k j) (host4_one (W4 m ρ c)) (host4_zero (W4 m ρ c))

/-- The imaginary input matrix, as the first call finds it. -/
theorem input_im (c : Dev nD) (h : Fin 2) (k : Fin 256) (j : Fin 1024) : V9 m ρ c main_v87 (ix3 h k j)
    = masked (m ((c : Thread nD τ).loc main_arg16) (ix4 (0 : Fin 1) (⟨h.val * 16 + j.val / 64, by omega⟩ : Fin 32) (⟨j.val % 64, by omega⟩ : Fin 64) (⟨k.val % 16, by omega⟩ : Fin 16))) (sameGroup k j) := by
  show StableHlo.after hostOps0_8 (W8 m ρ c) main_v87 (ix3 h k j) = _
  rw [host_v87]
  refine congrArg₂ masked ?_ ?_
  · rw [W8_of m ρ c main_v75 (by decide), ← W6_args m ρ c main_arg16 (by decide)]
    exact host6_v75 (W6 m ρ c) h k j
  · exact host_v83 (W7 m ρ c) k j (host6_v82 (W6 m ρ c) k j) (host6_one (W6 m ρ c)) (host6_zero (W6 m ρ c))

theorem state_re_read (c : Dev nD) (b : Fin 128) (l : Fin 2048) : V11 m ρ c main_v93 (ix2 b l)
    = m ((c : Thread nD τ).loc main_arg5) (ix4 (0 : Fin 1) b (⟨l.val / 64, by omega⟩ : Fin 32) (⟨l.val % 64, by omega⟩ : Fin 64)) := by
  show StableHlo.after hostOps1 (W10 m ρ c) main_v93 (ix2 b l) = _
  rw [host_v93, W10_args m ρ c main_arg5 (by decide)]

theorem state_im_read (c : Dev nD) (b : Fin 128) (l : Fin 2048) : V11 m ρ c main_v95 (ix2 b l)
    = m ((c : Thread nD τ).loc main_arg6) (ix4 (0 : Fin 1) b (⟨l.val / 64, by omega⟩ : Fin 32) (⟨l.val % 64, by omega⟩ : Fin 64)) := by
  show StableHlo.after hostOps1 (W10 m ρ c) main_v95 (ix2 b l) = _
  rw [host_v95, W10_args m ρ c main_arg6 (by decide)]

end Cert.KernelIdeal.RefValue
end
-- ==== Proof.MixResult.lean ====
module

public import proofs.«01_k».proof.Proof.MixHost
public import Idealize.ShloMosaic.Lib.StableHlo.ReadAt

@[expose] public section

set_option maxRecDepth 16384

noncomputable section

open Idealize.ShloMosaic Idealize.ShloMosaic.TcCoe Idealize.SL.Sem

namespace Cert.KernelIdeal.RefValue

open Cert.KernelIdeal Cert.KernelIdeal.Gen

/-! # The recurrence of the sample group: the arrays the kernels leave -/

variable (m : (ℓ : Loc nD τ sig) → Buf (Elt Ideal) ℓ) (ρ : Dev nD → PrngReg)

theorem start0_0 : ∀ t : Fin cfg0.N, win0_0.index t (0 : Fin 2) = 0 ∧ win0_0.index t (1 : Fin 2) = 0 :=
  (by decide +kernel : ∀ t : Fin grid0.N, _)

theorem place0_0 (t : Fin cfg0.N) (y : S1x2048.Idx) : ((cfg0.win 0).blk t).view.emb y = y := by
  obtain ⟨e0, e1⟩ := start0_0 t
  funext a; apply Fin.ext
  match a with
  | ⟨0,_⟩ => show win0_0.index t (0 : Fin 2) * 1 + 1 * (y 0).val = (y 0).val; omega
  | ⟨1,_⟩ => show win0_0.index t (1 : Fin 2) * 2048 + 1 * (y 1).val = (y 1).val; omega

theorem whole0_0 (V : (c : Dev nD) → (b : Ref sig .tc) → Buf (Elt Ideal) ((c : Thread nD τ).loc b)) (c : Dev nD) (t : Fin cfg0.N) (y : S1x2048.Idx) :
    (iblk0 V c 0 t : Vec Ideal S1x2048 .f32) y = V c main_v43 y := by
  show V c main_v43 (((cfg0.win 0).blk t).view.emb y) = _
  rw [place0_0]

theorem start0_1 : ∀ t : Fin cfg0.N, win0_1.index t (0 : Fin 2) = 0 ∧ win0_1.index t (1 : Fin 2) = 0 :=
  (by decide +kernel : ∀ t : Fin grid0.N, _)

theorem place0_1 (t : Fin cfg0.N) (y : S1x2048.Idx) : ((cfg0.win 1).blk t).view.emb y = y := by
  obtain ⟨e0, e1⟩ := start0_1 t
  funext a; apply Fin.ext
  match a with
  | ⟨0,_⟩ => show win0_1.index t (0 : Fin 2) * 1 + 1 * (y 0).val = (y 0).val; omega
  | ⟨1,_⟩ => show win0_1.index t (1 : Fin 2) * 2048 + 1 * (y 1).val = (y 1).val; omega

theorem whole0_1 (V : (c : Dev nD) → (b : Ref sig .tc) → Buf (Elt Ideal) ((c : Thread nD τ).loc b)) (c : Dev nD) (t : Fin cfg0.N) (y : S1x2048.Idx) :
    (iblk0 V c 1 t : Vec Ideal S1x2048 .f32) y = V c main_v45 y := by
  show V c main_v45 (((cfg0.win 1).blk t).view.emb y) = _
  rw [place0_1]

theorem start0_2 : ∀ t : Fin cfg0.N, win0_2.index t (0 : Fin 2) = 0 ∧ win0_2.index t (1 : Fin 2) = 0 :=
  (by decide +kernel : ∀ t : Fin grid0.N, _)

theorem place0_2 (t : Fin cfg0.N) (y : S1x2048.Idx) : ((cfg0.win 2).blk t).view.emb y = y := by
  obtain ⟨e0, e1⟩ := start0_2 t
  funext a; apply Fin.ext
  match a with
  | ⟨0,_⟩ => show win0_2.index t (0 : Fin 2) * 1 + 1 * (y 0).val = (y 0).val; omega
  | ⟨1,_⟩ => show win0_2.index t (1 : Fin 2) * 2048 + 1 * (y 1).val = (y 1).val; omega

theorem whole0_2 (V : (c : Dev nD) → (b : Ref sig .tc) → Buf (Elt Ideal) ((c : Thread nD τ).loc b)) (c : Dev nD) (t : Fin cfg0.N) (y : S1x2048.Idx) :
    (iblk0 V c 2 t : Vec Ideal S1x2048 .f32) y = V c main_v49 y := by
  show V c main_v49 (((cfg0.win 2).blk t).view.emb y) = _
  rw [place0_2]

theorem start0_3 : ∀ t : Fin cfg0.N, win0_3.index t (0 : Fin 3) = 0 ∧ win0_3.index t (1 : Fin 3) = 0 ∧ win0_3.index t (2 : Fin 3) = 0 :=
  (by decide +kernel : ∀ t : Fin grid0.N, _)

theorem place0_3 (t : Fin cfg0.N) (y : S2x256x1024.Idx) : ((cfg0.win 3).blk t).view.emb y = y := by
  obtain ⟨e0, e1, e2⟩ := start0_3 t
  funext a; apply Fin.ext
  match a with
  | ⟨0,_⟩ => show win0_3.index t (0 : Fin 3) * 2 + 1 * (y 0).val = (y 0).val; omega
  | ⟨1,_⟩ => show win0_3.index t (1 : Fin 3) * 256 + 1 * (y 1).val = (y 1).val; omega
  | ⟨2,_⟩ => show win0_3.index t (2 : Fin 3) * 1024 + 1 * (y 2).val = (y 2).val; omega

theorem whole0_3 (V : (c : Dev nD) → (b : Ref sig .tc) → Buf (Elt Ideal) ((c : Thread nD τ).loc b)) (c : Dev nD) (t : Fin cfg0.N) (y : S2x256x1024.Idx) :
    (iblk0 V c 3 t : Vec Ideal S2x256x1024 .f32) y = V c main_v68 y := by
  show V c main_v68 (((cfg0.win 3).blk t).view.emb y) = _
  rw [place0_3]

theorem start0_4 : ∀ t : Fin cfg0.N, win0_4.index t (0 : Fin 3) = 0 ∧ win0_4.index t (1 : Fin 3) = 0 ∧ win0_4.index t (2 : Fin 3) = 0 :=
  (by decide +kernel : ∀ t : Fin grid0.N, _)

theorem place0_4 (t : Fin cfg0.N) (y : S2x256x1024.Idx) : ((cfg0.win 4).blk t).view.emb y = y := by
  obtain ⟨e0, e1, e2⟩ := start0_4 t
  funext a; apply Fin.ext
  match a with
  | ⟨0,_⟩ => show win0_4.index t (0 : Fin 3) * 2 + 1 * (y 0).val = (y 0).val; omega
  | ⟨1,_⟩ => show win0_4.index t (1 : Fin 3) * 256 + 1 * (y 1).val = (y 1).val; omega
  | ⟨2,_⟩ => show win0_4.index t (2 : Fin 3) * 1024 + 1 * (y 2).val = (y 2).val; omega

theorem whole0_4 (V : (c : Dev nD) → (b : Ref sig .tc) → Buf (Elt Ideal) ((c : Thread nD τ).loc b)) (c : Dev nD) (t : Fin cfg0.N) (y : S2x256x1024.Idx) :
    (iblk0 V c 4 t : Vec Ideal S2x256x1024 .f32) y = V c main_v87 y := by
  show V c main_v87 (((cfg0.win 4).blk t).view.emb y) = _
  rw [place0_4]

theorem start1_2 : ∀ t : Fin cfg1.N, win1_2.index t (0 : Fin 2) = 0 ∧ win1_2.index t (1 : Fin 2) = 0 :=
  (by decide +kernel : ∀ t : Fin grid1.N, _)

theorem place1_2 (t : Fin cfg1.N) (y : S512x512.Idx) : ((cfg1.win 2).blk t).view.emb y = y := by
  obtain ⟨e0, e1⟩ := start1_2 t
  funext a; apply Fin.ext
  match a with
  | ⟨0,_⟩ => show win1_2.index t (0 : Fin 2) * 512 + 1 * (y 0).val = (y 0).val; omega
  | ⟨1,_⟩ => show win1_2.index t (1 : Fin 2) * 512 + 1 * (y 1).val = (y 1).val; omega

theorem whole1_2 (V : (c : Dev nD) → (b : Ref sig .tc) → Buf (Elt Ideal) ((c : Thread nD τ).loc b)) (c : Dev nD) (t : Fin cfg1.N) (y : S512x512.Idx) :
    (iblk1 V c 2 t : Vec Ideal S512x512 .f32) y = V c main_arg2 y := by
  show V c main_arg2 (((cfg1.win 2).blk t).view.emb y) = _
  rw [place1_2]

theorem start1_5 : ∀ t : Fin cfg1.N, win1_5.index t (0 : Fin 2) = 0 ∧ win1_5.index t (1 : Fin 2) = 0 :=
  (by decide +kernel : ∀ t : Fin grid1.N, _)

theorem place1_5 (t : Fin cfg1.N) (y : S128x2048.Idx) : ((cfg1.win 5).blk t).view.emb y = y := by
  obtain ⟨e0, e1⟩ := start1_5 t
  funext a; apply Fin.ext
  match a with
  | ⟨0,_⟩ => show win1_5.index t (0 : Fin 2) * 128 + 1 * (y 0).val = (y 0).val; omega
  | ⟨1,_⟩ => show win1_5.index t (1 : Fin 2) * 2048 + 1 * (y 1).val = (y 1).val; omega

theorem whole1_5 (V : (c : Dev nD) → (b : Ref sig .tc) → Buf (Elt Ideal) ((c : Thread nD τ).loc b)) (c : Dev nD) (t : Fin cfg1.N) (y : S128x2048.Idx) :
    (iblk1 V c 5 t : Vec Ideal S128x2048 .f32) y = V c main_v93 y := by
  show V c main_v93 (((cfg1.win 5).blk t).view.emb y) = _
  rw [place1_5]

theorem start1_6 : ∀ t : Fin cfg1.N, win1_6.index t (0 : Fin 2) = 0 ∧ win1_6.index t (1 : Fin 2) = 0 :=
  (by decide +kernel : ∀ t : Fin grid1.N, _)

theorem place1_6 (t : Fin cfg1.N) (y : S128x2048.Idx) : ((cfg1.win 6).blk t).view.emb y = y := by
  obtain ⟨e0, e1⟩ := start1_6 t
  funext a; apply Fin.ext
  match a with
  | ⟨0,_⟩ => show win1_6.index t (0 : Fin 2) * 128 + 1 * (y 0).val = (y 0).val; omega
  | ⟨1,_⟩ => show win1_6.index t (1 : Fin 2) * 2048 + 1 * (y 1).val = (y 1).val; omega

theorem whole1_6 (V : (c : Dev nD) → (b : Ref sig .tc) → Buf (Elt Ideal) ((c : Thread nD τ).loc b)) (c : Dev nD) (t : Fin cfg1.N) (y : S128x2048.Idx) :
    (iblk1 V c 6 t : Vec Ideal S128x2048 .f32) y = V c main_v95 y := by
  show V c main_v95 (((cfg1.win 6).blk t).view.emb y) = _
  rw [place1_6]

theorem start1_12 : ∀ t : Fin cfg1.N, win1_12.index t (0 : Fin 2) = 0 ∧ win1_12.index t (1 : Fin 2) = 0 :=
  (by decide +kernel : ∀ t : Fin grid1.N, _)

theorem place1_12 (t : Fin cfg1.N) (y : S1x2048.Idx) : ((cfg1.win 12).blk t).view.emb y = y := by
  obtain ⟨e0, e1⟩ := start1_12 t
  funext a; apply Fin.ext
  match a with
  | ⟨0,_⟩ => show win1_12.index t (0 : Fin 2) * 1 + 1 * (y 0).val = (y 0).val; omega
  | ⟨1,_⟩ => show win1_12.index t (1 : Fin 2) * 2048 + 1 * (y 1).val = (y 1).val; omega

theorem whole1_12 (V : (c : Dev nD) → (b : Ref sig .tc) → Buf (Elt Ideal) ((c : Thread nD τ).loc b)) (c : Dev nD) (t : Fin cfg1.N) (y : S1x2048.Idx) :
    (iblk1 V c 12 t : Vec Ideal S1x2048 .f32) y = V c main_v43 y := by
  show V c main_v43 (((cfg1.win 12).blk t).view.emb y) = _
  rw [place1_12]

theorem start1_13 : ∀ t : Fin cfg1.N, win1_13.index t (0 : Fin 2) = 0 ∧ win1_13.index t (1 : Fin 2) = 0 :=
  (by decide +kernel : ∀ t : Fin grid1.N, _)

theorem place1_13 (t : Fin cfg1.N) (y : S1x2048.Idx) : ((cfg1.win 13).blk t).view.emb y = y := by
  obtain ⟨e0, e1⟩ := start1_13 t
  funext a; apply Fin.ext
  match a with
  | ⟨0,_⟩ => show win1_13.index t (0 : Fin 2) * 1 + 1 * (y 0).val = (y 0).val; omega
  | ⟨1,_⟩ => show win1_13.index t (1 : Fin 2) * 2048 + 1 * (y 1).val = (y 1).val; omega

theorem whole1_13 (V : (c : Dev nD) → (b : Ref sig .tc) → Buf (Elt Ideal) ((c : Thread nD τ).loc b)) (c : Dev nD) (t : Fin cfg1.N) (y : S1x2048.Idx) :
    (iblk1 V c 13 t : Vec Ideal S1x2048 .f32) y = V c main_v45 y := by
  show V c main_v45 (((cfg1.win 13).blk t).view.emb y) = _
  rw [place1_13]

theorem start1_14 : ∀ t : Fin cfg1.N, win1_14.index t (0 : Fin 2) = 0 ∧ win1_14.index t (1 : Fin 2) = 0 :=
  (by decide +kernel : ∀ t : Fin grid1.N, _)

theorem place1_14 (t : Fin cfg1.N) (y : S1x2048.Idx) : ((cfg1.win 14).blk t).view.emb y = y := by
  obtain ⟨e0, e1⟩ := start1_14 t
  funext a; apply Fin.ext
  match a with
  | ⟨0,_⟩ => show win1_14.index t (0 : Fin 2) * 1 + 1 * (y 0).val = (y 0).val; omega
  | ⟨1,_⟩ => show win1_14.index t (1 : Fin 2) * 2048 + 1 * (y 1).val = (y 1).val; omega

theorem whole1_14 (V : (c : Dev nD) → (b : Ref sig .tc) → Buf (Elt Ideal) ((c : Thread nD τ).loc b)) (c : Dev nD) (t : Fin cfg1.N) (y : S1x2048.Idx) :
    (iblk1 V c 14 t : Vec Ideal S1x2048 .f32) y = V c main_v49 y := by
  show V c main_v49 (((cfg1.win 14).blk t).view.emb y) = _
  rw [place1_14]

theorem start1_15 : ∀ t : Fin cfg1.N, win1_15.index t (0 : Fin 3) = 0 ∧ win1_15.index t (1 : Fin 3) = 0 ∧ win1_15.index t (2 : Fin 3) = 0 :=
  (by decide +kernel : ∀ t : Fin grid1.N, _)

theorem place1_15 (t : Fin cfg1.N) (y : S2x256x1024.Idx) : ((cfg1.win 15).blk t).view.emb y = y := by
  obtain ⟨e0, e1, e2⟩ := start1_15 t
  funext a; apply Fin.ext
  match a with
  | ⟨0,_⟩ => show win1_15.index t (0 : Fin 3) * 2 + 1 * (y 0).val = (y 0).val; omega
  | ⟨1,_⟩ => show win1_15.index t (1 : Fin 3) * 256 + 1 * (y 1).val = (y 1).val; omega
  | ⟨2,_⟩ => show win1_15.index t (2 : Fin 3) * 1024 + 1 * (y 2).val = (y 2).val; omega

theorem whole1_15 (V : (c : Dev nD) → (b : Ref sig .tc) → Buf (Elt Ideal) ((c : Thread nD τ).loc b)) (c : Dev nD) (t : Fin cfg1.N) (y : S2x256x1024.Idx) :
    (iblk1 V c 15 t : Vec Ideal S2x256x1024 .bf16) y = V c main_v91_0 y := by
  show V c main_v91_0 (((cfg1.win 15).blk t).view.emb y) = _
  rw [place1_15]

theorem start1_16 : ∀ t : Fin cfg1.N, win1_16.index t (0 : Fin 3) = 0 ∧ win1_16.index t (1 : Fin 3) = 0 ∧ win1_16.index t (2 : Fin 3) = 0 :=
  (by decide +kernel : ∀ t : Fin grid1.N, _)

theorem place1_16 (t : Fin cfg1.N) (y : S2x256x1024.Idx) : ((cfg1.win 16).blk t).view.emb y = y := by
  obtain ⟨e0, e1, e2⟩ := start1_16 t
  funext a; apply Fin.ext
  match a with
  | ⟨0,_⟩ => show win1_16.index t (0 : Fin 3) * 2 + 1 * (y 0).val = (y 0).val; omega
  | ⟨1,_⟩ => show win1_16.index t (1 : Fin 3) * 256 + 1 * (y 1).val = (y 1).val; omega
  | ⟨2,_⟩ => show win1_16.index t (2 : Fin 3) * 1024 + 1 * (y 2).val = (y 2).val; omega

theorem whole1_16 (V : (c : Dev nD) → (b : Ref sig .tc) → Buf (Elt Ideal) ((c : Thread nD τ).loc b)) (c : Dev nD) (t : Fin cfg1.N) (y : S2x256x1024.Idx) :
    (iblk1 V c 16 t : Vec Ideal S2x256x1024 .bf16) y = V c main_v91_1 y := by
  show V c main_v91_1 (((cfg1.win 16).blk t).view.emb y) = _
  rw [place1_16]

theorem start0_5 : ∀ t : Fin cfg0.N, win0_5.index t (0 : Fin 3) = 0 ∧ win0_5.index t (1 : Fin 3) = 0 ∧ win0_5.index t (2 : Fin 3) = 0 :=
  (by decide +kernel : ∀ t : Fin grid0.N, _)

theorem place0_5 (t : Fin cfg0.N) (y : S2x256x1024.Idx) : ((cfg0.win 5).blk t).view.emb y = y := by
  obtain ⟨e0, e1, e2⟩ := start0_5 t
  funext a; apply Fin.ext
  match a with
  | ⟨0,_⟩ => show win0_5.index t (0 : Fin 3) * 2 + 1 * (y 0).val = (y 0).val; omega
  | ⟨1,_⟩ => show win0_5.index t (1 : Fin 3) * 256 + 1 * (y 1).val = (y 1).val; omega
  | ⟨2,_⟩ => show win0_5.index t (2 : Fin 3) * 1024 + 1 * (y 2).val = (y 2).val; omega

theorem start0_6 : ∀ t : Fin cfg0.N, win0_6.index t (0 : Fin 3) = 0 ∧ win0_6.index t (1 : Fin 3) = 0 ∧ win0_6.index t (2 : Fin 3) = 0 :=
  (by decide +kernel : ∀ t : Fin grid0.N, _)

theorem place0_6 (t : Fin cfg0.N) (y : S2x256x1024.Idx) : ((cfg0.win 6).blk t).view.emb y = y := by
  obtain ⟨e0, e1, e2⟩ := start0_6 t
  funext a; apply Fin.ext
  match a with
  | ⟨0,_⟩ => show win0_6.index t (0 : Fin 3) * 2 + 1 * (y 0).val = (y 0).val; omega
  | ⟨1,_⟩ => show win0_6.index t (1 : Fin 3) * 256 + 1 * (y 1).val = (y 1).val; omega
  | ⟨2,_⟩ => show win0_6.index t (2 : Fin 3) * 1024 + 1 * (y 2).val = (y 2).val; omega

theorem start1_20 : ∀ t : Fin cfg1.N, win1_20.index t (0 : Fin 2) = 0 ∧ win1_20.index t (1 : Fin 2) = 0 :=
  (by decide +kernel : ∀ t : Fin grid1.N, _)

theorem place1_20 (t : Fin cfg1.N) (y : S128x2048.Idx) : ((cfg1.win 20).blk t).view.emb y = y := by
  obtain ⟨e0, e1⟩ := start1_20 t
  funext a; apply Fin.ext
  match a with
  | ⟨0,_⟩ => show win1_20.index t (0 : Fin 2) * 128 + 1 * (y 0).val = (y 0).val; omega
  | ⟨1,_⟩ => show win1_20.index t (1 : Fin 2) * 2048 + 1 * (y 1).val = (y 1).val; omega

theorem start1_21 : ∀ t : Fin cfg1.N, win1_21.index t (0 : Fin 2) = 0 ∧ win1_21.index t (1 : Fin 2) = 0 :=
  (by decide +kernel : ∀ t : Fin grid1.N, _)

theorem place1_21 (t : Fin cfg1.N) (y : S128x2048.Idx) : ((cfg1.win 21).blk t).view.emb y = y := by
  obtain ⟨e0, e1⟩ := start1_21 t
  funext a; apply Fin.ext
  match a with
  | ⟨0,_⟩ => show win1_21.index t (0 : Fin 2) * 128 + 1 * (y 0).val = (y 0).val; omega
  | ⟨1,_⟩ => show win1_21.index t (1 : Fin 2) * 2048 + 1 * (y 1).val = (y 1).val; omega

/-! ## The discretised input weights -/

/-- The real input weights the first call leaves. -/
def weightsReal (c : Dev nD) : Buf (Elt Ideal) ((c : Thread nD τ).loc main_v91_0) := fun y : S2x256x1024.Idx =>
  weightRe (V9 m ρ c main_v43) (V9 m ρ c main_v45) (V9 m ρ c main_v49) (V9 m ρ c main_v68) (V9 m ρ c main_v87) (y 0) (y 1) (y 2)
/-- The imaginary input weights the first call leaves. -/
def weightsImag (c : Dev nD) : Buf (Elt Ideal) ((c : Thread nD τ).loc main_v91_1) := fun y : S2x256x1024.Idx =>
  weightIm (V9 m ρ c main_v43) (V9 m ρ c main_v45) (V9 m ρ c main_v49) (V9 m ρ c main_v68) (V9 m ρ c main_v87) (y 0) (y 1) (y 2)

theorem read0 (c : Dev nD) (t : Fin cfg0.N) :
    (iblk0 (V9 m ρ) c 0 t : Vec Ideal S1x2048 .f32) = V9 m ρ c main_v43 ∧ (iblk0 (V9 m ρ) c 1 t : Vec Ideal S1x2048 .f32) = V9 m ρ c main_v45
      ∧ (iblk0 (V9 m ρ) c 2 t : Vec Ideal S1x2048 .f32) = V9 m ρ c main_v49 ∧ (iblk0 (V9 m ρ) c 3 t : Vec Ideal S2x256x1024 .f32) = V9 m ρ c main_v68
      ∧ (iblk0 (V9 m ρ) c 4 t : Vec Ideal S2x256x1024 .f32) = V9 m ρ c main_v87 :=
  ⟨funext (whole0_0 _ c t), funext (whole0_1 _ c t), funext (whole0_2 _ c t), funext (whole0_3 _ c t), funext (whole0_4 _ c t)⟩

theorem weights_real_flushed (c : Dev nD) (t : Fin cfg0.N) :
    (dat0 (V9 m ρ) c).flushed 5 t = ((cfg0.win 5).blk t).view.read (Elt Ideal) (weightsReal m ρ c) := by
  obtain ⟨r0, r1, r2, r3, r4⟩ := read0 m ρ c t
  show (cfg0.win 5).cut (grid0.coords t) ((dat0 (V9 m ρ) c).after 5 t) = _
  rw [after0_5]
  funext j
  show out0_5 (F := Ideal) _ _ _ _ _ j = weightsReal m ρ c (((cfg0.win 5).blk t).view.emb j)
  rw [place0_5 t j, weights_re, r0, r1, r2, r3, r4]
  rfl

theorem weights_imag_flushed (c : Dev nD) (t : Fin cfg0.N) :
    (dat0 (V9 m ρ) c).flushed 6 t = ((cfg0.win 6).blk t).view.read (Elt Ideal) (weightsImag m ρ c) := by
  obtain ⟨r0, r1, r2, r3, r4⟩ := read0 m ρ c t
  show (cfg0.win 6).cut (grid0.coords t) ((dat0 (V9 m ρ) c).after 6 t) = _
  rw [after0_6]
  funext j
  show out0_6 (F := Ideal) _ _ _ _ _ j = weightsImag m ρ c (((cfg0.win 6).blk t).view.emb j)
  rw [place0_6 t j, weights_im, r0, r1, r2, r3, r4]
  rfl

theorem weights_real_cover (i : S2x256x1024.Idx) : ∃ t : Fin cfg0.N, (cfg0.win 5).flush t = true ∧ i ∈ ((cfg0.win 5).blk t).view.set :=
  ⟨t0_0, flush0_5 _, by have h := ((cfg0.win 5).blk t0_0).view.emb_mem_set i; rwa [place0_5 t0_0 i] at h⟩
theorem weights_imag_cover (i : S2x256x1024.Idx) : ∃ t : Fin cfg0.N, (cfg0.win 6).flush t = true ∧ i ∈ ((cfg0.win 6).blk t).view.set :=
  ⟨t0_0, flush0_6 _, by have h := ((cfg0.win 6).blk t0_0).view.emb_mem_set i; rwa [place0_6 t0_0 i] at h⟩

theorem weights_real_array (c : Dev nD) : V11 m ρ c main_v91_0 = weightsReal m ρ c :=
  (W11_of m ρ c main_v91_0 (by decide)).trans ((W10_arr m ρ c 5).trans
    ((dat0 (V9 m ρ) c).arrAt_eq_of_cover 5 (weightsReal m ρ c) (fun t _ => weights_real_flushed m ρ c t) weights_real_cover))
theorem weights_imag_array (c : Dev nD) : V11 m ρ c main_v91_1 = weightsImag m ρ c :=
  (W11_of m ρ c main_v91_1 (by decide)).trans ((W10_arr m ρ c 6).trans
    ((dat0 (V9 m ρ) c).arrAt_eq_of_cover 6 (weightsImag m ρ c) (fun t _ => weights_imag_flushed m ρ c t) weights_imag_cover))

/-! ## What the second call reads -/

theorem kept_rate_re (c : Dev nD) : V11 m ρ c main_v43 = V9 m ρ c main_v43 :=
  (W11_of m ρ c main_v43 (by decide)).trans (W10_of m ρ c main_v43 (by decide))
theorem kept_rate_im (c : Dev nD) : V11 m ρ c main_v45 = V9 m ρ c main_v45 :=
  (W11_of m ρ c main_v45 (by decide)).trans (W10_of m ρ c main_v45 (by decide))
theorem kept_log_step (c : Dev nD) : V11 m ρ c main_v49 = V9 m ρ c main_v49 :=
  (W11_of m ρ c main_v49 (by decide)).trans (W10_of m ρ c main_v49 (by decide))
theorem channels_read (c : Dev nD) : V11 m ρ c main_arg2 = m ((c : Thread nD τ).loc main_arg2) := W11_args m ρ c main_arg2 (by decide)

/-! ## A sum over a half's 256 channels that meets one group only -/

/-- A sum over 256 places whose terms vanish outside the `q0`-th sixteen is the sum over those sixteen. -/
theorem block_sum (f : Fin 256 → EReal) (q0 : Fin 16) (h0 : ∀ k : Fin 256, k.val / 16 ≠ q0.val → f k = 0) :
    ∑ k, f k = ∑ p : Fin 16, f ⟨16 * q0.val + p.val, by omega⟩ := by
  have e : ∑ k, f k = ∑ x : Fin 16 × Fin 16, f (⟨16 * x.1.val + x.2.val, by omega⟩ : Fin 256) := by
    refine (Fintype.sum_equiv (finProdFinEquiv (m := 16) (n := 16)) _ _ fun x => ?_).symm
    refine congrArg f (Fin.ext ?_)
    show 16 * x.1.val + x.2.val = x.2.val + 16 * x.1.val
    omega
  rw [e, Fintype.sum_prod_type, Finset.sum_eq_single q0]
  · intro q _ hq
    refine Finset.sum_eq_zero fun p _ => h0 _ ?_
    show (16 * q.val + p.val) / 16 ≠ q0.val
    have := Fin.val_ne_of_ne hq
    omega
  · intro h; exact absurd (Finset.mem_univ _) h

theorem masked_zero (x : EReal) : masked x 0 = 0 := mul_zero x
theorem masked_one (x : EReal) : masked x 1 = x := mul_one x

theorem collapse_re (fr fi : EReal) (u : Fin 512 → EReal) (p q : Fin 16 → EReal) (l : Fin 2048) :
    ∑ k : Fin 256, u (⟨256 * (l.val / 1024) + k.val, by omega⟩ : Fin 512) * (masked (p ⟨k.val % 16, by omega⟩) (sameGroup k (⟨l.val % 1024, by omega⟩ : Fin 1024)) * fr
        - masked (q ⟨k.val % 16, by omega⟩) (sameGroup k (⟨l.val % 1024, by omega⟩ : Fin 1024)) * fi)
      = ∑ k : Fin 16, u (⟨16 * (l.val / 64) + k.val, by omega⟩ : Fin 512) * (p k * fr - q k * fi) := by
  rw [block_sum _ (⟨l.val % 1024 / 64, by omega⟩ : Fin 16)]
  · refine Finset.sum_congr rfl fun k _ => ?_
    have hs : sameGroup (⟨16 * (l.val % 1024 / 64) + k.val, by omega⟩ : Fin 256) (⟨l.val % 1024, by omega⟩ : Fin 1024) = 1 :=
      if_pos (by show (16 * (l.val % 1024 / 64) + k.val) / 16 = l.val % 1024 / 64; omega)
    have hk : (⟨(16 * (l.val % 1024 / 64) + k.val) % 16, by omega⟩ : Fin 16) = k := Fin.ext (by show (16 * (l.val % 1024 / 64) + k.val) % 16 = k.val; omega)
    have hu : (⟨256 * (l.val / 1024) + (16 * (l.val % 1024 / 64) + k.val), by omega⟩ : Fin 512) = ⟨16 * (l.val / 64) + k.val, by omega⟩ :=
      Fin.ext (by show 256 * (l.val / 1024) + (16 * (l.val % 1024 / 64) + k.val) = 16 * (l.val / 64) + k.val; omega)
    simp only [hs, hk, hu, masked_one]
  · intro k hk
    have hs : sameGroup k (⟨l.val % 1024, by omega⟩ : Fin 1024) = 0 := if_neg hk
    simp only [hs, masked_zero, zero_mul, sub_zero, mul_zero]

theorem collapse_im (fr fi : EReal) (u : Fin 512 → EReal) (p q : Fin 16 → EReal) (l : Fin 2048) :
    ∑ k : Fin 256, u (⟨256 * (l.val / 1024) + k.val, by omega⟩ : Fin 512) * (masked (p ⟨k.val % 16, by omega⟩) (sameGroup k (⟨l.val % 1024, by omega⟩ : Fin 1024)) * fi
        + masked (q ⟨k.val % 16, by omega⟩) (sameGroup k (⟨l.val % 1024, by omega⟩ : Fin 1024)) * fr)
      = ∑ k : Fin 16, u (⟨16 * (l.val / 64) + k.val, by omega⟩ : Fin 512) * (p k * fi + q k * fr) := by
  rw [block_sum _ (⟨l.val % 1024 / 64, by omega⟩ : Fin 16)]
  · refine Finset.sum_congr rfl fun k _ => ?_
    have hs : sameGroup (⟨16 * (l.val % 1024 / 64) + k.val, by omega⟩ : Fin 256) (⟨l.val % 1024, by omega⟩ : Fin 1024) = 1 :=
      if_pos (by show (16 * (l.val % 1024 / 64) + k.val) / 16 = l.val % 1024 / 64; omega)
    have hk : (⟨(16 * (l.val % 1024 / 64) + k.val) % 16, by omega⟩ : Fin 16) = k := Fin.ext (by show (16 * (l.val % 1024 / 64) + k.val) % 16 = k.val; omega)
    have hu : (⟨256 * (l.val / 1024) + (16 * (l.val % 1024 / 64) + k.val), by omega⟩ : Fin 512) = ⟨16 * (l.val / 64) + k.val, by omega⟩ :=
      Fin.ext (by show 256 * (l.val / 1024) + (16 * (l.val % 1024 / 64) + k.val) = 16 * (l.val / 64) + k.val; omega)
    simp only [hs, hk, hu, masked_one]
  · intro k hk
    have hs : sameGroup k (⟨l.val % 1024, by omega⟩ : Fin 1024) = 0 := if_neg hk
    simp only [hs, masked_zero, zero_mul, add_zero, mul_zero]

/-! ## The weights lane by lane -/

theorem lane_of_half (l : Fin 2048) : (⟨1024 * (l.val / 1024) + l.val % 1024, by omega⟩ : Fin 2048) = l := Fin.ext (by show 1024 * (l.val / 1024) + l.val % 1024 = l.val; omega)

/-- The group and state of a lane, found in its half. -/
theorem group_of_half (l : Fin 2048) (k : Fin 16) :
    (ix4 (0 : Fin 1) (⟨l.val / 1024 * 16 + l.val % 1024 / 64, by omega⟩ : Fin 32) (⟨l.val % 1024 % 64, by omega⟩ : Fin 64) k : S1x32x64x16.Idx)
      = ix4 (0 : Fin 1) (⟨l.val / 64, by omega⟩ : Fin 32) (⟨l.val % 64, by omega⟩ : Fin 64) k := by
  funext a; apply Fin.ext
  match a with
  | ⟨0, _⟩ => rfl
  | ⟨1, _⟩ => show l.val / 1024 * 16 + l.val % 1024 / 64 = l.val / 64; omega
  | ⟨2, _⟩ => show l.val % 1024 % 64 = l.val % 64; omega
  | ⟨3, _⟩ => rfl

/-- The rates, the step and the input weights of one lane. -/
abbrev laneA (c : Dev nD) (l : Fin 2048) : EReal := m ((c : Thread nD τ).loc main_arg12) (ix3 (0 : Fin 1) (⟨l.val / 64, by omega⟩ : Fin 32) (⟨l.val % 64, by omega⟩ : Fin 64))
abbrev laneB (c : Dev nD) (l : Fin 2048) : EReal := m ((c : Thread nD τ).loc main_arg13) (ix3 (0 : Fin 1) (⟨l.val / 64, by omega⟩ : Fin 32) (⟨l.val % 64, by omega⟩ : Fin 64))
abbrev laneD (c : Dev nD) (l : Fin 2048) : EReal := m ((c : Thread nD τ).loc main_arg14) (ix2 (0 : Fin 1) (⟨l.val / 64, by omega⟩ : Fin 32))
abbrev laneP (c : Dev nD) (l : Fin 2048) (k : Fin 16) : EReal := m ((c : Thread nD τ).loc main_arg15) (ix4 (0 : Fin 1) (⟨l.val / 64, by omega⟩ : Fin 32) (⟨l.val % 64, by omega⟩ : Fin 64) k)
abbrev laneQ (c : Dev nD) (l : Fin 2048) (k : Fin 16) : EReal := m ((c : Thread nD τ).loc main_arg16) (ix4 (0 : Fin 1) (⟨l.val / 64, by omega⟩ : Fin 32) (⟨l.val % 64, by omega⟩ : Fin 64) k)
abbrev chan (c : Dev nD) (r j : Fin 512) : EReal := m ((c : Thread nD τ).loc main_arg2) (ix2 r j)

theorem weights_real_lane (c : Dev nD) (l : Fin 2048) (k : Fin 256) :
    (weightsReal m ρ c (ix3 (⟨l.val / 1024, by omega⟩ : Fin 2) k (⟨l.val % 1024, by omega⟩ : Fin 1024)) : EReal)
      = masked (laneP m c l ⟨k.val % 16, by omega⟩) (sameGroup k (⟨l.val % 1024, by omega⟩ : Fin 1024)) * factorRe (laneA m c l) (laneB m c l) (laneD m c l)
        - masked (laneQ m c l ⟨k.val % 16, by omega⟩) (sameGroup k (⟨l.val % 1024, by omega⟩ : Fin 1024)) * factorIm (laneA m c l) (laneB m c l) (laneD m c l) := by
  show weightRe _ _ _ _ _ (⟨l.val / 1024, by omega⟩ : Fin 2) k (⟨l.val % 1024, by omega⟩ : Fin 1024) = _
  unfold weightRe
  have hl := lane_of_half l
  rw [hl, rate_re, rate_im, log_step, input_re, input_im, group_of_half l ⟨k.val % 16, by omega⟩]

theorem weights_imag_lane (c : Dev nD) (l : Fin 2048) (k : Fin 256) :
    (weightsImag m ρ c (ix3 (⟨l.val / 1024, by omega⟩ : Fin 2) k (⟨l.val % 1024, by omega⟩ : Fin 1024)) : EReal)
      = masked (laneP m c l ⟨k.val % 16, by omega⟩) (sameGroup k (⟨l.val % 1024, by omega⟩ : Fin 1024)) * factorIm (laneA m c l) (laneB m c l) (laneD m c l)
        + masked (laneQ m c l ⟨k.val % 16, by omega⟩) (sameGroup k (⟨l.val % 1024, by omega⟩ : Fin 1024)) * factorRe (laneA m c l) (laneB m c l) (laneD m c l) := by
  show weightIm _ _ _ _ _ (⟨l.val / 1024, by omega⟩ : Fin 2) k (⟨l.val % 1024, by omega⟩ : Fin 1024) = _
  unfold weightIm
  have hl := lane_of_half l
  rw [hl, rate_re, rate_im, log_step, input_re, input_im, group_of_half l ⟨k.val % 16, by omega⟩]

/-! ## The inputs of the four steps -/

theorem inputs_re (c : Dev nD) (t : Fin cfg1.N) (r : Fin 512) (l : Fin 2048) :
    first0 c (ms1_2 t) (hs1_2 t) (ms1_15 t) (hs1_15 t) (iblk1 (V11 m ρ) c 2 t) (iblk1 (V11 m ρ) c 15 t) (ix2 r l)
      = inRe (laneA m c l) (laneB m c l) (laneD m c l) (laneP m c l) (laneQ m c l) (fun k => chan m c r ⟨16 * (l.val / 64) + k.val, by omega⟩) := by
  rw [first_re]
  show rowTimes _ _ r l = _
  unfold rowTimes inRe
  rw [← collapse_re _ _ (chan m c r) (laneP m c l) (laneQ m c l) l]
  refine Finset.sum_congr rfl fun k _ => ?_
  rw [whole1_2, whole1_15, channels_read, weights_real_array, weights_real_lane]

theorem inputs_im (c : Dev nD) (t : Fin cfg1.N) (r : Fin 512) (l : Fin 2048) :
    first1 c (ms1_2 t) (hs1_2 t) (ms1_16 t) (hs1_16 t) (iblk1 (V11 m ρ) c 2 t) (iblk1 (V11 m ρ) c 16 t) (ix2 r l)
      = inIm (laneA m c l) (laneB m c l) (laneD m c l) (laneP m c l) (laneQ m c l) (fun k => chan m c r ⟨16 * (l.val / 64) + k.val, by omega⟩) := by
  rw [first_im]
  show rowTimes _ _ r l = _
  unfold rowTimes inIm
  rw [← collapse_im _ _ (chan m c r) (laneP m c l) (laneQ m c l) l]
  refine Finset.sum_congr rfl fun k _ => ?_
  rw [whole1_2, whole1_16, channels_read, weights_imag_array, weights_imag_lane]

/-! ## The two states -/

/-- The new state of one sequence and lane, from the arrays the run starts with. -/
abbrev stateOf (c : Dev nD) (b : Fin 128) (l : Fin 2048) : EReal × EReal :=
  newState (m ((c : Thread nD τ).loc main_arg2)) (m ((c : Thread nD τ).loc main_arg5)) (m ((c : Thread nD τ).loc main_arg6)) (m ((c : Thread nD τ).loc main_arg12))
    (m ((c : Thread nD τ).loc main_arg13)) (m ((c : Thread nD τ).loc main_arg14)) (m ((c : Thread nD τ).loc main_arg15)) (m ((c : Thread nD τ).loc main_arg16)) b l

theorem four_congr {ar ar' ai ai' xr xr' xi xi' : EReal} {b b' e e' : Fin 4 → EReal} (h1 : ar = ar') (h2 : ai = ai') (h3 : xr = xr') (h4 : xi = xi')
    (h5 : ∀ t, b t = b' t) (h6 : ∀ t, e t = e' t) : fourSteps ar ai (xr, xi) b e = fourSteps ar' ai' (xr', xi') b' e' := by
  obtain rfl := funext h5; obtain rfl := funext h6
  subst h1 h2 h3 h4; rfl

theorem decays_re (c : Dev nD) (t : Fin cfg1.N) (l : Fin 2048) :
    kernelRun1_A.sl.r c (ms1_12 t) (hs1_12 t) (ms1_13 t) (hs1_13 t) (ms1_14 t) (hs1_14 t) (iblk1 (V11 m ρ) c 12 t) (iblk1 (V11 m ρ) c 13 t) (iblk1 (V11 m ρ) c 14 t) (ix2 (0 : Fin 1) l)
      = decayRe (laneA m c l) (laneB m c l) (laneD m c l) := by
  rw [decay_re, whole1_12, whole1_13, whole1_14, kept_rate_re, kept_rate_im, kept_log_step, rate_re, rate_im, log_step]

theorem decays_im (c : Dev nD) (t : Fin cfg1.N) (l : Fin 2048) :
    kernelRun1_A.sl.r_1 c (ms1_12 t) (hs1_12 t) (ms1_13 t) (hs1_13 t) (ms1_14 t) (hs1_14 t) (iblk1 (V11 m ρ) c 12 t) (iblk1 (V11 m ρ) c 13 t) (iblk1 (V11 m ρ) c 14 t) (ix2 (0 : Fin 1) l)
      = decayIm (laneA m c l) (laneB m c l) (laneD m c l) := by
  rw [decay_im, whole1_12, whole1_13, whole1_14, kept_rate_re, kept_rate_im, kept_log_step, rate_re, rate_im, log_step]

theorem state_at (c : Dev nD) (t : Fin cfg1.N) (b : Fin 128) (l : Fin 2048) :
    stateAt (fun l => decayRe (laneA m c l) (laneB m c l) (laneD m c l)) (fun l => decayIm (laneA m c l) (laneB m c l) (laneD m c l)) (iblk1 (V11 m ρ) c 5 t) (iblk1 (V11 m ρ) c 6 t)
      (first0 c (ms1_2 t) (hs1_2 t) (ms1_15 t) (hs1_15 t) (iblk1 (V11 m ρ) c 2 t) (iblk1 (V11 m ρ) c 15 t))
      (first1 c (ms1_2 t) (hs1_2 t) (ms1_16 t) (hs1_16 t) (iblk1 (V11 m ρ) c 2 t) (iblk1 (V11 m ρ) c 16 t)) b l = stateOf m c b l := by
  unfold stateAt stateOf newState laneState
  refine four_congr rfl rfl ?_ ?_ (fun s => ?_) (fun s => ?_)
  · rw [whole1_5, state_re_read]
  · rw [whole1_6, state_im_read]
  · exact inputs_re m ρ c t _ l
  · exact inputs_im m ρ c t _ l

/-- The real state the second call leaves. -/
def stateReal (c : Dev nD) : Buf (Elt Ideal) ((c : Thread nD τ).loc main_v96_1) := fun y : S128x2048.Idx => (stateOf m c (y 0) (y 1)).1
/-- The imaginary state the second call leaves. -/
def stateImag (c : Dev nD) : Buf (Elt Ideal) ((c : Thread nD τ).loc main_v96_2) := fun y : S128x2048.Idx => (stateOf m c (y 0) (y 1)).2

theorem real_out (c : Dev nD) (t : Fin cfg1.N) (y : S128x2048.Idx) : (outsAt1 (V11 m ρ) c t).2.1 y = (stateOf m c (y 0) (y 1)).1 :=
  (state_re_block (V11 m ρ) c t _ _ (decays_re m ρ c t) (decays_im m ρ c t) y).trans (congrArg Prod.fst (state_at m ρ c t (y 0) (y 1)))

theorem state_real_flushed (c : Dev nD) (t : Fin cfg1.N) :
    (dat1 (V11 m ρ) c).flushed 20 t = ((cfg1.win 20).blk t).view.read (Elt Ideal) (stateReal m c) := by
  show (cfg1.win 20).cut (grid1.coords t) ((dat1 (V11 m ρ) c).after 20 t) = _
  rw [after1_20]
  funext j
  show (outsAt1 (V11 m ρ) c t).2.1 j = stateReal m c (((cfg1.win 20).blk t).view.emb j)
  rw [place1_20 t j]
  exact real_out m ρ c t j

theorem state_real_cover (i : S128x2048.Idx) : ∃ t : Fin cfg1.N, (cfg1.win 20).flush t = true ∧ i ∈ ((cfg1.win 20).blk t).view.set :=
  ⟨t1_0, flush1_20 _, by have h := ((cfg1.win 20).blk t1_0).view.emb_mem_set i; rwa [place1_20 t1_0 i] at h⟩

theorem state_real_array (c : Dev nD) : (dat1 (V11 m ρ) c).arrAt 20 cfg1.N = stateReal m c :=
  (dat1 (V11 m ρ) c).arrAt_eq_of_cover 20 (stateReal m c) (fun t _ => state_real_flushed m ρ c t) state_real_cover

theorem imag_out (c : Dev nD) (t : Fin cfg1.N) (y : S128x2048.Idx) : (outsAt1 (V11 m ρ) c t).2.2 y = (stateOf m c (y 0) (y 1)).2 :=
  (state_im_block (V11 m ρ) c t _ _ (decays_re m ρ c t) (decays_im m ρ c t) y).trans (congrArg Prod.snd (state_at m ρ c t (y 0) (y 1)))

theorem state_imag_flushed (c : Dev nD) (t : Fin cfg1.N) :
    (dat1 (V11 m ρ) c).flushed 21 t = ((cfg1.win 21).blk t).view.read (Elt Ideal) (stateImag m c) := by
  show (cfg1.win 21).cut (grid1.coords t) ((dat1 (V11 m ρ) c).after 21 t) = _
  rw [after1_21]
  funext j
  show (outsAt1 (V11 m ρ) c t).2.2 j = stateImag m c (((cfg1.win 21).blk t).view.emb j)
  rw [place1_21 t j]
  exact imag_out m ρ c t j

theorem state_imag_cover (i : S128x2048.Idx) : ∃ t : Fin cfg1.N, (cfg1.win 21).flush t = true ∧ i ∈ ((cfg1.win 21).blk t).view.set :=
  ⟨t1_0, flush1_21 _, by have h := ((cfg1.win 21).blk t1_0).view.emb_mem_set i; rwa [place1_21 t1_0 i] at h⟩

theorem state_imag_array (c : Dev nD) : (dat1 (V11 m ρ) c).arrAt 21 cfg1.N = stateImag m c :=
  (dat1 (V11 m ρ) c).arrAt_eq_of_cover 21 (stateImag m c) (fun t _ => state_imag_flushed m ρ c t) state_imag_cover

end Cert.KernelIdeal.RefValue
end
-- ==== Proof.MixOut.lean ====
module

public import proofs.«01_k».proof.Proof.MixInput

@[expose] public section

set_option maxRecDepth 16384

noncomputable section

open Idealize.ShloMosaic Idealize.ShloMosaic.TcCoe Idealize.SL.Sem

namespace Cert.KernelIdeal.RefValue

open Cert.KernelIdeal Cert.KernelIdeal.Gen

/-! # The sample group's mixed rows: the states of all rows against the output weights, the gated unit and the merge -/

/-- The tanh form of the gelu. -/
def geluOf (y : EReal) : EReal :=
  y * (Ideal.ofBits FTy.f32 1056964608#32 * (1 + Ideal.tanh (Ideal.ofBits FTy.f32 1061962282#32 * (y + Ideal.ofBits FTy.f32 1027024659#32 * (y * (y * y))))))

/-- The states of a row and half against one column of the output weights, plus the skipped channel. -/
def projected (R I : Fin 512 → Fin 2048 → EReal) (w : Vec Ideal S2x2048x256 .bf16) (d : Vec Ideal S1x512 .f32) (u : Vec Ideal S512x512 .f32) (r c : Fin 512) : EReal :=
  ((∑ k : Fin 1024, R r ⟨1024 * (c.val / 256) + k.val, by omega⟩ * w (ix3 (n0 := 2) (n1 := 2048) (n2 := 256) ⟨c.val / 256, by omega⟩ ⟨k.val, by omega⟩ ⟨c.val % 256, by omega⟩))
    + ∑ k : Fin 1024, I r ⟨1024 * (c.val / 256) + k.val, by omega⟩ * w (ix3 (n0 := 2) (n1 := 2048) (n2 := 256) ⟨c.val / 256, by omega⟩ ⟨1024 + k.val, by omega⟩ ⟨c.val % 256, by omega⟩))
    + d (ix2 (0 : Fin 1) c) * u (ix2 r c)

/-- The gated unit of one row at one channel. -/
def gatedUnit (y : Fin 512 → Fin 512 → EReal) (wglu : Fin 512 → Fin 512 → EReal) (b : Fin 512 → EReal) (r i : Fin 512) : EReal :=
  geluOf (y r i) * Ideal.logistic ((∑ p : Fin 512, geluOf (y r p) * wglu p i) + b i)

/-- One entry of the mixed rows: the residual plus the gated sum of the attention's and the recurrence's outputs against the output matrix. -/
def mixedRow (x1 : Fin 512 → Fin 1024 → EReal) (attn : Fin 512 → Fin 512 → EReal) (sga sgs : Fin 512 → Fin 1024 → EReal) (wao wso : Fin 512 → Fin 1024 → EReal)
    (wout : Fin 1024 → Fin 1024 → EReal) (s : Fin 512 → Fin 512 → EReal) (r : Fin 512) (j : Fin 1024) : EReal :=
  x1 r j + ∑ k : Fin 1024, (sga r k * (∑ i : Fin 512, attn r i * wao i k) + sgs r k * (∑ i : Fin 512, s r i * wso i k)) * wout k j

/-- The kernel's last step, entry by entry. -/
theorem merge_apply (Y : FVec Ideal S512x512 .f32) (G : FVec Ideal S512x1024 .f32) (x1 : Vec Ideal S512x1024 .f32) (sgs : Vec Ideal S512x1024 .bf16) (wglu : Vec Ideal S512x512 .bf16)
    (b : Vec Ideal S1x512 .f32) (wso : Vec Ideal S512x1024 .bf16) (wout : Vec Ideal S1024x1024 .bf16) (r : Fin 512) (j : Fin 1024) :
    k1_pay1 Y G x1 sgs (k1_pay357 Y) wglu b wso wout (ix2 r j)
      = x1 (ix2 r j) + ∑ k : Fin 1024, (G (ix2 r k) + sgs (ix2 r k) * (∑ i : Fin 512, gatedUnit (fun a b => Y (ix2 a b)) (fun p i => wglu (ix2 p i)) (fun i => b (ix2 (0 : Fin 1) i)) r i * wso (ix2 i k))) * wout (ix2 k j) := by
  pointwise [k1_pay1, k1_pay357]
  rfl

/-- The attention's part of the merge, entry by entry. -/
theorem gated_apply (a : Vec Ideal S512x512 .f32) (sga : Vec Ideal S512x1024 .bf16) (wao : Vec Ideal S512x1024 .bf16) (r : Fin 512) (k : Fin 1024) :
    k1_pay356 (k1_pay354 a) (k1_pay355 sga) wao (constant S512x1024 .f32 0x00000000#32) (ix2 r k) = sga (ix2 r k) * (∑ i : Fin 512, a (ix2 r i) * wao (ix2 i k)) := by
  pointwise [k1_pay356, k1_pay354, k1_pay355]

/-- The projection of the states, entry by entry. -/
theorem project_apply (R I : Fin 512 → Fin 2048 → EReal) (u : Vec Ideal S512x512 .f32) (A0 B0 A1 B1 : Vec Ideal S512x1024 .f32) (w : Vec Ideal S2x2048x256 .bf16) (w0 w1 : Vec Ideal S1x2048x256 .bf16) (d : Vec Ideal S1x512 .f32)
    (hA0 : ∀ r k, A0 (ix2 r k) = R r ⟨0 + k.val, by omega⟩) (hB0 : ∀ r k, B0 (ix2 r k) = I r ⟨0 + k.val, by omega⟩)
    (hA1 : ∀ r k, A1 (ix2 r k) = R r ⟨1024 + k.val, by omega⟩) (hB1 : ∀ r k, B1 (ix2 r k) = I r ⟨1024 + k.val, by omega⟩)
    (hw0 : ∀ k c, w0 (ix3 (0 : Fin 1) k c) = w (ix3 (0 : Fin 2) k c)) (hw1 : ∀ k c, w1 (ix3 (0 : Fin 1) k c) = w (ix3 (1 : Fin 2) k c)) (r c : Fin 512) :
    k1_pay353 u A0 B0 w0 A1 B1 w1 d (ix2 r c) = projected R I w d u r c := by
  pointwise [k1_pay353]
  unfold projected
  by_cases hc : c.val < 256
  · have e1 : c.val / 256 = 0 := by omega
    have e2 : c.val % 256 = c.val := by omega
    rw [dif_pos hc]
    refine congrArg₂ (· + ·) (congrArg₂ (· + ·) ?_ ?_) rfl
    · refine Finset.sum_congr rfl fun k _ => ?_
      rw [hA0, hw0]
      refine congrArg₂ (· * ·) (congrArg (R r) (Fin.ext ?_)) (congrArg w ?_)
      · simp only [e1] <;> omega
      · simp only [e1, e2]; rfl
    · refine Finset.sum_congr rfl fun k _ => ?_
      rw [hB0, hw0]
      refine congrArg₂ (· * ·) (congrArg (I r) (Fin.ext ?_)) (congrArg w ?_)
      · simp only [e1] <;> omega
      · simp only [e1, e2]; rfl
  · have e1 : c.val / 256 = 1 := by omega
    have e2 : c.val % 256 = c.val - 256 := by omega
    rw [dif_neg hc]
    refine congrArg₂ (· + ·) (congrArg₂ (· + ·) ?_ ?_) rfl
    · refine Finset.sum_congr rfl fun k _ => ?_
      rw [hA1, hw1]
      refine congrArg₂ (· * ·) (congrArg (R r) (Fin.ext ?_)) (congrArg w ?_)
      · simp only [e1] <;> omega
      · simp only [e1, e2]; rfl
    · refine Finset.sum_congr rfl fun k _ => ?_
      rw [hB1, hw1]
      refine congrArg₂ (· * ·) (congrArg (I r) (Fin.ext ?_)) (congrArg w ?_)
      · simp only [e1] <;> omega
      · simp only [e1, e2]; rfl

/-- Half the lanes of a scratch buffer, read back after the recurrence. -/
theorem held_half {T f : Fin 512 → Fin 2048 → EReal} {L : List (View.Piece (Elt Ideal) S512x2048 .f32)} (h : Held T f 2048 0 L) (v : View sig .tc .vmem S512x2048 .f32) (o : Nat) (ho : o + 1024 ≤ 2048)
    (inb : ∀ a, (![0, o] : Fin 2 → Nat) a + S512x1024.size a ≤ S512x2048.size a) (r : Fin 512) (k : Fin 1024) :
    v.readCov L (Rect.unit (s := S512x2048) ![0, o] S512x1024.size inb).toLoadRect (ix2 r k) = T r ⟨o + k.val, by omega⟩ := by
  have hi : (Rect.unit (s := S512x2048) ![0, o] S512x1024.size inb).toLoadRect.idx (ix2 r k) = ix2 (n0 := 512) (n1 := 2048) r ⟨o + k.val, by omega⟩ := by
    funext a
    apply Fin.ext
    fin_cases a <;> simp [LoadRect.idx, Rect.toLoadRect, Rect.unit, ix2]
  rw [View.readCov_eq_canon']
  dsimp only
  rw [hi, h, if_pos (Or.inl (by simp only; omega))]

variable (V : Dev nD → (b : Ref sig .tc) → b.ty.Contents (Elt Ideal))

/-- A load of a whole array through its staging buffer. -/
theorem load_rows (a : Memref sig .tc .vmem S512x1024 .f32) (ha : a.IsWhole) (x : Vec Ideal S512x1024 .f32) (inb : ∀ k, (![0, 0] : Fin 2 → Nat) k + S512x1024.size k ≤ S512x1024.size k) :
    View.readAt (Elt Ideal) a.view (Rect.unit (s := S512x1024) ![0, 0] S512x1024.size inb).toLoadRect (ha.unread x) = x := by
  rw [View.readAt_eq_ld, ha.read_unread]
  funext i
  have hi : i = ix2 (n0 := 512) (n1 := 1024) (i 0) (i 1) := by funext a; match a with | ⟨0, _⟩ => rfl | ⟨1, _⟩ => rfl
  rw [hi]
  pointwise

/-- A load of a whole array through its staging buffer. -/
theorem load_gates (a : Memref sig .tc .vmem S512x1024 .bf16) (ha : a.IsWhole) (x : Vec Ideal S512x1024 .bf16) (inb : ∀ k, (![0, 0] : Fin 2 → Nat) k + S512x1024.size k ≤ S512x1024.size k) :
    View.readAt (Elt Ideal) a.view (Rect.unit (s := S512x1024) ![0, 0] S512x1024.size inb).toLoadRect (ha.unread x) = x := by
  rw [View.readAt_eq_ld, ha.read_unread]
  funext i
  have hi : i = ix2 (n0 := 512) (n1 := 1024) (i 0) (i 1) := by funext a; match a with | ⟨0, _⟩ => rfl | ⟨1, _⟩ => rfl
  rw [hi]
  pointwise

/-- A load of a whole array through its staging buffer. -/
theorem load_square (a : Memref sig .tc .vmem S512x512 .f32) (ha : a.IsWhole) (x : Vec Ideal S512x512 .f32) (inb : ∀ k, (![0, 0] : Fin 2 → Nat) k + S512x512.size k ≤ S512x512.size k) :
    View.readAt (Elt Ideal) a.view (Rect.unit (s := S512x512) ![0, 0] S512x512.size inb).toLoadRect (ha.unread x) = x := by
  rw [View.readAt_eq_ld, ha.read_unread]
  funext i
  have hi : i = ix2 (n0 := 512) (n1 := 512) (i 0) (i 1) := by funext a; match a with | ⟨0, _⟩ => rfl | ⟨1, _⟩ => rfl
  rw [hi]
  pointwise

/-- A load of a whole array through its staging buffer. -/
theorem load_glu (a : Memref sig .tc .vmem S512x512 .bf16) (ha : a.IsWhole) (x : Vec Ideal S512x512 .bf16) (inb : ∀ k, (![0, 0] : Fin 2 → Nat) k + S512x512.size k ≤ S512x512.size k) :
    View.readAt (Elt Ideal) a.view (Rect.unit (s := S512x512) ![0, 0] S512x512.size inb).toLoadRect (ha.unread x) = x := by
  rw [View.readAt_eq_ld, ha.read_unread]
  funext i
  have hi : i = ix2 (n0 := 512) (n1 := 512) (i 0) (i 1) := by funext a; match a with | ⟨0, _⟩ => rfl | ⟨1, _⟩ => rfl
  rw [hi]
  pointwise

/-- A load of a whole array through its staging buffer. -/
theorem load_bias (a : Memref sig .tc .vmem S1x512 .f32) (ha : a.IsWhole) (x : Vec Ideal S1x512 .f32) (inb : ∀ k, (![0, 0] : Fin 2 → Nat) k + S1x512.size k ≤ S1x512.size k) :
    View.readAt (Elt Ideal) a.view (Rect.unit (s := S1x512) ![0, 0] S1x512.size inb).toLoadRect (ha.unread x) = x := by
  rw [View.readAt_eq_ld, ha.read_unread]
  funext i
  have hi : i = ix2 (n0 := 1) (n1 := 512) (i 0) (i 1) := by funext a; match a with | ⟨0, _⟩ => rfl | ⟨1, _⟩ => rfl
  rw [hi]
  pointwise
  exact congrArg x (by funext a; match a with | ⟨0, _⟩ => exact Subsingleton.elim (α := Fin 1) _ _ | ⟨1, _⟩ => rfl)

/-- A load of a whole array through its staging buffer. -/
theorem load_out (a : Memref sig .tc .vmem S1024x1024 .bf16) (ha : a.IsWhole) (x : Vec Ideal S1024x1024 .bf16) (inb : ∀ k, (![0, 0] : Fin 2 → Nat) k + S1024x1024.size k ≤ S1024x1024.size k) :
    View.readAt (Elt Ideal) a.view (Rect.unit (s := S1024x1024) ![0, 0] S1024x1024.size inb).toLoadRect (ha.unread x) = x := by
  rw [View.readAt_eq_ld, ha.read_unread]
  funext i
  have hi : i = ix2 (n0 := 1024) (n1 := 1024) (i 0) (i 1) := by funext a; match a with | ⟨0, _⟩ => rfl | ⟨1, _⟩ => rfl
  rw [hi]
  pointwise

/-- Half 0 of the output weights, read through the staging buffer. -/
theorem load_half0 (a : Memref sig .tc .vmem S2x2048x256 .bf16) (ha : a.IsWhole) (x : Vec Ideal S2x2048x256 .bf16) (inb : ∀ k, (![0, 0, 0] : Fin 3 → Nat) k + S1x2048x256.size k ≤ S2x2048x256.size k) (k : Fin 2048) (j : Fin 256) :
    View.readAt (Elt Ideal) a.view (Rect.unit (s := S2x2048x256) ![0, 0, 0] S1x2048x256.size inb).toLoadRect (ha.unread x) (ix3 (0 : Fin 1) k j) = x (ix3 (0 : Fin 2) k j) := by
  rw [View.readAt_eq_ld, ha.read_unread]
  pointwise

/-- Half 1 of the output weights, read through the staging buffer. -/
theorem load_half1 (a : Memref sig .tc .vmem S2x2048x256 .bf16) (ha : a.IsWhole) (x : Vec Ideal S2x2048x256 .bf16) (inb : ∀ k, (![1, 0, 0] : Fin 3 → Nat) k + S1x2048x256.size k ≤ S2x2048x256.size k) (k : Fin 2048) (j : Fin 256) :
    View.readAt (Elt Ideal) a.view (Rect.unit (s := S2x2048x256) ![1, 0, 0] S1x2048x256.size inb).toLoadRect (ha.unread x) (ix3 (0 : Fin 1) k j) = x (ix3 (1 : Fin 2) k j) := by
  rw [View.readAt_eq_ld, ha.read_unread]
  pointwise

section rows

variable (c : Dev nD) (a3 : Memref sig .tc .vmem S512x512 .f32) (h3 : a3.IsWhole) (a6 : Memref sig .tc .vmem S128x2048 .f32) (h6 : a6.IsWhole)
  (a7 : Memref sig .tc .vmem S128x2048 .f32) (h7 : a7.IsWhole) (a13 : Memref sig .tc .vmem S1x2048 .f32) (h13 : a13.IsWhole)
  (a14 : Memref sig .tc .vmem S1x2048 .f32) (h14 : a14.IsWhole) (a15 : Memref sig .tc .vmem S1x2048 .f32) (h15 : a15.IsWhole)
  (a16 : Memref sig .tc .vmem S2x256x1024 .bf16) (h16 : a16.IsWhole) (a17 : Memref sig .tc .vmem S2x256x1024 .bf16) (h17 : a17.IsWhole)
  (a23 a24 : Memref sig .tc .vmem S512x2048 .f32)
  (a18 : Memref sig .tc .vmem S2x2048x256 .bf16) (h18 : a18.IsWhole) (a19 : Memref sig .tc .vmem S1x512 .f32) (h19 : a19.IsWhole)
  (x17 : Vec Ideal S2x2048x256 .bf16) (x18 : Vec Ideal S1x512 .f32) (x2 : Vec Ideal S512x512 .f32) (x5 x6 : Vec Ideal S128x2048 .f32) (x12 x13 x14 : Vec Ideal S1x2048 .f32) (x15 x16 : Vec Ideal S2x256x1024 .bf16)

/-- The recurrence's output of every row and channel, before the gated unit. -/
theorem rows_projected (ar ai : Fin 2048 → EReal) (hA : ∀ l, kernelRun1_A.sl.r c a13 h13 a14 h14 a15 h15 x12 x13 x14 (ix2 (0 : Fin 1) l) = ar l)
    (hI : ∀ l, kernelRun1_A.sl.r_1 c a13 h13 a14 h14 a15 h15 x12 x13 x14 (ix2 (0 : Fin 1) l) = ai l) (r k : Fin 512) :
    kernelRun1_A.sl.r_124 c a3 h3 a6 h6 a7 h7 a13 h13 a14 h14 a15 h15 a16 h16 a17 h17 a18 h18 a19 h19 a23 a24 x2 x5 x6 x12 x13 x14 x15 x16 x17 x18 (ix2 r k)
      = projected (goalRe ar ai x5 x6 (first0 c a3 h3 a16 h16 x2 x15) (first1 c a3 h3 a17 h17 x2 x16)) (goalIm ar ai x5 x6 (first0 c a3 h3 a16 h16 x2 x15) (first1 c a3 h3 a17 h17 x2 x16)) x17 x18 x2 r k := by
  have hb := both_16 c a3 h3 a6 h6 a7 h7 a13 h13 a14 h14 a15 h15 a16 h16 a17 h17 a23 a24 x2 x5 x6 x12 x13 x14 x15 x16 ar ai hA hI
  have e := project_apply (goalRe ar ai x5 x6 (first0 c a3 h3 a16 h16 x2 x15) (first1 c a3 h3 a17 h17 x2 x16)) (goalIm ar ai x5 x6 (first0 c a3 h3 a16 h16 x2 x15) (first1 c a3 h3 a17 h17 x2 x16)) x2 _ _ _ _ x17 _ _ x18
    (held_half hb.1 a23.view 0 (by decide) (by decide)) (held_half hb.2 a24.view 0 (by decide) (by decide)) (held_half hb.1 a23.view 1024 (by decide) (by decide)) (held_half hb.2 a24.view 1024 (by decide) (by decide))
    (load_half0 a18 h18 x17 (by decide)) (load_half1 a18 h18 x17 (by decide)) r k
  refine Eq.trans ?_ e
  unfold kernelRun1_A.sl.r_124
  rw [show kernelRun1_A.sl.r_2 c a3 h3 x2 = x2 from load_square a3 h3 x2 (by decide), load_bias]
  rfl

end rows

variable (V : Dev nD → (b : Ref sig .tc) → b.ty.Contents (Elt Ideal))

/-- The attention part of the merged rows, with its operands loaded. -/
theorem gated_load (c : Dev nD) (b1 : Memref sig .tc .vmem S512x512 .f32) (e1 : b1.IsWhole) (b3 : Memref sig .tc .vmem S512x1024 .bf16) (e3 : b3.IsWhole)
    (b7 : Memref sig .tc .vmem S512x1024 .bf16) (e7 : b7.IsWhole) (y1 : Vec Ideal S512x512 .f32) (y3 y7 : Vec Ideal S512x1024 .bf16) (r : Fin 512) (k : Fin 1024) :
    k1_pay356 (kernelRun1_A.sl.r_125 c b1 e1 y1) (kernelRun1_A.sl.r_126 c b3 e3 y3) (kernelRun1_A.sl.r_127 c b7 e7 y7) kernelRun1_A.sl.cst_20 (ix2 r k)
      = y3 (ix2 r k) * ∑ i : Fin 512, y1 (ix2 r i) * y7 (ix2 i k) := by
  unfold kernelRun1_A.sl.r_125 kernelRun1_A.sl.r_126 kernelRun1_A.sl.r_127
  rw [load_square, load_gates, load_gates]
  exact gated_apply y1 y3 y7 r k

/-- What the grid point leaves in the array of mixed rows. -/
theorem mixed_block (c : Dev nD) (t : Fin cfg1.N) (ar ai : Fin 2048 → EReal)
    (hA : ∀ l, kernelRun1_A.sl.r c (ms1_12 t) (hs1_12 t) (ms1_13 t) (hs1_13 t) (ms1_14 t) (hs1_14 t) (iblk1 V c 12 t) (iblk1 V c 13 t) (iblk1 V c 14 t) (ix2 (0 : Fin 1) l) = ar l)
    (hI : ∀ l, kernelRun1_A.sl.r_1 c (ms1_12 t) (hs1_12 t) (ms1_13 t) (hs1_13 t) (ms1_14 t) (hs1_14 t) (iblk1 V c 12 t) (iblk1 V c 13 t) (iblk1 V c 14 t) (ix2 (0 : Fin 1) l) = ai l)
    (y : S512x1024.Idx) : (outsAt1 V c t).1 y
      = mixedRow (fun r j => (iblk1 V c 0 t : Vec Ideal S512x1024 .f32) (ix2 r j)) (fun r i => (iblk1 V c 1 t : Vec Ideal S512x512 .f32) (ix2 r i))
          (fun r k => (iblk1 V c 3 t : Vec Ideal S512x1024 .bf16) (ix2 r k)) (fun r k => (iblk1 V c 4 t : Vec Ideal S512x1024 .bf16) (ix2 r k))
          (fun i k => (iblk1 V c 7 t : Vec Ideal S512x1024 .bf16) (ix2 i k)) (fun i k => (iblk1 V c 10 t : Vec Ideal S512x1024 .bf16) (ix2 i k))
          (fun k j => (iblk1 V c 11 t : Vec Ideal S1024x1024 .bf16) (ix2 k j))
          (gatedUnit (projected (goalRe ar ai (iblk1 V c 5 t) (iblk1 V c 6 t) (first0 c (ms1_2 t) (hs1_2 t) (ms1_15 t) (hs1_15 t) (iblk1 V c 2 t) (iblk1 V c 15 t)) (first1 c (ms1_2 t) (hs1_2 t) (ms1_16 t) (hs1_16 t) (iblk1 V c 2 t) (iblk1 V c 16 t))) (goalIm ar ai (iblk1 V c 5 t) (iblk1 V c 6 t) (first0 c (ms1_2 t) (hs1_2 t) (ms1_15 t) (hs1_15 t) (iblk1 V c 2 t) (iblk1 V c 15 t)) (first1 c (ms1_2 t) (hs1_2 t) (ms1_16 t) (hs1_16 t) (iblk1 V c 2 t) (iblk1 V c 16 t))) (iblk1 V c 17 t) (iblk1 V c 18 t) (iblk1 V c 2 t))
            (fun p i => (iblk1 V c 8 t : Vec Ideal S512x512 .bf16) (ix2 p i)) (fun i => (iblk1 V c 9 t : Vec Ideal S1x512 .f32) (ix2 (0 : Fin 1) i))) (y 0) (y 1) := by
  have hr := rows_projected c (ms1_2 t) (hs1_2 t) (ms1_5 t) (hs1_5 t) (ms1_6 t) (hs1_6 t) (ms1_12 t) (hs1_12 t) (ms1_13 t) (hs1_13 t) (ms1_14 t) (hs1_14 t) (ms1_15 t) (hs1_15 t) (ms1_16 t) (hs1_16 t)
    scM1_0 scM1_1 (ms1_17 t) (hs1_17 t) (ms1_18 t) (hs1_18 t) (iblk1 V c 17 t) (iblk1 V c 18 t) (iblk1 V c 2 t) (iblk1 V c 5 t) (iblk1 V c 6 t) (iblk1 V c 12 t) (iblk1 V c 13 t) (iblk1 V c 14 t) (iblk1 V c 15 t) (iblk1 V c 16 t) ar ai hA hI
  dsimp only [outsAt1]
  unfold out1_A_19
  rw [View.read_writes_junk_eq_canon]
  unfold kernelRun1_A
  dsimp only
  canon_tiles x h
  obtain ⟨r, j, rfl⟩ : ∃ (r : Fin 512) (j : Fin 1024), x = ix2 r j := ⟨x 0, x 1, by funext a; match a with | ⟨0, _⟩ => rfl | ⟨1, _⟩ => rfl⟩
  have ey : (y 0 : Fin 512) = r := Fin.ext h0
  have ez : (y 1 : Fin 1024) = j := Fin.ext h1
  rw [ey, ez]
  unfold kernelRun1_A.sl.r_131
  refine (merge_apply _ _ _ _ _ _ _ _ r j).trans ?_
  simp only [hr]
  unfold mixedRow kernelRun1_A.sl.r_128
  refine congrArg₂ (· + ·) ?_ (Finset.sum_congr rfl fun k _ => congrArg₂ (· * ·) (congrArg₂ (· + ·) ?_ (congrArg₂ (· * ·) ?_ (Finset.sum_congr rfl fun i _ => congrArg₂ (· * ·) ?_ ?_))) ?_)
  · exact congrFun (load_rows (ms1_0 t) (hs1_0 t) (iblk1 V c 0 t) (by decide)) (ix2 r j)
  · exact gated_load c (ms1_1 t) (hs1_1 t) (ms1_3 t) (hs1_3 t) (ms1_7 t) (hs1_7 t) (iblk1 V c 1 t) (iblk1 V c 3 t) (iblk1 V c 7 t) r k
  · exact congrFun (load_gates (ms1_4 t) (hs1_4 t) (iblk1 V c 4 t) (by decide)) (ix2 r k)
  · refine congrArg₂ (fun w b => gatedUnit _ w b r i) ?_ ?_
    · funext p q
      exact congrFun (load_glu (ms1_8 t) (hs1_8 t) (iblk1 V c 8 t) (by decide)) (ix2 p q)
    · funext q
      exact congrFun (load_bias (ms1_9 t) (hs1_9 t) (iblk1 V c 9 t) (by decide)) (ix2 0 q)
  · exact congrFun (load_gates (ms1_10 t) (hs1_10 t) (iblk1 V c 10 t) (by decide)) (ix2 i k)
  · exact congrFun (load_out (ms1_11 t) (hs1_11 t) (iblk1 V c 11 t) (by decide)) (ix2 k j)

/-! ## The mixed rows from the layer's arrays -/

/-- The state of one lane after the steps up to step `t`, from the lane's own coefficients. -/
def laneUpTo (a b d sr si : EReal) (p q : Fin 16 → EReal) (u : Fin 4 → Fin 16 → EReal) (t : Nat) : EReal × EReal :=
  upTo (decayRe a b d) (decayIm a b d) (sr, si) (fun t => inRe a b d p q (u t)) (fun t => inIm a b d p q (u t)) t

/-- State `n` of group `g` in row `r`, which is step `r / 128` of sequence `r % 128`. -/
def rowOf (x2 : Vec Ideal S512x512 .f32) (x5 x6 : Vec Ideal S1x128x32x64 .f32) (x12 x13 : Vec Ideal S1x32x64 .f32) (x14 : Vec Ideal S1x32 .f32)
    (x15 x16 : Vec Ideal S1x32x64x16 .f32) (r : Fin 512) (g : Fin 32) (n : Fin 64) : EReal × EReal :=
  laneUpTo (x12 (ix3 (0 : Fin 1) g n)) (x13 (ix3 (0 : Fin 1) g n)) (x14 (ix2 (0 : Fin 1) g))
    (x5 (ix4 (0 : Fin 1) (⟨r.val % 128, by omega⟩ : Fin 128) g n)) (x6 (ix4 (0 : Fin 1) (⟨r.val % 128, by omega⟩ : Fin 128) g n))
    (fun k => x15 (ix4 (0 : Fin 1) g n k)) (fun k => x16 (ix4 (0 : Fin 1) g n k))
    (fun t k => x2 (ix2 (⟨128 * t.val + r.val % 128, by omega⟩ : Fin 512) (⟨16 * g.val + k.val, by omega⟩ : Fin 512))) (r.val / 128)

/-- Channel `c` of row `r` after the recurrence: the group's states projected, and the skipped channel. -/
def groupOut (s : Fin 512 → Fin 32 → Fin 64 → EReal × EReal) (x2 : Vec Ideal S512x512 .f32) (x17 x18 : Vec Ideal S1x32x16x64 .f32) (x19 : Vec Ideal S1x32x16 .f32)
    (r c : Fin 512) : EReal :=
  ((∑ n : Fin 64, (s r ⟨c.val / 16, by omega⟩ n).1 * x17 (ix4 (0 : Fin 1) (⟨c.val / 16, by omega⟩ : Fin 32) (⟨c.val % 16, by omega⟩ : Fin 16) n))
    + ∑ n : Fin 64, (s r ⟨c.val / 16, by omega⟩ n).2 * -x18 (ix4 (0 : Fin 1) (⟨c.val / 16, by omega⟩ : Fin 32) (⟨c.val % 16, by omega⟩ : Fin 16) n))
    + x19 (ix3 (0 : Fin 1) (⟨c.val / 16, by omega⟩ : Fin 32) (⟨c.val % 16, by omega⟩ : Fin 16)) * x2 (ix2 r c)

/-- Entry `j` of row `r` of the mixed residual, from the layer's arrays. -/
def mixedOf (x0 : Vec Ideal S512x1024 .f32) (x1 x2 : Vec Ideal S512x512 .f32) (x3 x4 : Vec Ideal S512x1024 .bf16) (x5 x6 : Vec Ideal S1x128x32x64 .f32)
    (x7 : Vec Ideal S512x1024 .bf16) (x8 : Vec Ideal S512x512 .bf16) (x9 : Vec Ideal S1x512 .f32) (x10 : Vec Ideal S512x1024 .bf16) (x11 : Vec Ideal S1024x1024 .bf16)
    (x12 x13 : Vec Ideal S1x32x64 .f32) (x14 : Vec Ideal S1x32 .f32) (x15 x16 : Vec Ideal S1x32x64x16 .f32) (x17 x18 : Vec Ideal S1x32x16x64 .f32)
    (x19 : Vec Ideal S1x32x16 .f32) (r : Fin 512) (j : Fin 1024) : EReal :=
  mixedRow (fun r j => x0 (ix2 r j)) (fun r i => x1 (ix2 r i)) (fun r k => x3 (ix2 r k)) (fun r k => x4 (ix2 r k)) (fun i k => x7 (ix2 i k))
    (fun i k => x10 (ix2 i k)) (fun k j => x11 (ix2 k j))
    (gatedUnit (groupOut (rowOf x2 x5 x6 x12 x13 x14 x15 x16) x2 x17 x18 x19) (fun p i => x8 (ix2 p i)) (fun i => x9 (ix2 (0 : Fin 1) i))) r j

end Cert.KernelIdeal.RefValue
end
-- ==== Proof.MixArray.lean ====
module

public import proofs.«01_k».proof.Proof.MixResult
public import proofs.«01_k».proof.Proof.MixOut
public import Idealize.ShloMosaic.Lib.StableHlo.ReadAt

@[expose] public section

set_option maxRecDepth 16384

noncomputable section

open Idealize.ShloMosaic Idealize.ShloMosaic.TcCoe Idealize.SL.Sem

namespace Cert.KernelIdeal.RefValue

open Cert.KernelIdeal Cert.KernelIdeal.Gen

/-! # The mixed rows of the sample group: the array the second call leaves -/

/-! ## What the host prepares -/

/-- The comparison of the two quotients, the lane first. -/
theorem word_same' (j : Fin 1024) (k : Fin 256) :
    IntOp.cmpi CmpIPredicate.eq (IntOp.divsi ArithUnit.host (BitVec.ofNat 32 j.val) 64#32) (IntOp.divsi ArithUnit.host (BitVec.ofNat 32 k.val) 16#32)
      = BitVec.ofBool (decide (k.val / 16 = j.val / 64)) := by
  rw [word_div_16, word_div_64, WordCmp.cmpi_eq_eq]
  congr 1
  rw [decide_eq_decide]
  constructor
  · intro h
    have h' := congrArg BitVec.toNat h
    simp only [BitVec.toNat_ofNat] at h'
    omega
  · intro h
    rw [h]

section Host

variable (W : Valuation τ sig (Elt Ideal))

theorem host0_mask (j : Fin 1024) (k : Fin 256) : StableHlo.after hostOps0 W main_v13 (ix2 j k) = BitVec.ofBool (decide (k.val / 16 = j.val / 64)) := by
  rw [← word_same']
  unfold hostOps0
  after_results
  pointwise

theorem host0_first (i : S_.Idx) : StableHlo.after hostOps0 W main_cst i = (1 : EReal) := by
  unfold hostOps0
  after_results
  pointwise

theorem host0_second (i : S_.Idx) : StableHlo.after hostOps0 W main_cst_1 i = (0 : EReal) := by
  unfold hostOps0
  after_results
  pointwise

theorem host0_same (j : Fin 1024) (k : Fin 256) (hm : W main_v13 (ix2 j k) = BitVec.ofBool (decide (k.val / 16 = j.val / 64)))
    (h1 : ∀ i : S_.Idx, W main_cst i = (1 : EReal)) (h0 : ∀ i : S_.Idx, W main_cst_1 i = (0 : EReal)) :
    StableHlo.after hostOps0_1 W main_v14 (ix2 j k) = sameGroup k j := by
  unfold hostOps0_1
  after_results
  show (if W main_v13 (ix2 j k) = 1#1 then W main_cst _ else W main_cst_1 _) = sameGroup k j
  rw [hm, h1, h0]
  unfold sameGroup
  by_cases h : k.val / 16 = j.val / 64
  · rw [if_pos h, decide_eq_true h]
    exact if_pos rfl
  · rw [if_neg h, decide_eq_false h]
    exact if_neg (show ¬ ((0#1 : BitVec 1) = 1#1) by decide)

theorem host0_entry (h : Fin 2) (j : Fin 1024) (k : Fin 256) : StableHlo.after hostOps0 W main_v6 (ix3 h j k)
    = W main_arg17 (ix4 (0 : Fin 1) (⟨h.val * 16 + k.val / 16, by omega⟩ : Fin 32) (⟨k.val % 16, by omega⟩ : Fin 16) (⟨j.val % 64, by omega⟩ : Fin 64)) := by
  unfold hostOps0
  after_results
  pointwise

theorem host2_mask (j : Fin 1024) (k : Fin 256) : StableHlo.after hostOps0_2 W main_v32 (ix2 j k) = BitVec.ofBool (decide (k.val / 16 = j.val / 64)) := by
  rw [← word_same']
  unfold hostOps0_2
  after_results
  pointwise

theorem host2_first (i : S_.Idx) : StableHlo.after hostOps0_2 W main_cst_4 i = (1 : EReal) := by
  unfold hostOps0_2
  after_results
  pointwise

theorem host2_second (i : S_.Idx) : StableHlo.after hostOps0_2 W main_cst_5 i = (0 : EReal) := by
  unfold hostOps0_2
  after_results
  pointwise

theorem host2_same (j : Fin 1024) (k : Fin 256) (hm : W main_v32 (ix2 j k) = BitVec.ofBool (decide (k.val / 16 = j.val / 64)))
    (h1 : ∀ i : S_.Idx, W main_cst_4 i = (1 : EReal)) (h0 : ∀ i : S_.Idx, W main_cst_5 i = (0 : EReal)) :
    StableHlo.after hostOps0_3 W main_v33 (ix2 j k) = sameGroup k j := by
  unfold hostOps0_3
  after_results
  show (if W main_v32 (ix2 j k) = 1#1 then W main_cst_4 _ else W main_cst_5 _) = sameGroup k j
  rw [hm, h1, h0]
  unfold sameGroup
  by_cases h : k.val / 16 = j.val / 64
  · rw [if_pos h, decide_eq_true h]
    exact if_pos rfl
  · rw [if_neg h, decide_eq_false h]
    exact if_neg (show ¬ ((0#1 : BitVec 1) = 1#1) by decide)

theorem host2_entry (h : Fin 2) (j : Fin 1024) (k : Fin 256) : StableHlo.after hostOps0_2 W main_v25 (ix3 h j k)
    = W main_arg18 (ix4 (0 : Fin 1) (⟨h.val * 16 + k.val / 16, by omega⟩ : Fin 32) (⟨k.val % 16, by omega⟩ : Fin 16) (⟨j.val % 64, by omega⟩ : Fin 64)) := by
  unfold hostOps0_2
  after_results
  pointwise

theorem host2_v18 (h : Fin 2) (j : Fin 1024) (k : Fin 256) : StableHlo.after hostOps0_2 W main_v18 (ix3 h j k)
    = masked (W main_v6 (ix3 h j k)) (W main_v14 (ix2 j k)) := by
  unfold hostOps0_2
  after_results
  pointwise
  rfl

theorem host4_low (h : Fin 2) (j : Fin 1024) (k : Fin 256) : StableHlo.after hostOps0_4 W main_v39 (ix3 h (⟨j.val, by omega⟩ : Fin 2048) k)
    = W main_v18 (ix3 h j k) := by
  unfold hostOps0_4
  after_results
  pointwise

theorem host4_high (h : Fin 2) (j : Fin 1024) (k : Fin 256) : StableHlo.after hostOps0_4 W main_v39 (ix3 h (⟨1024 + j.val, by omega⟩ : Fin 2048) k)
    = (-(masked (W main_v25 (ix3 h j k)) (W main_v33 (ix2 j k))) : EReal) := by
  unfold hostOps0_4
  after_results
  pointwise
  rfl

theorem host4_bias (i : Fin 512) : StableHlo.after hostOps0_4 W main_v41 (ix2 (0 : Fin 1) i) = W main_arg9 (ix2 (0 : Fin 1) i) := by
  unfold hostOps0_4
  after_results
  pointwise

theorem host8_v88 (h : Fin 2) (j : Fin 2048) (k : Fin 256) : StableHlo.after hostOps0_8 W main_v88 (ix3 h j k) = W main_v39 (ix3 h j k) := by
  unfold hostOps0_8
  after_results
  pointwise

theorem host8_v90 (c : Fin 512) : StableHlo.after hostOps0_8 W main_v90 (ix2 (0 : Fin 1) c)
    = W main_arg19 (ix3 (0 : Fin 1) (⟨c.val / 16, by omega⟩ : Fin 32) (⟨c.val % 16, by omega⟩ : Fin 16)) := by
  unfold hostOps0_8
  after_results
  pointwise

end Host

variable (m : (ℓ : Loc nD τ sig) → Buf (Elt Ideal) ℓ) (ρ : Dev nD → PrngReg)

theorem skip_read (c : Dev nD) (k : Fin 512) : V11 m ρ c main_v90 (ix2 (0 : Fin 1) k)
    = m ((c : Thread nD τ).loc main_arg19) (ix3 (0 : Fin 1) (⟨k.val / 16, by omega⟩ : Fin 32) (⟨k.val % 16, by omega⟩ : Fin 16)) := by
  show W11 m ρ c (Proc.devRef .tc main_v90) (ix2 (0 : Fin 1) k) = _
  rw [W11_of m ρ c main_v90 (by decide), W10_of m ρ c main_v90 (by decide)]
  show StableHlo.after hostOps0_8 (W8 m ρ c) main_v90 (ix2 (0 : Fin 1) k) = _
  rw [host8_v90, W8_args m ρ c main_arg19 (by decide)]

theorem bias_read (c : Dev nD) (k : Fin 512) : V11 m ρ c main_v41 (ix2 (0 : Fin 1) k) = m ((c : Thread nD τ).loc main_arg9) (ix2 (0 : Fin 1) k) := by
  show W11 m ρ c (Proc.devRef .tc main_v41) (ix2 (0 : Fin 1) k) = _
  rw [W11_of m ρ c main_v41 (by decide), W10_of m ρ c main_v41 (by decide)]
  show V9 m ρ c main_v41 (ix2 (0 : Fin 1) k) = _
  rw [from_fifth m ρ c main_v41 (by decide) (by decide) (by decide) (by decide), host4_bias, W4_args m ρ c main_arg9 (by decide)]

theorem output_read (c : Dev nD) (h : Fin 2) (j : Fin 2048) (k : Fin 256) : V11 m ρ c main_v88 (ix3 h j k) = StableHlo.after hostOps0_4 (W4 m ρ c) main_v39 (ix3 h j k) := by
  show W11 m ρ c (Proc.devRef .tc main_v88) (ix3 h j k) = _
  rw [W11_of m ρ c main_v88 (by decide), W10_of m ρ c main_v88 (by decide)]
  show StableHlo.after hostOps0_8 (W8 m ρ c) main_v88 (ix3 h j k) = _
  rw [host8_v88, W8_of m ρ c main_v39 (by decide), W7_of m ρ c main_v39 (by decide), W6_of m ρ c main_v39 (by decide)]

/-- The real output matrix, as the second call finds it: block diagonal over the groups of each half. -/
theorem output_re (c : Dev nD) (h : Fin 2) (j : Fin 1024) (k : Fin 256) : V11 m ρ c main_v88 (ix3 h (⟨j.val, by omega⟩ : Fin 2048) k)
    = masked (m ((c : Thread nD τ).loc main_arg17) (ix4 (0 : Fin 1) (⟨h.val * 16 + k.val / 16, by omega⟩ : Fin 32) (⟨k.val % 16, by omega⟩ : Fin 16) (⟨j.val % 64, by omega⟩ : Fin 64))) (sameGroup k j) := by
  rw [output_read, host4_low, W4_of m ρ c main_v18 (by decide)]
  show StableHlo.after hostOps0_2 (W2 m ρ c) main_v18 (ix3 h j k) = _
  rw [host2_v18]
  refine congrArg₂ masked ?_ ?_
  · rw [W2_of m ρ c main_v6 (by decide)]
    exact host0_entry (W0 m ρ c) h j k
  · exact host0_same (W1 m ρ c) j k (host0_mask (W0 m ρ c) j k) (host0_first (W0 m ρ c)) (host0_second (W0 m ρ c))

/-- The imaginary output matrix, as the second call finds it: the negated entries, block diagonal. -/
theorem output_im (c : Dev nD) (h : Fin 2) (j : Fin 1024) (k : Fin 256) : V11 m ρ c main_v88 (ix3 h (⟨1024 + j.val, by omega⟩ : Fin 2048) k)
    = (-(masked (m ((c : Thread nD τ).loc main_arg18) (ix4 (0 : Fin 1) (⟨h.val * 16 + k.val / 16, by omega⟩ : Fin 32) (⟨k.val % 16, by omega⟩ : Fin 16) (⟨j.val % 64, by omega⟩ : Fin 64))) (sameGroup k j)) : EReal) := by
  rw [output_read, host4_high]
  refine congrArg (fun x : EReal => -x) (congrArg₂ masked ?_ ?_)
  · rw [W4_of m ρ c main_v25 (by decide), ← W2_args m ρ c main_arg18 (by decide)]
    exact host2_entry (W2 m ρ c) h j k
  · exact host2_same (W3 m ρ c) j k (host2_mask (W2 m ρ c) j k) (host2_first (W2 m ρ c)) (host2_second (W2 m ρ c))

/-! ## The windows of the second call -/

theorem start1_0 : ∀ t : Fin cfg1.N, win1_0.index t (0 : Fin 2) = 0 ∧ win1_0.index t (1 : Fin 2) = 0 :=
  (by decide +kernel : ∀ t : Fin grid1.N, _)

theorem place1_0 (t : Fin cfg1.N) (y : S512x1024.Idx) : ((cfg1.win 0).blk t).view.emb y = y := by
  obtain ⟨e0, e1⟩ := start1_0 t
  funext a; apply Fin.ext
  match a with
  | ⟨0,_⟩ => show win1_0.index t (0 : Fin 2) * 512 + 1 * (y 0).val = (y 0).val; omega
  | ⟨1,_⟩ => show win1_0.index t (1 : Fin 2) * 1024 + 1 * (y 1).val = (y 1).val; omega

theorem whole1_0 (V : (c : Dev nD) → (b : Ref sig .tc) → Buf (Elt Ideal) ((c : Thread nD τ).loc b)) (c : Dev nD) (t : Fin cfg1.N) (y : S512x1024.Idx) :
    (iblk1 V c 0 t : Vec Ideal S512x1024 .f32) y = V c main_arg0 y := by
  show V c main_arg0 (((cfg1.win 0).blk t).view.emb y) = _
  rw [place1_0]

theorem start1_1 : ∀ t : Fin cfg1.N, win1_1.index t (0 : Fin 2) = 0 ∧ win1_1.index t (1 : Fin 2) = 0 :=
  (by decide +kernel : ∀ t : Fin grid1.N, _)

theorem place1_1 (t : Fin cfg1.N) (y : S512x512.Idx) : ((cfg1.win 1).blk t).view.emb y = y := by
  obtain ⟨e0, e1⟩ := start1_1 t
  funext a; apply Fin.ext
  match a with
  | ⟨0,_⟩ => show win1_1.index t (0 : Fin 2) * 512 + 1 * (y 0).val = (y 0).val; omega
  | ⟨1,_⟩ => show win1_1.index t (1 : Fin 2) * 512 + 1 * (y 1).val = (y 1).val; omega

theorem whole1_1 (V : (c : Dev nD) → (b : Ref sig .tc) → Buf (Elt Ideal) ((c : Thread nD τ).loc b)) (c : Dev nD) (t : Fin cfg1.N) (y : S512x512.Idx) :
    (iblk1 V c 1 t : Vec Ideal S512x512 .f32) y = V c main_arg1 y := by
  show V c main_arg1 (((cfg1.win 1).blk t).view.emb y) = _
  rw [place1_1]

theorem start1_3 : ∀ t : Fin cfg1.N, win1_3.index t (0 : Fin 2) = 0 ∧ win1_3.index t (1 : Fin 2) = 0 :=
  (by decide +kernel : ∀ t : Fin grid1.N, _)

theorem place1_3 (t : Fin cfg1.N) (y : S512x1024.Idx) : ((cfg1.win 3).blk t).view.emb y = y := by
  obtain ⟨e0, e1⟩ := start1_3 t
  funext a; apply Fin.ext
  match a with
  | ⟨0,_⟩ => show win1_3.index t (0 : Fin 2) * 512 + 1 * (y 0).val = (y 0).val; omega
  | ⟨1,_⟩ => show win1_3.index t (1 : Fin 2) * 1024 + 1 * (y 1).val = (y 1).val; omega

theorem whole1_3 (V : (c : Dev nD) → (b : Ref sig .tc) → Buf (Elt Ideal) ((c : Thread nD τ).loc b)) (c : Dev nD) (t : Fin cfg1.N) (y : S512x1024.Idx) :
    (iblk1 V c 3 t : Vec Ideal S512x1024 .bf16) y = V c main_arg3 y := by
  show V c main_arg3 (((cfg1.win 3).blk t).view.emb y) = _
  rw [place1_3]

theorem start1_4 : ∀ t : Fin cfg1.N, win1_4.index t (0 : Fin 2) = 0 ∧ win1_4.index t (1 : Fin 2) = 0 :=
  (by decide +kernel : ∀ t : Fin grid1.N, _)

theorem place1_4 (t : Fin cfg1.N) (y : S512x1024.Idx) : ((cfg1.win 4).blk t).view.emb y = y := by
  obtain ⟨e0, e1⟩ := start1_4 t
  funext a; apply Fin.ext
  match a with
  | ⟨0,_⟩ => show win1_4.index t (0 : Fin 2) * 512 + 1 * (y 0).val = (y 0).val; omega
  | ⟨1,_⟩ => show win1_4.index t (1 : Fin 2) * 1024 + 1 * (y 1).val = (y 1).val; omega

theorem whole1_4 (V : (c : Dev nD) → (b : Ref sig .tc) → Buf (Elt Ideal) ((c : Thread nD τ).loc b)) (c : Dev nD) (t : Fin cfg1.N) (y : S512x1024.Idx) :
    (iblk1 V c 4 t : Vec Ideal S512x1024 .bf16) y = V c main_arg4 y := by
  show V c main_arg4 (((cfg1.win 4).blk t).view.emb y) = _
  rw [place1_4]

theorem start1_7 : ∀ t : Fin cfg1.N, win1_7.index t (0 : Fin 2) = 0 ∧ win1_7.index t (1 : Fin 2) = 0 :=
  (by decide +kernel : ∀ t : Fin grid1.N, _)

theorem place1_7 (t : Fin cfg1.N) (y : S512x1024.Idx) : ((cfg1.win 7).blk t).view.emb y = y := by
  obtain ⟨e0, e1⟩ := start1_7 t
  funext a; apply Fin.ext
  match a with
  | ⟨0,_⟩ => show win1_7.index t (0 : Fin 2) * 512 + 1 * (y 0).val = (y 0).val; omega
  | ⟨1,_⟩ => show win1_7.index t (1 : Fin 2) * 1024 + 1 * (y 1).val = (y 1).val; omega

theorem whole1_7 (V : (c : Dev nD) → (b : Ref sig .tc) → Buf (Elt Ideal) ((c : Thread nD τ).loc b)) (c : Dev nD) (t : Fin cfg1.N) (y : S512x1024.Idx) :
    (iblk1 V c 7 t : Vec Ideal S512x1024 .bf16) y = V c main_arg7 y := by
  show V c main_arg7 (((cfg1.win 7).blk t).view.emb y) = _
  rw [place1_7]

theorem start1_8 : ∀ t : Fin cfg1.N, win1_8.index t (0 : Fin 2) = 0 ∧ win1_8.index t (1 : Fin 2) = 0 :=
  (by decide +kernel : ∀ t : Fin grid1.N, _)

theorem place1_8 (t : Fin cfg1.N) (y : S512x512.Idx) : ((cfg1.win 8).blk t).view.emb y = y := by
  obtain ⟨e0, e1⟩ := start1_8 t
  funext a; apply Fin.ext
  match a with
  | ⟨0,_⟩ => show win1_8.index t (0 : Fin 2) * 512 + 1 * (y 0).val = (y 0).val; omega
  | ⟨1,_⟩ => show win1_8.index t (1 : Fin 2) * 512 + 1 * (y 1).val = (y 1).val; omega

theorem whole1_8 (V : (c : Dev nD) → (b : Ref sig .tc) → Buf (Elt Ideal) ((c : Thread nD τ).loc b)) (c : Dev nD) (t : Fin cfg1.N) (y : S512x512.Idx) :
    (iblk1 V c 8 t : Vec Ideal S512x512 .bf16) y = V c main_arg8 y := by
  show V c main_arg8 (((cfg1.win 8).blk t).view.emb y) = _
  rw [place1_8]

theorem start1_9 : ∀ t : Fin cfg1.N, win1_9.index t (0 : Fin 2) = 0 ∧ win1_9.index t (1 : Fin 2) = 0 :=
  (by decide +kernel : ∀ t : Fin grid1.N, _)

theorem place1_9 (t : Fin cfg1.N) (y : S1x512.Idx) : ((cfg1.win 9).blk t).view.emb y = y := by
  obtain ⟨e0, e1⟩ := start1_9 t
  funext a; apply Fin.ext
  match a with
  | ⟨0,_⟩ => show win1_9.index t (0 : Fin 2) * 1 + 1 * (y 0).val = (y 0).val; omega
  | ⟨1,_⟩ => show win1_9.index t (1 : Fin 2) * 512 + 1 * (y 1).val = (y 1).val; omega

theorem whole1_9 (V : (c : Dev nD) → (b : Ref sig .tc) → Buf (Elt Ideal) ((c : Thread nD τ).loc b)) (c : Dev nD) (t : Fin cfg1.N) (y : S1x512.Idx) :
    (iblk1 V c 9 t : Vec Ideal S1x512 .f32) y = V c main_v41 y := by
  show V c main_v41 (((cfg1.win 9).blk t).view.emb y) = _
  rw [place1_9]

theorem start1_10 : ∀ t : Fin cfg1.N, win1_10.index t (0 : Fin 2) = 0 ∧ win1_10.index t (1 : Fin 2) = 0 :=
  (by decide +kernel : ∀ t : Fin grid1.N, _)

theorem place1_10 (t : Fin cfg1.N) (y : S512x1024.Idx) : ((cfg1.win 10).blk t).view.emb y = y := by
  obtain ⟨e0, e1⟩ := start1_10 t
  funext a; apply Fin.ext
  match a with
  | ⟨0,_⟩ => show win1_10.index t (0 : Fin 2) * 512 + 1 * (y 0).val = (y 0).val; omega
  | ⟨1,_⟩ => show win1_10.index t (1 : Fin 2) * 1024 + 1 * (y 1).val = (y 1).val; omega

theorem whole1_10 (V : (c : Dev nD) → (b : Ref sig .tc) → Buf (Elt Ideal) ((c : Thread nD τ).loc b)) (c : Dev nD) (t : Fin cfg1.N) (y : S512x1024.Idx) :
    (iblk1 V c 10 t : Vec Ideal S512x1024 .bf16) y = V c main_arg10 y := by
  show V c main_arg10 (((cfg1.win 10).blk t).view.emb y) = _
  rw [place1_10]

theorem start1_11 : ∀ t : Fin cfg1.N, win1_11.index t (0 : Fin 2) = 0 ∧ win1_11.index t (1 : Fin 2) = 0 :=
  (by decide +kernel : ∀ t : Fin grid1.N, _)

theorem place1_11 (t : Fin cfg1.N) (y : S1024x1024.Idx) : ((cfg1.win 11).blk t).view.emb y = y := by
  obtain ⟨e0, e1⟩ := start1_11 t
  funext a; apply Fin.ext
  match a with
  | ⟨0,_⟩ => show win1_11.index t (0 : Fin 2) * 1024 + 1 * (y 0).val = (y 0).val; omega
  | ⟨1,_⟩ => show win1_11.index t (1 : Fin 2) * 1024 + 1 * (y 1).val = (y 1).val; omega

theorem whole1_11 (V : (c : Dev nD) → (b : Ref sig .tc) → Buf (Elt Ideal) ((c : Thread nD τ).loc b)) (c : Dev nD) (t : Fin cfg1.N) (y : S1024x1024.Idx) :
    (iblk1 V c 11 t : Vec Ideal S1024x1024 .bf16) y = V c main_arg11 y := by
  show V c main_arg11 (((cfg1.win 11).blk t).view.emb y) = _
  rw [place1_11]

theorem start1_17 : ∀ t : Fin cfg1.N, win1_17.index t (0 : Fin 3) = 0 ∧ win1_17.index t (1 : Fin 3) = 0 ∧ win1_17.index t (2 : Fin 3) = 0 :=
  (by decide +kernel : ∀ t : Fin grid1.N, _)

theorem place1_17 (t : Fin cfg1.N) (y : S2x2048x256.Idx) : ((cfg1.win 17).blk t).view.emb y = y := by
  obtain ⟨e0, e1, e2⟩ := start1_17 t
  funext a; apply Fin.ext
  match a with
  | ⟨0,_⟩ => show win1_17.index t (0 : Fin 3) * 2 + 1 * (y 0).val = (y 0).val; omega
  | ⟨1,_⟩ => show win1_17.index t (1 : Fin 3) * 2048 + 1 * (y 1).val = (y 1).val; omega
  | ⟨2,_⟩ => show win1_17.index t (2 : Fin 3) * 256 + 1 * (y 2).val = (y 2).val; omega

theorem whole1_17 (V : (c : Dev nD) → (b : Ref sig .tc) → Buf (Elt Ideal) ((c : Thread nD τ).loc b)) (c : Dev nD) (t : Fin cfg1.N) (y : S2x2048x256.Idx) :
    (iblk1 V c 17 t : Vec Ideal S2x2048x256 .bf16) y = V c main_v88 y := by
  show V c main_v88 (((cfg1.win 17).blk t).view.emb y) = _
  rw [place1_17]

theorem start1_18 : ∀ t : Fin cfg1.N, win1_18.index t (0 : Fin 2) = 0 ∧ win1_18.index t (1 : Fin 2) = 0 :=
  (by decide +kernel : ∀ t : Fin grid1.N, _)

theorem place1_18 (t : Fin cfg1.N) (y : S1x512.Idx) : ((cfg1.win 18).blk t).view.emb y = y := by
  obtain ⟨e0, e1⟩ := start1_18 t
  funext a; apply Fin.ext
  match a with
  | ⟨0,_⟩ => show win1_18.index t (0 : Fin 2) * 1 + 1 * (y 0).val = (y 0).val; omega
  | ⟨1,_⟩ => show win1_18.index t (1 : Fin 2) * 512 + 1 * (y 1).val = (y 1).val; omega

theorem whole1_18 (V : (c : Dev nD) → (b : Ref sig .tc) → Buf (Elt Ideal) ((c : Thread nD τ).loc b)) (c : Dev nD) (t : Fin cfg1.N) (y : S1x512.Idx) :
    (iblk1 V c 18 t : Vec Ideal S1x512 .f32) y = V c main_v90 y := by
  show V c main_v90 (((cfg1.win 18).blk t).view.emb y) = _
  rw [place1_18]

theorem start1_19 : ∀ t : Fin cfg1.N, win1_19.index t (0 : Fin 2) = 0 ∧ win1_19.index t (1 : Fin 2) = 0 :=
  (by decide +kernel : ∀ t : Fin grid1.N, _)

theorem place1_19 (t : Fin cfg1.N) (y : S512x1024.Idx) : ((cfg1.win 19).blk t).view.emb y = y := by
  obtain ⟨e0, e1⟩ := start1_19 t
  funext a; apply Fin.ext
  match a with
  | ⟨0,_⟩ => show win1_19.index t (0 : Fin 2) * 512 + 1 * (y 0).val = (y 0).val; omega
  | ⟨1,_⟩ => show win1_19.index t (1 : Fin 2) * 1024 + 1 * (y 1).val = (y 1).val; omega

/-! ## The states of every row -/

theorem upTo_congr {ar ar' ai ai' xr xr' xi xi' : EReal} {b b' e e' : Fin 4 → EReal} (n : Nat) (h1 : ar = ar') (h2 : ai = ai') (h3 : xr = xr') (h4 : xi = xi')
    (h5 : ∀ t, b t = b' t) (h6 : ∀ t, e t = e' t) : upTo ar ai (xr, xi) b e n = upTo ar' ai' (xr', xi') b' e' n := by
  obtain rfl := funext h5; obtain rfl := funext h6
  subst h1 h2 h3 h4; rfl

/-- The state of one row, group and lane, from the arrays the run starts with. -/
abbrev rowIn (c : Dev nD) : Fin 512 → Fin 32 → Fin 64 → EReal × EReal :=
  rowOf (m ((c : Thread nD τ).loc main_arg2)) (m ((c : Thread nD τ).loc main_arg5)) (m ((c : Thread nD τ).loc main_arg6)) (m ((c : Thread nD τ).loc main_arg12))
    (m ((c : Thread nD τ).loc main_arg13)) (m ((c : Thread nD τ).loc main_arg14)) (m ((c : Thread nD τ).loc main_arg15)) (m ((c : Thread nD τ).loc main_arg16))

theorem row_at (c : Dev nD) (t : Fin cfg1.N) (r : Fin 512) (l : Fin 2048) :
    rowState (fun l => decayRe (laneA m c l) (laneB m c l) (laneD m c l)) (fun l => decayIm (laneA m c l) (laneB m c l) (laneD m c l)) (iblk1 (V11 m ρ) c 5 t) (iblk1 (V11 m ρ) c 6 t)
      (first0 c (ms1_2 t) (hs1_2 t) (ms1_15 t) (hs1_15 t) (iblk1 (V11 m ρ) c 2 t) (iblk1 (V11 m ρ) c 15 t))
      (first1 c (ms1_2 t) (hs1_2 t) (ms1_16 t) (hs1_16 t) (iblk1 (V11 m ρ) c 2 t) (iblk1 (V11 m ρ) c 16 t)) r l = rowIn m c r ⟨l.val / 64, by omega⟩ ⟨l.val % 64, by omega⟩ := by
  unfold rowState rowIn rowOf laneUpTo
  refine upTo_congr _ rfl rfl ?_ ?_ (fun s => ?_) (fun s => ?_)
  · rw [whole1_5, state_re_read]
  · rw [whole1_6, state_im_read]
  · exact inputs_re m ρ c t _ l
  · exact inputs_im m ρ c t _ l

/-! ## The projection reads the group's own states -/

theorem lane_sum (f : Fin 1024 → EReal) (q0 : Fin 16) (h0 : ∀ j : Fin 1024, q0.val ≠ j.val / 64 → f j = 0) :
    ∑ j, f j = ∑ n : Fin 64, f ⟨64 * q0.val + n.val, by omega⟩ := by
  rw [Fin.sum_univ_tiles 16 64 rfl f, Finset.sum_eq_single q0]
  · refine Finset.sum_congr rfl fun n _ => congrArg f (Fin.ext ?_)
    show q0.val * 64 + n.val = 64 * q0.val + n.val
    omega
  · intro q _ hq
    refine Finset.sum_eq_zero fun n _ => h0 _ fun h => hq (Fin.ext ?_)
    have h' : q0.val = (q.val * 64 + n.val) / 64 := h
    omega
  · intro h
    exact absurd (Finset.mem_univ _) h

theorem collapse_out_re (R : Fin 2048 → EReal) (w : Fin 64 → EReal) (c : Fin 512) :
    ∑ j : Fin 1024, R (⟨1024 * (c.val / 256) + j.val, by omega⟩ : Fin 2048) * masked (w ⟨j.val % 64, by omega⟩) (sameGroup (⟨c.val % 256, by omega⟩ : Fin 256) j)
      = ∑ n : Fin 64, R (⟨64 * (c.val / 16) + n.val, by omega⟩ : Fin 2048) * w n := by
  rw [lane_sum _ (⟨c.val % 256 / 16, by omega⟩ : Fin 16)]
  · refine Finset.sum_congr rfl fun n _ => ?_
    have hs : sameGroup (⟨c.val % 256, by omega⟩ : Fin 256) (⟨64 * (c.val % 256 / 16) + n.val, by omega⟩ : Fin 1024) = 1 :=
      if_pos (by show c.val % 256 / 16 = (64 * (c.val % 256 / 16) + n.val) / 64; omega)
    have hk : (⟨(64 * (c.val % 256 / 16) + n.val) % 64, by omega⟩ : Fin 64) = n := Fin.ext (by show (64 * (c.val % 256 / 16) + n.val) % 64 = n.val; omega)
    have hu : (⟨1024 * (c.val / 256) + (64 * (c.val % 256 / 16) + n.val), by omega⟩ : Fin 2048) = ⟨64 * (c.val / 16) + n.val, by omega⟩ :=
      Fin.ext (by show 1024 * (c.val / 256) + (64 * (c.val % 256 / 16) + n.val) = 64 * (c.val / 16) + n.val; omega)
    simp only [hs, hk, hu, masked_one]
  · intro j hj
    have hs : sameGroup (⟨c.val % 256, by omega⟩ : Fin 256) j = 0 := if_neg hj
    simp only [hs, masked_zero, mul_zero]

theorem collapse_out_im (R : Fin 2048 → EReal) (w : Fin 64 → EReal) (c : Fin 512) :
    ∑ j : Fin 1024, R (⟨1024 * (c.val / 256) + j.val, by omega⟩ : Fin 2048) * -masked (w ⟨j.val % 64, by omega⟩) (sameGroup (⟨c.val % 256, by omega⟩ : Fin 256) j)
      = ∑ n : Fin 64, R (⟨64 * (c.val / 16) + n.val, by omega⟩ : Fin 2048) * -w n := by
  refine Eq.trans (Finset.sum_congr rfl fun j _ => congrArg (R _ * ·) ?_) (collapse_out_re R (fun n => -w n) c)
  exact (EReal.neg_mul _ _).symm

theorem projected_at (c : Dev nD) (t : Fin cfg1.N) (R I : Fin 512 → Fin 2048 → EReal) (hR : ∀ r l, R r l = (rowIn m c r ⟨l.val / 64, by omega⟩ ⟨l.val % 64, by omega⟩).1)
    (hI : ∀ r l, I r l = (rowIn m c r ⟨l.val / 64, by omega⟩ ⟨l.val % 64, by omega⟩).2) (r k : Fin 512) :
    projected R I (iblk1 (V11 m ρ) c 17 t) (iblk1 (V11 m ρ) c 18 t) (iblk1 (V11 m ρ) c 2 t) r k
      = groupOut (rowIn m c) (m ((c : Thread nD τ).loc main_arg2)) (m ((c : Thread nD τ).loc main_arg17)) (m ((c : Thread nD τ).loc main_arg18)) (m ((c : Thread nD τ).loc main_arg19)) r k := by
  have hg : ∀ n : Fin 64, (⟨(64 * (k.val / 16) + n.val) / 64, by omega⟩ : Fin 32) = ⟨k.val / 16, by omega⟩ := fun n => Fin.ext (by show (64 * (k.val / 16) + n.val) / 64 = k.val / 16; omega)
  have hn : ∀ n : Fin 64, (⟨(64 * (k.val / 16) + n.val) % 64, by omega⟩ : Fin 64) = n := fun n => Fin.ext (by show (64 * (k.val / 16) + n.val) % 64 = n.val; omega)
  have hi : ∀ n : Fin 64, (ix4 (0 : Fin 1) (⟨k.val / 256 * 16 + k.val % 256 / 16, by omega⟩ : Fin 32) (⟨k.val % 256 % 16, by omega⟩ : Fin 16) n : S1x32x16x64.Idx)
      = ix4 (0 : Fin 1) (⟨k.val / 16, by omega⟩ : Fin 32) (⟨k.val % 16, by omega⟩ : Fin 16) n := by
    intro n
    funext a; apply Fin.ext
    match a with
    | ⟨0, _⟩ => rfl
    | ⟨1, _⟩ => show k.val / 256 * 16 + k.val % 256 / 16 = k.val / 16; omega
    | ⟨2, _⟩ => show k.val % 256 % 16 = k.val % 16; omega
    | ⟨3, _⟩ => rfl
  unfold projected groupOut
  refine congrArg₂ (· + ·) (congrArg₂ (· + ·) ?_ ?_) (congrArg₂ (· * ·) ?_ ?_)
  · refine Eq.trans (Finset.sum_congr rfl fun j _ => congrArg (R r _ * ·) ?_) ((collapse_out_re (R r) (fun n => m ((c : Thread nD τ).loc main_arg17) (ix4 (0 : Fin 1) (⟨k.val / 16, by omega⟩ : Fin 32) (⟨k.val % 16, by omega⟩ : Fin 16) n)) k).trans (Finset.sum_congr rfl fun n _ => ?_))
    · refine (whole1_17 (V11 m ρ) c t _).trans ((output_re m ρ c ⟨k.val / 256, by omega⟩ j ⟨k.val % 256, by omega⟩).trans ?_)
      rw [hi]
    · rw [hR, hg, hn]
  · refine Eq.trans (Finset.sum_congr rfl fun j _ => congrArg (I r _ * ·) ?_) ((collapse_out_im (I r) (fun n => m ((c : Thread nD τ).loc main_arg18) (ix4 (0 : Fin 1) (⟨k.val / 16, by omega⟩ : Fin 32) (⟨k.val % 16, by omega⟩ : Fin 16) n)) k).trans (Finset.sum_congr rfl fun n _ => ?_))
    · refine (whole1_17 (V11 m ρ) c t _).trans ((output_im m ρ c ⟨k.val / 256, by omega⟩ j ⟨k.val % 256, by omega⟩).trans ?_)
      rw [hi]
    · rw [hI, hg, hn]
  · rw [whole1_18, skip_read]
  · rw [whole1_2, channels_read]

/-! ## The array of mixed rows -/

/-- The mixed rows the second call leaves. -/
def mixedRows (c : Dev nD) : Buf (Elt Ideal) ((c : Thread nD τ).loc main_v96_0) := fun y : S512x1024.Idx =>
  mixedOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (y 0) (y 1)

theorem mixed_out (c : Dev nD) (t : Fin cfg1.N) (y : S512x1024.Idx) : (outsAt1 (V11 m ρ) c t).1 y = mixedRows m c y := by
  refine (mixed_block (V11 m ρ) c t _ _ (decays_re m ρ c t) (decays_im m ρ c t) y).trans ?_
  unfold mixedRows mixedOf
  have e0 : ∀ r j, (iblk1 (V11 m ρ) c 0 t : Vec Ideal S512x1024 .f32) (ix2 r j) = m ((c : Thread nD τ).loc main_arg0) (ix2 r j) := fun r j => by rw [whole1_0]; exact congrFun (W11_args m ρ c main_arg0 (by decide)) _
  have e1 : ∀ r j, (iblk1 (V11 m ρ) c 1 t : Vec Ideal S512x512 .f32) (ix2 r j) = m ((c : Thread nD τ).loc main_arg1) (ix2 r j) := fun r j => by rw [whole1_1]; exact congrFun (W11_args m ρ c main_arg1 (by decide)) _
  have e3 : ∀ r j, (iblk1 (V11 m ρ) c 3 t : Vec Ideal S512x1024 .bf16) (ix2 r j) = m ((c : Thread nD τ).loc main_arg3) (ix2 r j) := fun r j => by rw [whole1_3]; exact congrFun (W11_args m ρ c main_arg3 (by decide)) _
  have e4 : ∀ r j, (iblk1 (V11 m ρ) c 4 t : Vec Ideal S512x1024 .bf16) (ix2 r j) = m ((c : Thread nD τ).loc main_arg4) (ix2 r j) := fun r j => by rw [whole1_4]; exact congrFun (W11_args m ρ c main_arg4 (by decide)) _
  have e7 : ∀ r j, (iblk1 (V11 m ρ) c 7 t : Vec Ideal S512x1024 .bf16) (ix2 r j) = m ((c : Thread nD τ).loc main_arg7) (ix2 r j) := fun r j => by rw [whole1_7]; exact congrFun (W11_args m ρ c main_arg7 (by decide)) _
  have e8 : ∀ r j, (iblk1 (V11 m ρ) c 8 t : Vec Ideal S512x512 .bf16) (ix2 r j) = m ((c : Thread nD τ).loc main_arg8) (ix2 r j) := fun r j => by rw [whole1_8]; exact congrFun (W11_args m ρ c main_arg8 (by decide)) _
  have e9 : ∀ j, (iblk1 (V11 m ρ) c 9 t : Vec Ideal S1x512 .f32) (ix2 (0 : Fin 1) j) = m ((c : Thread nD τ).loc main_arg9) (ix2 (0 : Fin 1) j) := fun j => by rw [whole1_9]; exact bias_read m ρ c j
  have e10 : ∀ r j, (iblk1 (V11 m ρ) c 10 t : Vec Ideal S512x1024 .bf16) (ix2 r j) = m ((c : Thread nD τ).loc main_arg10) (ix2 r j) := fun r j => by rw [whole1_10]; exact congrFun (W11_args m ρ c main_arg10 (by decide)) _
  have e11 : ∀ r j, (iblk1 (V11 m ρ) c 11 t : Vec Ideal S1024x1024 .bf16) (ix2 r j) = m ((c : Thread nD τ).loc main_arg11) (ix2 r j) := fun r j => by rw [whole1_11]; exact congrFun (W11_args m ρ c main_arg11 (by decide)) _
  have ep := funext fun r => funext fun k => projected_at m ρ c t _ _ (fun r l => congrArg Prod.fst (row_at m ρ c t r l)) (fun r l => congrArg Prod.snd (row_at m ρ c t r l)) r k
  simp only [e0, e1, e3, e4, e7, e8, e9, e10, e11]
  exact congrArg (fun P => mixedRow _ _ _ _ _ _ _ (gatedUnit P _ _) (y 0) (y 1)) ep

theorem mixed_flushed (c : Dev nD) (t : Fin cfg1.N) :
    (dat1 (V11 m ρ) c).flushed 19 t = ((cfg1.win 19).blk t).view.read (Elt Ideal) (mixedRows m c) := by
  show (cfg1.win 19).cut (grid1.coords t) ((dat1 (V11 m ρ) c).after 19 t) = _
  rw [after1_19]
  funext j
  show (outsAt1 (V11 m ρ) c t).1 j = mixedRows m c (((cfg1.win 19).blk t).view.emb j)
  rw [place1_19 t j]
  exact mixed_out m ρ c t j

theorem mixed_cover (i : S512x1024.Idx) : ∃ t : Fin cfg1.N, (cfg1.win 19).flush t = true ∧ i ∈ ((cfg1.win 19).blk t).view.set :=
  ⟨t1_0, flush1_19 _, by have h := ((cfg1.win 19).blk t1_0).view.emb_mem_set i; rwa [place1_19 t1_0 i] at h⟩

theorem mixed_array (c : Dev nD) : (dat1 (V11 m ρ) c).arrAt 19 cfg1.N = mixedRows m c :=
  (dat1 (V11 m ρ) c).arrAt_eq_of_cover 19 (mixedRows m c) (fun t _ => mixed_flushed m ρ c t) mixed_cover

end Cert.KernelIdeal.RefValue
end
-- ==== Proof.MixReference.lean ====
module

public import proofs.«01_k».proof.Defs
public import proofs.«01_k».proof.Proof.Gen.ReferenceIdeal.Run
public import proofs.«01_k».proof.Proof.Gen.ReferenceIdeal.Read
public import proofs.«01_k».proof.Proof.MixOut

@[expose] public section

set_option maxRecDepth 16384

noncomputable section

open Idealize.ShloMosaic Idealize.ShloMosaic.TcCoe Idealize.SL.Sem

namespace Cert.ReferenceIdeal.RefValue

open Cert.ReferenceIdeal Cert.ReferenceIdeal.Read
open Cert.KernelIdeal.RefValue (decayRe decayIm factorRe factorIm inRe inIm stepRe stepIm stepBoth fourSteps laneState newState laneUpTo upTo rowOf groupOut geluOf gatedUnit mixedRow mixedOf)

/-! # The recurrence of the sample group: the reference, entry by entry -/

variable (x2 : (⟨S512x512, .f32⟩ : BufTy).Contents (Elt Ideal)) (x5 x6 : (⟨S1x128x32x64, .f32⟩ : BufTy).Contents (Elt Ideal))
  (x12 x13 : (⟨S1x32x64, .f32⟩ : BufTy).Contents (Elt Ideal)) (x14 : (⟨S1x32, .f32⟩ : BufTy).Contents (Elt Ideal))
  (x15 x16 : (⟨S1x32x64x16, .f32⟩ : BufTy).Contents (Elt Ideal))

theorem decay_re_apply (g : Fin 32) (n : Fin 64) : val_main_v11 (F := Ideal) x12 x13 x14 (ix2 g n)
    = decayRe (x12 (ix3 (0 : Fin 1) g n)) (x13 (ix3 (0 : Fin 1) g n)) (x14 (ix2 (0 : Fin 1) g)) := by
  pointwise [val_main_v11, val_main_v10, val_main_v9, val_main_v8, val_main_v7, val_main_v6, val_main_v5, val_main_v4, val_main_v3, val_main_v2, val_main_v1, val_main_v0]
  rfl

theorem decay_im_apply (g : Fin 32) (n : Fin 64) : val_main_v15 (F := Ideal) x12 x13 x14 (ix2 g n)
    = decayIm (x12 (ix3 (0 : Fin 1) g n)) (x13 (ix3 (0 : Fin 1) g n)) (x14 (ix2 (0 : Fin 1) g)) := by
  pointwise [val_main_v15, val_main_v14, val_main_v13, val_main_v12, val_main_v7, val_main_v6, val_main_v5, val_main_v4, val_main_v3, val_main_v2, val_main_v1, val_main_v0]
  rfl

theorem factor_re_apply (g : Fin 32) (n : Fin 64) : val_main_v24 (F := Ideal) x12 x13 x14 (ix2 g n)
    = factorRe (x12 (ix3 (0 : Fin 1) g n)) (x13 (ix3 (0 : Fin 1) g n)) (x14 (ix2 (0 : Fin 1) g)) := by
  unfold factorRe
  rw [← decay_re_apply, ← decay_im_apply]
  pointwise [val_main_v24, val_main_v23, val_main_v22, val_main_v21, val_main_v20, val_main_v19, val_main_v18, val_main_v17, val_main_v16, val_main_cst, val_main_v1, val_main_v0]

theorem factor_im_apply (g : Fin 32) (n : Fin 64) : val_main_v28 (F := Ideal) x12 x13 x14 (ix2 g n)
    = factorIm (x12 (ix3 (0 : Fin 1) g n)) (x13 (ix3 (0 : Fin 1) g n)) (x14 (ix2 (0 : Fin 1) g)) := by
  unfold factorIm
  rw [← decay_re_apply, ← decay_im_apply]
  pointwise [val_main_v28, val_main_v27, val_main_v26, val_main_v25, val_main_v20, val_main_v19, val_main_v18, val_main_v17, val_main_v16, val_main_cst, val_main_v1, val_main_v0]

/-- The input weights, real part. -/
theorem weight_re_apply (g : Fin 32) (n : Fin 64) (k : Fin 16) : val_main_v37 (F := Ideal) x12 x13 x14 x15 x16 (ix3 g n k)
    = (val_main_v24 (F := Ideal) x12 x13 x14 (ix2 g n) : EReal) * x15 (ix4 (0 : Fin 1) g n k) - (val_main_v28 (F := Ideal) x12 x13 x14 (ix2 g n) : EReal) * x16 (ix4 (0 : Fin 1) g n k) := by
  pointwise [val_main_v37, val_main_v36, val_main_v35, val_main_v34, val_main_v33, val_main_v32, val_main_v31, val_main_v30, val_main_v29]

/-- The input weights, imaginary part. -/
theorem weight_im_apply (g : Fin 32) (n : Fin 64) (k : Fin 16) : val_main_v44 (F := Ideal) x12 x13 x14 x15 x16 (ix3 g n k)
    = (val_main_v24 (F := Ideal) x12 x13 x14 (ix2 g n) : EReal) * x16 (ix4 (0 : Fin 1) g n k) + (val_main_v28 (F := Ideal) x12 x13 x14 (ix2 g n) : EReal) * x15 (ix4 (0 : Fin 1) g n k) := by
  pointwise [val_main_v44, val_main_v43, val_main_v42, val_main_v41, val_main_v40, val_main_v39, val_main_v38, val_main_v30, val_main_v29]

/-- The channels of one step. -/
theorem channels_apply (t : Fin 4) (b : Fin 128) (g : Fin 32) (k : Fin 16) : val_main_v45 (F := Ideal) x2 (ix4 t b g k)
    = x2 (ix2 (⟨128 * t.val + b.val, by omega⟩ : Fin 512) (⟨16 * g.val + k.val, by omega⟩ : Fin 512)) := by
  pointwise [val_main_v45]
  refine congrArg x2 (funext fun a => Fin.ext ?_)
  match a with
  | ⟨0, _⟩ => show t.val * 128 + b.val = 128 * t.val + b.val; omega
  | ⟨1, _⟩ => show g.val * 16 + k.val = 16 * g.val + k.val; omega

/-- The inputs of one step, real part. -/
theorem input_re_apply (t : Fin 4) (b : Fin 128) (g : Fin 32) (n : Fin 64) : val_main_v47 (F := Ideal) x2 x12 x13 x14 x15 x16 (ix4 t b g n)
    = inRe (x12 (ix3 (0 : Fin 1) g n)) (x13 (ix3 (0 : Fin 1) g n)) (x14 (ix2 (0 : Fin 1) g)) (fun k => x15 (ix4 (0 : Fin 1) g n k)) (fun k => x16 (ix4 (0 : Fin 1) g n k))
      (fun k => x2 (ix2 (⟨128 * t.val + b.val, by omega⟩ : Fin 512) (⟨16 * g.val + k.val, by omega⟩ : Fin 512))) := by
  rw [val_main_v47_apply, val_main_v46_apply]
  unfold inRe
  refine Finset.sum_congr rfl fun k _ => ?_
  have hl : lidx_main_v46 (idx_main_v47 (ix4 t b g n)) k = ix3 g n k := by
    funext a; match a with | ⟨0, _⟩ => rfl | ⟨1, _⟩ => rfl | ⟨2, _⟩ => rfl
  have hr : ridx_main_v46 (idx_main_v47 (ix4 t b g n)) k = ix4 t b g k := by
    funext a; match a with | ⟨0, _⟩ => rfl | ⟨1, _⟩ => rfl | ⟨2, _⟩ => rfl | ⟨3, _⟩ => rfl
  rw [hl, hr, weight_re_apply, factor_re_apply, factor_im_apply, channels_apply]
  rw [mul_comm, mul_comm (factorRe _ _ _), mul_comm (factorIm _ _ _)]

/-- The inputs of one step, imaginary part. -/
theorem input_im_apply (t : Fin 4) (b : Fin 128) (g : Fin 32) (n : Fin 64) : val_main_v49 (F := Ideal) x2 x12 x13 x14 x15 x16 (ix4 t b g n)
    = inIm (x12 (ix3 (0 : Fin 1) g n)) (x13 (ix3 (0 : Fin 1) g n)) (x14 (ix2 (0 : Fin 1) g)) (fun k => x15 (ix4 (0 : Fin 1) g n k)) (fun k => x16 (ix4 (0 : Fin 1) g n k))
      (fun k => x2 (ix2 (⟨128 * t.val + b.val, by omega⟩ : Fin 512) (⟨16 * g.val + k.val, by omega⟩ : Fin 512))) := by
  rw [val_main_v49_apply, val_main_v48_apply]
  unfold inIm
  refine Finset.sum_congr rfl fun k _ => ?_
  have hl : lidx_main_v48 (idx_main_v49 (ix4 t b g n)) k = ix3 g n k := by
    funext a; match a with | ⟨0, _⟩ => rfl | ⟨1, _⟩ => rfl | ⟨2, _⟩ => rfl
  have hr : ridx_main_v48 (idx_main_v49 (ix4 t b g n)) k = ix4 t b g k := by
    funext a; match a with | ⟨0, _⟩ => rfl | ⟨1, _⟩ => rfl | ⟨2, _⟩ => rfl | ⟨3, _⟩ => rfl
  rw [hl, hr, weight_im_apply, factor_re_apply, factor_im_apply, channels_apply]
  rw [mul_comm, mul_comm (factorRe _ _ _), mul_comm (factorIm _ _ _)]
  exact congrArg₂ (fun a s : EReal => a * s) rfl (add_comm _ _)

theorem step0_re (b : Fin 128) (g : Fin 32) (n : Fin 64) : val_main_v61 (F := Ideal) x2 x5 x6 x12 x13 x14 x15 x16 (ix3 b g n)
    = stepRe (val_main_v11 (F := Ideal) x12 x13 x14 (ix2 g n)) (val_main_v15 (F := Ideal) x12 x13 x14 (ix2 g n)) (val_main_v50 (F := Ideal) x5 (ix3 b g n)) (val_main_v51 (F := Ideal) x6 (ix3 b g n))
      (val_main_v47 (F := Ideal) x2 x12 x13 x14 x15 x16 (ix4 (0 : Fin 4) b g n)) := by
  pointwise [val_main_v61, val_main_v60, val_main_v59, val_main_v58, val_main_v57, val_main_v56, val_main_v55, val_main_v54, val_main_v53, val_main_v52]
  rfl

theorem step0_im (b : Fin 128) (g : Fin 32) (n : Fin 64) : val_main_v71 (F := Ideal) x2 x5 x6 x12 x13 x14 x15 x16 (ix3 b g n)
    = stepIm (val_main_v11 (F := Ideal) x12 x13 x14 (ix2 g n)) (val_main_v15 (F := Ideal) x12 x13 x14 (ix2 g n)) (val_main_v50 (F := Ideal) x5 (ix3 b g n)) (val_main_v51 (F := Ideal) x6 (ix3 b g n))
      (val_main_v49 (F := Ideal) x2 x12 x13 x14 x15 x16 (ix4 (0 : Fin 4) b g n)) := by
  pointwise [val_main_v71, val_main_v70, val_main_v69, val_main_v68, val_main_v67, val_main_v66, val_main_v65, val_main_v64, val_main_v63, val_main_v62]
  rfl

theorem step1_re (b : Fin 128) (g : Fin 32) (n : Fin 64) : val_main_v81 (F := Ideal) x2 x5 x6 x12 x13 x14 x15 x16 (ix3 b g n)
    = stepRe (val_main_v11 (F := Ideal) x12 x13 x14 (ix2 g n)) (val_main_v15 (F := Ideal) x12 x13 x14 (ix2 g n)) (val_main_v61 (F := Ideal) x2 x5 x6 x12 x13 x14 x15 x16 (ix3 b g n)) (val_main_v71 (F := Ideal) x2 x5 x6 x12 x13 x14 x15 x16 (ix3 b g n))
      (val_main_v47 (F := Ideal) x2 x12 x13 x14 x15 x16 (ix4 (1 : Fin 4) b g n)) := by
  pointwise [val_main_v81, val_main_v80, val_main_v79, val_main_v78, val_main_v77, val_main_v76, val_main_v75, val_main_v74, val_main_v73, val_main_v72]
  rfl

theorem step1_im (b : Fin 128) (g : Fin 32) (n : Fin 64) : val_main_v91 (F := Ideal) x2 x5 x6 x12 x13 x14 x15 x16 (ix3 b g n)
    = stepIm (val_main_v11 (F := Ideal) x12 x13 x14 (ix2 g n)) (val_main_v15 (F := Ideal) x12 x13 x14 (ix2 g n)) (val_main_v61 (F := Ideal) x2 x5 x6 x12 x13 x14 x15 x16 (ix3 b g n)) (val_main_v71 (F := Ideal) x2 x5 x6 x12 x13 x14 x15 x16 (ix3 b g n))
      (val_main_v49 (F := Ideal) x2 x12 x13 x14 x15 x16 (ix4 (1 : Fin 4) b g n)) := by
  pointwise [val_main_v91, val_main_v90, val_main_v89, val_main_v88, val_main_v87, val_main_v86, val_main_v85, val_main_v84, val_main_v83, val_main_v82]
  rfl

theorem step2_re (b : Fin 128) (g : Fin 32) (n : Fin 64) : val_main_v101 (F := Ideal) x2 x5 x6 x12 x13 x14 x15 x16 (ix3 b g n)
    = stepRe (val_main_v11 (F := Ideal) x12 x13 x14 (ix2 g n)) (val_main_v15 (F := Ideal) x12 x13 x14 (ix2 g n)) (val_main_v81 (F := Ideal) x2 x5 x6 x12 x13 x14 x15 x16 (ix3 b g n)) (val_main_v91 (F := Ideal) x2 x5 x6 x12 x13 x14 x15 x16 (ix3 b g n))
      (val_main_v47 (F := Ideal) x2 x12 x13 x14 x15 x16 (ix4 (2 : Fin 4) b g n)) := by
  pointwise [val_main_v101, val_main_v100, val_main_v99, val_main_v98, val_main_v97, val_main_v96, val_main_v95, val_main_v94, val_main_v93, val_main_v92]
  rfl

theorem step2_im (b : Fin 128) (g : Fin 32) (n : Fin 64) : val_main_v111 (F := Ideal) x2 x5 x6 x12 x13 x14 x15 x16 (ix3 b g n)
    = stepIm (val_main_v11 (F := Ideal) x12 x13 x14 (ix2 g n)) (val_main_v15 (F := Ideal) x12 x13 x14 (ix2 g n)) (val_main_v81 (F := Ideal) x2 x5 x6 x12 x13 x14 x15 x16 (ix3 b g n)) (val_main_v91 (F := Ideal) x2 x5 x6 x12 x13 x14 x15 x16 (ix3 b g n))
      (val_main_v49 (F := Ideal) x2 x12 x13 x14 x15 x16 (ix4 (2 : Fin 4) b g n)) := by
  pointwise [val_main_v111, val_main_v110, val_main_v109, val_main_v108, val_main_v107, val_main_v106, val_main_v105, val_main_v104, val_main_v103, val_main_v102]
  rfl

theorem step3_re (b : Fin 128) (g : Fin 32) (n : Fin 64) : val_main_v121 (F := Ideal) x2 x5 x6 x12 x13 x14 x15 x16 (ix3 b g n)
    = stepRe (val_main_v11 (F := Ideal) x12 x13 x14 (ix2 g n)) (val_main_v15 (F := Ideal) x12 x13 x14 (ix2 g n)) (val_main_v101 (F := Ideal) x2 x5 x6 x12 x13 x14 x15 x16 (ix3 b g n)) (val_main_v111 (F := Ideal) x2 x5 x6 x12 x13 x14 x15 x16 (ix3 b g n))
      (val_main_v47 (F := Ideal) x2 x12 x13 x14 x15 x16 (ix4 (3 : Fin 4) b g n)) := by
  pointwise [val_main_v121, val_main_v120, val_main_v119, val_main_v118, val_main_v117, val_main_v116, val_main_v115, val_main_v114, val_main_v113, val_main_v112]
  rfl

theorem step3_im (b : Fin 128) (g : Fin 32) (n : Fin 64) : val_main_v131 (F := Ideal) x2 x5 x6 x12 x13 x14 x15 x16 (ix3 b g n)
    = stepIm (val_main_v11 (F := Ideal) x12 x13 x14 (ix2 g n)) (val_main_v15 (F := Ideal) x12 x13 x14 (ix2 g n)) (val_main_v101 (F := Ideal) x2 x5 x6 x12 x13 x14 x15 x16 (ix3 b g n)) (val_main_v111 (F := Ideal) x2 x5 x6 x12 x13 x14 x15 x16 (ix3 b g n))
      (val_main_v49 (F := Ideal) x2 x12 x13 x14 x15 x16 (ix4 (3 : Fin 4) b g n)) := by
  pointwise [val_main_v131, val_main_v130, val_main_v129, val_main_v128, val_main_v127, val_main_v126, val_main_v125, val_main_v124, val_main_v123, val_main_v122]
  rfl

/-- Both parts of the state after the four steps. -/
theorem state_apply (b : Fin 128) (g : Fin 32) (n : Fin 64) :
    ((val_main_v121 (F := Ideal) x2 x5 x6 x12 x13 x14 x15 x16 (ix3 b g n) : EReal), (val_main_v131 (F := Ideal) x2 x5 x6 x12 x13 x14 x15 x16 (ix3 b g n) : EReal))
      = laneState (x12 (ix3 (0 : Fin 1) g n)) (x13 (ix3 (0 : Fin 1) g n)) (x14 (ix2 (0 : Fin 1) g)) (x5 (ix4 (0 : Fin 1) b g n)) (x6 (ix4 (0 : Fin 1) b g n))
        (fun k => x15 (ix4 (0 : Fin 1) g n k)) (fun k => x16 (ix4 (0 : Fin 1) g n k))
        (fun t k => x2 (ix2 (⟨128 * t.val + b.val, by omega⟩ : Fin 512) (⟨16 * g.val + k.val, by omega⟩ : Fin 512))) := by
  have s0 : val_main_v50 (F := Ideal) x5 (ix3 b g n) = x5 (ix4 (0 : Fin 1) b g n) := by pointwise [val_main_v50]
  have s1 : val_main_v51 (F := Ideal) x6 (ix3 b g n) = x6 (ix4 (0 : Fin 1) b g n) := by pointwise [val_main_v51]
  rw [step3_re, step3_im, step2_re, step2_im, step1_re, step1_im, step0_re, step0_im, s0, s1, decay_re_apply, decay_im_apply]
  simp only [input_re_apply, input_im_apply]
  rfl

/-- The reference's new real state, entry by entry. -/
theorem result_re_apply (b : Fin 128) (l : Fin 2048) : val_main_v194 (F := Ideal) x2 x5 x6 x12 x13 x14 x15 x16 (ix2 b l) = (newState x2 x5 x6 x12 x13 x14 x15 x16 b l).1 := by
  have hs := congrArg Prod.fst (state_apply x2 x5 x6 x12 x13 x14 x15 x16 b ⟨l.val / 64, by omega⟩ ⟨l.val % 64, by omega⟩)
  refine Eq.trans ?_ hs
  pointwise [val_main_v194]

/-- The reference's new imaginary state, entry by entry. -/
theorem result_im_apply (b : Fin 128) (l : Fin 2048) : val_main_v195 (F := Ideal) x2 x5 x6 x12 x13 x14 x15 x16 (ix2 b l) = (newState x2 x5 x6 x12 x13 x14 x15 x16 b l).2 := by
  have hs := congrArg Prod.snd (state_apply x2 x5 x6 x12 x13 x14 x15 x16 b ⟨l.val / 64, by omega⟩ ⟨l.val % 64, by omega⟩)
  refine Eq.trans ?_ hs
  pointwise [val_main_v195]

/-! ## The stacked states -/

theorem stack_re_0 (b : Fin 128) (g : Fin 32) (n : Fin 64) : val_main_v136 (F := Ideal) x2 x5 x6 x12 x13 x14 x15 x16 (ix4 (0 : Fin 4) b g n) = val_main_v61 (F := Ideal) x2 x5 x6 x12 x13 x14 x15 x16 (ix3 b g n) := by
  pointwise [val_main_v136, val_main_v132, val_main_v133, val_main_v134, val_main_v135]

theorem stack_re_1 (b : Fin 128) (g : Fin 32) (n : Fin 64) : val_main_v136 (F := Ideal) x2 x5 x6 x12 x13 x14 x15 x16 (ix4 (1 : Fin 4) b g n) = val_main_v81 (F := Ideal) x2 x5 x6 x12 x13 x14 x15 x16 (ix3 b g n) := by
  pointwise [val_main_v136, val_main_v132, val_main_v133, val_main_v134, val_main_v135]

theorem stack_re_2 (b : Fin 128) (g : Fin 32) (n : Fin 64) : val_main_v136 (F := Ideal) x2 x5 x6 x12 x13 x14 x15 x16 (ix4 (2 : Fin 4) b g n) = val_main_v101 (F := Ideal) x2 x5 x6 x12 x13 x14 x15 x16 (ix3 b g n) := by
  pointwise [val_main_v136, val_main_v132, val_main_v133, val_main_v134, val_main_v135]

theorem stack_re_3 (b : Fin 128) (g : Fin 32) (n : Fin 64) : val_main_v136 (F := Ideal) x2 x5 x6 x12 x13 x14 x15 x16 (ix4 (3 : Fin 4) b g n) = val_main_v121 (F := Ideal) x2 x5 x6 x12 x13 x14 x15 x16 (ix3 b g n) := by
  pointwise [val_main_v136, val_main_v132, val_main_v133, val_main_v134, val_main_v135]

theorem stack_im_0 (b : Fin 128) (g : Fin 32) (n : Fin 64) : val_main_v144 (F := Ideal) x2 x5 x6 x12 x13 x14 x15 x16 (ix4 (0 : Fin 4) b g n) = val_main_v71 (F := Ideal) x2 x5 x6 x12 x13 x14 x15 x16 (ix3 b g n) := by
  pointwise [val_main_v144, val_main_v140, val_main_v141, val_main_v142, val_main_v143]

theorem stack_im_1 (b : Fin 128) (g : Fin 32) (n : Fin 64) : val_main_v144 (F := Ideal) x2 x5 x6 x12 x13 x14 x15 x16 (ix4 (1 : Fin 4) b g n) = val_main_v91 (F := Ideal) x2 x5 x6 x12 x13 x14 x15 x16 (ix3 b g n) := by
  pointwise [val_main_v144, val_main_v140, val_main_v141, val_main_v142, val_main_v143]

theorem stack_im_2 (b : Fin 128) (g : Fin 32) (n : Fin 64) : val_main_v144 (F := Ideal) x2 x5 x6 x12 x13 x14 x15 x16 (ix4 (2 : Fin 4) b g n) = val_main_v111 (F := Ideal) x2 x5 x6 x12 x13 x14 x15 x16 (ix3 b g n) := by
  pointwise [val_main_v144, val_main_v140, val_main_v141, val_main_v142, val_main_v143]

theorem stack_im_3 (b : Fin 128) (g : Fin 32) (n : Fin 64) : val_main_v144 (F := Ideal) x2 x5 x6 x12 x13 x14 x15 x16 (ix4 (3 : Fin 4) b g n) = val_main_v131 (F := Ideal) x2 x5 x6 x12 x13 x14 x15 x16 (ix3 b g n) := by
  pointwise [val_main_v144, val_main_v140, val_main_v141, val_main_v142, val_main_v143]

/-- Both parts of the state after the steps up to step `t`. -/
theorem stack_apply (t : Fin 4) (b : Fin 128) (g : Fin 32) (n : Fin 64) :
    ((val_main_v136 (F := Ideal) x2 x5 x6 x12 x13 x14 x15 x16 (ix4 t b g n) : EReal), (val_main_v144 (F := Ideal) x2 x5 x6 x12 x13 x14 x15 x16 (ix4 t b g n) : EReal))
      = laneUpTo (x12 (ix3 (0 : Fin 1) g n)) (x13 (ix3 (0 : Fin 1) g n)) (x14 (ix2 (0 : Fin 1) g)) (x5 (ix4 (0 : Fin 1) b g n)) (x6 (ix4 (0 : Fin 1) b g n))
        (fun k => x15 (ix4 (0 : Fin 1) g n k)) (fun k => x16 (ix4 (0 : Fin 1) g n k))
        (fun t k => x2 (ix2 (⟨128 * t.val + b.val, by omega⟩ : Fin 512) (⟨16 * g.val + k.val, by omega⟩ : Fin 512))) t.val := by
  have s0 : val_main_v50 (F := Ideal) x5 (ix3 b g n) = x5 (ix4 (0 : Fin 1) b g n) := by pointwise [val_main_v50]
  have s1 : val_main_v51 (F := Ideal) x6 (ix3 b g n) = x6 (ix4 (0 : Fin 1) b g n) := by pointwise [val_main_v51]
  match t with
  | ⟨0, _⟩ =>
    refine (congrArg₂ Prod.mk (stack_re_0 x2 x5 x6 x12 x13 x14 x15 x16 b g n) (stack_im_0 x2 x5 x6 x12 x13 x14 x15 x16 b g n)).trans ?_
    rw [step0_re, step0_im, s0, s1, decay_re_apply, decay_im_apply]
    simp only [input_re_apply, input_im_apply]
    rfl
  | ⟨1, _⟩ =>
    refine (congrArg₂ Prod.mk (stack_re_1 x2 x5 x6 x12 x13 x14 x15 x16 b g n) (stack_im_1 x2 x5 x6 x12 x13 x14 x15 x16 b g n)).trans ?_
    rw [step1_re, step1_im, step0_re, step0_im, s0, s1, decay_re_apply, decay_im_apply]
    simp only [input_re_apply, input_im_apply]
    rfl
  | ⟨2, _⟩ =>
    refine (congrArg₂ Prod.mk (stack_re_2 x2 x5 x6 x12 x13 x14 x15 x16 b g n) (stack_im_2 x2 x5 x6 x12 x13 x14 x15 x16 b g n)).trans ?_
    rw [step2_re, step2_im, step1_re, step1_im, step0_re, step0_im, s0, s1, decay_re_apply, decay_im_apply]
    simp only [input_re_apply, input_im_apply]
    rfl
  | ⟨3, _⟩ =>
    refine (congrArg₂ Prod.mk (stack_re_3 x2 x5 x6 x12 x13 x14 x15 x16 b g n) (stack_im_3 x2 x5 x6 x12 x13 x14 x15 x16 b g n)).trans ?_
    rw [step3_re, step3_im, step2_re, step2_im, step1_re, step1_im, step0_re, step0_im, s0, s1, decay_re_apply, decay_im_apply]
    simp only [input_re_apply, input_im_apply]
    rfl

/-! ## The mixed rows -/

variable (x0 : (⟨S512x1024, .f32⟩ : BufTy).Contents (Elt Ideal)) (x1 : (⟨S512x512, .f32⟩ : BufTy).Contents (Elt Ideal)) (x3 x4 x7 x10 : (⟨S512x1024, .bf16⟩ : BufTy).Contents (Elt Ideal))
  (x8 : (⟨S512x512, .bf16⟩ : BufTy).Contents (Elt Ideal)) (x9 : (⟨S1x512, .f32⟩ : BufTy).Contents (Elt Ideal)) (x11 : (⟨S1024x1024, .bf16⟩ : BufTy).Contents (Elt Ideal))
  (x17 x18 : (⟨S1x32x16x64, .f32⟩ : BufTy).Contents (Elt Ideal)) (x19 : (⟨S1x32x16, .f32⟩ : BufTy).Contents (Elt Ideal))

theorem out_re_apply (t : Fin 4) (b : Fin 128) (g : Fin 32) (k : Fin 16) : val_main_v139 (F := Ideal) x2 x5 x6 x12 x13 x14 x15 x16 x17 (ix4 t b g k)
    = ∑ n : Fin 64, (val_main_v136 (F := Ideal) x2 x5 x6 x12 x13 x14 x15 x16 (ix4 t b g n) : EReal) * x17 (ix4 (0 : Fin 1) g k n) := by
  rw [val_main_v139_apply, val_main_v138_apply]
  refine Finset.sum_congr rfl fun n _ => ?_
  have hl : lidx_main_v138 (idx_main_v139 (ix4 t b g k)) n = ix3 g k n := by
    funext a; match a with | ⟨0, _⟩ => rfl | ⟨1, _⟩ => rfl | ⟨2, _⟩ => rfl
  have hr : ridx_main_v138 (idx_main_v139 (ix4 t b g k)) n = ix4 t b g n := by
    funext a; match a with | ⟨0, _⟩ => rfl | ⟨1, _⟩ => rfl | ⟨2, _⟩ => rfl | ⟨3, _⟩ => rfl
  have hc : val_main_v137 (F := Ideal) x17 (ix3 g k n) = (x17 (ix4 (0 : Fin 1) g k n) : EReal) := by
    pointwise [val_main_v137]
  rw [hl, hr, hc]
  exact mul_comm _ _

theorem out_im_apply (t : Fin 4) (b : Fin 128) (g : Fin 32) (k : Fin 16) : val_main_v148 (F := Ideal) x2 x5 x6 x12 x13 x14 x15 x16 x18 (ix4 t b g k)
    = ∑ n : Fin 64, (val_main_v144 (F := Ideal) x2 x5 x6 x12 x13 x14 x15 x16 (ix4 t b g n) : EReal) * -x18 (ix4 (0 : Fin 1) g k n) := by
  rw [val_main_v148_apply, val_main_v147_apply]
  refine Finset.sum_congr rfl fun n _ => ?_
  have hl : lidx_main_v147 (idx_main_v148 (ix4 t b g k)) n = ix3 g k n := by
    funext a; match a with | ⟨0, _⟩ => rfl | ⟨1, _⟩ => rfl | ⟨2, _⟩ => rfl
  have hr : ridx_main_v147 (idx_main_v148 (ix4 t b g k)) n = ix4 t b g n := by
    funext a; match a with | ⟨0, _⟩ => rfl | ⟨1, _⟩ => rfl | ⟨2, _⟩ => rfl | ⟨3, _⟩ => rfl
  have hc : val_main_v146 (F := Ideal) x18 (ix3 g k n) = (-x18 (ix4 (0 : Fin 1) g k n) : EReal) := by
    pointwise [val_main_v146, val_main_v145]
  rw [hl, hr, hc]
  exact mul_comm _ _

theorem y_apply (r c : Fin 512) : val_main_v155 (F := Ideal) x2 x5 x6 x12 x13 x14 x15 x16 x17 x18 x19 (ix2 r c) = groupOut (rowOf x2 x5 x6 x12 x13 x14 x15 x16) x2 x17 x18 x19 r c := by
  have hs : val_main_v155 (F := Ideal) x2 x5 x6 x12 x13 x14 x15 x16 x17 x18 x19 (ix2 r c)
      = ((val_main_v139 (F := Ideal) x2 x5 x6 x12 x13 x14 x15 x16 x17 (ix4 (⟨r.val / 128, by omega⟩ : Fin 4) (⟨r.val % 128, by omega⟩ : Fin 128) (⟨c.val / 16, by omega⟩ : Fin 32) (⟨c.val % 16, by omega⟩ : Fin 16)) : EReal)
        + val_main_v148 (F := Ideal) x2 x5 x6 x12 x13 x14 x15 x16 x18 (ix4 (⟨r.val / 128, by omega⟩ : Fin 4) (⟨r.val % 128, by omega⟩ : Fin 128) (⟨c.val / 16, by omega⟩ : Fin 32) (⟨c.val % 16, by omega⟩ : Fin 16)))
        + x19 (ix3 (0 : Fin 1) (⟨c.val / 16, by omega⟩ : Fin 32) (⟨c.val % 16, by omega⟩ : Fin 16)) * x2 (ix2 r c) := by
    unfold val_main_v155 val_main_v154 val_main_v149
    generalize val_main_v139 (F := Ideal) x2 x5 x6 x12 x13 x14 x15 x16 x17 = p
    generalize val_main_v148 (F := Ideal) x2 x5 x6 x12 x13 x14 x15 x16 x18 = q
    pointwise [val_main_v153, val_main_v152, val_main_v151, val_main_v150, val_main_v45]
  rw [hs, out_re_apply, out_im_apply]
  unfold groupOut
  have h := fun n => stack_apply x2 x5 x6 x12 x13 x14 x15 x16 (⟨r.val / 128, by omega⟩ : Fin 4) (⟨r.val % 128, by omega⟩ : Fin 128) (⟨c.val / 16, by omega⟩ : Fin 32) n
  refine congrArg₂ (· + ·) (congrArg₂ (· + ·) (Finset.sum_congr rfl fun n _ => ?_) (Finset.sum_congr rfl fun n _ => ?_)) rfl
  · exact congrArg (· * _) (congrArg Prod.fst (h n))
  · exact congrArg (· * _) (congrArg Prod.snd (h n))

theorem gelu_apply (r c : Fin 512) : val_main_v168 (F := Ideal) x2 x5 x6 x12 x13 x14 x15 x16 x17 x18 x19 (ix2 r c) = geluOf (val_main_v155 (F := Ideal) x2 x5 x6 x12 x13 x14 x15 x16 x17 x18 x19 (ix2 r c)) := by
  unfold val_main_v168 val_main_v167 val_main_v165 val_main_v163 val_main_v162 val_main_v160 val_main_v159 val_main_v157 val_main_v156
  generalize val_main_v155 (F := Ideal) x2 x5 x6 x12 x13 x14 x15 x16 x17 x18 x19 = y
  pointwise [val_main_v158, val_main_v161, val_main_v164, val_main_v166, val_main_cst_0, val_main_cst_1, val_main_cst_2, val_main_cst_3]
  unfold geluOf
  rw [mul_comm (y (ix2 r c) * y (ix2 r c)) (y (ix2 r c))]

theorem unit_apply (r i : Fin 512) : val_main_v181 (F := Ideal) x2 x5 x6 x8 x9 x12 x13 x14 x15 x16 x17 x18 x19 (ix2 r i)
    = gatedUnit (groupOut (rowOf x2 x5 x6 x12 x13 x14 x15 x16) x2 x17 x18 x19) (fun p i => x8 (ix2 p i)) (fun i => x9 (ix2 (0 : Fin 1) i)) r i := by
  have hs := fun c => (gelu_apply x2 x5 x6 x12 x13 x14 x15 x16 x17 x18 x19 r c).trans (congrArg geluOf (y_apply x2 x5 x6 x12 x13 x14 x15 x16 x17 x18 x19 r c))
  unfold val_main_v181 val_main_v180 val_main_v178 val_main_v176 val_main_v175 val_main_v174 val_main_v170
  generalize val_main_v168 (F := Ideal) x2 x5 x6 x12 x13 x14 x15 x16 x17 x18 x19 = z at hs
  pointwise [val_main_v169, val_main_v171, val_main_v172, val_main_v173, val_main_v177, val_main_v179, val_main_cst_4, val_main_cst_5]
  simp only [hs]
  rfl

/-- The reference's mixed rows, entry by entry. -/
theorem mixed_apply (r : Fin 512) (j : Fin 1024) : val_main_v193 (F := Ideal) x0 x1 x2 x3 x4 x5 x6 x7 x8 x9 x10 x11 x12 x13 x14 x15 x16 x17 x18 x19 (ix2 r j)
    = mixedOf x0 x1 x2 x3 x4 x5 x6 x7 x8 x9 x10 x11 x12 x13 x14 x15 x16 x17 x18 x19 r j := by
  have hs := fun i => unit_apply x2 x5 x6 x12 x13 x14 x15 x16 x8 x9 x17 x18 x19 r i
  unfold val_main_v193 val_main_v192 val_main_v190 val_main_v189 val_main_v188
  generalize val_main_v181 (F := Ideal) x2 x5 x6 x8 x9 x12 x13 x14 x15 x16 x17 x18 x19 = z at hs
  pointwise [val_main_v191, val_main_v187, val_main_v186, val_main_v185, val_main_v184, val_main_v183, val_main_v182]
  simp only [hs]
  rfl

end Cert.ReferenceIdeal.RefValue
end
-- ==== Proof.Mix.lean ====
module

public import proofs.«01_k».proof.Defs
public import proofs.«01_k».proof.Proof.MixArray
public import proofs.«01_k».proof.Proof.MixReference

@[expose] public section

set_option maxRecDepth 16384

noncomputable section

namespace Cert.KernelIdeal.RefValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-! # The mixing calls of the sample group against their reference -/

variable (m : (ℓ : Loc nD τ sig) → Buf (Elt Ideal) ℓ) (ρ : Dev nD → PrngReg)

set_option backward.isDefEq.respectTransparency.types false in
/-- The run, read at its three results: the arrays the second call leaves are the mixed rows and the new states. -/
theorem states_run : θ_run defs (onTc (τ := τ) (main (F := Ideal))) ⟨m, fun _ => 0, ρ⟩ (fun r => ∀ c : Dev nD,
      r.2.mem ((c : Thread nD τ).loc main_v96_0) = mixedRows m c
      ∧ r.2.mem ((c : Thread nD τ).loc main_v96_1) = stateReal m c
      ∧ r.2.mem ((c : Thread nD τ).loc main_v96_2) = stateImag m c) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h hz => fun c =>
      ⟨(h c _ (mem_uc main_v96_0 (by decide))).trans ((W12_arr m ρ c 19).trans (mixed_array m ρ c)),
       (h c _ (mem_uc main_v96_1 (by decide))).trans ((W12_arr m ρ c 20).trans (state_real_array m ρ c)),
       (h c _ (mem_uc main_v96_2 (by decide))).trans ((W12_arr m ρ c 21).trans (state_imag_array m ρ c))⟩)

/-- The run, read: the three result arrays hold the mixed rows and the new states, the arguments are as they were. -/
theorem run : θ_run defs (onTc (τ := τ) (main (F := Ideal))) ⟨m, fun _ => 0, ρ⟩ fun r => ∀ c : Dev nD,
      r.2.mem ((c : Thread nD τ).loc main_v96_0) = mixedRows m c
      ∧ r.2.mem ((c : Thread nD τ).loc main_v96_1) = stateReal m c
      ∧ r.2.mem ((c : Thread nD τ).loc main_v96_2) = stateImag m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19) :=
  (θ_run defs _ _).mono (fun r h c => ⟨(h.1 c).1, (h.1 c).2.1, (h.1 c).2.2, h.2 c⟩) (θ_run_and (states_run m ρ) (unchanged m ρ))

end Cert.KernelIdeal.RefValue

namespace Cert.Proof

open Idealize.ShloMosaic Idealize.ShloMosaic.TcCoe Idealize.SL.Sem

/-- The mixed rows and the new real and imaginary states of the sample group are the reference's, entry by entry. -/
theorem mix_algebraic : Cert.algebraic_KernelIdeal_ReferenceIdeal := by
  intro m ρ m' ρ' _ hag
  refine ⟨fun c => Cert.KernelIdeal.RefValue.mixedRows m c, fun c => Cert.KernelIdeal.RefValue.stateReal m c, fun c => Cert.KernelIdeal.RefValue.stateImag m c, Cert.KernelIdeal.RefValue.run m ρ, ?_⟩
  refine (θ_run Cert.ReferenceIdeal.defs _ _).mono (fun _ h c => ⟨(h c).1.trans ?_, (h c).2.1.trans ?_, (h c).2.2.1.trans ?_, (h c).2.2.2⟩) (Cert.ReferenceIdeal.Value.run (F := Ideal) m' ρ')
  · obtain ⟨h0, h1, h2, h3, h4, h5, h6, h7, h8, h9, h10, h11, h12, h13, h14, h15, h16, h17, h18, h19⟩ := hag c
    have l : ∀ r : Ref Cert.ReferenceIdeal.sig .tc, StableHlo.launchContents m' c (Proc.devRef .tc r) = m' ((c.tc : Thread Cert.ReferenceIdeal.nD Cert.ReferenceIdeal.τ).loc r) := fun _ => rfl
    refine (Cert.ReferenceIdeal.Read.val_main_v193_eq (StableHlo.launchContents m' c)).trans ?_
    rw [l, l, l, l, l, l, l, l, l, l, l, l, l, l, l, l, l, l, l, l, h0, h1, h2, h3, h4, h5, h6, h7, h8, h9, h10, h11, h12, h13, h14, h15, h16, h17, h18, h19]
    funext i
    have hi : i = ix2 (n0 := 512) (n1 := 1024) ⟨(i 0).val, (i 0).isLt⟩ ⟨(i 1).val, (i 1).isLt⟩ := by
      funext a; match a with | ⟨0, _⟩ => rfl | ⟨1, _⟩ => rfl
    rw [hi, Cert.ReferenceIdeal.RefValue.mixed_apply]
    rfl
  · obtain ⟨_, _, h2, _, _, h5, h6, _, _, _, _, _, h12, h13, h14, h15, h16, _, _, _⟩ := hag c
    have l : ∀ r : Ref Cert.ReferenceIdeal.sig .tc, StableHlo.launchContents m' c (Proc.devRef .tc r) = m' ((c.tc : Thread Cert.ReferenceIdeal.nD Cert.ReferenceIdeal.τ).loc r) := fun _ => rfl
    refine (Cert.ReferenceIdeal.Read.val_main_v194_eq (StableHlo.launchContents m' c)).trans ?_
    rw [l, l, l, l, l, l, l, l, h2, h5, h6, h12, h13, h14, h15, h16]
    funext i
    have hi : i = ix2 (n0 := 128) (n1 := 2048) ⟨(i 0).val, (i 0).isLt⟩ ⟨(i 1).val, (i 1).isLt⟩ := by
      funext a; match a with | ⟨0, _⟩ => rfl | ⟨1, _⟩ => rfl
    rw [hi, Cert.ReferenceIdeal.RefValue.result_re_apply]
    rfl
  · obtain ⟨_, _, h2, _, _, h5, h6, _, _, _, _, _, h12, h13, h14, h15, h16, _, _, _⟩ := hag c
    have l : ∀ r : Ref Cert.ReferenceIdeal.sig .tc, StableHlo.launchContents m' c (Proc.devRef .tc r) = m' ((c.tc : Thread Cert.ReferenceIdeal.nD Cert.ReferenceIdeal.τ).loc r) := fun _ => rfl
    refine (Cert.ReferenceIdeal.Read.val_main_v195_eq (StableHlo.launchContents m' c)).trans ?_
    rw [l, l, l, l, l, l, l, l, h2, h5, h6, h12, h13, h14, h15, h16]
    funext i
    have hi : i = ix2 (n0 := 128) (n1 := 2048) ⟨(i 0).val, (i 0).isLt⟩ ⟨(i 1).val, (i 1).isLt⟩ := by
      funext a; match a with | ⟨0, _⟩ => rfl | ⟨1, _⟩ => rfl
    rw [hi, Cert.ReferenceIdeal.RefValue.result_im_apply]
    rfl

end Cert.Proof
end
-- ==== Proof.Rope.lean ====
module

public import proofs.«01_k».proof.Proof.Swiglu
public import Idealize.ShloMosaic.Lib.IdealHost

@[expose] public section

set_option maxRecDepth 16384

noncomputable section

namespace Cert.Layer

open Idealize.ShloMosaic

/-! # The projections of one row, its head norms and its rotary turn, as plain arithmetic -/

/-- Column `c` of the input projections of a row: the scaled row against the weights. -/
def proj {n : ℕ} (x g : Fin 1024 → EReal) (w : Fin 1024 → Fin n → EReal) (c : Fin n) : EReal := ∑ k, unit x g k * w k c

/-- Entry `j` of a head's 64 numbers scaled to unit root mean square and then by its gain. -/
def headUnit (a g : Fin 64 → EReal) (j : Fin 64) : EReal :=
  a j * Ideal.rsqrt (Ideal.div (∑ i, a i * a i) (Ideal.ofBits .f32 0x42800000#32) + Ideal.ofBits .f32 0x358637BD#32) * g j

/-- The frequency of pair `k` of the rotary turn. -/
def freq (k : ℕ) : EReal :=
  Ideal.pow (Ideal.ofBits .f32 0x461C4000#32)
    (Ideal.div (Ideal.ofBits .f32 0xC0000000#32 * (((k : ℝ) : EReal))) (Ideal.ofBits .f32 0x42800000#32))

/-- The rotary turn of a head's 64 numbers at position `p`: entry `j` is paired with the entry 32 away. -/
def turn (a : Fin 64 → EReal) (p : ℕ) (j : Fin 64) : EReal :=
  if h : j.val < 32 then
    a j * Ideal.cos (((p : ℝ) : EReal) * freq j.val) - a ⟨j.val + 32, by omega⟩ * Ideal.sin (((p : ℝ) : EReal) * freq j.val)
  else
    a j * Ideal.cos (((p : ℝ) : EReal) * freq (j.val - 32)) + a ⟨j.val - 32, by omega⟩ * Ideal.sin (((p : ℝ) : EReal) * freq (j.val - 32))

theorem bits_sixty_four : Ideal.ofBits .f32 0x42800000#32 = (((64 : ℝ)) : EReal) := by
  simp [Ideal.ofBits, Ideal.ieee, -EReal.coe_mul, -EReal.coe_neg]; norm_num

theorem bits_inv_sixty_four : Ideal.ofBits .f32 0x3C800000#32 = (((64 : ℝ)⁻¹ : ℝ) : EReal) := by
  simp [Ideal.ofBits, Ideal.ieee, -EReal.coe_mul, -EReal.coe_neg]; norm_num

theorem bits_ten_thousand : Ideal.ofBits .f32 0x461C4000#32 = (((10000 : ℝ)) : EReal) := by
  simp [Ideal.ofBits, Ideal.ieee, -EReal.coe_mul, -EReal.coe_neg]; norm_num

theorem bits_neg_two : Ideal.ofBits .f32 0xC0000000#32 = (((-2 : ℝ)) : EReal) := by
  simp [Ideal.ofBits, Ideal.ieee, -EReal.coe_mul, -EReal.coe_neg]; norm_num

theorem bits_512 : Ideal.ofBits .f32 0x44000000#32 = (((512 : ℝ)) : EReal) := by
  simp [Ideal.ofBits, Ideal.ieee, -EReal.coe_mul, -EReal.coe_neg]; norm_num

theorem bits_neg_one : Ideal.ofBits .f32 0xBF800000#32 = (((-1 : ℝ)) : EReal) := by
  simp [Ideal.ofBits, Ideal.ieee, -EReal.coe_mul, -EReal.coe_neg]; norm_num

/-- Dividing by 64 is multiplying by its reciprocal. -/
theorem div_sixty_four (x : EReal) : Ideal.div x (Ideal.ofBits .f32 0x42800000#32) = x * Ideal.ofBits .f32 0x3C800000#32 := by
  rw [bits_sixty_four, bits_inv_sixty_four]
  unfold Ideal.div
  rw [if_neg (by norm_num), EReal.coe_inv]

/-- The frequencies are real numbers. -/
theorem freq_real (k : ℕ) : ∃ r : ℝ, freq k = (r : EReal) := by
  unfold freq
  rw [div_sixty_four, bits_ten_thousand, bits_neg_two, bits_inv_sixty_four, ← EReal.coe_mul, ← EReal.coe_mul]
  exact ⟨_, rfl⟩

/-- Angles add: a base position of `512 b` and an offset of `r` turn as far as position `512 b + r`. -/
theorem angle_split (b r : ℕ) (k : ℕ) : ∃ A B : ℝ,
    ((b : ℝ) : EReal) * Ideal.ofBits .f32 0x44000000#32 * freq k = (A : EReal) ∧ ((r : ℝ) : EReal) * freq k = (B : EReal)
      ∧ (((512 * b + r : ℕ) : ℝ) : EReal) * freq k = ((A + B : ℝ) : EReal) := by
  obtain ⟨f, hf⟩ := freq_real k
  rw [hf, bits_512]
  refine ⟨b * 512 * f, r * f, ?_, ?_, ?_⟩
  · rw [← EReal.coe_mul, ← EReal.coe_mul]
  · rw [← EReal.coe_mul]
  · rw [← EReal.coe_mul]; congr 1; push_cast; ring

/-- The turn of a lane in the first half of its head, put together from the tables' entries. -/
theorem turn_low (x y z c : EReal) (A B : ℝ) :
    x * (Ideal.cos A * Ideal.cos B - Ideal.sin A * Ideal.sin B)
      + y * (Ideal.sin A * (Ideal.cos B * Ideal.ofBits .f32 0xBF800000#32) + Ideal.cos A * (Ideal.sin B * Ideal.ofBits .f32 0xBF800000#32))
      + z * (Ideal.sin A * (Ideal.cos B * 0) + Ideal.cos A * (Ideal.sin B * 0))
      = x * Ideal.cos ((A + B : ℝ) : EReal) - y * Ideal.sin ((A + B : ℝ) : EReal) := by
  rw [bits_neg_one]
  show x * ((Real.cos A : EReal) * (Real.cos B : EReal) - (Real.sin A : EReal) * (Real.sin B : EReal))
      + y * ((Real.sin A : EReal) * ((Real.cos B : EReal) * ((-1 : ℝ) : EReal)) + (Real.cos A : EReal) * ((Real.sin B : EReal) * ((-1 : ℝ) : EReal)))
      + z * ((Real.sin A : EReal) * ((Real.cos B : EReal) * 0) + (Real.cos A : EReal) * ((Real.sin B : EReal) * 0))
      = x * (Real.cos (A + B) : EReal) - y * (Real.sin (A + B) : EReal)
  have h1 : (Real.cos A : EReal) * (Real.cos B : EReal) - (Real.sin A : EReal) * (Real.sin B : EReal) = (Real.cos (A + B) : EReal) := by
    rw [← EReal.coe_mul, ← EReal.coe_mul, ← EReal.coe_sub, Real.cos_add]
  have h2 : (Real.sin A : EReal) * ((Real.cos B : EReal) * ((-1 : ℝ) : EReal)) + (Real.cos A : EReal) * ((Real.sin B : EReal) * ((-1 : ℝ) : EReal))
      = -(Real.sin (A + B) : EReal) := by
    rw [← EReal.coe_mul, ← EReal.coe_mul, ← EReal.coe_mul, ← EReal.coe_mul, ← EReal.coe_add, ← EReal.coe_neg, Real.sin_add]
    congr 1; ring
  rw [h1, h2, mul_zero, mul_zero, mul_zero, mul_zero, add_zero, mul_zero, add_zero, mul_neg, sub_eq_add_neg]

/-- The turn of a lane in the second half of its head, put together from the tables' entries. -/
theorem turn_high (x y z c : EReal) (A B : ℝ) :
    x * (Ideal.cos A * Ideal.cos B - Ideal.sin A * Ideal.sin B)
      + y * (Ideal.sin A * (Ideal.cos B * 0) + Ideal.cos A * (Ideal.sin B * 0))
      + z * (Ideal.sin A * (Ideal.cos B * 1) + Ideal.cos A * (Ideal.sin B * 1))
      = x * Ideal.cos ((A + B : ℝ) : EReal) + z * Ideal.sin ((A + B : ℝ) : EReal) := by
  show x * ((Real.cos A : EReal) * (Real.cos B : EReal) - (Real.sin A : EReal) * (Real.sin B : EReal))
      + y * ((Real.sin A : EReal) * ((Real.cos B : EReal) * 0) + (Real.cos A : EReal) * ((Real.sin B : EReal) * 0))
      + z * ((Real.sin A : EReal) * ((Real.cos B : EReal) * 1) + (Real.cos A : EReal) * ((Real.sin B : EReal) * 1))
      = x * (Real.cos (A + B) : EReal) + z * (Real.sin (A + B) : EReal)
  have h1 : (Real.cos A : EReal) * (Real.cos B : EReal) - (Real.sin A : EReal) * (Real.sin B : EReal) = (Real.cos (A + B) : EReal) := by
    rw [← EReal.coe_mul, ← EReal.coe_mul, ← EReal.coe_sub, Real.cos_add]
  have h2 : (Real.sin A : EReal) * (Real.cos B : EReal) + (Real.cos A : EReal) * (Real.sin B : EReal) = (Real.sin (A + B) : EReal) := by
    rw [← EReal.coe_mul, ← EReal.coe_mul, ← EReal.coe_add, Real.sin_add]
  rw [h1, mul_one, mul_one, h2, mul_zero, mul_zero, mul_zero, mul_zero, add_zero, mul_zero, add_zero]

/-- A sum over 128 lanes weighted by "same head as lane `l`" is the sum over that head's 64 lanes. -/
theorem sum_head (p : Fin 128 → EReal) (h : Fin 2) :
    ∑ j : Fin 128, p j * (if j.val / 64 = h.val then (1 : EReal) else 0) = ∑ i : Fin 64, p ⟨h.val * 64 + i.val, by omega⟩ := by
  rw [Fin.sum_univ_tiles 2 64 rfl (fun j : Fin 128 => p j * (if j.val / 64 = h.val then (1 : EReal) else 0)), Fin.sum_univ_two]
  have e (g : Fin 2) (i : Fin 64) : (g.val * 64 + i.val) / 64 = g.val := by have := i.isLt; omega
  simp only [e]
  match h with
  | ⟨0, _⟩ => simp
  | ⟨1, _⟩ => simp

end Cert.Layer
-- ==== Proof.FrontReference.lean ====
module

public import proofs.«01_k».proof.Defs
public import proofs.«01_k».proof.Proof.Gen.Reference4Ideal.Run
public import proofs.«01_k».proof.Proof.Gen.Reference4Ideal.Read
public import proofs.«01_k».proof.Proof.Rope

@[expose] public section

set_option maxRecDepth 16384

noncomputable section

open Idealize.ShloMosaic Idealize.ShloMosaic.TcCoe Idealize.SL.Sem

namespace Cert.Reference4Ideal.RefValue

open Cert.Reference4Ideal Cert.Reference4Ideal.Read Cert.Layer

/-! # The front's reference, entry by entry -/

variable (x0 : (⟨S2x8192x1024, .f32⟩ : BufTy).Contents (Elt Ideal)) (x1 : (⟨S1x1024, .f32⟩ : BufTy).Contents (Elt Ideal))
  (x2 x3 : (⟨S1x1024x2816, .f32⟩ : BufTy).Contents (Elt Ideal)) (x4 : (⟨S1x2816x1024, .f32⟩ : BufTy).Contents (Elt Ideal))
  (x5 : (⟨S1x1024, .f32⟩ : BufTy).Contents (Elt Ideal)) (x6 : (⟨S1x1024x3328, .f32⟩ : BufTy).Contents (Elt Ideal)) (x7 x8 : (⟨S1x64, .f32⟩ : BufTy).Contents (Elt Ideal))

/-- The reference's scaled rows. -/
theorem scaled_apply (n : Fin 16384) (k : Fin 1024) :
    val_main_v14 (F := Ideal) x0 x1 (ix2 n k) = unit (fun k => x0 (ix3 ⟨n.val / 8192, by omega⟩ ⟨n.val % 8192, by omega⟩ k)) (fun k => x1 (ix2 0 k)) k := by
  pointwise [val_main_v0, val_main_v1, val_main_v2, val_main_v3, val_main_v4, val_main_v5, val_main_v6, val_main_v7, val_main_v8, val_main_v9, val_main_v10, val_main_v11, val_main_v12, val_main_v13, val_main_v14, val_main_cst, val_main_cst_0, val_main_cst_1]
  rfl

/-- The reference's hidden units. -/
theorem hidden_apply (n : Fin 16384) (f : Fin 2816) :
    val_main_v20 (F := Ideal) x0 x1 x2 x3 (ix2 n f)
      = hidden (unit (fun k => x0 (ix3 ⟨n.val / 8192, by omega⟩ ⟨n.val % 8192, by omega⟩ k)) (fun k => x1 (ix2 0 k))) (fun k f => x2 (ix3 0 k f)) (fun k f => x3 (ix3 0 k f)) f := by
  pointwise [val_main_v15, val_main_v16, val_main_v17, val_main_v18, val_main_v19, val_main_v20, val_main_call0_v0, val_main_call0_v1, val_main_call0_v2, val_main_call0_v3, val_main_call0_v4, val_main_call0_v5, val_main_call0_cst, val_main_call0_cst_0]
  simp only [scaled_apply]
  rfl

/-- A row after the half step, from the arguments. -/
def stepAt (n : Fin 16384) (d : Fin 1024) : EReal :=
  half (fun k => x0 (ix3 ⟨n.val / 8192, by omega⟩ ⟨n.val % 8192, by omega⟩ k)) (fun k => x1 (ix2 0 k)) (fun k f => x2 (ix3 0 k f)) (fun k f => x3 (ix3 0 k f)) (fun f d => x4 (ix3 0 f d)) d

/-- The reference's rows after the half step. -/
theorem step_apply (n : Fin 16384) (d : Fin 1024) : val_main_v25 (F := Ideal) x0 x1 x2 x3 x4 (ix2 n d) = stepAt x0 x1 x2 x3 x4 n d := by
  have hh := hidden_apply x0 x1 x2 x3 n
  have hr : ∀ k, val_main_v0 (F := Ideal) x0 (ix2 n k) = x0 (ix3 ⟨n.val / 8192, by omega⟩ ⟨n.val % 8192, by omega⟩ k) := fun k => by
    pointwise [val_main_v0]
  unfold val_main_v25 val_main_v24 val_main_v22
  generalize val_main_v20 (F := Ideal) x0 x1 x2 x3 = a at hh
  generalize val_main_v0 (F := Ideal) x0 = b at hr
  pointwise [val_main_v23, val_main_v21, val_main_cst_2]
  simp only [hh, hr]
  rfl

/-- The reference's scaled rows after the half step. -/
theorem mixed_apply (n : Fin 16384) (k : Fin 1024) :
    val_main_v39 (F := Ideal) x0 x1 x2 x3 x4 x5 (ix2 n k) = unit (stepAt x0 x1 x2 x3 x4 n) (fun k => x5 (ix2 0 k)) k := by
  have hs := step_apply x0 x1 x2 x3 x4 n
  unfold val_main_v39 val_main_v36 val_main_v35 val_main_v34 val_main_v33 val_main_v31 val_main_v29 val_main_v28 val_main_v27
  generalize val_main_v25 (F := Ideal) x0 x1 x2 x3 x4 = a at hs
  pointwise [val_main_v26, val_main_v30, val_main_v32, val_main_v37, val_main_v38, val_main_cst_3, val_main_cst_4, val_main_cst_5]
  simp only [hs]
  rfl

/-- Column `j` of a row's projections, from the arguments. -/
def colAt (n : Fin 16384) (j : Fin 3328) : EReal := proj (stepAt x0 x1 x2 x3 x4 n) (fun k => x5 (ix2 0 k)) (fun k j => x6 (ix3 0 k j)) j

/-- The reference's projections. -/
theorem col_apply (n : Fin 16384) (j : Fin 3328) :
    val_main_v41 (F := Ideal) x0 x1 x2 x3 x4 x5 x6 (ix2 n j) = colAt x0 x1 x2 x3 x4 x5 x6 n j := by
  have hs := mixed_apply x0 x1 x2 x3 x4 x5 n
  unfold val_main_v41
  generalize val_main_v39 (F := Ideal) x0 x1 x2 x3 x4 x5 = a at hs
  pointwise [val_main_v40]
  simp only [hs]
  rfl

/-- The reference's values. -/
theorem v_apply (n : Fin 16384) (j : Fin 128) :
    val_main_v44 (F := Ideal) x0 x1 x2 x3 x4 x5 x6 (ix2 n j) = colAt x0 x1 x2 x3 x4 x5 x6 n ⟨640 + j.val, by omega⟩ := by
  have hs := col_apply x0 x1 x2 x3 x4 x5 x6 n
  unfold val_main_v44
  generalize val_main_v41 (F := Ideal) x0 x1 x2 x3 x4 x5 x6 = a at hs
  pointwise
  exact hs _

/-- The reference's recurrence's inputs. -/
theorem u_apply (n : Fin 16384) (j : Fin 512) :
    val_main_v45 (F := Ideal) x0 x1 x2 x3 x4 x5 x6 (ix2 n j) = colAt x0 x1 x2 x3 x4 x5 x6 n ⟨768 + j.val, by omega⟩ := by
  have hs := col_apply x0 x1 x2 x3 x4 x5 x6 n
  unfold val_main_v45
  generalize val_main_v41 (F := Ideal) x0 x1 x2 x3 x4 x5 x6 = a at hs
  pointwise
  exact hs _

/-- The reference's gates of the attention branch. -/
theorem ga_apply (n : Fin 16384) (j : Fin 1024) :
    val_main_v143 (F := Ideal) x0 x1 x2 x3 x4 x5 x6 (ix2 n j) = Ideal.logistic (colAt x0 x1 x2 x3 x4 x5 x6 n ⟨1280 + j.val, by omega⟩) := by
  have hs := col_apply x0 x1 x2 x3 x4 x5 x6 n
  unfold val_main_v143 val_main_v142 val_main_v140 val_main_v138 val_main_v137 val_main_v46
  generalize val_main_v41 (F := Ideal) x0 x1 x2 x3 x4 x5 x6 = a at hs
  pointwise [val_main_v139, val_main_v141, val_main_cst_16, val_main_cst_17]
  rw [hs]
  rfl

/-- The reference's gates of the recurrent branch. -/
theorem gs_apply (n : Fin 16384) (j : Fin 1024) :
    val_main_v150 (F := Ideal) x0 x1 x2 x3 x4 x5 x6 (ix2 n j) = Ideal.logistic (colAt x0 x1 x2 x3 x4 x5 x6 n ⟨2304 + j.val, by omega⟩) := by
  have hs := col_apply x0 x1 x2 x3 x4 x5 x6 n
  unfold val_main_v150 val_main_v149 val_main_v147 val_main_v145 val_main_v144 val_main_v47
  generalize val_main_v41 (F := Ideal) x0 x1 x2 x3 x4 x5 x6 = a at hs
  pointwise [val_main_v146, val_main_v148, val_main_cst_18, val_main_cst_19]
  rw [hs]
  rfl

/-- A position's word, as the number. -/
theorem word_real (n : ℕ) (h : n < 2147483648) : (FloatOps.sitofp .f32 (BitVec.ofNat 32 n) : Ideal .f32) = (((n : ℝ)) : EReal) := by
  show (((BitVec.ofNat 32 n).toInt : ℝ) : EReal) = _
  have e : (BitVec.ofNat 32 n).toNat = n := by rw [BitVec.toNat_ofNat]; omega
  rw [BitVec.toInt_eq_toNat_of_lt (by rw [e]; omega), e]
  norm_num

/-- The reference's angles. -/
theorem angle_apply (n : Fin 16384) (k : Fin 32) :
    val_main_v63 (F := Ideal) (ix2 n k) = (((n.val % 8192 : ℕ) : ℝ) : EReal) * freq k.val := by
  pointwise [val_main_v48, val_main_v49, val_main_v50, val_main_v51, val_main_v52, val_main_v53, val_main_v54, val_main_v55, val_main_v56, val_main_v57, val_main_v58, val_main_v59, val_main_v60, val_main_v61, val_main_v62, val_main_v63, val_main_cst_6, val_main_cst_7, val_main_cst_8]
  rw [word_real (n.val % 8192) (by omega), word_real k.val (by omega)]
  rfl

/-- The reference's queries, head by head. -/
theorem q_split (n : Fin 16384) (h : Fin 8) (j : Fin 64) :
    val_main_v68 (F := Ideal) x0 x1 x2 x3 x4 x5 x6 (ix3 n h j) = colAt x0 x1 x2 x3 x4 x5 x6 n ⟨h.val * 64 + j.val, by omega⟩ := by
  have hs := col_apply x0 x1 x2 x3 x4 x5 x6 n
  unfold val_main_v68 val_main_v42
  generalize val_main_v41 (F := Ideal) x0 x1 x2 x3 x4 x5 x6 = a at hs
  pointwise
  rw [hs]

/-- The reference's queries after the head norm. -/
theorem q_norm (n : Fin 16384) (h : Fin 8) (j : Fin 64) :
    val_main_v82 (F := Ideal) x0 x1 x2 x3 x4 x5 x6 x7 (ix3 n h j)
      = headUnit (fun i => colAt x0 x1 x2 x3 x4 x5 x6 n ⟨h.val * 64 + i.val, by omega⟩) (fun i => x7 (ix2 0 i)) j := by
  have hs := q_split x0 x1 x2 x3 x4 x5 x6 n h
  unfold val_main_v82 val_main_v79 val_main_v78 val_main_v77 val_main_v76 val_main_v74 val_main_v72 val_main_v71 val_main_v70
  generalize val_main_v68 (F := Ideal) x0 x1 x2 x3 x4 x5 x6 = a at hs
  pointwise [val_main_v69, val_main_v73, val_main_v75, val_main_v80, val_main_v81, val_main_cst_9, val_main_cst_10, val_main_cst_11]
  simp only [hs]
  rfl

/-- The reference's queries after the rotary turn. -/
theorem q_turn (n : Fin 16384) (h : Fin 8) (j : Fin 64) :
    val_main_v97 (F := Ideal) x0 x1 x2 x3 x4 x5 x6 x7 (ix3 n h j)
      = turn (headUnit (fun i => colAt x0 x1 x2 x3 x4 x5 x6 n ⟨h.val * 64 + i.val, by omega⟩) (fun i => x7 (ix2 0 i))) (n.val % 8192) j := by
  have hs := q_norm x0 x1 x2 x3 x4 x5 x6 x7 n h
  have ha := angle_apply n
  unfold val_main_v97 val_main_v96 val_main_v95 val_main_v93 val_main_v92 val_main_v90 val_main_v89 val_main_v88 val_main_v86 val_main_v85 val_main_v83
  unfold val_main_v84 val_main_v87 val_main_v91 val_main_v94 val_main_v65 val_main_v67 val_main_v64 val_main_v66
  generalize val_main_v63 (F := Ideal) = b at ha
  generalize val_main_v82 (F := Ideal) x0 x1 x2 x3 x4 x5 x6 x7 = a at hs
  unfold turn
  by_cases hj : j.val < 32
  · rw [dif_pos hj]
    pointwise
    simp only [dif_pos hj, hs, ha, Nat.add_comm 32]
  · rw [dif_neg hj]
    pointwise
    have e : 32 + (j.val - 32) = j.val := by omega
    simp only [dif_neg hj, hs, ha, e]

/-- The reference's keys, head by head. -/
theorem k_split (n : Fin 16384) (h : Fin 2) (j : Fin 64) :
    val_main_v100 (F := Ideal) x0 x1 x2 x3 x4 x5 x6 (ix3 n h j) = colAt x0 x1 x2 x3 x4 x5 x6 n ⟨512 + h.val * 64 + j.val, by omega⟩ := by
  have hs := col_apply x0 x1 x2 x3 x4 x5 x6 n
  unfold val_main_v100 val_main_v43
  generalize val_main_v41 (F := Ideal) x0 x1 x2 x3 x4 x5 x6 = a at hs
  pointwise
  rw [hs]
  simp only [Nat.add_assoc]

/-- The reference's keys after the head norm. -/
theorem k_norm (n : Fin 16384) (h : Fin 2) (j : Fin 64) :
    val_main_v114 (F := Ideal) x0 x1 x2 x3 x4 x5 x6 x8 (ix3 n h j)
      = headUnit (fun i => colAt x0 x1 x2 x3 x4 x5 x6 n ⟨512 + h.val * 64 + i.val, by omega⟩) (fun i => x8 (ix2 0 i)) j := by
  have hs := k_split x0 x1 x2 x3 x4 x5 x6 n h
  unfold val_main_v114 val_main_v111 val_main_v110 val_main_v109 val_main_v108 val_main_v106 val_main_v104 val_main_v103 val_main_v102
  generalize val_main_v100 (F := Ideal) x0 x1 x2 x3 x4 x5 x6 = a at hs
  pointwise [val_main_v101, val_main_v105, val_main_v107, val_main_v112, val_main_v113, val_main_cst_13, val_main_cst_14, val_main_cst_15]
  simp only [hs]
  rfl

/-- The reference's keys after the rotary turn. -/
theorem k_turn (n : Fin 16384) (h : Fin 2) (j : Fin 64) :
    val_main_v129 (F := Ideal) x0 x1 x2 x3 x4 x5 x6 x8 (ix3 n h j)
      = turn (headUnit (fun i => colAt x0 x1 x2 x3 x4 x5 x6 n ⟨512 + h.val * 64 + i.val, by omega⟩) (fun i => x8 (ix2 0 i))) (n.val % 8192) j := by
  have hs := k_norm x0 x1 x2 x3 x4 x5 x6 x8 n h
  have ha := angle_apply n
  unfold val_main_v129 val_main_v128 val_main_v127 val_main_v125 val_main_v124 val_main_v122 val_main_v121 val_main_v120 val_main_v118 val_main_v117 val_main_v115
  unfold val_main_v116 val_main_v119 val_main_v123 val_main_v126 val_main_v65 val_main_v67 val_main_v64 val_main_v66
  generalize val_main_v63 (F := Ideal) = b at ha
  generalize val_main_v114 (F := Ideal) x0 x1 x2 x3 x4 x5 x6 x8 = a at hs
  unfold turn
  by_cases hj : j.val < 32
  · rw [dif_pos hj]
    pointwise
    simp only [dif_pos hj, hs, ha, Nat.add_comm 32]
  · rw [dif_neg hj]
    pointwise
    have e : 32 + (j.val - 32) = j.val := by omega
    simp only [dif_neg hj, hs, ha, e]

/-- The reference's queries, as laid out. -/
theorem q_apply (n : Fin 16384) (c : Fin 512) :
    val_main_v135 (F := Ideal) x0 x1 x2 x3 x4 x5 x6 x7 (ix2 n c)
      = turn (headUnit (fun i => colAt x0 x1 x2 x3 x4 x5 x6 n ⟨c.val / 64 * 64 + i.val, by omega⟩) (fun i => x7 (ix2 0 i))) (n.val % 8192) ⟨c.val % 64, by omega⟩
        * Ideal.ofBits .f32 0x3E000000#32 := by
  have hs := q_turn x0 x1 x2 x3 x4 x5 x6 x7 n ⟨c.val / 64, by omega⟩ ⟨c.val % 64, by omega⟩
  unfold val_main_v135 val_main_v134 val_main_v99
  generalize val_main_v97 (F := Ideal) x0 x1 x2 x3 x4 x5 x6 x7 = a at hs
  pointwise [val_main_v98, val_main_cst_12]
  rw [← hs]
  try rfl

/-- The reference's keys, as laid out. -/
theorem k_apply (n : Fin 16384) (c : Fin 128) :
    val_main_v136 (F := Ideal) x0 x1 x2 x3 x4 x5 x6 x8 (ix2 n c)
      = turn (headUnit (fun i => colAt x0 x1 x2 x3 x4 x5 x6 n ⟨512 + c.val / 64 * 64 + i.val, by omega⟩) (fun i => x8 (ix2 0 i))) (n.val % 8192) ⟨c.val % 64, by omega⟩ := by
  have hs := k_turn x0 x1 x2 x3 x4 x5 x6 x8 n ⟨c.val / 64, by omega⟩ ⟨c.val % 64, by omega⟩
  unfold val_main_v136
  generalize val_main_v129 (F := Ideal) x0 x1 x2 x3 x4 x5 x6 x8 = a at hs
  pointwise
  rw [← hs]
  try rfl

/-- The reference's last 128 positions' keys are the keys there. -/
theorem newK_apply (p : Fin 2) (s : Fin 128) (h : Fin 2) (d : Fin 64) :
    val_main_v131 (F := Ideal) x0 x1 x2 x3 x4 x5 x6 x8 (ix4 p s h d)
      = turn (headUnit (fun i => colAt x0 x1 x2 x3 x4 x5 x6 ⟨p.val * 8192 + (8064 + s.val), by omega⟩ ⟨512 + (h.val * 64 + d.val) / 64 * 64 + i.val, by omega⟩) (fun i => x8 (ix2 0 i)))
        ((p.val * 8192 + (8064 + s.val)) % 8192) ⟨(h.val * 64 + d.val) % 64, by omega⟩ := by
  have hs := k_turn x0 x1 x2 x3 x4 x5 x6 x8 ⟨p.val * 8192 + (8064 + s.val), by omega⟩ h d
  have e1 : (h.val * 64 + d.val) / 64 = h.val := by omega
  have e2 : (h.val * 64 + d.val) % 64 = d.val := by omega
  simp only [e1, e2]
  unfold val_main_v131 val_main_v130
  generalize val_main_v129 (F := Ideal) x0 x1 x2 x3 x4 x5 x6 x8 = a at hs
  pointwise
  rw [← hs]
  try rfl

/-- The reference's last 128 positions' values are the values there. -/
theorem newV_apply (p : Fin 2) (s : Fin 128) (h : Fin 2) (d : Fin 64) :
    val_main_v133 (F := Ideal) x0 x1 x2 x3 x4 x5 x6 (ix4 p s h d)
      = colAt x0 x1 x2 x3 x4 x5 x6 ⟨p.val * 8192 + (8064 + s.val), by omega⟩ ⟨640 + (h.val * 64 + d.val), by omega⟩ := by
  have hs := v_apply x0 x1 x2 x3 x4 x5 x6 ⟨p.val * 8192 + (8064 + s.val), by omega⟩ ⟨h.val * 64 + d.val, by omega⟩
  unfold val_main_v133 val_main_v132
  generalize val_main_v44 (F := Ideal) x0 x1 x2 x3 x4 x5 x6 = a at hs
  pointwise
  rw [← hs]
  try rfl

end Cert.Reference4Ideal.RefValue
-- ==== Proof.FrontKernel.lean ====
module

public import proofs.«01_k».proof.Proof.Gen.Kernel4Ideal.Frame
public import proofs.«01_k».proof.Proof.Rope
public import Idealize.ShloMosaic.Lib.Pipeline.ValueKit.Tiles
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)

namespace Cert.Kernel4Ideal.RefValue

open Cert.Kernel4Ideal Cert.Kernel4Ideal.Gen Cert.Layer

/-! # The front call: what one grid point leaves in its result blocks -/

/-- The origin of a whole-block access. -/
theorem origin : (![0, 0] : Fin 2 → Nat) = fun _ => 0 := funext fun a => by fin_cases a <;> rfl

section Block

variable (x0 : Vec Ideal S512x1024 .f32) (x1 : Vec Ideal S1x2x128 .f32) (x2 : Vec Ideal S6x512x128 .f32) (x3 : Vec Ideal S1x1024 .f32)
  (x4 x5 : Vec Ideal S1024x2816 .bf16) (x6 : Vec Ideal S2816x1024 .bf16) (x7 : Vec Ideal S1x1024 .f32) (x8 : Vec Ideal S1024x3328 .bf16)
  (x9 x10 : Vec Ideal S1x128 .f32) (x11 : Vec Ideal S128x128 .bf16)

/-- The scaled row that the body hands to the feed-forward products. -/
theorem scaled_apply (r : Fin 512) (k : Fin 1024) :
    k0_pay3 (View.ld x0 r0_0) (View.ld x3 r0_1) (ix2 r k) = unit (fun i => x0 (ix2 r i)) (fun i => x3 (ix2 0 i)) k := by
  pointwise [k0_pay3, k0_pay2]
  rfl

/-- The feed-forward half step that a point computes for its rows. -/
abbrev step (r : Fin 512) (d : Fin 1024) : EReal :=
  half (fun i => x0 (ix2 r i)) (fun i => x3 (ix2 0 i)) (fun k f => x4 (ix2 k f)) (fun k f => x5 (ix2 k f)) (fun f d => x6 (ix2 f d)) d

/-- The row after the half step, as the body holds it. -/
theorem stepped_apply (r : Fin 512) (d : Fin 1024) :
    k0_pay14 (k0_pay41 x0 x1 x2 x3 x4 x5 x6 x7 x8 x9 x10 x11) (k0_pay42 x0 x1 x2 x3 x4 x5 x6 x7 x8 x9 x10 x11)
      (k0_pay43 x0 x1 x2 x3 x4 x5 x6 x7 x8 x9 x10 x11) (k0_pay44 x0 x1 x2 x3 x4 x5 x6 x7 x8 x9 x10 x11)
      (View.ld x5 r0_20) (View.ld x6 r0_21) (View.ld x4 r0_22) (View.ld x5 r0_22) (View.ld x6 r0_23) (ix2 r d)
      = step x0 x3 x4 x5 x6 r d := by
  have hs := scaled_apply x0 x3 r
  unfold k0_pay43 k0_pay44 k0_pay42 k0_pay41
  generalize hh : k0_pay3 (View.ld x0 r0_0) (View.ld x3 r0_1) = h at hs
  pointwise [k0_pay14, k0_pay2, k0_pay12, k0_pay10, k0_pay8, k0_pay4, k0_pay5, k0_pay6, k0_pay7, k0_pay9, k0_pay11, k0_pay13]
  simp only [hh, hs]
  unfold step half
  rw [sum_eleven]
  rfl

/-- The half step's rows, as they leave the body. -/
theorem block12 (r : Fin 512) (d : Fin 1024) :
    out0_12 x0 x1 x2 x3 x4 x5 x6 x7 x8 x9 x10 x11 (ix2 r d) = step x0 x3 x4 x5 x6 r d := by
  unfold out0_12
  rw [View.canon_unit_zero origin, stepped_apply]

/-- The scaled row that the body hands to the projections. -/
theorem mixed_apply (r : Fin 512) (k : Fin 1024) :
    k0_pay45 x0 x1 x2 x3 x4 x5 x6 x7 x8 x9 x10 x11 (ix2 r k) = unit (step x0 x3 x4 x5 x6 r) (fun i => x7 (ix2 0 i)) k := by
  have hs := stepped_apply x0 x1 x2 x3 x4 x5 x6 x7 x8 x9 x10 x11 r
  unfold k0_pay45
  unfold k0_pay16
  generalize k0_pay14 (k0_pay41 x0 x1 x2 x3 x4 x5 x6 x7 x8 x9 x10 x11) (k0_pay42 x0 x1 x2 x3 x4 x5 x6 x7 x8 x9 x10 x11)
      (k0_pay43 x0 x1 x2 x3 x4 x5 x6 x7 x8 x9 x10 x11) (k0_pay44 x0 x1 x2 x3 x4 x5 x6 x7 x8 x9 x10 x11)
      (View.ld x5 r0_20) (View.ld x6 r0_21) (View.ld x4 r0_22) (View.ld x5 r0_22) (View.ld x6 r0_23) = h at hs ⊢
  pointwise [k0_pay17, k0_pay15]
  simp only [hs]
  rfl

/-- Column `c` of the projections of row `r`. -/
abbrev col (r : Fin 512) (c : Fin 3328) : EReal :=
  proj (step x0 x3 x4 x5 x6 r) (fun i => x7 (ix2 0 i)) (fun k c => x8 (ix2 k c)) c

/-- The first 1280 columns of the projections, as the body holds them. -/
theorem cols_apply (r : Fin 512) (c : Fin 1280) :
    k0_pay49 x0 x1 x2 x3 x4 x5 x6 x7 x8 x9 x10 x11 (ix2 r c) = col x0 x3 x4 x5 x6 x7 x8 r ⟨c.val, by omega⟩ := by
  have hs := mixed_apply x0 x1 x2 x3 x4 x5 x6 x7 x8 x9 x10 x11 r
  unfold k0_pay49
  generalize k0_pay45 x0 x1 x2 x3 x4 x5 x6 x7 x8 x9 x10 x11 = h at hs ⊢
  pointwise [k0_pay23]
  simp only [hs]
  rfl

/-- The value columns. -/
theorem block15 (r : Fin 512) (l : Fin 128) :
    out0_15 x0 x1 x2 x3 x4 x5 x6 x7 x8 x9 x10 x11 (ix2 r l) = col x0 x3 x4 x5 x6 x7 x8 r ⟨640 + l.val, by omega⟩ := by
  unfold out0_15
  rw [View.canon_unit_zero origin]
  have hc := cols_apply x0 x1 x2 x3 x4 x5 x6 x7 x8 x9 x10 x11 r
  generalize k0_pay49 x0 x1 x2 x3 x4 x5 x6 x7 x8 x9 x10 x11 = h at hc ⊢
  pointwise [k0_pay37]
  rw [hc]

/-- The columns that enter the recurrence. -/
theorem block16 (r : Fin 512) (l : Fin 512) :
    out0_16 x0 x1 x2 x3 x4 x5 x6 x7 x8 x9 x10 x11 (ix2 r l) = col x0 x3 x4 x5 x6 x7 x8 r ⟨768 + l.val, by omega⟩ := by
  unfold out0_16
  rw [View.canon_unit_zero origin]
  have hc := cols_apply x0 x1 x2 x3 x4 x5 x6 x7 x8 x9 x10 x11 r
  generalize k0_pay49 x0 x1 x2 x3 x4 x5 x6 x7 x8 x9 x10 x11 = h at hc ⊢
  pointwise [k0_pay38]
  rw [hc]

/-- The gate of the attention branch. -/
theorem block17 (r : Fin 512) (d : Fin 1024) :
    out0_17 x0 x1 x2 x3 x4 x5 x6 x7 x8 x9 x10 x11 (ix2 r d) = Ideal.logistic (col x0 x3 x4 x5 x6 x7 x8 r ⟨1280 + d.val, by omega⟩) := by
  unfold out0_17
  rw [View.canon_unit_zero origin]
  have hs := mixed_apply x0 x1 x2 x3 x4 x5 x6 x7 x8 x9 x10 x11 r
  generalize k0_pay45 x0 x1 x2 x3 x4 x5 x6 x7 x8 x9 x10 x11 = h at hs ⊢
  pointwise [k0_pay39]
  simp only [hs]
  rfl

/-- The gate of the recurrence's branch. -/
theorem block18 (r : Fin 512) (d : Fin 1024) :
    out0_18 x0 x1 x2 x3 x4 x5 x6 x7 x8 x9 x10 x11 (ix2 r d) = Ideal.logistic (col x0 x3 x4 x5 x6 x7 x8 r ⟨2304 + d.val, by omega⟩) := by
  unfold out0_18
  rw [View.canon_unit_zero origin]
  have hs := mixed_apply x0 x1 x2 x3 x4 x5 x6 x7 x8 x9 x10 x11 r
  generalize k0_pay45 x0 x1 x2 x3 x4 x5 x6 x7 x8 x9 x10 x11 = h at hs ⊢
  pointwise [k0_pay1, k0_pay40]
  simp only [hs]
  rfl

/-- The tables' cosine. -/
theorem cos_apply (r : Fin 512) (l : Fin 128) : k0_pay46 x0 x1 x2 x3 x4 x5 x6 x7 x8 x9 x10 x11 (ix2 r l)
    = x1 (ix3 0 0 l) * x2 (ix3 0 r l) - x1 (ix3 0 1 l) * x2 (ix3 1 r l) := by
  unfold k0_pay46
  pointwise [k0_pay20, k0_pay18, k0_pay19]

/-- The tables' sine for the lanes of a head's first half. -/
theorem low_apply (r : Fin 512) (l : Fin 128) : k0_pay47 x0 x1 x2 x3 x4 x5 x6 x7 x8 x9 x10 x11 (ix2 r l)
    = x1 (ix3 0 1 l) * x2 (ix3 2 r l) + x1 (ix3 0 0 l) * x2 (ix3 3 r l) := by
  unfold k0_pay47
  pointwise [k0_pay21, k0_pay18, k0_pay19]

/-- The tables' sine for the lanes of a head's second half. -/
theorem high_apply (r : Fin 512) (l : Fin 128) : k0_pay48 x0 x1 x2 x3 x4 x5 x6 x7 x8 x9 x10 x11 (ix2 r l)
    = x1 (ix3 0 1 l) * x2 (ix3 4 r l) + x1 (ix3 0 0 l) * x2 (ix3 5 r l) := by
  unfold k0_pay48
  pointwise [k0_pay22, k0_pay18, k0_pay19]

/-- A head pair's 128 lanes scaled by the root mean square of each lane's own head and by the gain. -/
abbrev lanes (a : Fin 128 → EReal) (ones : Fin 128 → Fin 128 → EReal) (g : Fin 128 → EReal) (l : Fin 128) : EReal :=
  a l * Ideal.rsqrt ((∑ j, a j * a j * ones j l) * Ideal.ofBits .f32 0x3C800000#32 + Ideal.ofBits .f32 0x358637BD#32) * g l

/-- Those lanes turned by three tables. -/
abbrev turned (a c s1 s2 : Fin 128 → EReal) (l : Fin 128) : EReal :=
  a l * c l + a ⟨(l.val + 128 - 96) % 128, by omega⟩ * s1 l + a ⟨(l.val + 128 - 32) % 128, by omega⟩ * s2 l

/-- The key columns, scaled and turned. -/
theorem block14 (r : Fin 512) (l : Fin 128) :
    out0_14 x0 x1 x2 x3 x4 x5 x6 x7 x8 x9 x10 x11 (ix2 r l)
      = turned (lanes (fun j => col x0 x3 x4 x5 x6 x7 x8 r ⟨512 + j.val, by omega⟩) (fun i j => x11 (ix2 i j)) (fun j => x10 (ix2 0 j)))
        (fun l => k0_pay46 x0 x1 x2 x3 x4 x5 x6 x7 x8 x9 x10 x11 (ix2 r l)) (fun l => k0_pay47 x0 x1 x2 x3 x4 x5 x6 x7 x8 x9 x10 x11 (ix2 r l))
        (fun l => k0_pay48 x0 x1 x2 x3 x4 x5 x6 x7 x8 x9 x10 x11 (ix2 r l)) l := by
  unfold out0_14
  rw [View.canon_unit_zero origin]
  have hc := cols_apply x0 x1 x2 x3 x4 x5 x6 x7 x8 x9 x10 x11 r
  generalize k0_pay49 x0 x1 x2 x3 x4 x5 x6 x7 x8 x9 x10 x11 = h at hc ⊢
  generalize k0_pay46 x0 x1 x2 x3 x4 x5 x6 x7 x8 x9 x10 x11 = h1
  generalize k0_pay47 x0 x1 x2 x3 x4 x5 x6 x7 x8 x9 x10 x11 = h2
  generalize k0_pay48 x0 x1 x2 x3 x4 x5 x6 x7 x8 x9 x10 x11 = h3
  pointwise [k0_pay36, k0_pay33, k0_pay34, k0_pay35]
  simp only [hc]

/-- x0 x1 x2 x3 x4 x5 x6 x7 x8 x9 x10 x11 query head pair's lanes, scaled and turned, for the 128 columns from `o` on. -/
abbrev pair (o : ℕ) (ho : o + 128 ≤ 3328) (r : Fin 512) (l : Fin 128) : EReal :=
  turned (lanes (fun j => col x0 x3 x4 x5 x6 x7 x8 r ⟨o + j.val, by omega⟩) (fun i j => x11 (ix2 i j)) (fun j => x9 (ix2 0 j)))
    (fun l => k0_pay46 x0 x1 x2 x3 x4 x5 x6 x7 x8 x9 x10 x11 (ix2 r l)) (fun l => k0_pay47 x0 x1 x2 x3 x4 x5 x6 x7 x8 x9 x10 x11 (ix2 r l))
    (fun l => k0_pay48 x0 x1 x2 x3 x4 x5 x6 x7 x8 x9 x10 x11 (ix2 r l)) l * Ideal.ofBits .f32 0x3E000000#32

/-- The projections that the first two head pairs spell out are the body's held columns. -/
theorem held : k0_pay23 (k0_pay45 x0 x1 x2 x3 x4 x5 x6 x7 x8 x9 x10 x11) (View.ld x8 r0_32) = k0_pay49 x0 x1 x2 x3 x4 x5 x6 x7 x8 x9 x10 x11 := rfl

/-- The lanes of query head pair 0. -/
theorem pair0 (r : Fin 512) (l : Fin 128) :
    k0_pay24 (k0_pay45 x0 x1 x2 x3 x4 x5 x6 x7 x8 x9 x10 x11) (k0_pay46 x0 x1 x2 x3 x4 x5 x6 x7 x8 x9 x10 x11) (k0_pay47 x0 x1 x2 x3 x4 x5 x6 x7 x8 x9 x10 x11) (k0_pay48 x0 x1 x2 x3 x4 x5 x6 x7 x8 x9 x10 x11) (View.ld x8 r0_32) (View.ld x11 r0_33) (View.ld x9 r0_34) (ix2 r l) = pair x0 x1 x2 x3 x4 x5 x6 x7 x8 x9 x10 x11 0 (by omega) r l := by
  have hc := cols_apply x0 x1 x2 x3 x4 x5 x6 x7 x8 x9 x10 x11 r
  unfold pair
  unfold k0_pay24
  simp only [held]
  generalize k0_pay49 x0 x1 x2 x3 x4 x5 x6 x7 x8 x9 x10 x11 = h at hc ⊢
  generalize k0_pay46 x0 x1 x2 x3 x4 x5 x6 x7 x8 x9 x10 x11 = h1
  generalize k0_pay47 x0 x1 x2 x3 x4 x5 x6 x7 x8 x9 x10 x11 = h2
  generalize k0_pay48 x0 x1 x2 x3 x4 x5 x6 x7 x8 x9 x10 x11 = h3
  pointwise
  simp only [hc, Nat.zero_add]

/-- The lanes of query head pair 1. -/
theorem pair1 (r : Fin 512) (l : Fin 128) :
    k0_pay28 (k0_pay46 x0 x1 x2 x3 x4 x5 x6 x7 x8 x9 x10 x11) (k0_pay47 x0 x1 x2 x3 x4 x5 x6 x7 x8 x9 x10 x11) (k0_pay48 x0 x1 x2 x3 x4 x5 x6 x7 x8 x9 x10 x11) (k0_pay25 (k0_pay45 x0 x1 x2 x3 x4 x5 x6 x7 x8 x9 x10 x11) (View.ld x8 r0_32)) (k0_pay26 (k0_pay45 x0 x1 x2 x3 x4 x5 x6 x7 x8 x9 x10 x11) (View.ld x8 r0_32) (View.ld x11 r0_33)) (k0_pay27 (F := Ideal)) (View.ld x9 r0_34) (ix2 r l) = pair x0 x1 x2 x3 x4 x5 x6 x7 x8 x9 x10 x11 128 (by omega) r l := by
  have hc := cols_apply x0 x1 x2 x3 x4 x5 x6 x7 x8 x9 x10 x11 r
  unfold pair
  unfold k0_pay26 k0_pay25
  simp only [held]
  generalize k0_pay49 x0 x1 x2 x3 x4 x5 x6 x7 x8 x9 x10 x11 = h at hc ⊢
  generalize k0_pay46 x0 x1 x2 x3 x4 x5 x6 x7 x8 x9 x10 x11 = h1
  generalize k0_pay47 x0 x1 x2 x3 x4 x5 x6 x7 x8 x9 x10 x11 = h2
  generalize k0_pay48 x0 x1 x2 x3 x4 x5 x6 x7 x8 x9 x10 x11 = h3
  pointwise [k0_pay28, k0_pay25, k0_pay26, k0_pay27]
  simp only [hc, Nat.zero_add]

/-- The lanes of query head pair 2. -/
theorem pair2 (r : Fin 512) (l : Fin 128) :
    k0_pay31 (k0_pay29 (k0_pay46 x0 x1 x2 x3 x4 x5 x6 x7 x8 x9 x10 x11) (k0_pay47 x0 x1 x2 x3 x4 x5 x6 x7 x8 x9 x10 x11) (k0_pay48 x0 x1 x2 x3 x4 x5 x6 x7 x8 x9 x10 x11) (k0_pay49 x0 x1 x2 x3 x4 x5 x6 x7 x8 x9 x10 x11) (View.ld x11 r0_33) (View.ld x9 r0_34)) (k0_pay30 (F := Ideal)) (ix2 r l) = pair x0 x1 x2 x3 x4 x5 x6 x7 x8 x9 x10 x11 256 (by omega) r l := by
  have hc := cols_apply x0 x1 x2 x3 x4 x5 x6 x7 x8 x9 x10 x11 r
  unfold pair
  generalize k0_pay49 x0 x1 x2 x3 x4 x5 x6 x7 x8 x9 x10 x11 = h at hc ⊢
  generalize k0_pay46 x0 x1 x2 x3 x4 x5 x6 x7 x8 x9 x10 x11 = h1
  generalize k0_pay47 x0 x1 x2 x3 x4 x5 x6 x7 x8 x9 x10 x11 = h2
  generalize k0_pay48 x0 x1 x2 x3 x4 x5 x6 x7 x8 x9 x10 x11 = h3
  pointwise [k0_pay31, k0_pay29, k0_pay30]
  simp only [hc, Nat.zero_add]

/-- The lanes of query head pair 3. -/
theorem pair3 (r : Fin 512) (l : Fin 128) :
    k0_pay32 (k0_pay46 x0 x1 x2 x3 x4 x5 x6 x7 x8 x9 x10 x11) (k0_pay47 x0 x1 x2 x3 x4 x5 x6 x7 x8 x9 x10 x11) (k0_pay48 x0 x1 x2 x3 x4 x5 x6 x7 x8 x9 x10 x11) (k0_pay49 x0 x1 x2 x3 x4 x5 x6 x7 x8 x9 x10 x11) (View.ld x11 r0_33) (View.ld x9 r0_34) (ix2 r l) = pair x0 x1 x2 x3 x4 x5 x6 x7 x8 x9 x10 x11 384 (by omega) r l := by
  have hc := cols_apply x0 x1 x2 x3 x4 x5 x6 x7 x8 x9 x10 x11 r
  unfold pair
  generalize k0_pay49 x0 x1 x2 x3 x4 x5 x6 x7 x8 x9 x10 x11 = h at hc ⊢
  generalize k0_pay46 x0 x1 x2 x3 x4 x5 x6 x7 x8 x9 x10 x11 = h1
  generalize k0_pay47 x0 x1 x2 x3 x4 x5 x6 x7 x8 x9 x10 x11 = h2
  generalize k0_pay48 x0 x1 x2 x3 x4 x5 x6 x7 x8 x9 x10 x11 = h3
  pointwise [k0_pay32]
  simp only [hc, Nat.zero_add]

/-- Column `c` of the query block belongs to the head pair that its place picks. -/
theorem pair_at (o : ℕ) (ho : o + 128 ≤ 3328) (hd : o % 128 = 0) (r : Fin 512) (c : Fin 512) (l : Fin 128) (h : c.val = o + l.val) :
    pair x0 x1 x2 x3 x4 x5 x6 x7 x8 x9 x10 x11 (c.val / 128 * 128) (by omega) r ⟨c.val % 128, by omega⟩
      = pair x0 x1 x2 x3 x4 x5 x6 x7 x8 x9 x10 x11 o ho r l := by
  have e1 : c.val / 128 * 128 = o := by omega
  have e2 : (⟨c.val % 128, by omega⟩ : Fin 128) = l := Fin.ext (by show c.val % 128 = l.val; omega)
  rw [e2]
  simp only [e1]

/-- The query columns, scaled, turned and divided by eight. -/
theorem block13 (r : Fin 512) (c : Fin 512) :
    out0_13 x0 x1 x2 x3 x4 x5 x6 x7 x8 x9 x10 x11 (ix2 r c) = pair x0 x1 x2 x3 x4 x5 x6 x7 x8 x9 x10 x11 (c.val / 128 * 128) (by omega) r ⟨c.val % 128, by omega⟩ := by
  unfold out0_13
  canon_tiles x h
  · have hx : x = ix2 (n0 := 512) (n1 := 128) r ⟨(x 1).val, x1_lt⟩ := by
      funext a; match a with | ⟨0, _⟩ => exact Fin.ext h0.symm | ⟨1, _⟩ => rfl
    rw [hx, pair3, pair_at x0 x1 x2 x3 x4 x5 x6 x7 x8 x9 x10 x11 384 (by omega) (by omega) r c ⟨(x 1).val, x1_lt⟩ (by have h : c.val = _ := h1; omega)]
  · have hx : x = ix2 (n0 := 512) (n1 := 128) r ⟨(x 1).val, x1_lt⟩ := by
      funext a; match a with | ⟨0, _⟩ => exact Fin.ext h0.symm | ⟨1, _⟩ => rfl
    rw [hx, pair2, pair_at x0 x1 x2 x3 x4 x5 x6 x7 x8 x9 x10 x11 256 (by omega) (by omega) r c ⟨(x 1).val, x1_lt⟩ (by have h : c.val = _ := h1; omega)]
  · have hx : x = ix2 (n0 := 512) (n1 := 128) r ⟨(x 1).val, x1_lt⟩ := by
      funext a; match a with | ⟨0, _⟩ => exact Fin.ext h0.symm | ⟨1, _⟩ => rfl
    rw [hx, pair1, pair_at x0 x1 x2 x3 x4 x5 x6 x7 x8 x9 x10 x11 128 (by omega) (by omega) r c ⟨(x 1).val, x1_lt⟩ (by have h : c.val = _ := h1; omega)]
  · have hx : x = ix2 (n0 := 512) (n1 := 128) r ⟨(x 1).val, x1_lt⟩ := by
      funext a; match a with | ⟨0, _⟩ => exact Fin.ext h0.symm | ⟨1, _⟩ => rfl
    rw [hx, pair0, pair_at x0 x1 x2 x3 x4 x5 x6 x7 x8 x9 x10 x11 0 (by omega) (by omega) r c ⟨(x 1).val, x1_lt⟩ (by have h : c.val = _ := h1; show c.val = 0 + (x 1).val; omega)]

end Block

end Cert.Kernel4Ideal.RefValue
-- ==== Proof.FrontTurn.lean ====
module

public import proofs.«01_k».proof.Proof.FrontKernel
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Kernel4Ideal.RefValue

open Cert.Kernel4Ideal Cert.Kernel4Ideal.Gen Cert.Layer

/-! # The turn within a head, from the kernel's tables -/

/-- With the matrix of heads, a lane is scaled by its own head's root mean square. -/
theorem lanes_eq (a : Fin 128 → EReal) (g : Fin 64 → EReal) (l : Fin 128) :
    lanes a (fun i j => if i.val / 64 = j.val / 64 then (1 : EReal) else 0) (fun l => g ⟨l.val % 64, by omega⟩) l
      = headUnit (fun i => a ⟨l.val / 64 * 64 + i.val, by omega⟩) g ⟨l.val % 64, by omega⟩ := by
  have hl : (⟨l.val / 64 * 64 + l.val % 64, by omega⟩ : Fin 128) = l := Fin.ext (by show l.val / 64 * 64 + l.val % 64 = l.val; omega)
  unfold lanes headUnit
  rw [div_sixty_four, sum_head (fun j => a j * a j) ⟨l.val / 64, by omega⟩]
  simp only [hl]

/-- The tables put together turn every lane within its own head, by the angle of position `512 b + r`. -/
theorem turned_eq (a : Fin 128 → EReal) (g : Fin 64 → EReal) (b r : ℕ) (l : Fin 128) :
    turned (lanes a (fun i j => if i.val / 64 = j.val / 64 then (1 : EReal) else 0) (fun l => g ⟨l.val % 64, by omega⟩))
      (fun l => Ideal.cos (((b : ℝ) : EReal) * Ideal.ofBits .f32 0x44000000#32 * freq (l.val % 32)) * Ideal.cos (((r : ℝ) : EReal) * freq (l.val % 32))
        - Ideal.sin (((b : ℝ) : EReal) * Ideal.ofBits .f32 0x44000000#32 * freq (l.val % 32)) * Ideal.sin (((r : ℝ) : EReal) * freq (l.val % 32)))
      (fun l => Ideal.sin (((b : ℝ) : EReal) * Ideal.ofBits .f32 0x44000000#32 * freq (l.val % 32))
          * (Ideal.cos (((r : ℝ) : EReal) * freq (l.val % 32)) * (if l.val % 64 < 32 then Ideal.ofBits .f32 0xBF800000#32 else 0))
        + Ideal.cos (((b : ℝ) : EReal) * Ideal.ofBits .f32 0x44000000#32 * freq (l.val % 32))
          * (Ideal.sin (((r : ℝ) : EReal) * freq (l.val % 32)) * (if l.val % 64 < 32 then Ideal.ofBits .f32 0xBF800000#32 else 0)))
      (fun l => Ideal.sin (((b : ℝ) : EReal) * Ideal.ofBits .f32 0x44000000#32 * freq (l.val % 32))
          * (Ideal.cos (((r : ℝ) : EReal) * freq (l.val % 32)) * (if l.val % 64 < 32 then 0 else 1))
        + Ideal.cos (((b : ℝ) : EReal) * Ideal.ofBits .f32 0x44000000#32 * freq (l.val % 32))
          * (Ideal.sin (((r : ℝ) : EReal) * freq (l.val % 32)) * (if l.val % 64 < 32 then 0 else 1))) l
      = turn (headUnit (fun i => a ⟨l.val / 64 * 64 + i.val, by omega⟩) g) (512 * b + r) ⟨l.val % 64, by omega⟩ := by
  obtain ⟨A, B, hA, hB, hC⟩ := angle_split b r (l.val % 32)
  unfold turned turn
  simp only [lanes_eq, hA, hB]
  by_cases h : l.val % 64 < 32
  · have e0 : l.val % 64 = l.val % 32 := by omega
    have e1 : (l.val + 128 - 96) % 128 / 64 = l.val / 64 := by omega
    have e2 : (l.val + 128 - 96) % 128 % 64 = l.val % 64 + 32 := by omega
    rw [dif_pos h, if_pos h, if_pos h, turn_low _ _ _ 0]
    simp only [e1, e2]
    have hD : (((512 * b + r : ℕ) : ℝ) : EReal) * freq (l.val % 64) = ((A + B : ℝ) : EReal) := by rw [e0]; exact hC
    rw [hD]
  · have e0 : l.val % 64 - 32 = l.val % 32 := by omega
    have e1 : (l.val + 128 - 32) % 128 / 64 = l.val / 64 := by omega
    have e2 : (l.val + 128 - 32) % 128 % 64 = l.val % 64 - 32 := by omega
    rw [dif_neg h, if_neg h, if_neg h, turn_high _ _ _ 0]
    simp only [e1, e2]
    have hD : (((512 * b + r : ℕ) : ℝ) : EReal) * freq (l.val % 64 - 32) = ((A + B : ℝ) : EReal) := by rw [e0]; exact hC
    rw [hD]

end Cert.Kernel4Ideal.RefValue
-- ==== Proof.FrontTables.lean ====
module

public import proofs.«01_k».proof.Proof.FrontKernel
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Kernel4Ideal.RefValue

open Cert.Kernel4Ideal Cert.Kernel4Ideal.Gen Cert.Layer

/-! # The front call: what the lines before it leave in the arrays it reads -/

variable (m : (ℓ : Loc nD τ sig) → Buf (Elt Ideal) ℓ) (c : Dev nD)

/-- A small number's word, as the number. -/
theorem word_real (n : ℕ) (h : n < 2147483648) : (FloatOps.sitofp .f32 (BitVec.ofNat 32 n) : Ideal .f32) = (((n : ℝ)) : EReal) := by
  show (((BitVec.ofNat 32 n).toInt : ℝ) : EReal) = _
  have e : (BitVec.ofNat 32 n).toNat = n := by rw [BitVec.toNat_ofNat]; omega
  rw [BitVec.toInt_eq_toNat_of_lt (by rw [e]; omega), e]
  norm_num

/-- The rows: the argument, its two sequences one after the other. -/
theorem rows_apply (n : Fin 16384) (k : Fin 1024) : V m c main_v87 (ix2 n k) = m ((c : Thread nD τ).loc main_arg0) (ix3 ⟨n.val / 8192, by omega⟩ ⟨n.val % 8192, by omega⟩ k) := by
  simp only [V, V0, hostOps0, hostOps0_1, hostOps0_2, hostOps0_3, hostOps0_4, List.flatten_cons, List.flatten_nil, List.append_nil, List.cons_append, List.nil_append]
  after_reads_at

/-- The first norm's gain. -/
theorem gain1_apply (k : Fin 1024) : V m c main_v1 (ix2 0 k) = m ((c : Thread nD τ).loc main_arg1) (ix2 0 k) := by
  simp only [V, V0, hostOps0, hostOps0_1, hostOps0_2, hostOps0_3, hostOps0_4, List.flatten_cons, List.flatten_nil, List.append_nil, List.cons_append, List.nil_append]
  after_reads_at

/-- The gate weights. -/
theorem w1_apply (k : Fin 1024) (f : Fin 2816) : V m c main_v3 (ix2 k f) = m ((c : Thread nD τ).loc main_arg2) (ix3 0 k f) := by
  simp only [V, V0, hostOps0, hostOps0_1, hostOps0_2, hostOps0_3, hostOps0_4, List.flatten_cons, List.flatten_nil, List.append_nil, List.cons_append, List.nil_append]
  after_reads_at

/-- The linear weights. -/
theorem w3_apply (k : Fin 1024) (f : Fin 2816) : V m c main_v5 (ix2 k f) = m ((c : Thread nD τ).loc main_arg3) (ix3 0 k f) := by
  simp only [V, V0, hostOps0, hostOps0_1, hostOps0_2, hostOps0_3, hostOps0_4, List.flatten_cons, List.flatten_nil, List.append_nil, List.cons_append, List.nil_append]
  after_reads_at

/-- The output weights. -/
theorem w2_apply (f : Fin 2816) (k : Fin 1024) : V m c main_v7 (ix2 f k) = m ((c : Thread nD τ).loc main_arg4) (ix3 0 f k) := by
  simp only [V, V0, hostOps0, hostOps0_1, hostOps0_2, hostOps0_3, hostOps0_4, List.flatten_cons, List.flatten_nil, List.append_nil, List.cons_append, List.nil_append]
  after_reads_at

/-- The second norm's gain. -/
theorem gain2_apply (k : Fin 1024) : V m c main_v9 (ix2 0 k) = m ((c : Thread nD τ).loc main_arg5) (ix2 0 k) := by
  simp only [V, V0, hostOps0, hostOps0_1, hostOps0_2, hostOps0_3, hostOps0_4, List.flatten_cons, List.flatten_nil, List.append_nil, List.cons_append, List.nil_append]
  after_reads_at

/-- The projections' weights. -/
theorem win_apply (k : Fin 1024) (f : Fin 3328) : V m c main_v11 (ix2 k f) = m ((c : Thread nD τ).loc main_arg6) (ix3 0 k f) := by
  simp only [V, V0, hostOps0, hostOps0_1, hostOps0_2, hostOps0_3, hostOps0_4, List.flatten_cons, List.flatten_nil, List.append_nil, List.cons_append, List.nil_append]
  after_reads_at

/-- The query gain, once for each head of a pair. -/
theorem qgain_apply (l : Fin 128) : V m c main_v16 (ix2 0 l) = m ((c : Thread nD τ).loc main_arg7) (ix2 0 ⟨l.val % 64, by omega⟩) := by
  simp only [V, V0, hostOps0, hostOps0_1, hostOps0_2, hostOps0_3, hostOps0_4, List.flatten_cons, List.flatten_nil, List.append_nil, List.cons_append, List.nil_append]
  after_reads_at

/-- The key gain, once for each head of a pair. -/
theorem kgain_apply (l : Fin 128) : V m c main_v21 (ix2 0 l) = m ((c : Thread nD τ).loc main_arg8) (ix2 0 ⟨l.val % 64, by omega⟩) := by
  simp only [V, V0, hostOps0, hostOps0_1, hostOps0_2, hostOps0_3, hostOps0_4, List.flatten_cons, List.flatten_nil, List.append_nil, List.cons_append, List.nil_append]
  after_reads_at

/-- The base angles' cosines. -/
theorem base_cos (t : Fin 32) (l : Fin 128) : V m c main_v59 (ix3 t 0 l) = Ideal.cos (((((t.val % 16 : ℕ) : ℝ)) : EReal) * Ideal.ofBits .f32 0x44000000#32 * freq (l.val % 32)) := by
  simp only [V, V0, hostOps0, hostOps0_1, hostOps0_2, hostOps0_3, hostOps0_4, List.flatten_cons, List.flatten_nil, List.append_nil, List.cons_append, List.nil_append]
  after_reads_at
  rw [word_real (t.val % 16) (by omega), word_real (l.val % 32) (by omega)]
  rfl

/-- The base angles' sines. -/
theorem base_sin (t : Fin 32) (l : Fin 128) : V m c main_v59 (ix3 t 1 l) = Ideal.sin (((((t.val % 16 : ℕ) : ℝ)) : EReal) * Ideal.ofBits .f32 0x44000000#32 * freq (l.val % 32)) := by
  simp only [V, V0, hostOps0, hostOps0_1, hostOps0_2, hostOps0_3, hostOps0_4, List.flatten_cons, List.flatten_nil, List.append_nil, List.cons_append, List.nil_append]
  after_reads_at
  rw [word_real (t.val % 16) (by omega), word_real (l.val % 32) (by omega)]
  rfl

end Cert.Kernel4Ideal.RefValue
-- ==== Proof.FrontOffsets.lean ====
module

public import proofs.«01_k».proof.Proof.FrontTables
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Kernel4Ideal.RefValue

open Cert.Kernel4Ideal Cert.Kernel4Ideal.Gen Cert.Layer

/-! # The front call: the table of offset angles -/

variable (m : (ℓ : Loc nD τ sig) → Buf (Elt Ideal) ℓ) (c : Dev nD)

/-- A lane lies in the first half of its head when its place there is below 32. -/
theorem lane_half : ∀ l : Fin 128, IntOp.cmpi CmpIPredicate.slt (IntOp.remsi ArithUnit.host (BitVec.ofNat 32 l.val) 64#32) 32#32
    = if l.val % 64 < 32 then 1#1 else 0#1 := by decide +kernel

/-- The offset angles' cosines. -/
theorem off_cos (r : Fin 512) (l : Fin 128) : V m c main_v86 (ix3 0 r l) = Ideal.cos ((((r.val : ℝ)) : EReal) * freq (l.val % 32)) := by
  simp only [V, V0, hostOps0, hostOps0_1, hostOps0_2, hostOps0_3, hostOps0_4, List.flatten_cons, List.flatten_nil, List.append_nil, List.cons_append, List.nil_append]
  after_reads_at
  rw [StableHlo.unary_result']
  after_reads_at
  rw [word_real r.val (by omega), word_real (l.val % 32) (by omega)]
  rfl

/-- The offset angles' sines. -/
theorem off_sin (r : Fin 512) (l : Fin 128) : V m c main_v86 (ix3 1 r l) = Ideal.sin ((((r.val : ℝ)) : EReal) * freq (l.val % 32)) := by
  simp only [V, V0, hostOps0, hostOps0_1, hostOps0_2, hostOps0_3, hostOps0_4, List.flatten_cons, List.flatten_nil, List.append_nil, List.cons_append, List.nil_append]
  after_reads_at
  rw [StableHlo.unary_result']
  after_reads_at
  rw [word_real r.val (by omega), word_real (l.val % 32) (by omega)]
  rfl

/-- The offset angles' negated cosines, in a head's first half only. -/
theorem low_cos (r : Fin 512) (l : Fin 128) : V m c main_v86 (ix3 2 r l) = Ideal.cos ((((r.val : ℝ)) : EReal) * freq (l.val % 32)) * (if l.val % 64 < 32 then Ideal.ofBits .f32 0xBF800000#32 else 0) := by
  simp only [V, V0, hostOps0, hostOps0_1, hostOps0_2, hostOps0_3, hostOps0_4, List.flatten_cons, List.flatten_nil, List.append_nil, List.cons_append, List.nil_append]
  after_reads_at
  rw [StableHlo.unary_result']
  after_reads_at
  simp only [id]
  pointwise
  rw [lane_half]
  rw [word_real r.val (by omega), word_real (l.val % 32) (by omega)]
  show _ = Ideal.cos ((((r.val : ℝ)) : EReal) * freq (l.val % 32)) * _
  unfold freq Scalar.select
  split <;> simp

/-- The offset angles' negated sines, in a head's first half only. -/
theorem low_sin (r : Fin 512) (l : Fin 128) : V m c main_v86 (ix3 3 r l) = Ideal.sin ((((r.val : ℝ)) : EReal) * freq (l.val % 32)) * (if l.val % 64 < 32 then Ideal.ofBits .f32 0xBF800000#32 else 0) := by
  simp only [V, V0, hostOps0, hostOps0_1, hostOps0_2, hostOps0_3, hostOps0_4, List.flatten_cons, List.flatten_nil, List.append_nil, List.cons_append, List.nil_append]
  after_reads_at
  rw [StableHlo.unary_result']
  after_reads_at
  simp only [id]
  pointwise
  rw [lane_half]
  rw [word_real r.val (by omega), word_real (l.val % 32) (by omega)]
  show _ = Ideal.sin ((((r.val : ℝ)) : EReal) * freq (l.val % 32)) * _
  unfold freq Scalar.select
  split <;> simp

/-- The offset angles' cosines, in a head's second half only. -/
theorem high_cos (r : Fin 512) (l : Fin 128) : V m c main_v86 (ix3 4 r l) = Ideal.cos ((((r.val : ℝ)) : EReal) * freq (l.val % 32)) * (if l.val % 64 < 32 then 0 else 1) := by
  simp only [V, V0, hostOps0, hostOps0_1, hostOps0_2, hostOps0_3, hostOps0_4, List.flatten_cons, List.flatten_nil, List.append_nil, List.cons_append, List.nil_append]
  after_reads_at
  rw [StableHlo.unary_result']
  after_reads_at
  simp only [id]
  pointwise
  rw [lane_half]
  rw [word_real r.val (by omega), word_real (l.val % 32) (by omega)]
  show _ = Ideal.cos ((((r.val : ℝ)) : EReal) * freq (l.val % 32)) * _
  unfold freq Scalar.select
  split <;> simp

/-- The offset angles' sines, in a head's second half only. -/
theorem high_sin (r : Fin 512) (l : Fin 128) : V m c main_v86 (ix3 5 r l) = Ideal.sin ((((r.val : ℝ)) : EReal) * freq (l.val % 32)) * (if l.val % 64 < 32 then 0 else 1) := by
  simp only [V, V0, hostOps0, hostOps0_1, hostOps0_2, hostOps0_3, hostOps0_4, List.flatten_cons, List.flatten_nil, List.append_nil, List.cons_append, List.nil_append]
  after_reads_at
  rw [StableHlo.unary_result']
  after_reads_at
  simp only [id]
  pointwise
  rw [lane_half]
  rw [word_real r.val (by omega), word_real (l.val % 32) (by omega)]
  show _ = Ideal.sin ((((r.val : ℝ)) : EReal) * freq (l.val % 32)) * _
  unfold freq Scalar.select
  split <;> simp

end Cert.Kernel4Ideal.RefValue
-- ==== Proof.FrontOnes.lean ====
module

public import proofs.«01_k».proof.Proof.FrontKernel
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Kernel4Ideal.RefValue

open Cert.Kernel4Ideal Cert.Kernel4Ideal.Gen Cert.Layer

/-! # The front call: the matrix that sums each lane's own head -/

variable (m : (ℓ : Loc nD τ sig) → Buf (Elt Ideal) ℓ) (c : Dev nD)

/-- The written constant is one within a head and zero across heads. -/
theorem same_head : ∀ i j : Fin 128, lit0 (S128x128.rowMajor (ix2 i j)) = if i.val / 64 = j.val / 64 then 0x3F800000#32 else 0x00000000#32 := by
  decide +kernel

/-- The matrix that sums each lane's own head. -/
theorem ones_apply (i j : Fin 128) : V m c main_v22 (ix2 i j) = (if i.val / 64 = j.val / 64 then 1 else 0 : EReal) := by
  simp only [V, V0, hostOps0, hostOps0_1, hostOps0_2, hostOps0_3, hostOps0_4, List.flatten_cons, List.flatten_nil, List.append_nil, List.cons_append, List.nil_append]
  after_reads_at
  rw [same_head]
  split
  · exact Ideal.ofBits_one_f32
  · exact Ideal.ofBits_zero_f32

end Cert.Kernel4Ideal.RefValue
-- ==== Proof.FrontRun.lean ====
module

public import proofs.«01_k».proof.Proof.FrontTurn
public import proofs.«01_k».proof.Proof.FrontOffsets
public import proofs.«01_k».proof.Proof.FrontOnes
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Kernel4Ideal.RefValue

open Cert.Kernel4Ideal Cert.Kernel4Ideal.Gen Cert.Layer

/-! # The front call: the whole result arrays, and the run -/

variable (m : (ℓ : Loc nD τ sig) → Buf (Elt Ideal) ℓ) (c : Dev nD)

/-- Where window 0's block starts, in blocks. -/
theorem start0 : ∀ t : Fin cfg0.N, win0_0.index t (0 : Fin 2) = t.val ∧ win0_0.index t (1 : Fin 2) = 0 :=
  (by decide +kernel : ∀ t : Fin grid0.N, _)

/-- Where window 1's block starts, in blocks. -/
theorem start1 : ∀ t : Fin cfg0.N, win0_1.index t (0 : Fin 3) = t.val ∧ win0_1.index t (1 : Fin 3) = 0 ∧ win0_1.index t (2 : Fin 3) = 0 :=
  (by decide +kernel : ∀ t : Fin grid0.N, _)

/-- Where window 2's block starts, in blocks. -/
theorem start2 : ∀ t : Fin cfg0.N, win0_2.index t (0 : Fin 3) = 0 ∧ win0_2.index t (1 : Fin 3) = 0 ∧ win0_2.index t (2 : Fin 3) = 0 :=
  (by decide +kernel : ∀ t : Fin grid0.N, _)

/-- Where window 3's block starts, in blocks. -/
theorem start3 : ∀ t : Fin cfg0.N, win0_3.index t (0 : Fin 2) = 0 ∧ win0_3.index t (1 : Fin 2) = 0 :=
  (by decide +kernel : ∀ t : Fin grid0.N, _)

/-- Where window 4's block starts, in blocks. -/
theorem start4 : ∀ t : Fin cfg0.N, win0_4.index t (0 : Fin 2) = 0 ∧ win0_4.index t (1 : Fin 2) = 0 :=
  (by decide +kernel : ∀ t : Fin grid0.N, _)

/-- Where window 5's block starts, in blocks. -/
theorem start5 : ∀ t : Fin cfg0.N, win0_5.index t (0 : Fin 2) = 0 ∧ win0_5.index t (1 : Fin 2) = 0 :=
  (by decide +kernel : ∀ t : Fin grid0.N, _)

/-- Where window 6's block starts, in blocks. -/
theorem start6 : ∀ t : Fin cfg0.N, win0_6.index t (0 : Fin 2) = 0 ∧ win0_6.index t (1 : Fin 2) = 0 :=
  (by decide +kernel : ∀ t : Fin grid0.N, _)

/-- Where window 7's block starts, in blocks. -/
theorem start7 : ∀ t : Fin cfg0.N, win0_7.index t (0 : Fin 2) = 0 ∧ win0_7.index t (1 : Fin 2) = 0 :=
  (by decide +kernel : ∀ t : Fin grid0.N, _)

/-- Where window 8's block starts, in blocks. -/
theorem start8 : ∀ t : Fin cfg0.N, win0_8.index t (0 : Fin 2) = 0 ∧ win0_8.index t (1 : Fin 2) = 0 :=
  (by decide +kernel : ∀ t : Fin grid0.N, _)

/-- Where window 9's block starts, in blocks. -/
theorem start9 : ∀ t : Fin cfg0.N, win0_9.index t (0 : Fin 2) = 0 ∧ win0_9.index t (1 : Fin 2) = 0 :=
  (by decide +kernel : ∀ t : Fin grid0.N, _)

/-- Where window 10's block starts, in blocks. -/
theorem start10 : ∀ t : Fin cfg0.N, win0_10.index t (0 : Fin 2) = 0 ∧ win0_10.index t (1 : Fin 2) = 0 :=
  (by decide +kernel : ∀ t : Fin grid0.N, _)

/-- Where window 11's block starts, in blocks. -/
theorem start11 : ∀ t : Fin cfg0.N, win0_11.index t (0 : Fin 2) = 0 ∧ win0_11.index t (1 : Fin 2) = 0 :=
  (by decide +kernel : ∀ t : Fin grid0.N, _)

/-- Where window 12's block starts, in blocks. -/
theorem start12 : ∀ t : Fin cfg0.N, win0_12.index t (0 : Fin 2) = t.val ∧ win0_12.index t (1 : Fin 2) = 0 :=
  (by decide +kernel : ∀ t : Fin grid0.N, _)

/-- Where window 13's block starts, in blocks. -/
theorem start13 : ∀ t : Fin cfg0.N, win0_13.index t (0 : Fin 2) = t.val ∧ win0_13.index t (1 : Fin 2) = 0 :=
  (by decide +kernel : ∀ t : Fin grid0.N, _)

/-- Where window 14's block starts, in blocks. -/
theorem start14 : ∀ t : Fin cfg0.N, win0_14.index t (0 : Fin 2) = t.val ∧ win0_14.index t (1 : Fin 2) = 0 :=
  (by decide +kernel : ∀ t : Fin grid0.N, _)

/-- Where window 15's block starts, in blocks. -/
theorem start15 : ∀ t : Fin cfg0.N, win0_15.index t (0 : Fin 2) = t.val ∧ win0_15.index t (1 : Fin 2) = 0 :=
  (by decide +kernel : ∀ t : Fin grid0.N, _)

/-- Where window 16's block starts, in blocks. -/
theorem start16 : ∀ t : Fin cfg0.N, win0_16.index t (0 : Fin 2) = t.val ∧ win0_16.index t (1 : Fin 2) = 0 :=
  (by decide +kernel : ∀ t : Fin grid0.N, _)

/-- Where window 17's block starts, in blocks. -/
theorem start17 : ∀ t : Fin cfg0.N, win0_17.index t (0 : Fin 2) = t.val ∧ win0_17.index t (1 : Fin 2) = 0 :=
  (by decide +kernel : ∀ t : Fin grid0.N, _)

/-- Where window 18's block starts, in blocks. -/
theorem start18 : ∀ t : Fin cfg0.N, win0_18.index t (0 : Fin 2) = t.val ∧ win0_18.index t (1 : Fin 2) = 0 :=
  (by decide +kernel : ∀ t : Fin grid0.N, _)

/-- Row `r` of block `t` is row `512 t + r` of the array. -/
def row (t : Fin cfg0.N) (r : Fin 512) : Fin 16384 := ⟨t.val * 512 + r.val, by have h := t.isLt; have e : cfg0.N = 32 := N_0; have := r.isLt; omega⟩

/-- A grid point as one of 32. -/
def tile (t : Fin cfg0.N) : Fin 32 := ⟨t.val, by have h := t.isLt; have e : cfg0.N = 32 := N_0; omega⟩

/-- A block of rows. -/
theorem rows_read (t : Fin cfg0.N) (r : Fin 512) (k : Fin 1024) :
    iblk m c 0 t (ix2 r k) = m ((c : Thread nD τ).loc main_arg0) (ix3 ⟨(row t r).val / 8192, by omega⟩ ⟨(row t r).val % 8192, by omega⟩ k) := by
  obtain ⟨e0, e1⟩ := start0 t
  rw [← rows_apply m c]
  show V m c main_v87 (((cfg0.win 0).blk t).view.emb (ix2 r k)) = _
  congr 1
  funext a; apply Fin.ext
  match a with
  | ⟨0, _⟩ => show win0_0.index t (0 : Fin 2) * 512 + 1 * r.val = t.val * 512 + r.val; omega
  | ⟨1, _⟩ => show win0_0.index t (1 : Fin 2) * 1024 + 1 * k.val = k.val; omega

/-- A point's base angles, one table. -/
theorem base_cos_read (t : Fin cfg0.N) (l : Fin 128) :
    iblk m c 1 t (ix3 0 0 l) = Ideal.cos ((((((tile t).val % 16 : ℕ) : ℝ)) : EReal) * Ideal.ofBits .f32 0x44000000#32 * freq (l.val % 32)) := by
  obtain ⟨e0, e1, e2⟩ := start1 t
  rw [← base_cos m c]
  show V m c main_v59 (((cfg0.win 1).blk t).view.emb (ix3 0 0 l)) = _
  congr 1
  funext a; apply Fin.ext
  match a with
  | ⟨0, _⟩ => show win0_1.index t (0 : Fin 3) * 1 + 1 * 0 = t.val; omega
  | ⟨1, _⟩ => show win0_1.index t (1 : Fin 3) * 2 + 1 * 0 = 0; omega
  | ⟨2, _⟩ => show win0_1.index t (2 : Fin 3) * 128 + 1 * l.val = l.val; omega

/-- A point's base angles, one table. -/
theorem base_sin_read (t : Fin cfg0.N) (l : Fin 128) :
    iblk m c 1 t (ix3 0 1 l) = Ideal.sin ((((((tile t).val % 16 : ℕ) : ℝ)) : EReal) * Ideal.ofBits .f32 0x44000000#32 * freq (l.val % 32)) := by
  obtain ⟨e0, e1, e2⟩ := start1 t
  rw [← base_sin m c]
  show V m c main_v59 (((cfg0.win 1).blk t).view.emb (ix3 0 1 l)) = _
  congr 1
  funext a; apply Fin.ext
  match a with
  | ⟨0, _⟩ => show win0_1.index t (0 : Fin 3) * 1 + 1 * 0 = t.val; omega
  | ⟨1, _⟩ => show win0_1.index t (1 : Fin 3) * 2 + 1 * 1 = 1; omega
  | ⟨2, _⟩ => show win0_1.index t (2 : Fin 3) * 128 + 1 * l.val = l.val; omega

/-- One table of the offset angles. -/
theorem off_cos_read (t : Fin cfg0.N) (r : Fin 512) (l : Fin 128) :
    iblk m c 2 t (ix3 0 r l) = Ideal.cos ((((r.val : ℝ)) : EReal) * freq (l.val % 32)) := by
  obtain ⟨e0, e1, e2⟩ := start2 t
  rw [← off_cos m c]
  show V m c main_v86 (((cfg0.win 2).blk t).view.emb (ix3 0 r l)) = _
  congr 1
  funext a; apply Fin.ext
  match a with
  | ⟨0, _⟩ => show win0_2.index t (0 : Fin 3) * 6 + 1 * 0 = 0; omega
  | ⟨1, _⟩ => show win0_2.index t (1 : Fin 3) * 512 + 1 * r.val = r.val; omega
  | ⟨2, _⟩ => show win0_2.index t (2 : Fin 3) * 128 + 1 * l.val = l.val; omega

/-- One table of the offset angles. -/
theorem off_sin_read (t : Fin cfg0.N) (r : Fin 512) (l : Fin 128) :
    iblk m c 2 t (ix3 1 r l) = Ideal.sin ((((r.val : ℝ)) : EReal) * freq (l.val % 32)) := by
  obtain ⟨e0, e1, e2⟩ := start2 t
  rw [← off_sin m c]
  show V m c main_v86 (((cfg0.win 2).blk t).view.emb (ix3 1 r l)) = _
  congr 1
  funext a; apply Fin.ext
  match a with
  | ⟨0, _⟩ => show win0_2.index t (0 : Fin 3) * 6 + 1 * 1 = 1; omega
  | ⟨1, _⟩ => show win0_2.index t (1 : Fin 3) * 512 + 1 * r.val = r.val; omega
  | ⟨2, _⟩ => show win0_2.index t (2 : Fin 3) * 128 + 1 * l.val = l.val; omega

/-- One table of the offset angles. -/
theorem low_cos_read (t : Fin cfg0.N) (r : Fin 512) (l : Fin 128) :
    iblk m c 2 t (ix3 2 r l) = Ideal.cos ((((r.val : ℝ)) : EReal) * freq (l.val % 32)) * (if l.val % 64 < 32 then Ideal.ofBits .f32 0xBF800000#32 else 0) := by
  obtain ⟨e0, e1, e2⟩ := start2 t
  rw [← low_cos m c]
  show V m c main_v86 (((cfg0.win 2).blk t).view.emb (ix3 2 r l)) = _
  congr 1
  funext a; apply Fin.ext
  match a with
  | ⟨0, _⟩ => show win0_2.index t (0 : Fin 3) * 6 + 1 * 2 = 2; omega
  | ⟨1, _⟩ => show win0_2.index t (1 : Fin 3) * 512 + 1 * r.val = r.val; omega
  | ⟨2, _⟩ => show win0_2.index t (2 : Fin 3) * 128 + 1 * l.val = l.val; omega

/-- One table of the offset angles. -/
theorem low_sin_read (t : Fin cfg0.N) (r : Fin 512) (l : Fin 128) :
    iblk m c 2 t (ix3 3 r l) = Ideal.sin ((((r.val : ℝ)) : EReal) * freq (l.val % 32)) * (if l.val % 64 < 32 then Ideal.ofBits .f32 0xBF800000#32 else 0) := by
  obtain ⟨e0, e1, e2⟩ := start2 t
  rw [← low_sin m c]
  show V m c main_v86 (((cfg0.win 2).blk t).view.emb (ix3 3 r l)) = _
  congr 1
  funext a; apply Fin.ext
  match a with
  | ⟨0, _⟩ => show win0_2.index t (0 : Fin 3) * 6 + 1 * 3 = 3; omega
  | ⟨1, _⟩ => show win0_2.index t (1 : Fin 3) * 512 + 1 * r.val = r.val; omega
  | ⟨2, _⟩ => show win0_2.index t (2 : Fin 3) * 128 + 1 * l.val = l.val; omega

/-- One table of the offset angles. -/
theorem high_cos_read (t : Fin cfg0.N) (r : Fin 512) (l : Fin 128) :
    iblk m c 2 t (ix3 4 r l) = Ideal.cos ((((r.val : ℝ)) : EReal) * freq (l.val % 32)) * (if l.val % 64 < 32 then 0 else 1) := by
  obtain ⟨e0, e1, e2⟩ := start2 t
  rw [← high_cos m c]
  show V m c main_v86 (((cfg0.win 2).blk t).view.emb (ix3 4 r l)) = _
  congr 1
  funext a; apply Fin.ext
  match a with
  | ⟨0, _⟩ => show win0_2.index t (0 : Fin 3) * 6 + 1 * 4 = 4; omega
  | ⟨1, _⟩ => show win0_2.index t (1 : Fin 3) * 512 + 1 * r.val = r.val; omega
  | ⟨2, _⟩ => show win0_2.index t (2 : Fin 3) * 128 + 1 * l.val = l.val; omega

/-- One table of the offset angles. -/
theorem high_sin_read (t : Fin cfg0.N) (r : Fin 512) (l : Fin 128) :
    iblk m c 2 t (ix3 5 r l) = Ideal.sin ((((r.val : ℝ)) : EReal) * freq (l.val % 32)) * (if l.val % 64 < 32 then 0 else 1) := by
  obtain ⟨e0, e1, e2⟩ := start2 t
  rw [← high_sin m c]
  show V m c main_v86 (((cfg0.win 2).blk t).view.emb (ix3 5 r l)) = _
  congr 1
  funext a; apply Fin.ext
  match a with
  | ⟨0, _⟩ => show win0_2.index t (0 : Fin 3) * 6 + 1 * 5 = 5; omega
  | ⟨1, _⟩ => show win0_2.index t (1 : Fin 3) * 512 + 1 * r.val = r.val; omega
  | ⟨2, _⟩ => show win0_2.index t (2 : Fin 3) * 128 + 1 * l.val = l.val; omega

/-- The first gain. -/
theorem gain1_read (t : Fin cfg0.N) (k : Fin 1024) :
    iblk m c 3 t (ix2 0 k) = m ((c : Thread nD τ).loc main_arg1) (ix2 0 k) := by
  obtain ⟨e0, e1⟩ := start3 t
  rw [← gain1_apply m c]
  show V m c main_v1 (((cfg0.win 3).blk t).view.emb (ix2 0 k)) = _
  congr 1
  funext a; apply Fin.ext
  match a with
  | ⟨0, _⟩ => show win0_3.index t (0 : Fin 2) * 1 + 1 * 0 = 0; omega
  | ⟨1, _⟩ => show win0_3.index t (1 : Fin 2) * 1024 + 1 * k.val = k.val; omega

/-- The gate weights. -/
theorem w1_read (t : Fin cfg0.N) (k : Fin 1024) (f : Fin 2816) :
    iblk m c 4 t (ix2 k f) = m ((c : Thread nD τ).loc main_arg2) (ix3 0 k f) := by
  obtain ⟨e0, e1⟩ := start4 t
  rw [← w1_apply m c]
  show V m c main_v3 (((cfg0.win 4).blk t).view.emb (ix2 k f)) = _
  congr 1
  funext a; apply Fin.ext
  match a with
  | ⟨0, _⟩ => show win0_4.index t (0 : Fin 2) * 1024 + 1 * k.val = k.val; omega
  | ⟨1, _⟩ => show win0_4.index t (1 : Fin 2) * 2816 + 1 * f.val = f.val; omega

/-- The linear weights. -/
theorem w3_read (t : Fin cfg0.N) (k : Fin 1024) (f : Fin 2816) :
    iblk m c 5 t (ix2 k f) = m ((c : Thread nD τ).loc main_arg3) (ix3 0 k f) := by
  obtain ⟨e0, e1⟩ := start5 t
  rw [← w3_apply m c]
  show V m c main_v5 (((cfg0.win 5).blk t).view.emb (ix2 k f)) = _
  congr 1
  funext a; apply Fin.ext
  match a with
  | ⟨0, _⟩ => show win0_5.index t (0 : Fin 2) * 1024 + 1 * k.val = k.val; omega
  | ⟨1, _⟩ => show win0_5.index t (1 : Fin 2) * 2816 + 1 * f.val = f.val; omega

/-- The output weights. -/
theorem w2_read (t : Fin cfg0.N) (f : Fin 2816) (d : Fin 1024) :
    iblk m c 6 t (ix2 f d) = m ((c : Thread nD τ).loc main_arg4) (ix3 0 f d) := by
  obtain ⟨e0, e1⟩ := start6 t
  rw [← w2_apply m c]
  show V m c main_v7 (((cfg0.win 6).blk t).view.emb (ix2 f d)) = _
  congr 1
  funext a; apply Fin.ext
  match a with
  | ⟨0, _⟩ => show win0_6.index t (0 : Fin 2) * 2816 + 1 * f.val = f.val; omega
  | ⟨1, _⟩ => show win0_6.index t (1 : Fin 2) * 1024 + 1 * d.val = d.val; omega

/-- The second gain. -/
theorem gain2_read (t : Fin cfg0.N) (k : Fin 1024) :
    iblk m c 7 t (ix2 0 k) = m ((c : Thread nD τ).loc main_arg5) (ix2 0 k) := by
  obtain ⟨e0, e1⟩ := start7 t
  rw [← gain2_apply m c]
  show V m c main_v9 (((cfg0.win 7).blk t).view.emb (ix2 0 k)) = _
  congr 1
  funext a; apply Fin.ext
  match a with
  | ⟨0, _⟩ => show win0_7.index t (0 : Fin 2) * 1 + 1 * 0 = 0; omega
  | ⟨1, _⟩ => show win0_7.index t (1 : Fin 2) * 1024 + 1 * k.val = k.val; omega

/-- The projections' weights. -/
theorem win_read (t : Fin cfg0.N) (k : Fin 1024) (f : Fin 3328) :
    iblk m c 8 t (ix2 k f) = m ((c : Thread nD τ).loc main_arg6) (ix3 0 k f) := by
  obtain ⟨e0, e1⟩ := start8 t
  rw [← win_apply m c]
  show V m c main_v11 (((cfg0.win 8).blk t).view.emb (ix2 k f)) = _
  congr 1
  funext a; apply Fin.ext
  match a with
  | ⟨0, _⟩ => show win0_8.index t (0 : Fin 2) * 1024 + 1 * k.val = k.val; omega
  | ⟨1, _⟩ => show win0_8.index t (1 : Fin 2) * 3328 + 1 * f.val = f.val; omega

/-- The query gain. -/
theorem qgain_read (t : Fin cfg0.N) (l : Fin 128) :
    iblk m c 9 t (ix2 0 l) = m ((c : Thread nD τ).loc main_arg7) (ix2 0 ⟨l.val % 64, by omega⟩) := by
  obtain ⟨e0, e1⟩ := start9 t
  rw [← qgain_apply m c]
  show V m c main_v16 (((cfg0.win 9).blk t).view.emb (ix2 0 l)) = _
  congr 1
  funext a; apply Fin.ext
  match a with
  | ⟨0, _⟩ => show win0_9.index t (0 : Fin 2) * 1 + 1 * 0 = 0; omega
  | ⟨1, _⟩ => show win0_9.index t (1 : Fin 2) * 128 + 1 * l.val = l.val; omega

/-- The key gain. -/
theorem kgain_read (t : Fin cfg0.N) (l : Fin 128) :
    iblk m c 10 t (ix2 0 l) = m ((c : Thread nD τ).loc main_arg8) (ix2 0 ⟨l.val % 64, by omega⟩) := by
  obtain ⟨e0, e1⟩ := start10 t
  rw [← kgain_apply m c]
  show V m c main_v21 (((cfg0.win 10).blk t).view.emb (ix2 0 l)) = _
  congr 1
  funext a; apply Fin.ext
  match a with
  | ⟨0, _⟩ => show win0_10.index t (0 : Fin 2) * 1 + 1 * 0 = 0; omega
  | ⟨1, _⟩ => show win0_10.index t (1 : Fin 2) * 128 + 1 * l.val = l.val; omega

/-- The matrix of heads. -/
theorem ones_read (t : Fin cfg0.N) (i j : Fin 128) :
    iblk m c 11 t (ix2 i j) = (if i.val / 64 = j.val / 64 then 1 else 0 : EReal) := by
  obtain ⟨e0, e1⟩ := start11 t
  rw [← ones_apply m c]
  show V m c main_v22 (((cfg0.win 11).blk t).view.emb (ix2 i j)) = _
  congr 1
  funext a; apply Fin.ext
  match a with
  | ⟨0, _⟩ => show win0_11.index t (0 : Fin 2) * 128 + 1 * i.val = i.val; omega
  | ⟨1, _⟩ => show win0_11.index t (1 : Fin 2) * 128 + 1 * j.val = j.val; omega

/-- Row `n` after the feed-forward half step, from the arguments. -/
def stepAt (n : Fin 16384) (d : Fin 1024) : EReal :=
  half (fun k => m ((c : Thread nD τ).loc main_arg0) (ix3 ⟨n.val / 8192, by omega⟩ ⟨n.val % 8192, by omega⟩ k)) (fun k => m ((c : Thread nD τ).loc main_arg1) (ix2 0 k))
    (fun k f => m ((c : Thread nD τ).loc main_arg2) (ix3 0 k f)) (fun k f => m ((c : Thread nD τ).loc main_arg3) (ix3 0 k f)) (fun f d => m ((c : Thread nD τ).loc main_arg4) (ix3 0 f d)) d

/-- Column `j` of row `n`'s projections, from the arguments. -/
def colAt (n : Fin 16384) (j : Fin 3328) : EReal :=
  proj (stepAt m c n) (fun k => m ((c : Thread nD τ).loc main_arg5) (ix2 0 k)) (fun k j => m ((c : Thread nD τ).loc main_arg6) (ix3 0 k j)) j

theorem step_read (t : Fin cfg0.N) (r : Fin 512) (d : Fin 1024) :
    step (iblk m c 0 t) (iblk m c 3 t) (iblk m c 4 t) (iblk m c 5 t) (iblk m c 6 t) r d = stepAt m c (row t r) d := by
  unfold step stepAt
  simp only [rows_read, gain1_read, w1_read, w3_read, w2_read]

theorem col_read (t : Fin cfg0.N) (r : Fin 512) (j : Fin 3328) :
    col (iblk m c 0 t) (iblk m c 3 t) (iblk m c 4 t) (iblk m c 5 t) (iblk m c 6 t) (iblk m c 7 t) (iblk m c 8 t) r j = colAt m c (row t r) j := by
  have hs : step (iblk m c 0 t) (iblk m c 3 t) (iblk m c 4 t) (iblk m c 5 t) (iblk m c 6 t) r = stepAt m c (row t r) := funext fun d => step_read m c t r d
  unfold col colAt
  rw [hs]
  simp only [gain2_read, win_read]

/-- The position that block `t`'s row `r` turns by. -/
theorem position (t : Fin cfg0.N) (r : Fin 512) : (row t r).val % 8192 = 512 * ((tile t).val % 16) + r.val := by
  show (t.val * 512 + r.val) % 8192 = 512 * (t.val % 16) + r.val
  omega

/-- Entry `(n, h * 64 + j)` of the turned heads that start at column `o`, with gain `g`. -/
def headAt (o : ℕ) (ho : o + 64 ≤ 3328) (g : Fin 64 → EReal) (n : Fin 16384) (j : Fin 64) : EReal :=
  turn (headUnit (fun i => colAt m c n ⟨o + i.val, by omega⟩) g) (n.val % 8192) j

theorem turned_read (o : ℕ) (ho : o + 128 ≤ 3328) (a g : Fin 128 → EReal) (g' : Fin 64 → EReal) (hg : ∀ l, g l = g' ⟨l.val % 64, by omega⟩)
    (t : Fin cfg0.N) (r : Fin 512) (ha : ∀ j : Fin 128, a j = colAt m c (row t r) ⟨o + j.val, by omega⟩) (l : Fin 128) :
    turned (lanes a (fun i j => iblk m c 11 t (ix2 i j)) g)
      (fun l => k0_pay46 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r l))
      (fun l => k0_pay47 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r l))
      (fun l => k0_pay48 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r l)) l
      = headAt m c (o + l.val / 64 * 64) (by omega) g' (row t r) ⟨l.val % 64, by omega⟩ := by
  obtain rfl : a = fun j => colAt m c (row t r) ⟨o + j.val, by omega⟩ := funext ha
  obtain rfl : g = fun l => g' ⟨l.val % 64, by omega⟩ := funext hg
  unfold headAt
  rw [position]
  simp only [cos_apply, low_apply, high_apply, base_cos_read, base_sin_read, off_cos_read, off_sin_read, low_cos_read, low_sin_read,
    high_cos_read, high_sin_read, ones_read]
  rw [turned_eq]
  simp only [Nat.add_assoc]

/-- The rows after the half step. -/
def x1Result : Buf (Elt Ideal) ((c : Thread nD τ).loc main_v88_0) := fun i : S16384x1024.Idx => stepAt m c (i 0) (i 1)

/-- What point `t` writes back through window 12 is block `t` of that array. -/
theorem x1_flushed (t : Fin cfg0.N) : (dats m 0 c).flushed 12 t = ((cfg0.win 12).blk t).view.read (Elt Ideal) (x1Result m c) := by
  obtain ⟨e0, e1⟩ := start12 t
  show (cfg0.win 12).cut (grid0.coords t) ((dats m 0 c).after 12 t) = _
  rw [after0_12]
  funext j
  have hj : j = ix2 (n0 := 512) (n1 := 1024) ⟨(j 0).val, (j 0).isLt⟩ ⟨(j 1).val, (j 1).isLt⟩ := by
    funext a; match a with | ⟨0, _⟩ => rfl | ⟨1, _⟩ => rfl
  rw [hj]
  generalize (⟨(j 0).val, (j 0).isLt⟩ : Fin 512) = r
  generalize (⟨(j 1).val, (j 1).isLt⟩ : Fin 1024) = d
  have he : ((cfg0.win 12).blk t).view.emb (ix2 r d) = ix2 (row t r) d := by
    funext a; apply Fin.ext
    match a with
    | ⟨0, _⟩ => show win0_12.index t (0 : Fin 2) * 512 + 1 * r.val = t.val * 512 + r.val; omega
    | ⟨1, _⟩ => show win0_12.index t (1 : Fin 2) * 1024 + 1 * d.val = d.val; omega
  show out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r d) = x1Result m c (((cfg0.win 12).blk t).view.emb (ix2 r d))
  rw [he, block12, step_read]
  rfl

/-- An index of that array lies in point `t`'s block when its row is one of the block's 512. -/
theorem x1_mem (t : Fin cfg0.N) (i : S16384x1024.Idx) :
    i ∈ ((cfg0.win 12).blk t).view.set ↔ t.val * 512 ≤ (i 0 : Nat) ∧ (i 0 : Nat) < t.val * 512 + 512 := by
  obtain ⟨e0, e1⟩ := start12 t
  show i ∈ ((View.whole main_v88_0).slice (win0_12.rect t)).set ↔ _
  rw [View.set_slice_whole, Rect.mem_set_unit]
  have h1 : (i 1 : Nat) < 1024 := (i 1).isLt
  refine ⟨fun h => ?_, fun h a => ?_⟩
  · have h0 : win0_12.index t (0 : Fin 2) * 512 ≤ (i 0 : Nat) ∧ (i 0 : Nat) < win0_12.index t (0 : Fin 2) * 512 + 512 := h 0
    rwa [e0] at h0
  · match a with
    | ⟨0, _⟩ => show win0_12.index t (0 : Fin 2) * 512 ≤ (i 0 : Nat) ∧ (i 0 : Nat) < win0_12.index t (0 : Fin 2) * 512 + 512
                rw [e0]; exact h
    | ⟨1, _⟩ => show win0_12.index t (1 : Fin 2) * 1024 ≤ (i 1 : Nat) ∧ (i 1 : Nat) < win0_12.index t (1 : Fin 2) * 1024 + 1024
                rw [e1, Nat.zero_mul, Nat.zero_add]; exact ⟨Nat.zero_le _, h1⟩

/-- Every index of that array lies in some point's block. -/
theorem x1_cover (i : S16384x1024.Idx) : ∃ t : Fin cfg0.N, (cfg0.win 12).flush t = true ∧ i ∈ ((cfg0.win 12).blk t).view.set := by
  have h0 : (i 0 : Nat) < 16384 := (i 0).isLt
  have hN : cfg0.N = 32 := N_0
  have ht : (i 0 : Nat) / 512 < cfg0.N := by rw [hN]; omega
  generalize hq : (i 0 : Nat) / 512 = q at ht
  refine ⟨⟨q, ht⟩, flush0_12 _, ?_⟩
  rw [x1_mem]
  dsimp only
  omega

/-- What the whole pipeline leaves in that array. -/
theorem x1_array : (dats m 0 c).arrAt 12 cfg0.N = x1Result m c :=
  (dats m 0 c).arrAt_eq_of_cover 12 (x1Result m c) (fun t _ => x1_flushed m c t) x1_cover

/-- The queries. -/
def qResult : Buf (Elt Ideal) ((c : Thread nD τ).loc main_v88_1) := fun i : S16384x512.Idx => headAt m c ((i 1).val / 64 * 64) (by have h : (i 1).val < 512 := (i 1).isLt; omega) (fun j => m ((c : Thread nD τ).loc main_arg7) (ix2 0 j)) (i 0) ⟨(i 1).val % 64, by omega⟩ * Ideal.ofBits .f32 0x3E000000#32

/-- What point `t` writes back through window 13 is block `t` of that array. -/
theorem q_flushed (t : Fin cfg0.N) : (dats m 0 c).flushed 13 t = ((cfg0.win 13).blk t).view.read (Elt Ideal) (qResult m c) := by
  obtain ⟨e0, e1⟩ := start13 t
  show (cfg0.win 13).cut (grid0.coords t) ((dats m 0 c).after 13 t) = _
  rw [after0_13]
  funext j
  have hj : j = ix2 (n0 := 512) (n1 := 512) ⟨(j 0).val, (j 0).isLt⟩ ⟨(j 1).val, (j 1).isLt⟩ := by
    funext a; match a with | ⟨0, _⟩ => rfl | ⟨1, _⟩ => rfl
  rw [hj]
  generalize (⟨(j 0).val, (j 0).isLt⟩ : Fin 512) = r
  generalize (⟨(j 1).val, (j 1).isLt⟩ : Fin 512) = d
  have he : ((cfg0.win 13).blk t).view.emb (ix2 r d) = ix2 (row t r) d := by
    funext a; apply Fin.ext
    match a with
    | ⟨0, _⟩ => show win0_13.index t (0 : Fin 2) * 512 + 1 * r.val = t.val * 512 + r.val; omega
    | ⟨1, _⟩ => show win0_13.index t (1 : Fin 2) * 512 + 1 * d.val = d.val; omega
  show out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r d) = qResult m c (((cfg0.win 13).blk t).view.emb (ix2 r d))
  rw [he, block13]
  unfold pair
  rw [turned_read m c (d.val / 128 * 128) (by omega) _ _ (fun j => m ((c : Thread nD τ).loc main_arg7) (ix2 0 j)) (fun l => qgain_read m c t l) t r (fun j => col_read m c t r _)]
  show headAt m c (d.val / 128 * 128 + d.val % 128 / 64 * 64) _ _ (row t r) ⟨d.val % 128 % 64, _⟩ * _ = headAt m c (d.val / 64 * 64) _ _ (row t r) ⟨d.val % 64, _⟩ * _
  have e1 : d.val / 128 * 128 + d.val % 128 / 64 * 64 = d.val / 64 * 64 := by omega
  have e2 : d.val % 128 % 64 = d.val % 64 := by omega
  simp only [e1, e2]

/-- An index of that array lies in point `t`'s block when its row is one of the block's 512. -/
theorem q_mem (t : Fin cfg0.N) (i : S16384x512.Idx) :
    i ∈ ((cfg0.win 13).blk t).view.set ↔ t.val * 512 ≤ (i 0 : Nat) ∧ (i 0 : Nat) < t.val * 512 + 512 := by
  obtain ⟨e0, e1⟩ := start13 t
  show i ∈ ((View.whole main_v88_1).slice (win0_13.rect t)).set ↔ _
  rw [View.set_slice_whole, Rect.mem_set_unit]
  have h1 : (i 1 : Nat) < 512 := (i 1).isLt
  refine ⟨fun h => ?_, fun h a => ?_⟩
  · have h0 : win0_13.index t (0 : Fin 2) * 512 ≤ (i 0 : Nat) ∧ (i 0 : Nat) < win0_13.index t (0 : Fin 2) * 512 + 512 := h 0
    rwa [e0] at h0
  · match a with
    | ⟨0, _⟩ => show win0_13.index t (0 : Fin 2) * 512 ≤ (i 0 : Nat) ∧ (i 0 : Nat) < win0_13.index t (0 : Fin 2) * 512 + 512
                rw [e0]; exact h
    | ⟨1, _⟩ => show win0_13.index t (1 : Fin 2) * 512 ≤ (i 1 : Nat) ∧ (i 1 : Nat) < win0_13.index t (1 : Fin 2) * 512 + 512
                rw [e1, Nat.zero_mul, Nat.zero_add]; exact ⟨Nat.zero_le _, h1⟩

/-- Every index of that array lies in some point's block. -/
theorem q_cover (i : S16384x512.Idx) : ∃ t : Fin cfg0.N, (cfg0.win 13).flush t = true ∧ i ∈ ((cfg0.win 13).blk t).view.set := by
  have h0 : (i 0 : Nat) < 16384 := (i 0).isLt
  have hN : cfg0.N = 32 := N_0
  have ht : (i 0 : Nat) / 512 < cfg0.N := by rw [hN]; omega
  generalize hq : (i 0 : Nat) / 512 = q at ht
  refine ⟨⟨q, ht⟩, flush0_13 _, ?_⟩
  rw [q_mem]
  dsimp only
  omega

/-- What the whole pipeline leaves in that array. -/
theorem q_array : (dats m 0 c).arrAt 13 cfg0.N = qResult m c :=
  (dats m 0 c).arrAt_eq_of_cover 13 (qResult m c) (fun t _ => q_flushed m c t) q_cover

/-- The keys. -/
def kResult : Buf (Elt Ideal) ((c : Thread nD τ).loc main_v88_2) := fun i : S16384x128.Idx => headAt m c (512 + (i 1).val / 64 * 64) (by have h : (i 1).val < 128 := (i 1).isLt; omega) (fun j => m ((c : Thread nD τ).loc main_arg8) (ix2 0 j)) (i 0) ⟨(i 1).val % 64, by omega⟩

/-- What point `t` writes back through window 14 is block `t` of that array. -/
theorem k_flushed (t : Fin cfg0.N) : (dats m 0 c).flushed 14 t = ((cfg0.win 14).blk t).view.read (Elt Ideal) (kResult m c) := by
  obtain ⟨e0, e1⟩ := start14 t
  show (cfg0.win 14).cut (grid0.coords t) ((dats m 0 c).after 14 t) = _
  rw [after0_14]
  funext j
  have hj : j = ix2 (n0 := 512) (n1 := 128) ⟨(j 0).val, (j 0).isLt⟩ ⟨(j 1).val, (j 1).isLt⟩ := by
    funext a; match a with | ⟨0, _⟩ => rfl | ⟨1, _⟩ => rfl
  rw [hj]
  generalize (⟨(j 0).val, (j 0).isLt⟩ : Fin 512) = r
  generalize (⟨(j 1).val, (j 1).isLt⟩ : Fin 128) = d
  have he : ((cfg0.win 14).blk t).view.emb (ix2 r d) = ix2 (row t r) d := by
    funext a; apply Fin.ext
    match a with
    | ⟨0, _⟩ => show win0_14.index t (0 : Fin 2) * 512 + 1 * r.val = t.val * 512 + r.val; omega
    | ⟨1, _⟩ => show win0_14.index t (1 : Fin 2) * 128 + 1 * d.val = d.val; omega
  show out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r d) = kResult m c (((cfg0.win 14).blk t).view.emb (ix2 r d))
  rw [he, block14]
  rw [turned_read m c 512 (by omega) _ _ (fun j => m ((c : Thread nD τ).loc main_arg8) (ix2 0 j)) (fun l => kgain_read m c t l) t r (fun j => col_read m c t r _)]
  rfl

/-- An index of that array lies in point `t`'s block when its row is one of the block's 512. -/
theorem k_mem (t : Fin cfg0.N) (i : S16384x128.Idx) :
    i ∈ ((cfg0.win 14).blk t).view.set ↔ t.val * 512 ≤ (i 0 : Nat) ∧ (i 0 : Nat) < t.val * 512 + 512 := by
  obtain ⟨e0, e1⟩ := start14 t
  show i ∈ ((View.whole main_v88_2).slice (win0_14.rect t)).set ↔ _
  rw [View.set_slice_whole, Rect.mem_set_unit]
  have h1 : (i 1 : Nat) < 128 := (i 1).isLt
  refine ⟨fun h => ?_, fun h a => ?_⟩
  · have h0 : win0_14.index t (0 : Fin 2) * 512 ≤ (i 0 : Nat) ∧ (i 0 : Nat) < win0_14.index t (0 : Fin 2) * 512 + 512 := h 0
    rwa [e0] at h0
  · match a with
    | ⟨0, _⟩ => show win0_14.index t (0 : Fin 2) * 512 ≤ (i 0 : Nat) ∧ (i 0 : Nat) < win0_14.index t (0 : Fin 2) * 512 + 512
                rw [e0]; exact h
    | ⟨1, _⟩ => show win0_14.index t (1 : Fin 2) * 128 ≤ (i 1 : Nat) ∧ (i 1 : Nat) < win0_14.index t (1 : Fin 2) * 128 + 128
                rw [e1, Nat.zero_mul, Nat.zero_add]; exact ⟨Nat.zero_le _, h1⟩

/-- Every index of that array lies in some point's block. -/
theorem k_cover (i : S16384x128.Idx) : ∃ t : Fin cfg0.N, (cfg0.win 14).flush t = true ∧ i ∈ ((cfg0.win 14).blk t).view.set := by
  have h0 : (i 0 : Nat) < 16384 := (i 0).isLt
  have hN : cfg0.N = 32 := N_0
  have ht : (i 0 : Nat) / 512 < cfg0.N := by rw [hN]; omega
  generalize hq : (i 0 : Nat) / 512 = q at ht
  refine ⟨⟨q, ht⟩, flush0_14 _, ?_⟩
  rw [k_mem]
  dsimp only
  omega

/-- What the whole pipeline leaves in that array. -/
theorem k_array : (dats m 0 c).arrAt 14 cfg0.N = kResult m c :=
  (dats m 0 c).arrAt_eq_of_cover 14 (kResult m c) (fun t _ => k_flushed m c t) k_cover

/-- The values. -/
def vResult : Buf (Elt Ideal) ((c : Thread nD τ).loc main_v88_3) := fun i : S16384x128.Idx => colAt m c (i 0) ⟨640 + (i 1).val, by have h : (i 1).val < 128 := (i 1).isLt; omega⟩

/-- What point `t` writes back through window 15 is block `t` of that array. -/
theorem v_flushed (t : Fin cfg0.N) : (dats m 0 c).flushed 15 t = ((cfg0.win 15).blk t).view.read (Elt Ideal) (vResult m c) := by
  obtain ⟨e0, e1⟩ := start15 t
  show (cfg0.win 15).cut (grid0.coords t) ((dats m 0 c).after 15 t) = _
  rw [after0_15]
  funext j
  have hj : j = ix2 (n0 := 512) (n1 := 128) ⟨(j 0).val, (j 0).isLt⟩ ⟨(j 1).val, (j 1).isLt⟩ := by
    funext a; match a with | ⟨0, _⟩ => rfl | ⟨1, _⟩ => rfl
  rw [hj]
  generalize (⟨(j 0).val, (j 0).isLt⟩ : Fin 512) = r
  generalize (⟨(j 1).val, (j 1).isLt⟩ : Fin 128) = d
  have he : ((cfg0.win 15).blk t).view.emb (ix2 r d) = ix2 (row t r) d := by
    funext a; apply Fin.ext
    match a with
    | ⟨0, _⟩ => show win0_15.index t (0 : Fin 2) * 512 + 1 * r.val = t.val * 512 + r.val; omega
    | ⟨1, _⟩ => show win0_15.index t (1 : Fin 2) * 128 + 1 * d.val = d.val; omega
  show out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r d) = vResult m c (((cfg0.win 15).blk t).view.emb (ix2 r d))
  rw [he, block15, col_read]
  rfl

/-- An index of that array lies in point `t`'s block when its row is one of the block's 512. -/
theorem v_mem (t : Fin cfg0.N) (i : S16384x128.Idx) :
    i ∈ ((cfg0.win 15).blk t).view.set ↔ t.val * 512 ≤ (i 0 : Nat) ∧ (i 0 : Nat) < t.val * 512 + 512 := by
  obtain ⟨e0, e1⟩ := start15 t
  show i ∈ ((View.whole main_v88_3).slice (win0_15.rect t)).set ↔ _
  rw [View.set_slice_whole, Rect.mem_set_unit]
  have h1 : (i 1 : Nat) < 128 := (i 1).isLt
  refine ⟨fun h => ?_, fun h a => ?_⟩
  · have h0 : win0_15.index t (0 : Fin 2) * 512 ≤ (i 0 : Nat) ∧ (i 0 : Nat) < win0_15.index t (0 : Fin 2) * 512 + 512 := h 0
    rwa [e0] at h0
  · match a with
    | ⟨0, _⟩ => show win0_15.index t (0 : Fin 2) * 512 ≤ (i 0 : Nat) ∧ (i 0 : Nat) < win0_15.index t (0 : Fin 2) * 512 + 512
                rw [e0]; exact h
    | ⟨1, _⟩ => show win0_15.index t (1 : Fin 2) * 128 ≤ (i 1 : Nat) ∧ (i 1 : Nat) < win0_15.index t (1 : Fin 2) * 128 + 128
                rw [e1, Nat.zero_mul, Nat.zero_add]; exact ⟨Nat.zero_le _, h1⟩

/-- Every index of that array lies in some point's block. -/
theorem v_cover (i : S16384x128.Idx) : ∃ t : Fin cfg0.N, (cfg0.win 15).flush t = true ∧ i ∈ ((cfg0.win 15).blk t).view.set := by
  have h0 : (i 0 : Nat) < 16384 := (i 0).isLt
  have hN : cfg0.N = 32 := N_0
  have ht : (i 0 : Nat) / 512 < cfg0.N := by rw [hN]; omega
  generalize hq : (i 0 : Nat) / 512 = q at ht
  refine ⟨⟨q, ht⟩, flush0_15 _, ?_⟩
  rw [v_mem]
  dsimp only
  omega

/-- What the whole pipeline leaves in that array. -/
theorem v_array : (dats m 0 c).arrAt 15 cfg0.N = vResult m c :=
  (dats m 0 c).arrAt_eq_of_cover 15 (vResult m c) (fun t _ => v_flushed m c t) v_cover

/-- The recurrence's inputs. -/
def uResult : Buf (Elt Ideal) ((c : Thread nD τ).loc main_v88_4) := fun i : S16384x512.Idx => colAt m c (i 0) ⟨768 + (i 1).val, by have h : (i 1).val < 512 := (i 1).isLt; omega⟩

/-- What point `t` writes back through window 16 is block `t` of that array. -/
theorem u_flushed (t : Fin cfg0.N) : (dats m 0 c).flushed 16 t = ((cfg0.win 16).blk t).view.read (Elt Ideal) (uResult m c) := by
  obtain ⟨e0, e1⟩ := start16 t
  show (cfg0.win 16).cut (grid0.coords t) ((dats m 0 c).after 16 t) = _
  rw [after0_16]
  funext j
  have hj : j = ix2 (n0 := 512) (n1 := 512) ⟨(j 0).val, (j 0).isLt⟩ ⟨(j 1).val, (j 1).isLt⟩ := by
    funext a; match a with | ⟨0, _⟩ => rfl | ⟨1, _⟩ => rfl
  rw [hj]
  generalize (⟨(j 0).val, (j 0).isLt⟩ : Fin 512) = r
  generalize (⟨(j 1).val, (j 1).isLt⟩ : Fin 512) = d
  have he : ((cfg0.win 16).blk t).view.emb (ix2 r d) = ix2 (row t r) d := by
    funext a; apply Fin.ext
    match a with
    | ⟨0, _⟩ => show win0_16.index t (0 : Fin 2) * 512 + 1 * r.val = t.val * 512 + r.val; omega
    | ⟨1, _⟩ => show win0_16.index t (1 : Fin 2) * 512 + 1 * d.val = d.val; omega
  show out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r d) = uResult m c (((cfg0.win 16).blk t).view.emb (ix2 r d))
  rw [he, block16, col_read]
  rfl

/-- An index of that array lies in point `t`'s block when its row is one of the block's 512. -/
theorem u_mem (t : Fin cfg0.N) (i : S16384x512.Idx) :
    i ∈ ((cfg0.win 16).blk t).view.set ↔ t.val * 512 ≤ (i 0 : Nat) ∧ (i 0 : Nat) < t.val * 512 + 512 := by
  obtain ⟨e0, e1⟩ := start16 t
  show i ∈ ((View.whole main_v88_4).slice (win0_16.rect t)).set ↔ _
  rw [View.set_slice_whole, Rect.mem_set_unit]
  have h1 : (i 1 : Nat) < 512 := (i 1).isLt
  refine ⟨fun h => ?_, fun h a => ?_⟩
  · have h0 : win0_16.index t (0 : Fin 2) * 512 ≤ (i 0 : Nat) ∧ (i 0 : Nat) < win0_16.index t (0 : Fin 2) * 512 + 512 := h 0
    rwa [e0] at h0
  · match a with
    | ⟨0, _⟩ => show win0_16.index t (0 : Fin 2) * 512 ≤ (i 0 : Nat) ∧ (i 0 : Nat) < win0_16.index t (0 : Fin 2) * 512 + 512
                rw [e0]; exact h
    | ⟨1, _⟩ => show win0_16.index t (1 : Fin 2) * 512 ≤ (i 1 : Nat) ∧ (i 1 : Nat) < win0_16.index t (1 : Fin 2) * 512 + 512
                rw [e1, Nat.zero_mul, Nat.zero_add]; exact ⟨Nat.zero_le _, h1⟩

/-- Every index of that array lies in some point's block. -/
theorem u_cover (i : S16384x512.Idx) : ∃ t : Fin cfg0.N, (cfg0.win 16).flush t = true ∧ i ∈ ((cfg0.win 16).blk t).view.set := by
  have h0 : (i 0 : Nat) < 16384 := (i 0).isLt
  have hN : cfg0.N = 32 := N_0
  have ht : (i 0 : Nat) / 512 < cfg0.N := by rw [hN]; omega
  generalize hq : (i 0 : Nat) / 512 = q at ht
  refine ⟨⟨q, ht⟩, flush0_16 _, ?_⟩
  rw [u_mem]
  dsimp only
  omega

/-- What the whole pipeline leaves in that array. -/
theorem u_array : (dats m 0 c).arrAt 16 cfg0.N = uResult m c :=
  (dats m 0 c).arrAt_eq_of_cover 16 (uResult m c) (fun t _ => u_flushed m c t) u_cover

/-- The attention branch's gates. -/
def gaResult : Buf (Elt Ideal) ((c : Thread nD τ).loc main_v88_5) := fun i : S16384x1024.Idx => Ideal.logistic (colAt m c (i 0) ⟨1280 + (i 1).val, by have h : (i 1).val < 1024 := (i 1).isLt; omega⟩)

/-- What point `t` writes back through window 17 is block `t` of that array. -/
theorem ga_flushed (t : Fin cfg0.N) : (dats m 0 c).flushed 17 t = ((cfg0.win 17).blk t).view.read (Elt Ideal) (gaResult m c) := by
  obtain ⟨e0, e1⟩ := start17 t
  show (cfg0.win 17).cut (grid0.coords t) ((dats m 0 c).after 17 t) = _
  rw [after0_17]
  funext j
  have hj : j = ix2 (n0 := 512) (n1 := 1024) ⟨(j 0).val, (j 0).isLt⟩ ⟨(j 1).val, (j 1).isLt⟩ := by
    funext a; match a with | ⟨0, _⟩ => rfl | ⟨1, _⟩ => rfl
  rw [hj]
  generalize (⟨(j 0).val, (j 0).isLt⟩ : Fin 512) = r
  generalize (⟨(j 1).val, (j 1).isLt⟩ : Fin 1024) = d
  have he : ((cfg0.win 17).blk t).view.emb (ix2 r d) = ix2 (row t r) d := by
    funext a; apply Fin.ext
    match a with
    | ⟨0, _⟩ => show win0_17.index t (0 : Fin 2) * 512 + 1 * r.val = t.val * 512 + r.val; omega
    | ⟨1, _⟩ => show win0_17.index t (1 : Fin 2) * 1024 + 1 * d.val = d.val; omega
  show out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r d) = gaResult m c (((cfg0.win 17).blk t).view.emb (ix2 r d))
  rw [he, block17, col_read]
  rfl

/-- An index of that array lies in point `t`'s block when its row is one of the block's 512. -/
theorem ga_mem (t : Fin cfg0.N) (i : S16384x1024.Idx) :
    i ∈ ((cfg0.win 17).blk t).view.set ↔ t.val * 512 ≤ (i 0 : Nat) ∧ (i 0 : Nat) < t.val * 512 + 512 := by
  obtain ⟨e0, e1⟩ := start17 t
  show i ∈ ((View.whole main_v88_5).slice (win0_17.rect t)).set ↔ _
  rw [View.set_slice_whole, Rect.mem_set_unit]
  have h1 : (i 1 : Nat) < 1024 := (i 1).isLt
  refine ⟨fun h => ?_, fun h a => ?_⟩
  · have h0 : win0_17.index t (0 : Fin 2) * 512 ≤ (i 0 : Nat) ∧ (i 0 : Nat) < win0_17.index t (0 : Fin 2) * 512 + 512 := h 0
    rwa [e0] at h0
  · match a with
    | ⟨0, _⟩ => show win0_17.index t (0 : Fin 2) * 512 ≤ (i 0 : Nat) ∧ (i 0 : Nat) < win0_17.index t (0 : Fin 2) * 512 + 512
                rw [e0]; exact h
    | ⟨1, _⟩ => show win0_17.index t (1 : Fin 2) * 1024 ≤ (i 1 : Nat) ∧ (i 1 : Nat) < win0_17.index t (1 : Fin 2) * 1024 + 1024
                rw [e1, Nat.zero_mul, Nat.zero_add]; exact ⟨Nat.zero_le _, h1⟩

/-- Every index of that array lies in some point's block. -/
theorem ga_cover (i : S16384x1024.Idx) : ∃ t : Fin cfg0.N, (cfg0.win 17).flush t = true ∧ i ∈ ((cfg0.win 17).blk t).view.set := by
  have h0 : (i 0 : Nat) < 16384 := (i 0).isLt
  have hN : cfg0.N = 32 := N_0
  have ht : (i 0 : Nat) / 512 < cfg0.N := by rw [hN]; omega
  generalize hq : (i 0 : Nat) / 512 = q at ht
  refine ⟨⟨q, ht⟩, flush0_17 _, ?_⟩
  rw [ga_mem]
  dsimp only
  omega

/-- What the whole pipeline leaves in that array. -/
theorem ga_array : (dats m 0 c).arrAt 17 cfg0.N = gaResult m c :=
  (dats m 0 c).arrAt_eq_of_cover 17 (gaResult m c) (fun t _ => ga_flushed m c t) ga_cover

/-- The recurrent branch's gates. -/
def gsResult : Buf (Elt Ideal) ((c : Thread nD τ).loc main_v88_6) := fun i : S16384x1024.Idx => Ideal.logistic (colAt m c (i 0) ⟨2304 + (i 1).val, by have h : (i 1).val < 1024 := (i 1).isLt; omega⟩)

/-- What point `t` writes back through window 18 is block `t` of that array. -/
theorem gs_flushed (t : Fin cfg0.N) : (dats m 0 c).flushed 18 t = ((cfg0.win 18).blk t).view.read (Elt Ideal) (gsResult m c) := by
  obtain ⟨e0, e1⟩ := start18 t
  show (cfg0.win 18).cut (grid0.coords t) ((dats m 0 c).after 18 t) = _
  rw [after0_18]
  funext j
  have hj : j = ix2 (n0 := 512) (n1 := 1024) ⟨(j 0).val, (j 0).isLt⟩ ⟨(j 1).val, (j 1).isLt⟩ := by
    funext a; match a with | ⟨0, _⟩ => rfl | ⟨1, _⟩ => rfl
  rw [hj]
  generalize (⟨(j 0).val, (j 0).isLt⟩ : Fin 512) = r
  generalize (⟨(j 1).val, (j 1).isLt⟩ : Fin 1024) = d
  have he : ((cfg0.win 18).blk t).view.emb (ix2 r d) = ix2 (row t r) d := by
    funext a; apply Fin.ext
    match a with
    | ⟨0, _⟩ => show win0_18.index t (0 : Fin 2) * 512 + 1 * r.val = t.val * 512 + r.val; omega
    | ⟨1, _⟩ => show win0_18.index t (1 : Fin 2) * 1024 + 1 * d.val = d.val; omega
  show out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r d) = gsResult m c (((cfg0.win 18).blk t).view.emb (ix2 r d))
  rw [he, block18, col_read]
  rfl

/-- An index of that array lies in point `t`'s block when its row is one of the block's 512. -/
theorem gs_mem (t : Fin cfg0.N) (i : S16384x1024.Idx) :
    i ∈ ((cfg0.win 18).blk t).view.set ↔ t.val * 512 ≤ (i 0 : Nat) ∧ (i 0 : Nat) < t.val * 512 + 512 := by
  obtain ⟨e0, e1⟩ := start18 t
  show i ∈ ((View.whole main_v88_6).slice (win0_18.rect t)).set ↔ _
  rw [View.set_slice_whole, Rect.mem_set_unit]
  have h1 : (i 1 : Nat) < 1024 := (i 1).isLt
  refine ⟨fun h => ?_, fun h a => ?_⟩
  · have h0 : win0_18.index t (0 : Fin 2) * 512 ≤ (i 0 : Nat) ∧ (i 0 : Nat) < win0_18.index t (0 : Fin 2) * 512 + 512 := h 0
    rwa [e0] at h0
  · match a with
    | ⟨0, _⟩ => show win0_18.index t (0 : Fin 2) * 512 ≤ (i 0 : Nat) ∧ (i 0 : Nat) < win0_18.index t (0 : Fin 2) * 512 + 512
                rw [e0]; exact h
    | ⟨1, _⟩ => show win0_18.index t (1 : Fin 2) * 1024 ≤ (i 1 : Nat) ∧ (i 1 : Nat) < win0_18.index t (1 : Fin 2) * 1024 + 1024
                rw [e1, Nat.zero_mul, Nat.zero_add]; exact ⟨Nat.zero_le _, h1⟩

/-- Every index of that array lies in some point's block. -/
theorem gs_cover (i : S16384x1024.Idx) : ∃ t : Fin cfg0.N, (cfg0.win 18).flush t = true ∧ i ∈ ((cfg0.win 18).blk t).view.set := by
  have h0 : (i 0 : Nat) < 16384 := (i 0).isLt
  have hN : cfg0.N = 32 := N_0
  have ht : (i 0 : Nat) / 512 < cfg0.N := by rw [hN]; omega
  generalize hq : (i 0 : Nat) / 512 = q at ht
  refine ⟨⟨q, ht⟩, flush0_18 _, ?_⟩
  rw [gs_mem]
  dsimp only
  omega

/-- What the whole pipeline leaves in that array. -/
theorem gs_array : (dats m 0 c).arrAt 18 cfg0.N = gsResult m c :=
  (dats m 0 c).arrAt_eq_of_cover 18 (gsResult m c) (fun t _ => gs_flushed m c t) gs_cover

end Cert.Kernel4Ideal.RefValue
-- ==== Proof.FrontResult.lean ====
module

public import proofs.«01_k».proof.Proof.FrontRun
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Kernel4Ideal.RefValue

open Cert.Kernel4Ideal Cert.Kernel4Ideal.Gen Cert.Layer

/-! # The front call: the run, with the last 128 positions' keys and values that follow it -/

variable (m : (ℓ : Loc nD τ sig) → Buf (Elt Ideal) ℓ) (c : Dev nD)

/-- The region's arrays are different buffers. -/
theorem arrays_distinct : Function.Injective (Pipeline.arrRef spec0) :=
  (by decide : ∀ a b : Fin 19, Pipeline.arrRef spec0 a = Pipeline.arrRef spec0 b → a = b)

/-- The last 128 positions of two sequences of 8192, cut into heads. -/
theorem last_rows (y : Vec Ideal S16384x128 .f32) (p : Fin 2) (s : Fin 128) (h : Fin 2) (d : Fin 64) :
    shapeCast S2x128x2x64 (extractStridedSlice S2x128x128 ![0, 8064, 0] (shapeCast S2x8192x128 y shapeCasts_S16384x128_S2x8192x128)
      slices_S2x8192x128_S2x128x128_0_8064_0) shapeCasts_S2x128x128_S2x128x2x64 (ix4 p s h d)
    = y (ix2 ⟨p.val * 8192 + (8064 + s.val), by omega⟩ ⟨h.val * 64 + d.val, by omega⟩) := by
  pointwise

/-- The last 128 positions' keys. -/
def newKResult : Buf (Elt Ideal) ((c : Thread nD τ).loc main_v91) := fun i : S2x128x2x64.Idx =>
  kResult m c (ix2 (n0 := 16384) (n1 := 128)
    ⟨(i 0).val * 8192 + (8064 + (i 1).val), by have h0 : (i 0).val < 2 := (i 0).isLt; have h1 : (i 1).val < 128 := (i 1).isLt; omega⟩
    ⟨(i 2).val * 64 + (i 3).val, by have h2 : (i 2).val < 2 := (i 2).isLt; have h3 : (i 3).val < 64 := (i 3).isLt; omega⟩)

/-- The lines after the region, read at one entry. -/
theorem newK_after (U : Valuation τ sig (Elt Ideal)) (p : Fin 2) (s : Fin 128) (h : Fin 2) (d : Fin 64) :
    StableHlo.after hostOps1 U (Proc.devRef .tc main_v91) (ix4 p s h d)
      = U (Proc.devRef .tc main_v88_2) (ix2 (n0 := 16384) (n1 := 128) ⟨p.val * 8192 + (8064 + s.val), by omega⟩ ⟨h.val * 64 + d.val, by omega⟩) := by
  unfold hostOps1
  after_results
  generalize U (Proc.devRef .tc main_v88_2) = y
  exact last_rows y p s h d

/-- The lines after the region leave them so. -/
theorem newK_tail : Pipeline.afterTail₀ cfgs (dats m) 0 (V0 m) [hostOps1] c main_v91 = newKResult m c := by
  have ha := (Pipeline.withArrays_arr spec0 arrays_distinct c (V0 m c) (fun w => (dats m 0 c).arrAt w cfg0.N) 14).trans (k_array m c)
  unfold Pipeline.afterTail₀
  change Pipeline.withArrays spec0 c (V0 m c) (fun w => (dats m 0 c).arrAt w cfg0.N) (Proc.devRef .tc main_v88_2) = _ at ha
  show StableHlo.after hostOps1 (Pipeline.withArrays spec0 c (V0 m c) (fun w => (dats m 0 c).arrAt w cfg0.N)) (Proc.devRef .tc main_v91) = _
  generalize Pipeline.withArrays spec0 c (V0 m c) (fun w => (dats m 0 c).arrAt w cfg0.N) = U at ha ⊢
  funext i
  have hi : i = ix4 (n0 := 2) (n1 := 128) (n2 := 2) (n3 := 64) ⟨(i 0).val, (i 0).isLt⟩ ⟨(i 1).val, (i 1).isLt⟩ ⟨(i 2).val, (i 2).isLt⟩ ⟨(i 3).val, (i 3).isLt⟩ := by
    funext a; match a with | ⟨0, _⟩ => rfl | ⟨1, _⟩ => rfl | ⟨2, _⟩ => rfl | ⟨3, _⟩ => rfl
  rw [hi, newK_after, ha]
  rfl

/-- The last 128 positions' values. -/
def newVResult : Buf (Elt Ideal) ((c : Thread nD τ).loc main_v94) := fun i : S2x128x2x64.Idx =>
  vResult m c (ix2 (n0 := 16384) (n1 := 128)
    ⟨(i 0).val * 8192 + (8064 + (i 1).val), by have h0 : (i 0).val < 2 := (i 0).isLt; have h1 : (i 1).val < 128 := (i 1).isLt; omega⟩
    ⟨(i 2).val * 64 + (i 3).val, by have h2 : (i 2).val < 2 := (i 2).isLt; have h3 : (i 3).val < 64 := (i 3).isLt; omega⟩)

/-- The lines after the region, read at one entry. -/
theorem newV_after (U : Valuation τ sig (Elt Ideal)) (p : Fin 2) (s : Fin 128) (h : Fin 2) (d : Fin 64) :
    StableHlo.after hostOps1 U (Proc.devRef .tc main_v94) (ix4 p s h d)
      = U (Proc.devRef .tc main_v88_3) (ix2 (n0 := 16384) (n1 := 128) ⟨p.val * 8192 + (8064 + s.val), by omega⟩ ⟨h.val * 64 + d.val, by omega⟩) := by
  unfold hostOps1
  after_results
  generalize U (Proc.devRef .tc main_v88_3) = y
  exact last_rows y p s h d

/-- The lines after the region leave them so. -/
theorem newV_tail : Pipeline.afterTail₀ cfgs (dats m) 0 (V0 m) [hostOps1] c main_v94 = newVResult m c := by
  have ha := (Pipeline.withArrays_arr spec0 arrays_distinct c (V0 m c) (fun w => (dats m 0 c).arrAt w cfg0.N) 15).trans (v_array m c)
  unfold Pipeline.afterTail₀
  change Pipeline.withArrays spec0 c (V0 m c) (fun w => (dats m 0 c).arrAt w cfg0.N) (Proc.devRef .tc main_v88_3) = _ at ha
  show StableHlo.after hostOps1 (Pipeline.withArrays spec0 c (V0 m c) (fun w => (dats m 0 c).arrAt w cfg0.N)) (Proc.devRef .tc main_v94) = _
  generalize Pipeline.withArrays spec0 c (V0 m c) (fun w => (dats m 0 c).arrAt w cfg0.N) = U at ha ⊢
  funext i
  have hi : i = ix4 (n0 := 2) (n1 := 128) (n2 := 2) (n3 := 64) ⟨(i 0).val, (i 0).isLt⟩ ⟨(i 1).val, (i 1).isLt⟩ ⟨(i 2).val, (i 2).isLt⟩ ⟨(i 3).val, (i 3).isLt⟩ := by
    funext a; match a with | ⟨0, _⟩ => rfl | ⟨1, _⟩ => rfl | ⟨2, _⟩ => rfl | ⟨3, _⟩ => rfl
  rw [hi, newV_after, ha]
  rfl

/-- That array at the end of the run. -/
theorem newK_end (r : PUnit × MemSt nD τ sig (Elt Ideal)) (h : Pipeline.FramePost cfgs (dats m) 0 (Pipeline.afterTail₀ cfgs (dats m) 0 (V0 m) [hostOps1]) r) :
    r.2.mem ((c : Thread nD τ).loc main_v91) = newKResult m c :=
  ((h c).2 main_v91 (Pipeline.mem_restRefs_of main_v91 (by decide) (by decide))).trans (newK_tail m c)

/-- That array at the end of the run. -/
theorem newV_end (r : PUnit × MemSt nD τ sig (Elt Ideal)) (h : Pipeline.FramePost cfgs (dats m) 0 (Pipeline.afterTail₀ cfgs (dats m) 0 (V0 m) [hostOps1]) r) :
    r.2.mem ((c : Thread nD τ).loc main_v94) = newVResult m c :=
  ((h c).2 main_v94 (Pipeline.mem_restRefs_of main_v94 (by decide) (by decide))).trans (newV_tail m c)

/-- That array at the end of the run. -/
theorem x1_end (r : PUnit × MemSt nD τ sig (Elt Ideal)) (h : Pipeline.FramePost cfgs (dats m) 0 (Pipeline.afterTail₀ cfgs (dats m) 0 (V0 m) [hostOps1]) r) :
    r.2.mem ((c : Thread nD τ).loc main_v88_0) = x1Result m c :=
  ((h c).1 12).trans (x1_array m c)

/-- That array at the end of the run. -/
theorem q_end (r : PUnit × MemSt nD τ sig (Elt Ideal)) (h : Pipeline.FramePost cfgs (dats m) 0 (Pipeline.afterTail₀ cfgs (dats m) 0 (V0 m) [hostOps1]) r) :
    r.2.mem ((c : Thread nD τ).loc main_v88_1) = qResult m c :=
  ((h c).1 13).trans (q_array m c)

/-- That array at the end of the run. -/
theorem k_end (r : PUnit × MemSt nD τ sig (Elt Ideal)) (h : Pipeline.FramePost cfgs (dats m) 0 (Pipeline.afterTail₀ cfgs (dats m) 0 (V0 m) [hostOps1]) r) :
    r.2.mem ((c : Thread nD τ).loc main_v88_2) = kResult m c :=
  ((h c).1 14).trans (k_array m c)

/-- That array at the end of the run. -/
theorem v_end (r : PUnit × MemSt nD τ sig (Elt Ideal)) (h : Pipeline.FramePost cfgs (dats m) 0 (Pipeline.afterTail₀ cfgs (dats m) 0 (V0 m) [hostOps1]) r) :
    r.2.mem ((c : Thread nD τ).loc main_v88_3) = vResult m c :=
  ((h c).1 15).trans (v_array m c)

/-- That array at the end of the run. -/
theorem u_end (r : PUnit × MemSt nD τ sig (Elt Ideal)) (h : Pipeline.FramePost cfgs (dats m) 0 (Pipeline.afterTail₀ cfgs (dats m) 0 (V0 m) [hostOps1]) r) :
    r.2.mem ((c : Thread nD τ).loc main_v88_4) = uResult m c :=
  ((h c).1 16).trans (u_array m c)

/-- That array at the end of the run. -/
theorem ga_end (r : PUnit × MemSt nD τ sig (Elt Ideal)) (h : Pipeline.FramePost cfgs (dats m) 0 (Pipeline.afterTail₀ cfgs (dats m) 0 (V0 m) [hostOps1]) r) :
    r.2.mem ((c : Thread nD τ).loc main_v88_5) = gaResult m c :=
  ((h c).1 17).trans (ga_array m c)

/-- That array at the end of the run. -/
theorem gs_end (r : PUnit × MemSt nD τ sig (Elt Ideal)) (h : Pipeline.FramePost cfgs (dats m) 0 (Pipeline.afterTail₀ cfgs (dats m) 0 (V0 m) [hostOps1]) r) :
    r.2.mem ((c : Thread nD τ).loc main_v88_6) = gsResult m c :=
  ((h c).1 18).trans (gs_array m c)

/-- The run, read: every result array as stated above, the arguments as they were. -/
theorem run (ρ : Dev nD → PrngReg) : θ_run defs (onTc (τ := τ) (main (F := Ideal))) ⟨m, fun _ => 0, ρ⟩ fun r => ∀ c : Dev nD,
      r.2.mem ((c : Thread nD τ).loc main_v91) = newKResult m c
      ∧ r.2.mem ((c : Thread nD τ).loc main_v94) = newVResult m c
      ∧ r.2.mem ((c : Thread nD τ).loc main_v88_0) = x1Result m c
      ∧ r.2.mem ((c : Thread nD τ).loc main_v88_1) = qResult m c
      ∧ r.2.mem ((c : Thread nD τ).loc main_v88_2) = kResult m c
      ∧ r.2.mem ((c : Thread nD τ).loc main_v88_3) = vResult m c
      ∧ r.2.mem ((c : Thread nD τ).loc main_v88_4) = uResult m c
      ∧ r.2.mem ((c : Thread nD τ).loc main_v88_5) = gaResult m c
      ∧ r.2.mem ((c : Thread nD τ).loc main_v88_6) = gsResult m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨newK_end m c r h.1, newV_end m c r h.1, x1_end m c r h.1, q_end m c r h.1, k_end m c r h.1, v_end m c r h.1, u_end m c r h.1, ga_end m c r h.1, gs_end m c r h.1, h.2 c⟩)
    (θ_run_and (run_main m ρ) (unchanged m ρ))

end Cert.Kernel4Ideal.RefValue
-- ==== Proof.Front.lean ====
module

public import proofs.«01_k».proof.Defs
public import proofs.«01_k».proof.Proof.Gen.Reference4Ideal.Run
public import proofs.«01_k».proof.Proof.Gen.Reference4Ideal.Read
public import proofs.«01_k».proof.Proof.FrontReference
public import proofs.«01_k».proof.Proof.FrontResult

@[expose] public section

set_option maxRecDepth 16384

noncomputable section

open Idealize.ShloMosaic Idealize.ShloMosaic.TcCoe Idealize.SL.Sem

namespace Cert.Proof

variable (m : (ℓ : Loc Cert.Kernel4Ideal.nD Cert.Kernel4Ideal.τ Cert.Kernel4Ideal.sig) → Buf (Elt Ideal) ℓ) (c : Dev Cert.Kernel4Ideal.nD)

/-- The reference's result of the kernel's own arguments: the newK array. -/
theorem front_newK : Cert.Reference4Ideal.Read.val_main_v131 (F := Ideal) (m ((c : Thread Cert.Kernel4Ideal.nD Cert.Kernel4Ideal.τ).loc Cert.Kernel4Ideal.main_arg0)) (m ((c : Thread Cert.Kernel4Ideal.nD Cert.Kernel4Ideal.τ).loc Cert.Kernel4Ideal.main_arg1)) (m ((c : Thread Cert.Kernel4Ideal.nD Cert.Kernel4Ideal.τ).loc Cert.Kernel4Ideal.main_arg2)) (m ((c : Thread Cert.Kernel4Ideal.nD Cert.Kernel4Ideal.τ).loc Cert.Kernel4Ideal.main_arg3)) (m ((c : Thread Cert.Kernel4Ideal.nD Cert.Kernel4Ideal.τ).loc Cert.Kernel4Ideal.main_arg4)) (m ((c : Thread Cert.Kernel4Ideal.nD Cert.Kernel4Ideal.τ).loc Cert.Kernel4Ideal.main_arg5)) (m ((c : Thread Cert.Kernel4Ideal.nD Cert.Kernel4Ideal.τ).loc Cert.Kernel4Ideal.main_arg6)) (m ((c : Thread Cert.Kernel4Ideal.nD Cert.Kernel4Ideal.τ).loc Cert.Kernel4Ideal.main_arg8)) = Cert.Kernel4Ideal.RefValue.newKResult m c := by
  funext i
  have hi : i = ix4 (n0 := 2) (n1 := 128) (n2 := 2) (n3 := 64) ⟨(i 0).val, (i 0).isLt⟩ ⟨(i 1).val, (i 1).isLt⟩ ⟨(i 2).val, (i 2).isLt⟩ ⟨(i 3).val, (i 3).isLt⟩ := by
    funext a; match a with | ⟨0, _⟩ => rfl | ⟨1, _⟩ => rfl | ⟨2, _⟩ => rfl | ⟨3, _⟩ => rfl
  rw [hi]
  generalize (⟨(i 0).val, (i 0).isLt⟩ : Fin 2) = p
  generalize (⟨(i 1).val, (i 1).isLt⟩ : Fin 128) = s
  generalize (⟨(i 2).val, (i 2).isLt⟩ : Fin 2) = h
  generalize (⟨(i 3).val, (i 3).isLt⟩ : Fin 64) = d
  rw [Cert.Reference4Ideal.RefValue.newK_apply]
  rfl

/-- The reference's result of the kernel's own arguments: the newV array. -/
theorem front_newV : Cert.Reference4Ideal.Read.val_main_v133 (F := Ideal) (m ((c : Thread Cert.Kernel4Ideal.nD Cert.Kernel4Ideal.τ).loc Cert.Kernel4Ideal.main_arg0)) (m ((c : Thread Cert.Kernel4Ideal.nD Cert.Kernel4Ideal.τ).loc Cert.Kernel4Ideal.main_arg1)) (m ((c : Thread Cert.Kernel4Ideal.nD Cert.Kernel4Ideal.τ).loc Cert.Kernel4Ideal.main_arg2)) (m ((c : Thread Cert.Kernel4Ideal.nD Cert.Kernel4Ideal.τ).loc Cert.Kernel4Ideal.main_arg3)) (m ((c : Thread Cert.Kernel4Ideal.nD Cert.Kernel4Ideal.τ).loc Cert.Kernel4Ideal.main_arg4)) (m ((c : Thread Cert.Kernel4Ideal.nD Cert.Kernel4Ideal.τ).loc Cert.Kernel4Ideal.main_arg5)) (m ((c : Thread Cert.Kernel4Ideal.nD Cert.Kernel4Ideal.τ).loc Cert.Kernel4Ideal.main_arg6)) = Cert.Kernel4Ideal.RefValue.newVResult m c := by
  funext i
  have hi : i = ix4 (n0 := 2) (n1 := 128) (n2 := 2) (n3 := 64) ⟨(i 0).val, (i 0).isLt⟩ ⟨(i 1).val, (i 1).isLt⟩ ⟨(i 2).val, (i 2).isLt⟩ ⟨(i 3).val, (i 3).isLt⟩ := by
    funext a; match a with | ⟨0, _⟩ => rfl | ⟨1, _⟩ => rfl | ⟨2, _⟩ => rfl | ⟨3, _⟩ => rfl
  rw [hi]
  generalize (⟨(i 0).val, (i 0).isLt⟩ : Fin 2) = p
  generalize (⟨(i 1).val, (i 1).isLt⟩ : Fin 128) = s
  generalize (⟨(i 2).val, (i 2).isLt⟩ : Fin 2) = h
  generalize (⟨(i 3).val, (i 3).isLt⟩ : Fin 64) = d
  rw [Cert.Reference4Ideal.RefValue.newV_apply]
  rfl

/-- The reference's result of the kernel's own arguments: the x1 array. -/
theorem front_x1 : Cert.Reference4Ideal.Read.val_main_v25 (F := Ideal) (m ((c : Thread Cert.Kernel4Ideal.nD Cert.Kernel4Ideal.τ).loc Cert.Kernel4Ideal.main_arg0)) (m ((c : Thread Cert.Kernel4Ideal.nD Cert.Kernel4Ideal.τ).loc Cert.Kernel4Ideal.main_arg1)) (m ((c : Thread Cert.Kernel4Ideal.nD Cert.Kernel4Ideal.τ).loc Cert.Kernel4Ideal.main_arg2)) (m ((c : Thread Cert.Kernel4Ideal.nD Cert.Kernel4Ideal.τ).loc Cert.Kernel4Ideal.main_arg3)) (m ((c : Thread Cert.Kernel4Ideal.nD Cert.Kernel4Ideal.τ).loc Cert.Kernel4Ideal.main_arg4)) = Cert.Kernel4Ideal.RefValue.x1Result m c := by
  funext i
  have hi : i = ix2 (n0 := 16384) (n1 := 1024) ⟨(i 0).val, (i 0).isLt⟩ ⟨(i 1).val, (i 1).isLt⟩ := by
    funext a; match a with | ⟨0, _⟩ => rfl | ⟨1, _⟩ => rfl
  rw [hi]
  generalize (⟨(i 0).val, (i 0).isLt⟩ : Fin 16384) = n
  generalize (⟨(i 1).val, (i 1).isLt⟩ : Fin 1024) = d
  rw [Cert.Reference4Ideal.RefValue.step_apply]
  rfl

/-- The reference's result of the kernel's own arguments: the q array. -/
theorem front_q : Cert.Reference4Ideal.Read.val_main_v135 (F := Ideal) (m ((c : Thread Cert.Kernel4Ideal.nD Cert.Kernel4Ideal.τ).loc Cert.Kernel4Ideal.main_arg0)) (m ((c : Thread Cert.Kernel4Ideal.nD Cert.Kernel4Ideal.τ).loc Cert.Kernel4Ideal.main_arg1)) (m ((c : Thread Cert.Kernel4Ideal.nD Cert.Kernel4Ideal.τ).loc Cert.Kernel4Ideal.main_arg2)) (m ((c : Thread Cert.Kernel4Ideal.nD Cert.Kernel4Ideal.τ).loc Cert.Kernel4Ideal.main_arg3)) (m ((c : Thread Cert.Kernel4Ideal.nD Cert.Kernel4Ideal.τ).loc Cert.Kernel4Ideal.main_arg4)) (m ((c : Thread Cert.Kernel4Ideal.nD Cert.Kernel4Ideal.τ).loc Cert.Kernel4Ideal.main_arg5)) (m ((c : Thread Cert.Kernel4Ideal.nD Cert.Kernel4Ideal.τ).loc Cert.Kernel4Ideal.main_arg6)) (m ((c : Thread Cert.Kernel4Ideal.nD Cert.Kernel4Ideal.τ).loc Cert.Kernel4Ideal.main_arg7)) = Cert.Kernel4Ideal.RefValue.qResult m c := by
  funext i
  have hi : i = ix2 (n0 := 16384) (n1 := 512) ⟨(i 0).val, (i 0).isLt⟩ ⟨(i 1).val, (i 1).isLt⟩ := by
    funext a; match a with | ⟨0, _⟩ => rfl | ⟨1, _⟩ => rfl
  rw [hi]
  generalize (⟨(i 0).val, (i 0).isLt⟩ : Fin 16384) = n
  generalize (⟨(i 1).val, (i 1).isLt⟩ : Fin 512) = d
  rw [Cert.Reference4Ideal.RefValue.q_apply]
  rfl

/-- The reference's result of the kernel's own arguments: the k array. -/
theorem front_k : Cert.Reference4Ideal.Read.val_main_v136 (F := Ideal) (m ((c : Thread Cert.Kernel4Ideal.nD Cert.Kernel4Ideal.τ).loc Cert.Kernel4Ideal.main_arg0)) (m ((c : Thread Cert.Kernel4Ideal.nD Cert.Kernel4Ideal.τ).loc Cert.Kernel4Ideal.main_arg1)) (m ((c : Thread Cert.Kernel4Ideal.nD Cert.Kernel4Ideal.τ).loc Cert.Kernel4Ideal.main_arg2)) (m ((c : Thread Cert.Kernel4Ideal.nD Cert.Kernel4Ideal.τ).loc Cert.Kernel4Ideal.main_arg3)) (m ((c : Thread Cert.Kernel4Ideal.nD Cert.Kernel4Ideal.τ).loc Cert.Kernel4Ideal.main_arg4)) (m ((c : Thread Cert.Kernel4Ideal.nD Cert.Kernel4Ideal.τ).loc Cert.Kernel4Ideal.main_arg5)) (m ((c : Thread Cert.Kernel4Ideal.nD Cert.Kernel4Ideal.τ).loc Cert.Kernel4Ideal.main_arg6)) (m ((c : Thread Cert.Kernel4Ideal.nD Cert.Kernel4Ideal.τ).loc Cert.Kernel4Ideal.main_arg8)) = Cert.Kernel4Ideal.RefValue.kResult m c := by
  funext i
  have hi : i = ix2 (n0 := 16384) (n1 := 128) ⟨(i 0).val, (i 0).isLt⟩ ⟨(i 1).val, (i 1).isLt⟩ := by
    funext a; match a with | ⟨0, _⟩ => rfl | ⟨1, _⟩ => rfl
  rw [hi]
  generalize (⟨(i 0).val, (i 0).isLt⟩ : Fin 16384) = n
  generalize (⟨(i 1).val, (i 1).isLt⟩ : Fin 128) = d
  rw [Cert.Reference4Ideal.RefValue.k_apply]
  rfl

/-- The reference's result of the kernel's own arguments: the v array. -/
theorem front_v : Cert.Reference4Ideal.Read.val_main_v44 (F := Ideal) (m ((c : Thread Cert.Kernel4Ideal.nD Cert.Kernel4Ideal.τ).loc Cert.Kernel4Ideal.main_arg0)) (m ((c : Thread Cert.Kernel4Ideal.nD Cert.Kernel4Ideal.τ).loc Cert.Kernel4Ideal.main_arg1)) (m ((c : Thread Cert.Kernel4Ideal.nD Cert.Kernel4Ideal.τ).loc Cert.Kernel4Ideal.main_arg2)) (m ((c : Thread Cert.Kernel4Ideal.nD Cert.Kernel4Ideal.τ).loc Cert.Kernel4Ideal.main_arg3)) (m ((c : Thread Cert.Kernel4Ideal.nD Cert.Kernel4Ideal.τ).loc Cert.Kernel4Ideal.main_arg4)) (m ((c : Thread Cert.Kernel4Ideal.nD Cert.Kernel4Ideal.τ).loc Cert.Kernel4Ideal.main_arg5)) (m ((c : Thread Cert.Kernel4Ideal.nD Cert.Kernel4Ideal.τ).loc Cert.Kernel4Ideal.main_arg6)) = Cert.Kernel4Ideal.RefValue.vResult m c := by
  funext i
  have hi : i = ix2 (n0 := 16384) (n1 := 128) ⟨(i 0).val, (i 0).isLt⟩ ⟨(i 1).val, (i 1).isLt⟩ := by
    funext a; match a with | ⟨0, _⟩ => rfl | ⟨1, _⟩ => rfl
  rw [hi]
  generalize (⟨(i 0).val, (i 0).isLt⟩ : Fin 16384) = n
  generalize (⟨(i 1).val, (i 1).isLt⟩ : Fin 128) = d
  rw [Cert.Reference4Ideal.RefValue.v_apply]
  rfl

/-- The reference's result of the kernel's own arguments: the u array. -/
theorem front_u : Cert.Reference4Ideal.Read.val_main_v45 (F := Ideal) (m ((c : Thread Cert.Kernel4Ideal.nD Cert.Kernel4Ideal.τ).loc Cert.Kernel4Ideal.main_arg0)) (m ((c : Thread Cert.Kernel4Ideal.nD Cert.Kernel4Ideal.τ).loc Cert.Kernel4Ideal.main_arg1)) (m ((c : Thread Cert.Kernel4Ideal.nD Cert.Kernel4Ideal.τ).loc Cert.Kernel4Ideal.main_arg2)) (m ((c : Thread Cert.Kernel4Ideal.nD Cert.Kernel4Ideal.τ).loc Cert.Kernel4Ideal.main_arg3)) (m ((c : Thread Cert.Kernel4Ideal.nD Cert.Kernel4Ideal.τ).loc Cert.Kernel4Ideal.main_arg4)) (m ((c : Thread Cert.Kernel4Ideal.nD Cert.Kernel4Ideal.τ).loc Cert.Kernel4Ideal.main_arg5)) (m ((c : Thread Cert.Kernel4Ideal.nD Cert.Kernel4Ideal.τ).loc Cert.Kernel4Ideal.main_arg6)) = Cert.Kernel4Ideal.RefValue.uResult m c := by
  funext i
  have hi : i = ix2 (n0 := 16384) (n1 := 512) ⟨(i 0).val, (i 0).isLt⟩ ⟨(i 1).val, (i 1).isLt⟩ := by
    funext a; match a with | ⟨0, _⟩ => rfl | ⟨1, _⟩ => rfl
  rw [hi]
  generalize (⟨(i 0).val, (i 0).isLt⟩ : Fin 16384) = n
  generalize (⟨(i 1).val, (i 1).isLt⟩ : Fin 512) = d
  rw [Cert.Reference4Ideal.RefValue.u_apply]
  rfl

/-- The reference's result of the kernel's own arguments: the ga array. -/
theorem front_ga : Cert.Reference4Ideal.Read.val_main_v143 (F := Ideal) (m ((c : Thread Cert.Kernel4Ideal.nD Cert.Kernel4Ideal.τ).loc Cert.Kernel4Ideal.main_arg0)) (m ((c : Thread Cert.Kernel4Ideal.nD Cert.Kernel4Ideal.τ).loc Cert.Kernel4Ideal.main_arg1)) (m ((c : Thread Cert.Kernel4Ideal.nD Cert.Kernel4Ideal.τ).loc Cert.Kernel4Ideal.main_arg2)) (m ((c : Thread Cert.Kernel4Ideal.nD Cert.Kernel4Ideal.τ).loc Cert.Kernel4Ideal.main_arg3)) (m ((c : Thread Cert.Kernel4Ideal.nD Cert.Kernel4Ideal.τ).loc Cert.Kernel4Ideal.main_arg4)) (m ((c : Thread Cert.Kernel4Ideal.nD Cert.Kernel4Ideal.τ).loc Cert.Kernel4Ideal.main_arg5)) (m ((c : Thread Cert.Kernel4Ideal.nD Cert.Kernel4Ideal.τ).loc Cert.Kernel4Ideal.main_arg6)) = Cert.Kernel4Ideal.RefValue.gaResult m c := by
  funext i
  have hi : i = ix2 (n0 := 16384) (n1 := 1024) ⟨(i 0).val, (i 0).isLt⟩ ⟨(i 1).val, (i 1).isLt⟩ := by
    funext a; match a with | ⟨0, _⟩ => rfl | ⟨1, _⟩ => rfl
  rw [hi]
  generalize (⟨(i 0).val, (i 0).isLt⟩ : Fin 16384) = n
  generalize (⟨(i 1).val, (i 1).isLt⟩ : Fin 1024) = d
  rw [Cert.Reference4Ideal.RefValue.ga_apply]
  rfl

/-- The reference's result of the kernel's own arguments: the gs array. -/
theorem front_gs : Cert.Reference4Ideal.Read.val_main_v150 (F := Ideal) (m ((c : Thread Cert.Kernel4Ideal.nD Cert.Kernel4Ideal.τ).loc Cert.Kernel4Ideal.main_arg0)) (m ((c : Thread Cert.Kernel4Ideal.nD Cert.Kernel4Ideal.τ).loc Cert.Kernel4Ideal.main_arg1)) (m ((c : Thread Cert.Kernel4Ideal.nD Cert.Kernel4Ideal.τ).loc Cert.Kernel4Ideal.main_arg2)) (m ((c : Thread Cert.Kernel4Ideal.nD Cert.Kernel4Ideal.τ).loc Cert.Kernel4Ideal.main_arg3)) (m ((c : Thread Cert.Kernel4Ideal.nD Cert.Kernel4Ideal.τ).loc Cert.Kernel4Ideal.main_arg4)) (m ((c : Thread Cert.Kernel4Ideal.nD Cert.Kernel4Ideal.τ).loc Cert.Kernel4Ideal.main_arg5)) (m ((c : Thread Cert.Kernel4Ideal.nD Cert.Kernel4Ideal.τ).loc Cert.Kernel4Ideal.main_arg6)) = Cert.Kernel4Ideal.RefValue.gsResult m c := by
  funext i
  have hi : i = ix2 (n0 := 16384) (n1 := 1024) ⟨(i 0).val, (i 0).isLt⟩ ⟨(i 1).val, (i 1).isLt⟩ := by
    funext a; match a with | ⟨0, _⟩ => rfl | ⟨1, _⟩ => rfl
  rw [hi]
  generalize (⟨(i 0).val, (i 0).isLt⟩ : Fin 16384) = n
  generalize (⟨(i 1).val, (i 1).isLt⟩ : Fin 1024) = d
  rw [Cert.Reference4Ideal.RefValue.gs_apply]
  rfl

/-- The front call computes the reference's feed-forward half step, projections, normed and turned heads and gates, entry by entry. -/
theorem front_algebraic : Cert.algebraic_Kernel4Ideal_Reference4Ideal := by
  intro m ρ m' ρ' _ hag
  refine ⟨fun c => Cert.Kernel4Ideal.RefValue.newKResult m c, fun c => Cert.Kernel4Ideal.RefValue.newVResult m c, fun c => Cert.Kernel4Ideal.RefValue.x1Result m c, fun c => Cert.Kernel4Ideal.RefValue.qResult m c, fun c => Cert.Kernel4Ideal.RefValue.kResult m c,
    fun c => Cert.Kernel4Ideal.RefValue.vResult m c, fun c => Cert.Kernel4Ideal.RefValue.uResult m c, fun c => Cert.Kernel4Ideal.RefValue.gaResult m c, fun c => Cert.Kernel4Ideal.RefValue.gsResult m c, Cert.Kernel4Ideal.RefValue.run m ρ, ?_⟩
  refine (θ_run Cert.Reference4Ideal.defs _ _).mono (fun r h c => ?_) (Cert.Reference4Ideal.Value.run (F := Ideal) m' ρ')
  obtain ⟨h0, h1, h2, h3, h4, h5, h6, h7, h8⟩ := hag c
  have e0 : Cert.Reference4Ideal.Read.val_main_v131 (F := Ideal) (m' ((c : Thread Cert.Reference4Ideal.nD Cert.Reference4Ideal.τ).loc Cert.Reference4Ideal.main_arg0)) (m' ((c : Thread Cert.Reference4Ideal.nD Cert.Reference4Ideal.τ).loc Cert.Reference4Ideal.main_arg1)) (m' ((c : Thread Cert.Reference4Ideal.nD Cert.Reference4Ideal.τ).loc Cert.Reference4Ideal.main_arg2)) (m' ((c : Thread Cert.Reference4Ideal.nD Cert.Reference4Ideal.τ).loc Cert.Reference4Ideal.main_arg3)) (m' ((c : Thread Cert.Reference4Ideal.nD Cert.Reference4Ideal.τ).loc Cert.Reference4Ideal.main_arg4)) (m' ((c : Thread Cert.Reference4Ideal.nD Cert.Reference4Ideal.τ).loc Cert.Reference4Ideal.main_arg5)) (m' ((c : Thread Cert.Reference4Ideal.nD Cert.Reference4Ideal.τ).loc Cert.Reference4Ideal.main_arg6)) (m' ((c : Thread Cert.Reference4Ideal.nD Cert.Reference4Ideal.τ).loc Cert.Reference4Ideal.main_arg8)) = Cert.Kernel4Ideal.RefValue.newKResult m c := by
    rw [h0, h1, h2, h3, h4, h5, h6, h8]; exact front_newK m c
  have e1 : Cert.Reference4Ideal.Read.val_main_v133 (F := Ideal) (m' ((c : Thread Cert.Reference4Ideal.nD Cert.Reference4Ideal.τ).loc Cert.Reference4Ideal.main_arg0)) (m' ((c : Thread Cert.Reference4Ideal.nD Cert.Reference4Ideal.τ).loc Cert.Reference4Ideal.main_arg1)) (m' ((c : Thread Cert.Reference4Ideal.nD Cert.Reference4Ideal.τ).loc Cert.Reference4Ideal.main_arg2)) (m' ((c : Thread Cert.Reference4Ideal.nD Cert.Reference4Ideal.τ).loc Cert.Reference4Ideal.main_arg3)) (m' ((c : Thread Cert.Reference4Ideal.nD Cert.Reference4Ideal.τ).loc Cert.Reference4Ideal.main_arg4)) (m' ((c : Thread Cert.Reference4Ideal.nD Cert.Reference4Ideal.τ).loc Cert.Reference4Ideal.main_arg5)) (m' ((c : Thread Cert.Reference4Ideal.nD Cert.Reference4Ideal.τ).loc Cert.Reference4Ideal.main_arg6)) = Cert.Kernel4Ideal.RefValue.newVResult m c := by
    rw [h0, h1, h2, h3, h4, h5, h6]; exact front_newV m c
  have e2 : Cert.Reference4Ideal.Read.val_main_v25 (F := Ideal) (m' ((c : Thread Cert.Reference4Ideal.nD Cert.Reference4Ideal.τ).loc Cert.Reference4Ideal.main_arg0)) (m' ((c : Thread Cert.Reference4Ideal.nD Cert.Reference4Ideal.τ).loc Cert.Reference4Ideal.main_arg1)) (m' ((c : Thread Cert.Reference4Ideal.nD Cert.Reference4Ideal.τ).loc Cert.Reference4Ideal.main_arg2)) (m' ((c : Thread Cert.Reference4Ideal.nD Cert.Reference4Ideal.τ).loc Cert.Reference4Ideal.main_arg3)) (m' ((c : Thread Cert.Reference4Ideal.nD Cert.Reference4Ideal.τ).loc Cert.Reference4Ideal.main_arg4)) = Cert.Kernel4Ideal.RefValue.x1Result m c := by
    rw [h0, h1, h2, h3, h4]; exact front_x1 m c
  have e3 : Cert.Reference4Ideal.Read.val_main_v135 (F := Ideal) (m' ((c : Thread Cert.Reference4Ideal.nD Cert.Reference4Ideal.τ).loc Cert.Reference4Ideal.main_arg0)) (m' ((c : Thread Cert.Reference4Ideal.nD Cert.Reference4Ideal.τ).loc Cert.Reference4Ideal.main_arg1)) (m' ((c : Thread Cert.Reference4Ideal.nD Cert.Reference4Ideal.τ).loc Cert.Reference4Ideal.main_arg2)) (m' ((c : Thread Cert.Reference4Ideal.nD Cert.Reference4Ideal.τ).loc Cert.Reference4Ideal.main_arg3)) (m' ((c : Thread Cert.Reference4Ideal.nD Cert.Reference4Ideal.τ).loc Cert.Reference4Ideal.main_arg4)) (m' ((c : Thread Cert.Reference4Ideal.nD Cert.Reference4Ideal.τ).loc Cert.Reference4Ideal.main_arg5)) (m' ((c : Thread Cert.Reference4Ideal.nD Cert.Reference4Ideal.τ).loc Cert.Reference4Ideal.main_arg6)) (m' ((c : Thread Cert.Reference4Ideal.nD Cert.Reference4Ideal.τ).loc Cert.Reference4Ideal.main_arg7)) = Cert.Kernel4Ideal.RefValue.qResult m c := by
    rw [h0, h1, h2, h3, h4, h5, h6, h7]; exact front_q m c
  have e4 : Cert.Reference4Ideal.Read.val_main_v136 (F := Ideal) (m' ((c : Thread Cert.Reference4Ideal.nD Cert.Reference4Ideal.τ).loc Cert.Reference4Ideal.main_arg0)) (m' ((c : Thread Cert.Reference4Ideal.nD Cert.Reference4Ideal.τ).loc Cert.Reference4Ideal.main_arg1)) (m' ((c : Thread Cert.Reference4Ideal.nD Cert.Reference4Ideal.τ).loc Cert.Reference4Ideal.main_arg2)) (m' ((c : Thread Cert.Reference4Ideal.nD Cert.Reference4Ideal.τ).loc Cert.Reference4Ideal.main_arg3)) (m' ((c : Thread Cert.Reference4Ideal.nD Cert.Reference4Ideal.τ).loc Cert.Reference4Ideal.main_arg4)) (m' ((c : Thread Cert.Reference4Ideal.nD Cert.Reference4Ideal.τ).loc Cert.Reference4Ideal.main_arg5)) (m' ((c : Thread Cert.Reference4Ideal.nD Cert.Reference4Ideal.τ).loc Cert.Reference4Ideal.main_arg6)) (m' ((c : Thread Cert.Reference4Ideal.nD Cert.Reference4Ideal.τ).loc Cert.Reference4Ideal.main_arg8)) = Cert.Kernel4Ideal.RefValue.kResult m c := by
    rw [h0, h1, h2, h3, h4, h5, h6, h8]; exact front_k m c
  have e5 : Cert.Reference4Ideal.Read.val_main_v44 (F := Ideal) (m' ((c : Thread Cert.Reference4Ideal.nD Cert.Reference4Ideal.τ).loc Cert.Reference4Ideal.main_arg0)) (m' ((c : Thread Cert.Reference4Ideal.nD Cert.Reference4Ideal.τ).loc Cert.Reference4Ideal.main_arg1)) (m' ((c : Thread Cert.Reference4Ideal.nD Cert.Reference4Ideal.τ).loc Cert.Reference4Ideal.main_arg2)) (m' ((c : Thread Cert.Reference4Ideal.nD Cert.Reference4Ideal.τ).loc Cert.Reference4Ideal.main_arg3)) (m' ((c : Thread Cert.Reference4Ideal.nD Cert.Reference4Ideal.τ).loc Cert.Reference4Ideal.main_arg4)) (m' ((c : Thread Cert.Reference4Ideal.nD Cert.Reference4Ideal.τ).loc Cert.Reference4Ideal.main_arg5)) (m' ((c : Thread Cert.Reference4Ideal.nD Cert.Reference4Ideal.τ).loc Cert.Reference4Ideal.main_arg6)) = Cert.Kernel4Ideal.RefValue.vResult m c := by
    rw [h0, h1, h2, h3, h4, h5, h6]; exact front_v m c
  have e6 : Cert.Reference4Ideal.Read.val_main_v45 (F := Ideal) (m' ((c : Thread Cert.Reference4Ideal.nD Cert.Reference4Ideal.τ).loc Cert.Reference4Ideal.main_arg0)) (m' ((c : Thread Cert.Reference4Ideal.nD Cert.Reference4Ideal.τ).loc Cert.Reference4Ideal.main_arg1)) (m' ((c : Thread Cert.Reference4Ideal.nD Cert.Reference4Ideal.τ).loc Cert.Reference4Ideal.main_arg2)) (m' ((c : Thread Cert.Reference4Ideal.nD Cert.Reference4Ideal.τ).loc Cert.Reference4Ideal.main_arg3)) (m' ((c : Thread Cert.Reference4Ideal.nD Cert.Reference4Ideal.τ).loc Cert.Reference4Ideal.main_arg4)) (m' ((c : Thread Cert.Reference4Ideal.nD Cert.Reference4Ideal.τ).loc Cert.Reference4Ideal.main_arg5)) (m' ((c : Thread Cert.Reference4Ideal.nD Cert.Reference4Ideal.τ).loc Cert.Reference4Ideal.main_arg6)) = Cert.Kernel4Ideal.RefValue.uResult m c := by
    rw [h0, h1, h2, h3, h4, h5, h6]; exact front_u m c
  have e7 : Cert.Reference4Ideal.Read.val_main_v143 (F := Ideal) (m' ((c : Thread Cert.Reference4Ideal.nD Cert.Reference4Ideal.τ).loc Cert.Reference4Ideal.main_arg0)) (m' ((c : Thread Cert.Reference4Ideal.nD Cert.Reference4Ideal.τ).loc Cert.Reference4Ideal.main_arg1)) (m' ((c : Thread Cert.Reference4Ideal.nD Cert.Reference4Ideal.τ).loc Cert.Reference4Ideal.main_arg2)) (m' ((c : Thread Cert.Reference4Ideal.nD Cert.Reference4Ideal.τ).loc Cert.Reference4Ideal.main_arg3)) (m' ((c : Thread Cert.Reference4Ideal.nD Cert.Reference4Ideal.τ).loc Cert.Reference4Ideal.main_arg4)) (m' ((c : Thread Cert.Reference4Ideal.nD Cert.Reference4Ideal.τ).loc Cert.Reference4Ideal.main_arg5)) (m' ((c : Thread Cert.Reference4Ideal.nD Cert.Reference4Ideal.τ).loc Cert.Reference4Ideal.main_arg6)) = Cert.Kernel4Ideal.RefValue.gaResult m c := by
    rw [h0, h1, h2, h3, h4, h5, h6]; exact front_ga m c
  have e8 : Cert.Reference4Ideal.Read.val_main_v150 (F := Ideal) (m' ((c : Thread Cert.Reference4Ideal.nD Cert.Reference4Ideal.τ).loc Cert.Reference4Ideal.main_arg0)) (m' ((c : Thread Cert.Reference4Ideal.nD Cert.Reference4Ideal.τ).loc Cert.Reference4Ideal.main_arg1)) (m' ((c : Thread Cert.Reference4Ideal.nD Cert.Reference4Ideal.τ).loc Cert.Reference4Ideal.main_arg2)) (m' ((c : Thread Cert.Reference4Ideal.nD Cert.Reference4Ideal.τ).loc Cert.Reference4Ideal.main_arg3)) (m' ((c : Thread Cert.Reference4Ideal.nD Cert.Reference4Ideal.τ).loc Cert.Reference4Ideal.main_arg4)) (m' ((c : Thread Cert.Reference4Ideal.nD Cert.Reference4Ideal.τ).loc Cert.Reference4Ideal.main_arg5)) (m' ((c : Thread Cert.Reference4Ideal.nD Cert.Reference4Ideal.τ).loc Cert.Reference4Ideal.main_arg6)) = Cert.Kernel4Ideal.RefValue.gsResult m c := by
    rw [h0, h1, h2, h3, h4, h5, h6]; exact front_gs m c
  exact ⟨(h c).1.trans ((Cert.Reference4Ideal.Read.val_main_v131_eq _).trans e0), (h c).2.1.trans ((Cert.Reference4Ideal.Read.val_main_v133_eq _).trans e1), (h c).2.2.1.trans ((Cert.Reference4Ideal.Read.val_main_v25_eq _).trans e2), (h c).2.2.2.1.trans ((Cert.Reference4Ideal.Read.val_main_v135_eq _).trans e3), (h c).2.2.2.2.1.trans ((Cert.Reference4Ideal.Read.val_main_v136_eq _).trans e4), (h c).2.2.2.2.2.1.trans ((Cert.Reference4Ideal.Read.val_main_v44_eq _).trans e5), (h c).2.2.2.2.2.2.1.trans ((Cert.Reference4Ideal.Read.val_main_v45_eq _).trans e6), (h c).2.2.2.2.2.2.2.1.trans ((Cert.Reference4Ideal.Read.val_main_v143_eq _).trans e7), (h c).2.2.2.2.2.2.2.2.1.trans ((Cert.Reference4Ideal.Read.val_main_v150_eq _).trans e8), (h c).2.2.2.2.2.2.2.2.2⟩

end Cert.Proof
-- ==== Proof.FfnKernel.lean ====
module

public import proofs.«01_k».proof.Proof.Gen.Kernel3Ideal.Value
public import proofs.«01_k».proof.Proof.Swiglu

@[expose] public section

set_option maxRecDepth 16384

noncomputable section

open Idealize.ShloMosaic Idealize.ShloMosaic.TcCoe Idealize.SL.Sem
open Idealize.ShloMosaic.Pipeline (Dat)

namespace Cert.Kernel3Ideal.RefValue

open Cert.Kernel3Ideal Cert.Kernel3Ideal.Gen Cert.Layer

/-! # The feed-forward call: what it leaves in its result array -/

/-- The origin of a whole-block access. -/
theorem origin : (![0, 0] : Fin 2 → Nat) = fun _ => 0 := funext fun a => by fin_cases a <;> rfl

/-- The scaled row that the body hands to the matrix products. -/
theorem scaled_apply (v0 : Vec Ideal S1024x1024 .f32) (v1 : Vec Ideal S1x1024 .f32) (r k : Fin 1024) :
    k0_pay2 v0 v1 (ix2 r k) = unit (fun i => v0 (ix2 r i)) (fun i => v1 (ix2 0 i)) k := by
  pointwise [k0_pay2]
  rfl

/-- One chunk of 256 hidden units. -/
theorem chunk_apply (h : Vec Ideal S1024x1024 .bf16) (a b : Vec Ideal S1024x256 .bf16) (r : Fin 1024) (f : Fin 256) :
    k0_pay10 h a b (ix2 r f) = hidden (fun k => h (ix2 r k)) (fun k f => a (ix2 k f)) (fun k f => b (ix2 k f)) f := by
  pointwise [k0_pay10]
  rfl

/-- What one grid point leaves in its result block, entry by entry: the half-step residual of the block's row. -/
theorem block_apply (x0 : Vec Ideal S1024x1024 .f32) (x1 : Vec Ideal S1x1024 .f32) (x2 x3 : Vec Ideal S1024x2816 .bf16)
    (x4 : Vec Ideal S2816x1024 .bf16) (r d : Fin 1024) :
    out0_5 x0 x1 x2 x3 x4 (ix2 r d)
      = half (fun i => x0 (ix2 r i)) (fun i => x1 (ix2 0 i)) (fun k f => x2 (ix2 k f)) (fun k f => x3 (ix2 k f))
          (fun f d => x4 (ix2 f d)) d := by
  have hs : ∀ k, k0_pay2 (View.ld x0 r0_0) (View.ld x1 r0_1) (ix2 r k) = unit (fun i => x0 (ix2 r i)) (fun i => x1 (ix2 0 i)) k := by
    intro k
    rw [View.ld_unit_zero origin, View.ld_unit_zero origin, scaled_apply]
  have h4 : k0_pay4 (View.ld x0 r0_0) (View.ld x1 r0_1) (View.ld x2 r0_4) (View.ld x3 r0_4)
      = k0_pay10 (k0_pay11 x0 x1 x2 x3 x4) (View.ld x2 r0_4) (View.ld x3 r0_4) := rfl
  have h6 : ∀ h a b, k0_pay6 (F := Ideal) h a b = k0_pay10 h a b := fun _ _ _ => rfl
  have h8 : ∀ h a b, k0_pay8 (F := Ideal) h a b = k0_pay10 h a b := fun _ _ _ => rfl
  unfold out0_5
  rw [View.canon_unit_zero origin, h4, h6, h8]
  have h11 : ∀ k, k0_pay11 x0 x1 x2 x3 x4 (ix2 r k) = unit (fun i => x0 (ix2 r i)) (fun i => x1 (ix2 0 i)) k := hs
  generalize k0_pay11 x0 x1 x2 x3 x4 = h at h11 ⊢
  pointwise [k0_pay1, k0_pay9, k0_pay7, k0_pay5, k0_pay3]
  simp only [chunk_apply, hs, h11]
  pointwise
  unfold half
  rw [sum_eleven]
  rfl

variable (m : (ℓ : Loc nD τ sig) → Buf (Elt Ideal) ℓ) (ρ : Dev nD → PrngReg)

/-- The norm's gain, as the region finds it: the argument, reshaped twice. -/
theorem gain_apply (c : Dev nD) (k : Fin 1024) : V m c main_v1 (ix2 0 k) = m ((c : Thread nD τ).loc main_arg1) (ix2 0 k) := by
  unfold V
  after_results
  pointwise

/-- Where each window's block lies at a grid point. -/
theorem starts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `r` of block `t` is row `1024 t + r` of the array. -/
def row (t : Fin cfg0.N) (r : Fin 1024) : Fin 16384 := ⟨t.val * 1024 + r.val, by have h := t.isLt; have e : cfg0.N = 16 := N_0; have := r.isLt; omega⟩

theorem rows_read (c : Dev nD) (t : Fin cfg0.N) (r k : Fin 1024) :
    iblk m c 0 t (ix2 r k) = m ((c : Thread nD τ).loc main_arg0) (ix2 (row t r) k) := by
  obtain ⟨e0, e1, _⟩ := starts t
  rw [← V_main_arg0 m c]
  show V m c main_arg0 (((cfg0.win 0).blk t).view.emb (ix2 r k)) = _
  congr 1
  funext a; apply Fin.ext
  match a with
  | ⟨0, _⟩ => show win0_0.index t (0 : Fin 2) * 1024 + 1 * r.val = t.val * 1024 + r.val; omega
  | ⟨1, _⟩ => show win0_0.index t (1 : Fin 2) * 1024 + 1 * k.val = k.val; omega

theorem gain_read (c : Dev nD) (t : Fin cfg0.N) (k : Fin 1024) :
    iblk m c 1 t (ix2 0 k) = m ((c : Thread nD τ).loc main_arg1) (ix2 0 k) := by
  obtain ⟨_, _, e0, e1, _⟩ := starts t
  rw [← gain_apply m c]
  show V m c main_v1 (((cfg0.win 1).blk t).view.emb (ix2 0 k)) = _
  congr 1
  funext a; apply Fin.ext
  match a with
  | ⟨0, _⟩ => show win0_1.index t (0 : Fin 2) * 1 + 1 * 0 = 0; omega
  | ⟨1, _⟩ => show win0_1.index t (1 : Fin 2) * 1024 + 1 * k.val = k.val; omega

theorem w1_read (c : Dev nD) (t : Fin cfg0.N) (k : Fin 1024) (f : Fin 2816) :
    iblk m c 2 t (ix2 k f) = m ((c : Thread nD τ).loc main_arg2) (ix2 k f) := by
  obtain ⟨_, _, _, _, e0, e1, _⟩ := starts t
  rw [← V_main_arg2 m c]
  show V m c main_arg2 (((cfg0.win 2).blk t).view.emb (ix2 k f)) = _
  congr 1
  funext a; apply Fin.ext
  match a with
  | ⟨0, _⟩ => show win0_2.index t (0 : Fin 2) * 1024 + 1 * k.val = k.val; omega
  | ⟨1, _⟩ => show win0_2.index t (1 : Fin 2) * 2816 + 1 * f.val = f.val; omega

theorem w3_read (c : Dev nD) (t : Fin cfg0.N) (k : Fin 1024) (f : Fin 2816) :
    iblk m c 3 t (ix2 k f) = m ((c : Thread nD τ).loc main_arg3) (ix2 k f) := by
  obtain ⟨_, _, _, _, _, _, e0, e1, _⟩ := starts t
  rw [← V_main_arg3 m c]
  show V m c main_arg3 (((cfg0.win 3).blk t).view.emb (ix2 k f)) = _
  congr 1
  funext a; apply Fin.ext
  match a with
  | ⟨0, _⟩ => show win0_3.index t (0 : Fin 2) * 1024 + 1 * k.val = k.val; omega
  | ⟨1, _⟩ => show win0_3.index t (1 : Fin 2) * 2816 + 1 * f.val = f.val; omega

theorem w2_read (c : Dev nD) (t : Fin cfg0.N) (f : Fin 2816) (d : Fin 1024) :
    iblk m c 4 t (ix2 f d) = m ((c : Thread nD τ).loc main_arg4) (ix2 f d) := by
  obtain ⟨_, _, _, _, _, _, _, _, e0, e1, _⟩ := starts t
  rw [← V_main_arg4 m c]
  show V m c main_arg4 (((cfg0.win 4).blk t).view.emb (ix2 f d)) = _
  congr 1
  funext a; apply Fin.ext
  match a with
  | ⟨0, _⟩ => show win0_4.index t (0 : Fin 2) * 2816 + 1 * f.val = f.val; omega
  | ⟨1, _⟩ => show win0_4.index t (1 : Fin 2) * 1024 + 1 * d.val = d.val; omega

/-- The whole result array: row by row, the half-step residual of the argument's row. -/
def result (c : Dev nD) : Buf (Elt Ideal) ((c : Thread nD τ).loc main_v2) := fun i : S16384x1024.Idx =>
  half (fun k => m ((c : Thread nD τ).loc main_arg0) (ix2 (i 0) k)) (fun k => m ((c : Thread nD τ).loc main_arg1) (ix2 0 k))
    (fun k f => m ((c : Thread nD τ).loc main_arg2) (ix2 k f)) (fun k f => m ((c : Thread nD τ).loc main_arg3) (ix2 k f))
    (fun f d => m ((c : Thread nD τ).loc main_arg4) (ix2 f d)) (i 1)

/-- What point `t` writes back is block `t` of that array. -/
theorem flushed_eq (c : Dev nD) (t : Fin cfg0.N) :
    (dats m 0 c).flushed 5 t = ((cfg0.win 5).blk t).view.read (Elt Ideal) (result m c) := by
  obtain ⟨_, _, _, _, _, _, _, _, _, _, e0, e1⟩ := starts t
  rw [Value.flushed5]
  funext j
  have hj : j = ix2 (n0 := 1024) (n1 := 1024) ⟨(j 0).val, (j 0).isLt⟩ ⟨(j 1).val, (j 1).isLt⟩ := by
    funext a; match a with | ⟨0, _⟩ => rfl | ⟨1, _⟩ => rfl
  rw [hj]
  generalize (⟨(j 0).val, (j 0).isLt⟩ : Fin 1024) = r
  generalize (⟨(j 1).val, (j 1).isLt⟩ : Fin 1024) = d
  have he : ((cfg0.win 5).blk t).view.emb (ix2 r d) = ix2 (row t r) d := by
    funext a; apply Fin.ext
    match a with
    | ⟨0, _⟩ => show win0_5.index t (0 : Fin 2) * 1024 + 1 * r.val = t.val * 1024 + r.val; omega
    | ⟨1, _⟩ => show win0_5.index t (1 : Fin 2) * 1024 + 1 * d.val = d.val; omega
  show out0_5 (iblk m c 0 t) (iblk m c 1 t) (iblk m c 2 t) (iblk m c 3 t) (iblk m c 4 t) (ix2 r d)
    = result m c (((cfg0.win 5).blk t).view.emb (ix2 r d))
  rw [he, block_apply]
  simp only [rows_read, gain_read, w1_read, w3_read, w2_read]
  rfl

/-- An index of the result array lies in point `t`'s block when its row is one of the block's 1024. -/
theorem mem_blk (t : Fin cfg0.N) (i : S16384x1024.Idx) :
    i ∈ ((cfg0.win 5).blk t).view.set ↔ t.val * 1024 ≤ (i 0 : Nat) ∧ (i 0 : Nat) < t.val * 1024 + 1024 := by
  obtain ⟨_, _, _, _, _, _, _, _, _, _, e0, e1⟩ := starts t
  show i ∈ ((View.whole main_v2).slice (win0_5.rect t)).set ↔ _
  rw [View.set_slice_whole, Rect.mem_set_unit]
  have h1 : (i 1 : Nat) < 1024 := (i 1).isLt
  refine ⟨fun h => ?_, fun h a => ?_⟩
  · have h0 : win0_5.index t (0 : Fin 2) * 1024 ≤ (i 0 : Nat) ∧ (i 0 : Nat) < win0_5.index t (0 : Fin 2) * 1024 + 1024 := h 0
    rwa [e0] at h0
  · match a with
    | ⟨0, _⟩ => show win0_5.index t (0 : Fin 2) * 1024 ≤ (i 0 : Nat) ∧ (i 0 : Nat) < win0_5.index t (0 : Fin 2) * 1024 + 1024
                rw [e0]; exact h
    | ⟨1, _⟩ => show win0_5.index t (1 : Fin 2) * 1024 ≤ (i 1 : Nat) ∧ (i 1 : Nat) < win0_5.index t (1 : Fin 2) * 1024 + 1024
                rw [e1, Nat.zero_mul, Nat.zero_add]; exact ⟨Nat.zero_le _, h1⟩

/-- Every index of the result array lies in some point's block. -/
theorem cover (i : S16384x1024.Idx) : ∃ t : Fin cfg0.N, (cfg0.win 5).flush t = true ∧ i ∈ ((cfg0.win 5).blk t).view.set := by
  have h0 : (i 0 : Nat) < 16384 := (i 0).isLt
  have hN : cfg0.N = 16 := N_0
  have ht : (i 0 : Nat) / 1024 < cfg0.N := by rw [hN]; omega
  generalize hq : (i 0 : Nat) / 1024 = q at ht
  refine ⟨⟨q, ht⟩, flush0_5 _, ?_⟩
  rw [mem_blk]
  dsimp only
  omega

/-- The run, read: the result array holds the half-step residual of every row, the arguments as they were. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans ((dats m 0 c).arrAt_eq_of_cover 5 (result m c) (fun t _ => flushed_eq m c t) cover), (h c).2⟩)
    (Value.run_blocks m ρ)

end Cert.Kernel3Ideal.RefValue
-- ==== Proof.Ffn.lean ====
module

public import proofs.«01_k».proof.Defs
public import proofs.«01_k».proof.Proof.Gen.Reference3Ideal.Run
public import proofs.«01_k».proof.Proof.Gen.Reference3Ideal.Read
public import proofs.«01_k».proof.Proof.FfnKernel

@[expose] public section

set_option maxRecDepth 16384

noncomputable section

open Idealize.ShloMosaic Idealize.ShloMosaic.TcCoe Idealize.SL.Sem

namespace Cert.Reference3Ideal.RefValue

open Cert.Reference3Ideal Cert.Reference3Ideal.Read Cert.Layer

/-! # The feed-forward call against its reference -/

/-- The reference's scaled rows. -/
theorem scaled_apply (x0 : (⟨S16384x1024, .f32⟩ : BufTy).Contents (Elt Ideal)) (x1 : (⟨S1x1024, .f32⟩ : BufTy).Contents (Elt Ideal))
    (r : Fin 16384) (k : Fin 1024) :
    val_main_v13 (F := Ideal) x0 x1 (ix2 r k) = unit (fun i => x0 (ix2 r i)) (fun i => x1 (ix2 0 i)) k := by
  pointwise [val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  rfl

/-- The reference's hidden units. -/
theorem hidden_apply (x0 : (⟨S16384x1024, .f32⟩ : BufTy).Contents (Elt Ideal)) (x1 : (⟨S1x1024, .f32⟩ : BufTy).Contents (Elt Ideal))
    (x2 x3 : (⟨S1024x2816, .bf16⟩ : BufTy).Contents (Elt Ideal)) (r : Fin 16384) (f : Fin 2816) :
    val_main_v19 (F := Ideal) x0 x1 x2 x3 (ix2 r f)
      = hidden (unit (fun i => x0 (ix2 r i)) (fun i => x1 (ix2 0 i))) (fun k f => x2 (ix2 k f)) (fun k f => x3 (ix2 k f)) f := by
  pointwise [val_main_v19, val_main_v18, val_main_v17, val_main_v16, val_main_v15, val_main_v14, val_main_call0_v0, val_main_call0_v1,
    val_main_call0_v2, val_main_call0_v3, val_main_call0_v4, val_main_call0_v5, val_main_call0_cst, val_main_call0_cst_0]
  simp only [scaled_apply]
  rfl

/-- The reference's result, entry by entry. -/
theorem result_apply (x0 : (⟨S16384x1024, .f32⟩ : BufTy).Contents (Elt Ideal)) (x1 : (⟨S1x1024, .f32⟩ : BufTy).Contents (Elt Ideal))
    (x2 x3 : (⟨S1024x2816, .bf16⟩ : BufTy).Contents (Elt Ideal)) (x4 : (⟨S2816x1024, .bf16⟩ : BufTy).Contents (Elt Ideal))
    (r : Fin 16384) (d : Fin 1024) :
    val_main_v24 (F := Ideal) x0 x1 x2 x3 x4 (ix2 r d)
      = half (fun i => x0 (ix2 r i)) (fun i => x1 (ix2 0 i)) (fun k f => x2 (ix2 k f)) (fun k f => x3 (ix2 k f)) (fun f d => x4 (ix2 f d)) d := by
  pointwise [val_main_v24, val_main_v23, val_main_v22, val_main_v21, val_main_v20, val_main_cst_2]
  simp only [hidden_apply]
  rfl

end Cert.Reference3Ideal.RefValue

namespace Cert.Proof

/-- The feed-forward kernel computes the reference's half-step residual, entry by entry. -/
theorem ffn_algebraic : Cert.algebraic_Kernel3Ideal_Reference3Ideal := by
  intro m ρ m' ρ' _ hag
  refine ⟨fun c => Cert.Kernel3Ideal.RefValue.result m c, Cert.Kernel3Ideal.RefValue.run m ρ, ?_⟩
  refine (θ_run Cert.Reference3Ideal.defs _ _).mono (fun _ h c => ⟨(h c).1.trans ?_, (h c).2⟩) (Cert.Reference3Ideal.Value.run (F := Ideal) m' ρ')
  obtain ⟨h0, h1, h2, h3, h4⟩ := hag c
  rw [Cert.Reference3Ideal.Read.val_main_v24_eq, h0, h1, h2, h3, h4]
  funext i
  have hi : i = ix2 (n0 := 16384) (n1 := 1024) ⟨(i 0).val, (i 0).isLt⟩ ⟨(i 1).val, (i 1).isLt⟩ := by
    funext a; match a with | ⟨0, _⟩ => rfl | ⟨1, _⟩ => rfl
  rw [hi, Cert.Reference3Ideal.RefValue.result_apply]
  rfl

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.ReferenceIdeal.Run
public import proofs.«01_k».proof.Proof.Gen.ReferenceIdeal.Read
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.FfnSample
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.AttnSample
public import proofs.«01_k».proof.Proof.Mix
public import proofs.«01_k».proof.Proof.Front
public import proofs.«01_k».proof.Proof.Ffn
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference of the mixing calls runs to its end and leaves its arguments and every counter as they were. -/
theorem mix_reference_frame : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- The reference of the feed-forward call runs to its end and leaves its arguments and every counter as they were. -/
theorem ffn_reference_frame : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The reference of the front call runs to its end and leaves its arguments and every counter as they were. -/
theorem front_reference_frame : Cert.quiescent_Reference4Ideal := fun m ρ _ =>
  (θ_run Cert.Reference4Ideal.defs _ _).mono (fun r h => ⟨fun c => (h c).2.2.2.2.2.2.2.2.2, sem_eq_zero_of_no_sems (by decide) r.2⟩)
    (Cert.Reference4Ideal.Value.run (F := Ideal) m ρ)

/-- The reference of the feed-forward call on the sample group runs to its end and leaves its arguments and every counter as they were. -/
theorem ffn_sample_reference_frame : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The reference of the sample attention runs to its end and leaves its arguments and every counter as they were. -/
theorem attn_reference_frame : Cert.quiescent_Reference6Ideal := fun m ρ _ =>
  (θ_run Cert.Reference6Ideal.defs _ _).mono (fun r h => ⟨fun c => (h c).2.2, sem_eq_zero_of_no_sems (by decide) r.2⟩)
    (Cert.Reference6Ideal.Value.run (F := Ideal) m ρ)

/-- Every claim of this certificate. -/
theorem claim : Cert.Claim :=
  ⟨Cert.Kernel.Gen.facts, Cert.KernelIdeal.Gen.facts, Cert.ReferenceIdeal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts,
    fun m ρ _ => Cert.Kernel.Gen.frame m ρ, fun m ρ _ => Cert.KernelIdeal.Gen.frame m ρ, mix_reference_frame,
    fun m ρ _ => Cert.Kernel3.Gen.frame m ρ, fun m ρ _ => Cert.Kernel3Ideal.Gen.frame m ρ, ffn_reference_frame,
    fun m ρ _ => Cert.Kernel4.Gen.frame m ρ, fun m ρ _ => Cert.Kernel4Ideal.Gen.frame m ρ, front_reference_frame,
    fun m ρ _ => Cert.Kernel5.Gen.frame m ρ, fun m ρ _ => Cert.Kernel5Ideal.Gen.frame m ρ, ffn_sample_reference_frame,
    fun m ρ _ => Cert.Kernel6.Gen.frame m ρ, fun m ρ _ => Cert.Kernel6Ideal.Gen.frame m ρ, attn_reference_frame,
    trivial, mix_algebraic, trivial, ffn_algebraic, trivial, front_algebraic, trivial, ffn_sample_algebraic, trivial, attn_algebraic⟩

end Cert.Proof

end
